-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_routed : Cert.Pre_routed.Facts] (m : (ℓ : Loc Cert.Kernel5.nD Cert.Kernel5.τ Cert.Kernel5.sig) → Buf (Elt Bits) ℓ) : Prop :=
  ∀ c : Dev Cert.Kernel5.nD,
    (Cert.Pre_routed.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5))) = (fun _ => 1#1)

def Pre_Kernel5Ideal [hPre_routed : Cert.Pre_routed.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_routed.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_routed [hPre_routed : Cert.Pre_routed.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_routed.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_rows [hPre_finite_rows : Cert.Pre_finite_rows.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_rows.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_rows [hPre_finite_rows : Cert.Pre_finite_rows.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_rows.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] [hPre_routed : Cert.Pre_routed.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] [hPre_routed : Cert.Pre_routed.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_routed [hReference5Ideal : Cert.Reference5Ideal.Facts] [hPre_routed : Cert.Pre_routed.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_routed m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_rows [hKernel6Ideal : Cert.Kernel6Ideal.Facts] [hPre_finite_rows : Cert.Pre_finite_rows.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_rows m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_rows [hReference6Ideal : Cert.Reference6Ideal.Facts] [hPre_finite_rows : Cert.Pre_finite_rows.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_rows m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "stop" .f32 0xC2DC0000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)) (v3 : (c : Dev Cert.Kernel2Ideal.nD) → Buf (Elt Ideal) ((c.tc : Thread Cert.Kernel2Ideal.nD Cert.Kernel2Ideal.τ).loc Cert.Kernel2Ideal.main_v12_3)) (v4 : (c : Dev Cert.Kernel2Ideal.nD) → Buf (Elt Ideal) ((c.tc : Thread Cert.Kernel2Ideal.nD Cert.Kernel2Ideal.τ).loc Cert.Kernel2Ideal.main_v12_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_v12_3) = v3 c
          ∧ r.2.mem ((c.tc : Thread Cert.Kernel2Ideal.nD Cert.Kernel2Ideal.τ).loc Cert.Kernel2Ideal.main_v12_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_v42) = v2 c
          ∧ r.2.mem ((c.tc : Thread Cert.Reference2Ideal.nD Cert.Reference2Ideal.τ).loc Cert.Reference2Ideal.main_v58) = v3 c
          ∧ r.2.mem ((c.tc : Thread Cert.Reference2Ideal.nD Cert.Reference2Ideal.τ).loc Cert.Reference2Ideal.main_v61) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v65) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] [hPre_routed : Cert.Pre_routed.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite_rows [hKernel6Ideal : Cert.Kernel6Ideal.Facts] [hReference6Ideal : Cert.Reference6Ideal.Facts] [hPre_finite_rows : Cert.Pre_finite_rows.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_rows m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_v27) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_routed : Cert.Pre_routed.Facts) (hPre_finite_rows : Cert.Pre_finite_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_routed := hPre_routed)
    ∧ quiescent_Kernel5Ideal (hKernel5Ideal := hKernel5Ideal) (hPre_routed := hPre_routed)
    ∧ quiescent_Reference5Ideal (hReference5Ideal := hReference5Ideal)
    ∧ quiescent_Reference5Ideal_pre_routed (hReference5Ideal := hReference5Ideal) (hPre_routed := hPre_routed)
    ∧ quiescent_Kernel6 (hKernel6 := hKernel6)
    ∧ quiescent_Kernel6Ideal (hKernel6Ideal := hKernel6Ideal)
    ∧ quiescent_Kernel6Ideal_pre_finite_rows (hKernel6Ideal := hKernel6Ideal) (hPre_finite_rows := hPre_finite_rows)
    ∧ quiescent_Reference6Ideal (hReference6Ideal := hReference6Ideal)
    ∧ quiescent_Reference6Ideal_pre_finite_rows (hReference6Ideal := hReference6Ideal) (hPre_finite_rows := hPre_finite_rows)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_routed := hPre_routed)
    ∧ preserves_Kernel6_Kernel6Ideal
    ∧ algebraic_Kernel6Ideal_Reference6Ideal_pre_finite_rows (hKernel6Ideal := hKernel6Ideal) (hReference6Ideal := hReference6Ideal) (hPre_finite_rows := hPre_finite_rows)
-- ==== Pre_finite.lean ====
abbrev S2x4x16384x128 : Shape := ⟨4, ![2, 4, 16384, 128]⟩
abbrev S_ : Shape := ⟨0, ![]⟩

class Facts : Prop where
  bcast_S_S2x4x16384x128 : S_.BroadcastsInDim S2x4x16384x128 (![] : Fin 0 → Fin S2x4x16384x128.rank)

variable [Facts]

def fn {F : FTy → Type} [FloatOps F] (main_arg0 : FVec F S2x4x16384x128 .bf16) (main_arg1 : FVec F S2x4x16384x128 .bf16) (main_arg2 : FVec F S2x4x16384x128 .bf16) : IVec S2x4x16384x128 1 :=
  let main_v0 : FVec F S2x4x16384x128 .bf16 := Host.absf main_arg0
  let main_cst : FVec F S_ .bf16 := constant S_ .bf16 0x7F80#16
  let main_v1 : FVec F S2x4x16384x128 .bf16 := broadcastInDim S2x4x16384x128 ![] bcast_S_S2x4x16384x128 main_cst
  let main_v2 : IVec S2x4x16384x128 1 := cmpf .olt main_v0 main_v1
  let main_v3 : FVec F S2x4x16384x128 .bf16 := Host.absf main_arg1
  let main_cst_0 : FVec F S_ .bf16 := constant S_ .bf16 0x7F80#16
  let main_v4 : FVec F S2x4x16384x128 .bf16 := broadcastInDim S2x4x16384x128 ![] bcast_S_S2x4x16384x128 main_cst_0
  let main_v5 : IVec S2x4x16384x128 1 := cmpf .olt main_v3 main_v4
  let main_v6 : IVec S2x4x16384x128 1 := andi main_v2 main_v5
  main_v6
-- ==== Pre_finite_rows.lean ====
abbrev S32768x1024 : Shape := ⟨2, ![32768, 1024]⟩
abbrev S1024 : Shape := ⟨1, ![1024]⟩
abbrev S1024x8 : Shape := ⟨2, ![1024, 8]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S32768x1024 .f32) (main_arg1 : FVec F S1024 .f32) (main_arg2 : FVec F S1024x8 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x8 .f32 := Host.absf main_arg2
  let main_cst_2 : FVec F S_ .f32 := constant S_ .f32 0x7F800000#32
  let main_v10 : FVec F S1024x8 .f32 := broadcastInDim S1024x8 ![] bcast_S_S1024x8 main_cst_2
  let main_v11 : IVec S1024x8 1 := cmpf .olt main_v9 main_v10
  let main_c_3 : IVec S_ 1 := constantI S_ 1 1#1
  let main_v12 : IVec S_ 1 := (fun x v => Host.reduce IntOp.andi x v reducesTo_S1024x8_S_d0_1 h_S_) main_v11 main_c_3
  let main_v13 : IVec S_ 1 := andi main_v8 main_v12
  main_v13
-- ==== Pre_routed.lean ====
abbrev S69632x1024 : Shape := ⟨2, ![69632, 1024]⟩
abbrev S136 : Shape := ⟨1, ![136]⟩
abbrev S1 : Shape := ⟨1, ![1]⟩
abbrev S8x1024x1792 : Shape := ⟨3, ![8, 1024, 1792]⟩
abbrev S8x1792x1024 : Shape := ⟨3, ![8, 1792, 1024]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S69632x1024 .f32) (main_arg1 : IVec S136 32) (main_arg2 : IVec S1 32) (main_arg3 : FVec F S8x1024x1792 .f32) (main_arg4 : FVec F S8x1024x1792 .f32) (main_arg5 : FVec F S8x1792x1024 .f32) : IVec S_ 1 :=
  let main_c : IVec S_ 32 := constantI S_ 32 0#32
  let main_v0 : IVec S136 32 := broadcastInDim S136 ![] bcast_S_S136 main_c
  let main_v1 : IVec S136 1 := cmpi .sge main_arg1 main_v0
  let main_c_0 : IVec S_ 1 := constantI S_ 1 1#1
  let main_v2 : IVec S_ 1 := (fun x v => Host.reduce IntOp.andi x v reducesTo_S136_S_d0 h_S_) main_v1 main_c_0
  let main_c_1 : IVec S_ 32 := constantI S_ 32 8#32
  let main_v3 : IVec S136 32 := broadcastInDim S136 ![] bcast_S_S136 main_c_1
  let main_v4 : IVec S136 1 := cmpi .slt main_arg1 main_v3
  let main_c_2 : IVec S_ 1 := constantI S_ 1 1#1
  let main_v5 : IVec S_ 1 := (fun x v => Host.reduce IntOp.andi x v reducesTo_S136_S_d0 h_S_) main_v4 main_c_2
  let main_v6 : IVec S_ 1 := andi main_v2 main_v5
  let main_c_3 : IVec S_ 32 := constantI S_ 32 0#32
  let main_v7 : IVec S1 32 := broadcastInDim S1 ![] bcast_S_S1 main_c_3
  let main_v8 : IVec S1 1 := cmpi .sgt main_arg2 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Kernel.lean ====
abbrev S2x4x16384x128 : Shape := ⟨4, ![2, 4, 16384, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x128 : Shape := ⟨2, ![256, 128]⟩
abbrev S256x384 : Shape := ⟨2, ![256, 384]⟩
abbrev S2x16384x512 : Shape := ⟨3, ![2, 16384, 512]⟩
abbrev S1x1x8192x128 : Shape := ⟨4, ![1, 1, 8192, 128]⟩
abbrev S1x1x16384x128 : Shape := ⟨4, ![1, 1, 16384, 128]⟩
abbrev S1x8192x128 : Shape := ⟨3, ![1, 8192, 128]⟩
abbrev S32x256x128 : Shape := ⟨3, ![32, 256, 128]⟩
abbrev S1x1x256x128 : Shape := ⟨4, ![1, 1, 256, 128]⟩
abbrev S1x256x128 : Shape := ⟨3, ![1, 256, 128]⟩
abbrev S1 : Shape := ⟨1, ![1]⟩
abbrev S1x1x1 : Shape := ⟨3, ![1, 1, 1]⟩

abbrev nBuf : Space → Nat
  | .hbm => 14
  | .vmem => 11
  | .smem => 0
  | _ => 0

abbrev bufTy : (tb : Table) → Fin (tcTables nBuf tb) → BufTy
  | .hbm, ⟨0, _⟩ => ⟨S2x4x16384x128, .bf16⟩
  | .hbm, ⟨1, _⟩ => ⟨S2x4x16384x128, .bf16⟩
  | .hbm, ⟨2, _⟩ => ⟨S2x4x16384x128, .bf16⟩
  | .hbm, ⟨3, _⟩ => ⟨S256, .i32⟩
  | .hbm, ⟨4, _⟩ => ⟨S256x1, .i32⟩
  | .hbm, ⟨5, _⟩ => ⟨S1x256, .i32⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S_, .i1⟩
  | .hbm, ⟨10, _⟩ => ⟨S256x128, .i1⟩
  | .hbm, ⟨11, _⟩ => ⟨S256x384, .i1⟩
  | .hbm, ⟨12, _⟩ => ⟨S256x384, .bf16⟩
  | .hbm, ⟨13, _⟩ => ⟨S2x16384x512, .bf16⟩
  | .local _ .vmem, ⟨0, _⟩ => ⟨S1x1x8192x128, .bf16⟩
  | .local _ .vmem, ⟨1, _⟩ => ⟨S1x1x8192x128, .bf16⟩
  | .local _ .vmem, ⟨2, _⟩ => ⟨S1x1x16384x128, .bf16⟩
  | .local _ .vmem, ⟨3, _⟩ => ⟨S1x1x16384x128, .bf16⟩
  | .local _ .vmem, ⟨4, _⟩ => ⟨S1x1x16384x128, .bf16⟩
  | .local _ .vmem, ⟨5, _⟩ => ⟨S1x1x16384x128, .bf16⟩
  | .local _ .vmem, ⟨6, _⟩ => ⟨S256x384, .bf16⟩
  | .local _ .vmem, ⟨7, _⟩ => ⟨S1x8192x128, .bf16⟩
  | .local _ .vmem, ⟨8, _⟩ => ⟨S1x8192x128, .bf16⟩
  | .local _ .vmem, ⟨9, _⟩ => ⟨S32x256x128, .f32⟩
  | .local _ .vmem, ⟨10, _⟩ => ⟨S32x256x128, .f32⟩
  | _, _ => ⟨S2x4x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 4, 2], ![false, false, false]⟩

def k0_mult1 (i : grid0.Coords) : BitVec 32 :=
  let arg2 : BitVec 32 := BitVec.ofNat 32 (i 2).val
  let c32_i32 : BitVec 32 := 32#32
  let v0 : BitVec 32 := Scalar.muli arg2 c32_i32
  let c0_i32 : BitVec 32 := 0#32
  let v6 : BitVec 32 := Scalar.addi v0 c0_i32
  let c0_i32_1 : BitVec 32 := 0#32
  let v7 : BitVec 32 := Scalar.maxsi v6 c0_i32_1
  let c256_i32 : BitVec 32 := 256#32
  let v8 : BitVec 32 := Scalar.muli v7 c256_i32
  v8
def k0_off1 (i : grid0.Coords) (c0_i32 : BitVec 32) : Fin 4 → Nat :=
  let c0_6 : Index := 0#32
  let c0_7 : Index := 0#32
  let arg2 : BitVec 32 := BitVec.ofNat 32 (i 2).val
  let c32_i32 : BitVec 32 := 32#32
  let v0 : BitVec 32 := Scalar.muli arg2 c32_i32
  let v6 : BitVec 32 := Scalar.addi v0 c0_i32
  let c0_i32_1 : BitVec 32 := 0#32
  let v7 : BitVec 32 := Scalar.maxsi v6 c0_i32_1
  let c256_i32 : BitVec 32 := 256#32
  let v8 : BitVec 32 := Scalar.muli v7 c256_i32
  let v9 : BitVec 32 := v8
  let v12 : Index := Scalar.indexCast v9
  let c0_8 : Index := 0#32
  ![0, 0, v12.toNat, 0]
def k0_mult2 (i : grid0.Coords) : BitVec 32 :=
  let arg2 : BitVec 32 := BitVec.ofNat 32 (i 2).val
  let c32_i32 : BitVec 32 := 32#32
  let v0 : BitVec 32 := Scalar.muli arg2 c32_i32
  let c1_i32 : BitVec 32 := 1#32
  let v54 : BitVec 32 := Scalar.addi v0 c1_i32
  let c0_i32_27 : BitVec 32 := 0#32
  let v55 : BitVec 32 := Scalar.maxsi v54 c0_i32_27
  let c256_i32_28 : BitVec 32 := 256#32
  let v56 : BitVec 32 := Scalar.muli v55 c256_i32_28
  v56
def k0_mult3 (i : grid0.Coords) : BitVec 32 :=
  let arg2 : BitVec 32 := BitVec.ofNat 32 (i 2).val
  let c32_i32 : BitVec 32 := 32#32
  let v0 : BitVec 32 := Scalar.muli arg2 c32_i32
  let c2_i32 : BitVec 32 := 2#32
  let v102 : BitVec 32 := Scalar.addi v0 c2_i32
  let c0_i32_53 : BitVec 32 := 0#32
  let v103 : BitVec 32 := Scalar.maxsi v102 c0_i32_53
  let c256_i32_54 : BitVec 32 := 256#32
  let v104 : BitVec 32 := Scalar.muli v103 c256_i32_54
  v104
def k0_mult4 (i : grid0.Coords) : BitVec 32 :=
  let arg2 : BitVec 32 := BitVec.ofNat 32 (i 2).val
  let c32_i32 : BitVec 32 := 32#32
  let v0 : BitVec 32 := Scalar.muli arg2 c32_i32
  let c3_i32 : BitVec 32 := 3#32
  let v150 : BitVec 32 := Scalar.addi v0 c3_i32
  let c0_i32_79 : BitVec 32 := 0#32
  let v151 : BitVec 32 := Scalar.maxsi v150 c0_i32_79
  let c256_i32_80 : BitVec 32 := 256#32
  let v152 : BitVec 32 := Scalar.muli v151 c256_i32_80
  v152
def k0_mult5 (i : grid0.Coords) : BitVec 32 :=
  let arg2 : BitVec 32 := BitVec.ofNat 32 (i 2).val
  let c32_i32 : BitVec 32 := 32#32
  let v0 : BitVec 32 := Scalar.muli arg2 c32_i32
  let c4_i32 : BitVec 32 := 4#32
  let v198 : BitVec 32 := Scalar.addi v0 c4_i32
  let c0_i32_105 : BitVec 32 := 0#32
  let v199 : BitVec 32 := Scalar.maxsi v198 c0_i32_105
  let c256_i32_106 : BitVec 32 := 256#32
  let v200 : BitVec 32 := Scalar.muli v199 c256_i32_106
  v200
def k0_mult6 (i : grid0.Coords) : BitVec 32 :=
  let arg2 : BitVec 32 := BitVec.ofNat 32 (i 2).val
  let c32_i32 : BitVec 32 := 32#32
  let v0 : BitVec 32 := Scalar.muli arg2 c32_i32
  let c5_i32 : BitVec 32 := 5#32
  let v246 : BitVec 32 := Scalar.addi v0 c5_i32
  let c0_i32_131 : BitVec 32 := 0#32
  let v247 : BitVec 32 := Scalar.maxsi v246 c0_i32_131
  let c256_i32_132 : BitVec 32 := 256#32
  let v248 : BitVec 32 := Scalar.muli v247 c256_i32_132
  v248
def k0_mult7 (i : grid0.Coords) : BitVec 32 :=
  let arg2 : BitVec 32 := BitVec.ofNat 32 (i 2).val
  let c32_i32 : BitVec 32 := 32#32
  let v0 : BitVec 32 := Scalar.muli arg2 c32_i32
  let c6_i32 : BitVec 32 := 6#32
  let v294 : BitVec 32 := Scalar.addi v0 c6_i32
  let c0_i32_157 : BitVec 32 := 0#32
  let v295 : BitVec 32 := Scalar.maxsi v294 c0_i32_157
  let c256_i32_158 : BitVec 32 := 256#32
  let v296 : BitVec 32 := Scalar.muli v295 c256_i32_158
  v296
def k0_mult8 (i : grid0.Coords) : BitVec 32 :=
  let arg2 : BitVec 32 := BitVec.ofNat 32 (i 2).val
  let c32_i32 : BitVec 32 := 32#32
  let v0 : BitVec 32 := Scalar.muli arg2 c32_i32
  let c7_i32 : BitVec 32 := 7#32
  let v342 : BitVec 32 := Scalar.addi v0 c7_i32
  let c0_i32_183 : BitVec 32 := 0#32
  let v343 : BitVec 32 := Scalar.maxsi v342 c0_i32_183
  let c256_i32_184 : BitVec 32 := 256#32
  let v344 : BitVec 32 := Scalar.muli v343 c256_i32_184
  v344
def k0_mult9 (i : grid0.Coords) : BitVec 32 :=
  let arg2 : BitVec 32 := BitVec.ofNat 32 (i 2).val
  let c32_i32 : BitVec 32 := 32#32
  let v0 : BitVec 32 := Scalar.muli arg2 c32_i32
  let c8_i32 : BitVec 32 := 8#32
  let v390 : BitVec 32 := Scalar.addi v0 c8_i32
  let c0_i32_209 : BitVec 32 := 0#32
  let v391 : BitVec 32 := Scalar.maxsi v390 c0_i32_209
  let c256_i32_210 : BitVec 32 := 256#32
  let v392 : BitVec 32 := Scalar.muli v391 c256_i32_210
  v392
def k0_mult10 (i : grid0.Coords) : BitVec 32 :=
  let arg2 : BitVec 32 := BitVec.ofNat 32 (i 2).val
  let c32_i32 : BitVec 32 := 32#32
  let v0 : BitVec 32 := Scalar.muli arg2 c32_i32
  let c9_i32 : BitVec 32 := 9#32
  let v438 : BitVec 32 := Scalar.addi v0 c9_i32
  let c0_i32_235 : BitVec 32 := 0#32
  let v439 : BitVec 32 := Scalar.maxsi v438 c0_i32_235
  let c256_i32_236 : BitVec 32 := 256#32
  let v440 : BitVec 32 := Scalar.muli v439 c256_i32_236
  v440
def k0_mult11 (i : grid0.Coords) : BitVec 32 :=
  let arg2 : BitVec 32 := BitVec.ofNat 32 (i 2).val
  let c32_i32 : BitVec 32 := 32#32
  let v0 : BitVec 32 := Scalar.muli arg2 c32_i32
  let c10_i32 : BitVec 32 := 10#32
  let v486 : BitVec 32 := Scalar.addi v0 c10_i32
  let c0_i32_261 : BitVec 32 := 0#32
  let v487 : BitVec 32 := Scalar.maxsi v486 c0_i32_261
  let c256_i32_262 : BitVec 32 := 256#32
  let v488 : BitVec 32 := Scalar.muli v487 c256_i32_262
  v488
def k0_mult12 (i : grid0.Coords) : BitVec 32 :=
  let arg2 : BitVec 32 := BitVec.ofNat 32 (i 2).val
  let c32_i32 : BitVec 32 := 32#32
  let v0 : BitVec 32 := Scalar.muli arg2 c32_i32
  let c11_i32 : BitVec 32 := 11#32
  let v534 : BitVec 32 := Scalar.addi v0 c11_i32
  let c0_i32_287 : BitVec 32 := 0#32
  let v535 : BitVec 32 := Scalar.maxsi v534 c0_i32_287
  let c256_i32_288 : BitVec 32 := 256#32
  let v536 : BitVec 32 := Scalar.muli v535 c256_i32_288
  v536
def k0_mult13 (i : grid0.Coords) : BitVec 32 :=
  let arg2 : BitVec 32 := BitVec.ofNat 32 (i 2).val
  let c32_i32 : BitVec 32 := 32#32
  let v0 : BitVec 32 := Scalar.muli arg2 c32_i32
  let c12_i32 : BitVec 32 := 12#32
  let v582 : BitVec 32 := Scalar.addi v0 c12_i32
  let c0_i32_313 : BitVec 32 := 0#32
  let v583 : BitVec 32 := Scalar.maxsi v582 c0_i32_313
  let c256_i32_314 : BitVec 32 := 256#32
  let v584 : BitVec 32 := Scalar.muli v583 c256_i32_314
  v584
def k0_mult14 (i : grid0.Coords) : BitVec 32 :=
  let arg2 : BitVec 32 := BitVec.ofNat 32 (i 2).val
  let c32_i32 : BitVec 32 := 32#32
  let v0 : BitVec 32 := Scalar.muli arg2 c32_i32
  let c13_i32 : BitVec 32 := 13#32
  let v630 : BitVec 32 := Scalar.addi v0 c13_i32
  let c0_i32_339 : BitVec 32 := 0#32
  let v631 : BitVec 32 := Scalar.maxsi v630 c0_i32_339
  let c256_i32_340 : BitVec 32 := 256#32
  let v632 : BitVec 32 := Scalar.muli v631 c256_i32_340
  v632
def k0_mult15 (i : grid0.Coords) : BitVec 32 :=
  let arg2 : BitVec 32 := BitVec.ofNat 32 (i 2).val
  let c32_i32 : BitVec 32 := 32#32
  let v0 : BitVec 32 := Scalar.muli arg2 c32_i32
  let c14_i32 : BitVec 32 := 14#32
  let v678 : BitVec 32 := Scalar.addi v0 c14_i32
  let c0_i32_365 : BitVec 32 := 0#32
  let v679 : BitVec 32 := Scalar.maxsi v678 c0_i32_365
  let c256_i32_366 : BitVec 32 := 256#32
  let v680 : BitVec 32 := Scalar.muli v679 c256_i32_366
  v680
def k0_mult16 (i : grid0.Coords) : BitVec 32 :=
  let arg2 : BitVec 32 := BitVec.ofNat 32 (i 2).val
  let c32_i32 : BitVec 32 := 32#32
  let v0 : BitVec 32 := Scalar.muli arg2 c32_i32
  let c15_i32 : BitVec 32 := 15#32
  let v726 : BitVec 32 := Scalar.addi v0 c15_i32
  let c0_i32_391 : BitVec 32 := 0#32
  let v727 : BitVec 32 := Scalar.maxsi v726 c0_i32_391
  let c256_i32_392 : BitVec 32 := 256#32
  let v728 : BitVec 32 := Scalar.muli v727 c256_i32_392
  v728
def k0_mult17 (i : grid0.Coords) : BitVec 32 :=
  let arg2 : BitVec 32 := BitVec.ofNat 32 (i 2).val
  let c32_i32 : BitVec 32 := 32#32
  let v0 : BitVec 32 := Scalar.muli arg2 c32_i32
  let c16_i32 : BitVec 32 := 16#32
  let v774 : BitVec 32 := Scalar.addi v0 c16_i32
  let c0_i32_417 : BitVec 32 := 0#32
  let v775 : BitVec 32 := Scalar.maxsi v774 c0_i32_417
  let c256_i32_418 : BitVec 32 := 256#32
  let v776 : BitVec 32 := Scalar.muli v775 c256_i32_418
  v776
def k0_mult18 (i : grid0.Coords) : BitVec 32 :=
  let arg2 : BitVec 32 := BitVec.ofNat 32 (i 2).val
  let c32_i32 : BitVec 32 := 32#32
  let v0 : BitVec 32 := Scalar.muli arg2 c32_i32
  let c17_i32 : BitVec 32 := 17#32
  let v822 : BitVec 32 := Scalar.addi v0 c17_i32
  let c0_i32_443 : BitVec 32 := 0#32
  let v823 : BitVec 32 := Scalar.maxsi v822 c0_i32_443
  let c256_i32_444 : BitVec 32 := 256#32
  let v824 : BitVec 32 := Scalar.muli v823 c256_i32_444
  v824
def k0_mult19 (i : grid0.Coords) : BitVec 32 :=
  let arg2 : BitVec 32 := BitVec.ofNat 32 (i 2).val
  let c32_i32 : BitVec 32 := 32#32
  let v0 : BitVec 32 := Scalar.muli arg2 c32_i32
  let c18_i32 : BitVec 32 := 18#32
  let v870 : BitVec 32 := Scalar.addi v0 c18_i32
  let c0_i32_469 : BitVec 32 := 0#32
  let v871 : BitVec 32 := Scalar.maxsi v870 c0_i32_469
  let c256_i32_470 : BitVec 32 := 256#32
  let v872 : BitVec 32 := Scalar.muli v871 c256_i32_470
  v872
def k0_mult20 (i : grid0.Coords) : BitVec 32 :=
  let arg2 : BitVec 32 := BitVec.ofNat 32 (i 2).val
  let c32_i32 : BitVec 32 := 32#32
  let v0 : BitVec 32 := Scalar.muli arg2 c32_i32
  let c19_i32 : BitVec 32 := 19#32
  let v918 : BitVec 32 := Scalar.addi v0 c19_i32
  let c0_i32_495 : BitVec 32 := 0#32
  let v919 : BitVec 32 := Scalar.maxsi v918 c0_i32_495
  let c256_i32_496 : BitVec 32 := 256#32
  let v920 : BitVec 32 := Scalar.muli v919 c256_i32_496
  v920
def k0_mult21 (i : grid0.Coords) : BitVec 32 :=
  let arg2 : BitVec 32 := BitVec.ofNat 32 (i 2).val
  let c32_i32 : BitVec 32 := 32#32
  let v0 : BitVec 32 := Scalar.muli arg2 c32_i32
  let c20_i32 : BitVec 32 := 20#32
  let v966 : BitVec 32 := Scalar.addi v0 c20_i32
  let c0_i32_521 : BitVec 32 := 0#32
  let v967 : BitVec 32 := Scalar.maxsi v966 c0_i32_521
  let c256_i32_522 : BitVec 32 := 256#32
  let v968 : BitVec 32 := Scalar.muli v967 c256_i32_522
  v968
def k0_mult22 (i : grid0.Coords) : BitVec 32 :=
  let arg2 : BitVec 32 := BitVec.ofNat 32 (i 2).val
  let c32_i32 : BitVec 32 := 32#32
  let v0 : BitVec 32 := Scalar.muli arg2 c32_i32
  let c21_i32 : BitVec 32 := 21#32
  let v1014 : BitVec 32 := Scalar.addi v0 c21_i32
  let c0_i32_547 : BitVec 32 := 0#32
  let v1015 : BitVec 32 := Scalar.maxsi v1014 c0_i32_547
  let c256_i32_548 : BitVec 32 := 256#32
  let v1016 : BitVec 32 := Scalar.muli v1015 c256_i32_548
  v1016
def k0_mult23 (i : grid0.Coords) : BitVec 32 :=
  let arg2 : BitVec 32 := BitVec.ofNat 32 (i 2).val
  let c32_i32 : BitVec 32 := 32#32
  let v0 : BitVec 32 := Scalar.muli arg2 c32_i32
  let c22_i32 : BitVec 32 := 22#32
  let v1062 : BitVec 32 := Scalar.addi v0 c22_i32
  let c0_i32_573 : BitVec 32 := 0#32
  let v1063 : BitVec 32 := Scalar.maxsi v1062 c0_i32_573
  let c256_i32_574 : BitVec 32 := 256#32
  let v1064 : BitVec 32 := Scalar.muli v1063 c256_i32_574
  v1064
def k0_mult24 (i : grid0.Coords) : BitVec 32 :=
  let arg2 : BitVec 32 := BitVec.ofNat 32 (i 2).val
  let c32_i32 : BitVec 32 := 32#32
  let v0 : BitVec 32 := Scalar.muli arg2 c32_i32
  let c23_i32 : BitVec 32 := 23#32
  let v1110 : BitVec 32 := Scalar.addi v0 c23_i32
  let c0_i32_599 : BitVec 32 := 0#32
  let v1111 : BitVec 32 := Scalar.maxsi v1110 c0_i32_599
  let c256_i32_600 : BitVec 32 := 256#32
  let v1112 : BitVec 32 := Scalar.muli v1111 c256_i32_600
  v1112
def k0_mult25 (i : grid0.Coords) : BitVec 32 :=
  let arg2 : BitVec 32 := BitVec.ofNat 32 (i 2).val
  let c32_i32 : BitVec 32 := 32#32
  let v0 : BitVec 32 := Scalar.muli arg2 c32_i32
  let c24_i32 : BitVec 32 := 24#32
  let v1158 : BitVec 32 := Scalar.addi v0 c24_i32
  let c0_i32_625 : BitVec 32 := 0#32
  let v1159 : BitVec 32 := Scalar.maxsi v1158 c0_i32_625
  let c256_i32_626 : BitVec 32 := 256#32
  let v1160 : BitVec 32 := Scalar.muli v1159 c256_i32_626
  v1160
def k0_mult26 (i : grid0.Coords) : BitVec 32 :=
  let arg2 : BitVec 32 := BitVec.ofNat 32 (i 2).val
  let c32_i32 : BitVec 32 := 32#32
  let v0 : BitVec 32 := Scalar.muli arg2 c32_i32
  let c25_i32 : BitVec 32 := 25#32
  let v1206 : BitVec 32 := Scalar.addi v0 c25_i32
  let c0_i32_651 : BitVec 32 := 0#32
  let v1207 : BitVec 32 := Scalar.maxsi v1206 c0_i32_651
  let c256_i32_652 : BitVec 32 := 256#32
  let v1208 : BitVec 32 := Scalar.muli v1207 c256_i32_652
  v1208
def k0_mult27 (i : grid0.Coords) : BitVec 32 :=
  let arg2 : BitVec 32 := BitVec.ofNat 32 (i 2).val
  let c32_i32 : BitVec 32 := 32#32
  let v0 : BitVec 32 := Scalar.muli arg2 c32_i32
  let c26_i32 : BitVec 32 := 26#32
  let v1254 : BitVec 32 := Scalar.addi v0 c26_i32
  let c0_i32_677 : BitVec 32 := 0#32
  let v1255 : BitVec 32 := Scalar.maxsi v1254 c0_i32_677
  let c256_i32_678 : BitVec 32 := 256#32
  let v1256 : BitVec 32 := Scalar.muli v1255 c256_i32_678
  v1256
def k0_mult28 (i : grid0.Coords) : BitVec 32 :=
  let arg2 : BitVec 32 := BitVec.ofNat 32 (i 2).val
  let c32_i32 : BitVec 32 := 32#32
  let v0 : BitVec 32 := Scalar.muli arg2 c32_i32
  let c27_i32 : BitVec 32 := 27#32
  let v1302 : BitVec 32 := Scalar.addi v0 c27_i32
  let c0_i32_703 : BitVec 32 := 0#32
  let v1303 : BitVec 32 := Scalar.maxsi v1302 c0_i32_703
  let c256_i32_704 : BitVec 32 := 256#32
  let v1304 : BitVec 32 := Scalar.muli v1303 c256_i32_704
  v1304
def k0_mult29 (i : grid0.Coords) : BitVec 32 :=
  let arg2 : BitVec 32 := BitVec.ofNat 32 (i 2).val
  let c32_i32 : BitVec 32 := 32#32
  let v0 : BitVec 32 := Scalar.muli arg2 c32_i32
  let c28_i32 : BitVec 32 := 28#32
  let v1350 : BitVec 32 := Scalar.addi v0 c28_i32
  let c0_i32_729 : BitVec 32 := 0#32
  let v1351 : BitVec 32 := Scalar.maxsi v1350 c0_i32_729
  let c256_i32_730 : BitVec 32 := 256#32
  let v1352 : BitVec 32 := Scalar.muli v1351 c256_i32_730
  v1352
def k0_mult30 (i : grid0.Coords) : BitVec 32 :=
  let arg2 : BitVec 32 := BitVec.ofNat 32 (i 2).val
  let c32_i32 : BitVec 32 := 32#32
  let v0 : BitVec 32 := Scalar.muli arg2 c32_i32
  let c29_i32 : BitVec 32 := 29#32
  let v1398 : BitVec 32 := Scalar.addi v0 c29_i32
  let c0_i32_755 : BitVec 32 := 0#32
  let v1399 : BitVec 32 := Scalar.maxsi v1398 c0_i32_755
  let c256_i32_756 : BitVec 32 := 256#32
  let v1400 : BitVec 32 := Scalar.muli v1399 c256_i32_756
  v1400
def k0_mult31 (i : grid0.Coords) : BitVec 32 :=
  let arg2 : BitVec 32 := BitVec.ofNat 32 (i 2).val
  let c32_i32 : BitVec 32 := 32#32
  let v0 : BitVec 32 := Scalar.muli arg2 c32_i32
  let c30_i32 : BitVec 32 := 30#32
  let v1446 : BitVec 32 := Scalar.addi v0 c30_i32
  let c0_i32_781 : BitVec 32 := 0#32
  let v1447 : BitVec 32 := Scalar.maxsi v1446 c0_i32_781
  let c256_i32_782 : BitVec 32 := 256#32
  let v1448 : BitVec 32 := Scalar.muli v1447 c256_i32_782
  v1448
def k0_mult32 (i : grid0.Coords) : BitVec 32 :=
  let arg2 : BitVec 32 := BitVec.ofNat 32 (i 2).val
  let c32_i32 : BitVec 32 := 32#32
  let v0 : BitVec 32 := Scalar.muli arg2 c32_i32
  let c31_i32 : BitVec 32 := 31#32
  let v1494 : BitVec 32 := Scalar.addi v0 c31_i32
  let c0_i32_807 : BitVec 32 := 0#32
  let v1495 : BitVec 32 := Scalar.maxsi v1494 c0_i32_807
  let c256_i32_808 : BitVec 32 := 256#32
  let v1496 : BitVec 32 := Scalar.muli v1495 c256_i32_808
  v1496
def k0_mult33 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c0_i32_1154 : BitVec 32 := 0#32
  let v1927 : BitVec 32 := Scalar.addi v0 c0_i32_1154
  let v1928 : BitVec 32 := Scalar.subi v1927 arg10
  let c0_i32_1155 : BitVec 32 := 0#32
  let v1929 : BitVec 32 := Scalar.maxsi v1928 c0_i32_1155
  let c256_i32_1156 : BitVec 32 := 256#32
  let v1930 : BitVec 32 := Scalar.muli v1929 c256_i32_1156
  v1930

def k0_off2 (i : grid0.Coords) (arg10 : BitVec 32) (c0_i32_1154 : BitVec 32) : Fin 4 → Nat :=
  let c0_1161 : Index := 0#32
  let c0_1162 : Index := 0#32
  let arg2 : BitVec 32 := BitVec.ofNat 32 (i 2).val
  let c32_i32 : BitVec 32 := 32#32
  let v0 : BitVec 32 := Scalar.muli arg2 c32_i32
  let v1927 : BitVec 32 := Scalar.addi v0 c0_i32_1154
  let v1928 : BitVec 32 := Scalar.subi v1927 arg10
  let c0_i32_1155 : BitVec 32 := 0#32
  let v1929 : BitVec 32 := Scalar.maxsi v1928 c0_i32_1155
  let c256_i32_1156 : BitVec 32 := 256#32
  let v1930 : BitVec 32 := Scalar.muli v1929 c256_i32_1156
  let v1931 : BitVec 32 := v1930
  let v1934 : Index := Scalar.indexCast v1931
  let c0_1163 : Index := 0#32
  ![0, 0, v1934.toNat, 0]
def k0_mult34 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c1_i32_1188 : BitVec 32 := 1#32
  let v1981 : BitVec 32 := Scalar.addi v0 c1_i32_1188
  let v1982 : BitVec 32 := Scalar.subi v1981 arg10
  let c0_i32_1189 : BitVec 32 := 0#32
  let v1983 : BitVec 32 := Scalar.maxsi v1982 c0_i32_1189
  let c256_i32_1190 : BitVec 32 := 256#32
  let v1984 : BitVec 32 := Scalar.muli v1983 c256_i32_1190
  v1984
def k0_mult35 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c2_i32_1222 : BitVec 32 := 2#32
  let v2035 : BitVec 32 := Scalar.addi v0 c2_i32_1222
  let v2036 : BitVec 32 := Scalar.subi v2035 arg10
  let c0_i32_1223 : BitVec 32 := 0#32
  let v2037 : BitVec 32 := Scalar.maxsi v2036 c0_i32_1223
  let c256_i32_1224 : BitVec 32 := 256#32
  let v2038 : BitVec 32 := Scalar.muli v2037 c256_i32_1224
  v2038
def k0_mult36 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c3_i32_1256 : BitVec 32 := 3#32
  let v2089 : BitVec 32 := Scalar.addi v0 c3_i32_1256
  let v2090 : BitVec 32 := Scalar.subi v2089 arg10
  let c0_i32_1257 : BitVec 32 := 0#32
  let v2091 : BitVec 32 := Scalar.maxsi v2090 c0_i32_1257
  let c256_i32_1258 : BitVec 32 := 256#32
  let v2092 : BitVec 32 := Scalar.muli v2091 c256_i32_1258
  v2092
def k0_mult37 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c4_i32_1290 : BitVec 32 := 4#32
  let v2143 : BitVec 32 := Scalar.addi v0 c4_i32_1290
  let v2144 : BitVec 32 := Scalar.subi v2143 arg10
  let c0_i32_1291 : BitVec 32 := 0#32
  let v2145 : BitVec 32 := Scalar.maxsi v2144 c0_i32_1291
  let c256_i32_1292 : BitVec 32 := 256#32
  let v2146 : BitVec 32 := Scalar.muli v2145 c256_i32_1292
  v2146
def k0_mult38 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c5_i32_1324 : BitVec 32 := 5#32
  let v2197 : BitVec 32 := Scalar.addi v0 c5_i32_1324
  let v2198 : BitVec 32 := Scalar.subi v2197 arg10
  let c0_i32_1325 : BitVec 32 := 0#32
  let v2199 : BitVec 32 := Scalar.maxsi v2198 c0_i32_1325
  let c256_i32_1326 : BitVec 32 := 256#32
  let v2200 : BitVec 32 := Scalar.muli v2199 c256_i32_1326
  v2200
def k0_mult39 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c6_i32_1358 : BitVec 32 := 6#32
  let v2251 : BitVec 32 := Scalar.addi v0 c6_i32_1358
  let v2252 : BitVec 32 := Scalar.subi v2251 arg10
  let c0_i32_1359 : BitVec 32 := 0#32
  let v2253 : BitVec 32 := Scalar.maxsi v2252 c0_i32_1359
  let c256_i32_1360 : BitVec 32 := 256#32
  let v2254 : BitVec 32 := Scalar.muli v2253 c256_i32_1360
  v2254
def k0_mult40 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c7_i32_1392 : BitVec 32 := 7#32
  let v2305 : BitVec 32 := Scalar.addi v0 c7_i32_1392
  let v2306 : BitVec 32 := Scalar.subi v2305 arg10
  let c0_i32_1393 : BitVec 32 := 0#32
  let v2307 : BitVec 32 := Scalar.maxsi v2306 c0_i32_1393
  let c256_i32_1394 : BitVec 32 := 256#32
  let v2308 : BitVec 32 := Scalar.muli v2307 c256_i32_1394
  v2308
def k0_mult41 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c8_i32_1426 : BitVec 32 := 8#32
  let v2359 : BitVec 32 := Scalar.addi v0 c8_i32_1426
  let v2360 : BitVec 32 := Scalar.subi v2359 arg10
  let c0_i32_1427 : BitVec 32 := 0#32
  let v2361 : BitVec 32 := Scalar.maxsi v2360 c0_i32_1427
  let c256_i32_1428 : BitVec 32 := 256#32
  let v2362 : BitVec 32 := Scalar.muli v2361 c256_i32_1428
  v2362
def k0_mult42 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c9_i32_1460 : BitVec 32 := 9#32
  let v2413 : BitVec 32 := Scalar.addi v0 c9_i32_1460
  let v2414 : BitVec 32 := Scalar.subi v2413 arg10
  let c0_i32_1461 : BitVec 32 := 0#32
  let v2415 : BitVec 32 := Scalar.maxsi v2414 c0_i32_1461
  let c256_i32_1462 : BitVec 32 := 256#32
  let v2416 : BitVec 32 := Scalar.muli v2415 c256_i32_1462
  v2416
def k0_mult43 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c10_i32_1494 : BitVec 32 := 10#32
  let v2467 : BitVec 32 := Scalar.addi v0 c10_i32_1494
  let v2468 : BitVec 32 := Scalar.subi v2467 arg10
  let c0_i32_1495 : BitVec 32 := 0#32
  let v2469 : BitVec 32 := Scalar.maxsi v2468 c0_i32_1495
  let c256_i32_1496 : BitVec 32 := 256#32
  let v2470 : BitVec 32 := Scalar.muli v2469 c256_i32_1496
  v2470
def k0_mult44 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c11_i32_1528 : BitVec 32 := 11#32
  let v2521 : BitVec 32 := Scalar.addi v0 c11_i32_1528
  let v2522 : BitVec 32 := Scalar.subi v2521 arg10
  let c0_i32_1529 : BitVec 32 := 0#32
  let v2523 : BitVec 32 := Scalar.maxsi v2522 c0_i32_1529
  let c256_i32_1530 : BitVec 32 := 256#32
  let v2524 : BitVec 32 := Scalar.muli v2523 c256_i32_1530
  v2524
def k0_mult45 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c12_i32_1562 : BitVec 32 := 12#32
  let v2575 : BitVec 32 := Scalar.addi v0 c12_i32_1562
  let v2576 : BitVec 32 := Scalar.subi v2575 arg10
  let c0_i32_1563 : BitVec 32 := 0#32
  let v2577 : BitVec 32 := Scalar.maxsi v2576 c0_i32_1563
  let c256_i32_1564 : BitVec 32 := 256#32
  let v2578 : BitVec 32 := Scalar.muli v2577 c256_i32_1564
  v2578
def k0_mult46 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c13_i32_1596 : BitVec 32 := 13#32
  let v2629 : BitVec 32 := Scalar.addi v0 c13_i32_1596
  let v2630 : BitVec 32 := Scalar.subi v2629 arg10
  let c0_i32_1597 : BitVec 32 := 0#32
  let v2631 : BitVec 32 := Scalar.maxsi v2630 c0_i32_1597
  let c256_i32_1598 : BitVec 32 := 256#32
  let v2632 : BitVec 32 := Scalar.muli v2631 c256_i32_1598
  v2632
def k0_mult47 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c14_i32_1630 : BitVec 32 := 14#32
  let v2683 : BitVec 32 := Scalar.addi v0 c14_i32_1630
  let v2684 : BitVec 32 := Scalar.subi v2683 arg10
  let c0_i32_1631 : BitVec 32 := 0#32
  let v2685 : BitVec 32 := Scalar.maxsi v2684 c0_i32_1631
  let c256_i32_1632 : BitVec 32 := 256#32
  let v2686 : BitVec 32 := Scalar.muli v2685 c256_i32_1632
  v2686
def k0_mult48 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c15_i32_1664 : BitVec 32 := 15#32
  let v2737 : BitVec 32 := Scalar.addi v0 c15_i32_1664
  let v2738 : BitVec 32 := Scalar.subi v2737 arg10
  let c0_i32_1665 : BitVec 32 := 0#32
  let v2739 : BitVec 32 := Scalar.maxsi v2738 c0_i32_1665
  let c256_i32_1666 : BitVec 32 := 256#32
  let v2740 : BitVec 32 := Scalar.muli v2739 c256_i32_1666
  v2740
def k0_mult49 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c16_i32_1698 : BitVec 32 := 16#32
  let v2791 : BitVec 32 := Scalar.addi v0 c16_i32_1698
  let v2792 : BitVec 32 := Scalar.subi v2791 arg10
  let c0_i32_1699 : BitVec 32 := 0#32
  let v2793 : BitVec 32 := Scalar.maxsi v2792 c0_i32_1699
  let c256_i32_1700 : BitVec 32 := 256#32
  let v2794 : BitVec 32 := Scalar.muli v2793 c256_i32_1700
  v2794
def k0_mult50 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c17_i32_1732 : BitVec 32 := 17#32
  let v2845 : BitVec 32 := Scalar.addi v0 c17_i32_1732
  let v2846 : BitVec 32 := Scalar.subi v2845 arg10
  let c0_i32_1733 : BitVec 32 := 0#32
  let v2847 : BitVec 32 := Scalar.maxsi v2846 c0_i32_1733
  let c256_i32_1734 : BitVec 32 := 256#32
  let v2848 : BitVec 32 := Scalar.muli v2847 c256_i32_1734
  v2848
def k0_mult51 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c18_i32_1766 : BitVec 32 := 18#32
  let v2899 : BitVec 32 := Scalar.addi v0 c18_i32_1766
  let v2900 : BitVec 32 := Scalar.subi v2899 arg10
  let c0_i32_1767 : BitVec 32 := 0#32
  let v2901 : BitVec 32 := Scalar.maxsi v2900 c0_i32_1767
  let c256_i32_1768 : BitVec 32 := 256#32
  let v2902 : BitVec 32 := Scalar.muli v2901 c256_i32_1768
  v2902
def k0_mult52 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c19_i32_1800 : BitVec 32 := 19#32
  let v2953 : BitVec 32 := Scalar.addi v0 c19_i32_1800
  let v2954 : BitVec 32 := Scalar.subi v2953 arg10
  let c0_i32_1801 : BitVec 32 := 0#32
  let v2955 : BitVec 32 := Scalar.maxsi v2954 c0_i32_1801
  let c256_i32_1802 : BitVec 32 := 256#32
  let v2956 : BitVec 32 := Scalar.muli v2955 c256_i32_1802
  v2956
def k0_mult53 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c20_i32_1834 : BitVec 32 := 20#32
  let v3007 : BitVec 32 := Scalar.addi v0 c20_i32_1834
  let v3008 : BitVec 32 := Scalar.subi v3007 arg10
  let c0_i32_1835 : BitVec 32 := 0#32
  let v3009 : BitVec 32 := Scalar.maxsi v3008 c0_i32_1835
  let c256_i32_1836 : BitVec 32 := 256#32
  let v3010 : BitVec 32 := Scalar.muli v3009 c256_i32_1836
  v3010
def k0_mult54 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c21_i32_1868 : BitVec 32 := 21#32
  let v3061 : BitVec 32 := Scalar.addi v0 c21_i32_1868
  let v3062 : BitVec 32 := Scalar.subi v3061 arg10
  let c0_i32_1869 : BitVec 32 := 0#32
  let v3063 : BitVec 32 := Scalar.maxsi v3062 c0_i32_1869
  let c256_i32_1870 : BitVec 32 := 256#32
  let v3064 : BitVec 32 := Scalar.muli v3063 c256_i32_1870
  v3064
def k0_mult55 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c22_i32_1902 : BitVec 32 := 22#32
  let v3115 : BitVec 32 := Scalar.addi v0 c22_i32_1902
  let v3116 : BitVec 32 := Scalar.subi v3115 arg10
  let c0_i32_1903 : BitVec 32 := 0#32
  let v3117 : BitVec 32 := Scalar.maxsi v3116 c0_i32_1903
  let c256_i32_1904 : BitVec 32 := 256#32
  let v3118 : BitVec 32 := Scalar.muli v3117 c256_i32_1904
  v3118
def k0_mult56 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c23_i32_1936 : BitVec 32 := 23#32
  let v3169 : BitVec 32 := Scalar.addi v0 c23_i32_1936
  let v3170 : BitVec 32 := Scalar.subi v3169 arg10
  let c0_i32_1937 : BitVec 32 := 0#32
  let v3171 : BitVec 32 := Scalar.maxsi v3170 c0_i32_1937
  let c256_i32_1938 : BitVec 32 := 256#32
  let v3172 : BitVec 32 := Scalar.muli v3171 c256_i32_1938
  v3172
def k0_mult57 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c24_i32_1970 : BitVec 32 := 24#32
  let v3223 : BitVec 32 := Scalar.addi v0 c24_i32_1970
  let v3224 : BitVec 32 := Scalar.subi v3223 arg10
  let c0_i32_1971 : BitVec 32 := 0#32
  let v3225 : BitVec 32 := Scalar.maxsi v3224 c0_i32_1971
  let c256_i32_1972 : BitVec 32 := 256#32
  let v3226 : BitVec 32 := Scalar.muli v3225 c256_i32_1972
  v3226
def k0_mult58 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c25_i32_2004 : BitVec 32 := 25#32
  let v3277 : BitVec 32 := Scalar.addi v0 c25_i32_2004
  let v3278 : BitVec 32 := Scalar.subi v3277 arg10
  let c0_i32_2005 : BitVec 32 := 0#32
  let v3279 : BitVec 32 := Scalar.maxsi v3278 c0_i32_2005
  let c256_i32_2006 : BitVec 32 := 256#32
  let v3280 : BitVec 32 := Scalar.muli v3279 c256_i32_2006
  v3280
def k0_mult59 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c26_i32_2038 : BitVec 32 := 26#32
  let v3331 : BitVec 32 := Scalar.addi v0 c26_i32_2038
  let v3332 : BitVec 32 := Scalar.subi v3331 arg10
  let c0_i32_2039 : BitVec 32 := 0#32
  let v3333 : BitVec 32 := Scalar.maxsi v3332 c0_i32_2039
  let c256_i32_2040 : BitVec 32 := 256#32
  let v3334 : BitVec 32 := Scalar.muli v3333 c256_i32_2040
  v3334
def k0_mult60 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c27_i32_2072 : BitVec 32 := 27#32
  let v3385 : BitVec 32 := Scalar.addi v0 c27_i32_2072
  let v3386 : BitVec 32 := Scalar.subi v3385 arg10
  let c0_i32_2073 : BitVec 32 := 0#32
  let v3387 : BitVec 32 := Scalar.maxsi v3386 c0_i32_2073
  let c256_i32_2074 : BitVec 32 := 256#32
  let v3388 : BitVec 32 := Scalar.muli v3387 c256_i32_2074
  v3388
def k0_mult61 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c28_i32_2106 : BitVec 32 := 28#32
  let v3439 : BitVec 32 := Scalar.addi v0 c28_i32_2106
  let v3440 : BitVec 32 := Scalar.subi v3439 arg10
  let c0_i32_2107 : BitVec 32 := 0#32
  let v3441 : BitVec 32 := Scalar.maxsi v3440 c0_i32_2107
  let c256_i32_2108 : BitVec 32 := 256#32
  let v3442 : BitVec 32 := Scalar.muli v3441 c256_i32_2108
  v3442
def k0_mult62 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c29_i32_2140 : BitVec 32 := 29#32
  let v3493 : BitVec 32 := Scalar.addi v0 c29_i32_2140
  let v3494 : BitVec 32 := Scalar.subi v3493 arg10
  let c0_i32_2141 : BitVec 32 := 0#32
  let v3495 : BitVec 32 := Scalar.maxsi v3494 c0_i32_2141
  let c256_i32_2142 : BitVec 32 := 256#32
  let v3496 : BitVec 32 := Scalar.muli v3495 c256_i32_2142
  v3496
def k0_mult63 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c30_i32_2174 : BitVec 32 := 30#32
  let v3547 : BitVec 32 := Scalar.addi v0 c30_i32_2174
  let v3548 : BitVec 32 := Scalar.subi v3547 arg10
  let c0_i32_2175 : BitVec 32 := 0#32
  let v3549 : BitVec 32 := Scalar.maxsi v3548 c0_i32_2175
  let c256_i32_2176 : BitVec 32 := 256#32
  let v3550 : BitVec 32 := Scalar.muli v3549 c256_i32_2176
  v3550
def k0_mult64 (i : grid0.Coords) (arg10 : BitVec 32) : BitVec 32 :=
  let arg2 : BitVec 32 := BitVec.ofNat 32 (i 2).val
  let c32_i32 : BitVec 32 := 32#32
  let v0 : BitVec 32 := Scalar.muli arg2 c32_i32
  let c31_i32_2208 : BitVec 32 := 31#32
  let v3601 : BitVec 32 := Scalar.addi v0 c31_i32_2208
  let v3602 : BitVec 32 := Scalar.subi v3601 arg10
  let c0_i32_2209 : BitVec 32 := 0#32
  let v3603 : BitVec 32 := Scalar.maxsi v3602 c0_i32_2209
  let c256_i32_2210 : BitVec 32 := 256#32
  let v3604 : BitVec 32 := Scalar.muli v3603 c256_i32_2210
  v3604

def k0_chk1_0 (i : grid0.Coords) (arg10 : BitVec 32) : Prop :=
  (256 ∣ (k0_mult33 i arg10).toNat) ∧
  (∀ (r : Fin 32), ∀ a, (k0_off2 i arg10 (BitVec.ofNat 32 r.val)) a + S1x1x256x128.size a ≤ S1x1x16384x128.size a) ∧
  (256 ∣ (k0_mult34 i arg10).toNat) ∧
  (256 ∣ (k0_mult35 i arg10).toNat) ∧
  (256 ∣ (k0_mult36 i arg10).toNat) ∧
  (256 ∣ (k0_mult37 i arg10).toNat) ∧
  (256 ∣ (k0_mult38 i arg10).toNat) ∧
  (256 ∣ (k0_mult39 i arg10).toNat) ∧
  (256 ∣ (k0_mult40 i arg10).toNat) ∧
  (256 ∣ (k0_mult41 i arg10).toNat) ∧
  (256 ∣ (k0_mult42 i arg10).toNat) ∧
  (256 ∣ (k0_mult43 i arg10).toNat) ∧
  (256 ∣ (k0_mult44 i arg10).toNat) ∧
  (256 ∣ (k0_mult45 i arg10).toNat) ∧
  (256 ∣ (k0_mult46 i arg10).toNat) ∧
  (256 ∣ (k0_mult47 i arg10).toNat) ∧
  (256 ∣ (k0_mult48 i arg10).toNat) ∧
  (256 ∣ (k0_mult49 i arg10).toNat) ∧
  (256 ∣ (k0_mult50 i arg10).toNat) ∧
  (256 ∣ (k0_mult51 i arg10).toNat) ∧
  (256 ∣ (k0_mult52 i arg10).toNat) ∧
  (256 ∣ (k0_mult53 i arg10).toNat) ∧
  (256 ∣ (k0_mult54 i arg10).toNat) ∧
  (256 ∣ (k0_mult55 i arg10).toNat) ∧
  (256 ∣ (k0_mult56 i arg10).toNat) ∧
  (256 ∣ (k0_mult57 i arg10).toNat) ∧
  (256 ∣ (k0_mult58 i arg10).toNat) ∧
  (256 ∣ (k0_mult59 i arg10).toNat) ∧
  (256 ∣ (k0_mult60 i arg10).toNat) ∧
  (256 ∣ (k0_mult61 i arg10).toNat) ∧
  (256 ∣ (k0_mult62 i arg10).toNat) ∧
  (256 ∣ (k0_mult63 i arg10).toNat)
def k0_chk1_1 (i : grid0.Coords) (arg10 : BitVec 32) : Prop :=
  (256 ∣ (k0_mult64 i arg10).toNat)
def k0_chk1 (i : grid0.Coords) (arg10 : BitVec 32) : Prop :=
  k0_chk1_0 i arg10 ∧
  k0_chk1_1 i arg10
theorem k0_mult33_dvd : ∀ (i : grid0.Coords) (arg10 : BitVec 32) (k0_hw1 : k0_chk1 i arg10), 256 ∣ (k0_mult33 i arg10).toNat := fun i arg10 k0_hw1 => k0_hw1.1.1
theorem k0_off2_inb : ∀ (i : grid0.Coords) (arg10 : BitVec 32) (k0_hw1 : k0_chk1 i arg10), ∀ (r : Fin 32), ∀ a, (k0_off2 i arg10 (BitVec.ofNat 32 r.val)) a + S1x1x256x128.size a ≤ S1x1x16384x128.size a := fun i arg10 k0_hw1 r => k0_hw1.1.2.1 r
theorem k0_mult34_dvd : ∀ (i : grid0.Coords) (arg10 : BitVec 32) (k0_hw1 : k0_chk1 i arg10), 256 ∣ (k0_mult34 i arg10).toNat := fun i arg10 k0_hw1 => k0_hw1.1.2.2.1
theorem k0_mult35_dvd : ∀ (i : grid0.Coords) (arg10 : BitVec 32) (k0_hw1 : k0_chk1 i arg10), 256 ∣ (k0_mult35 i arg10).toNat := fun i arg10 k0_hw1 => k0_hw1.1.2.2.2.1
theorem k0_mult36_dvd : ∀ (i : grid0.Coords) (arg10 : BitVec 32) (k0_hw1 : k0_chk1 i arg10), 256 ∣ (k0_mult36 i arg10).toNat := fun i arg10 k0_hw1 => k0_hw1.1.2.2.2.2.1
theorem k0_mult37_dvd : ∀ (i : grid0.Coords) (arg10 : BitVec 32) (k0_hw1 : k0_chk1 i arg10), 256 ∣ (k0_mult37 i arg10).toNat := fun i arg10 k0_hw1 => k0_hw1.1.2.2.2.2.2.1
theorem k0_mult38_dvd : ∀ (i : grid0.Coords) (arg10 : BitVec 32) (k0_hw1 : k0_chk1 i arg10), 256 ∣ (k0_mult38 i arg10).toNat := fun i arg10 k0_hw1 => k0_hw1.1.2.2.2.2.2.2.1
theorem k0_mult39_dvd : ∀ (i : grid0.Coords) (arg10 : BitVec 32) (k0_hw1 : k0_chk1 i arg10), 256 ∣ (k0_mult39 i arg10).toNat := fun i arg10 k0_hw1 => k0_hw1.1.2.2.2.2.2.2.2.1
theorem k0_mult40_dvd : ∀ (i : grid0.Coords) (arg10 : BitVec 32) (k0_hw1 : k0_chk1 i arg10), 256 ∣ (k0_mult40 i arg10).toNat := fun i arg10 k0_hw1 => k0_hw1.1.2.2.2.2.2.2.2.2.1
theorem k0_mult41_dvd : ∀ (i : grid0.Coords) (arg10 : BitVec 32) (k0_hw1 : k0_chk1 i arg10), 256 ∣ (k0_mult41 i arg10).toNat := fun i arg10 k0_hw1 => k0_hw1.1.2.2.2.2.2.2.2.2.2.1
theorem k0_mult42_dvd : ∀ (i : grid0.Coords) (arg10 : BitVec 32) (k0_hw1 : k0_chk1 i arg10), 256 ∣ (k0_mult42 i arg10).toNat := fun i arg10 k0_hw1 => k0_hw1.1.2.2.2.2.2.2.2.2.2.2.1
theorem k0_mult43_dvd : ∀ (i : grid0.Coords) (arg10 : BitVec 32) (k0_hw1 : k0_chk1 i arg10), 256 ∣ (k0_mult43 i arg10).toNat := fun i arg10 k0_hw1 => k0_hw1.1.2.2.2.2.2.2.2.2.2.2.2.1
theorem k0_mult44_dvd : ∀ (i : grid0.Coords) (arg10 : BitVec 32) (k0_hw1 : k0_chk1 i arg10), 256 ∣ (k0_mult44 i arg10).toNat := fun i arg10 k0_hw1 => k0_hw1.1.2.2.2.2.2.2.2.2.2.2.2.2.1
theorem k0_mult45_dvd : ∀ (i : grid0.Coords) (arg10 : BitVec 32) (k0_hw1 : k0_chk1 i arg10), 256 ∣ (k0_mult45 i arg10).toNat := fun i arg10 k0_hw1 => k0_hw1.1.2.2.2.2.2.2.2.2.2.2.2.2.2.1
theorem k0_mult46_dvd : ∀ (i : grid0.Coords) (arg10 : BitVec 32) (k0_hw1 : k0_chk1 i arg10), 256 ∣ (k0_mult46 i arg10).toNat := fun i arg10 k0_hw1 => k0_hw1.1.2.2.2.2.2.2.2.2.2.2.2.2.2.2.1
theorem k0_mult47_dvd : ∀ (i : grid0.Coords) (arg10 : BitVec 32) (k0_hw1 : k0_chk1 i arg10), 256 ∣ (k0_mult47 i arg10).toNat := fun i arg10 k0_hw1 => k0_hw1.1.2.2.2.2.2.2.2.2.2.2.2.2.2.2.2.1
theorem k0_mult48_dvd : ∀ (i : grid0.Coords) (arg10 : BitVec 32) (k0_hw1 : k0_chk1 i arg10), 256 ∣ (k0_mult48 i arg10).toNat := fun i arg10 k0_hw1 => k0_hw1.1.2.2.2.2.2.2.2.2.2.2.2.2.2.2.2.2.1
theorem k0_mult49_dvd : ∀ (i : grid0.Coords) (arg10 : BitVec 32) (k0_hw1 : k0_chk1 i arg10), 256 ∣ (k0_mult49 i arg10).toNat := fun i arg10 k0_hw1 => k0_hw1.1.2.2.2.2.2.2.2.2.2.2.2.2.2.2.2.2.2.1
theorem k0_mult50_dvd : ∀ (i : grid0.Coords) (arg10 : BitVec 32) (k0_hw1 : k0_chk1 i arg10), 256 ∣ (k0_mult50 i arg10).toNat := fun i arg10 k0_hw1 => k0_hw1.1.2.2.2.2.2.2.2.2.2.2.2.2.2.2.2.2.2.2.1
theorem k0_mult51_dvd : ∀ (i : grid0.Coords) (arg10 : BitVec 32) (k0_hw1 : k0_chk1 i arg10), 256 ∣ (k0_mult51 i arg10).toNat := fun i arg10 k0_hw1 => k0_hw1.1.2.2.2.2.2.2.2.2.2.2.2.2.2.2.2.2.2.2.2.1
theorem k0_mult52_dvd : ∀ (i : grid0.Coords) (arg10 : BitVec 32) (k0_hw1 : k0_chk1 i arg10), 256 ∣ (k0_mult52 i arg10).toNat := fun i arg10 k0_hw1 => k0_hw1.1.2.2.2.2.2.2.2.2.2.2.2.2.2.2.2.2.2.2.2.2.1
theorem k0_mult53_dvd : ∀ (i : grid0.Coords) (arg10 : BitVec 32) (k0_hw1 : k0_chk1 i arg10), 256 ∣ (k0_mult53 i arg10).toNat := fun i arg10 k0_hw1 => k0_hw1.1.2.2.2.2.2.2.2.2.2.2.2.2.2.2.2.2.2.2.2.2.2.1
theorem k0_mult54_dvd : ∀ (i : grid0.Coords) (arg10 : BitVec 32) (k0_hw1 : k0_chk1 i arg10), 256 ∣ (k0_mult54 i arg10).toNat := fun i arg10 k0_hw1 => k0_hw1.1.2.2.2.2.2.2.2.2.2.2.2.2.2.2.2.2.2.2.2.2.2.2.1
theorem k0_mult55_dvd : ∀ (i : grid0.Coords) (arg10 : BitVec 32) (k0_hw1 : k0_chk1 i arg10), 256 ∣ (k0_mult55 i arg10).toNat := fun i arg10 k0_hw1 => k0_hw1.1.2.2.2.2.2.2.2.2.2.2.2.2.2.2.2.2.2.2.2.2.2.2.2.1
theorem k0_mult56_dvd : ∀ (i : grid0.Coords) (arg10 : BitVec 32) (k0_hw1 : k0_chk1 i arg10), 256 ∣ (k0_mult56 i arg10).toNat := fun i arg10 k0_hw1 => k0_hw1.1.2.2.2.2.2.2.2.2.2.2.2.2.2.2.2.2.2.2.2.2.2.2.2.2.1
theorem k0_mult57_dvd : ∀ (i : grid0.Coords) (arg10 : BitVec 32) (k0_hw1 : k0_chk1 i arg10), 256 ∣ (k0_mult57 i arg10).toNat := fun i arg10 k0_hw1 => k0_hw1.1.2.2.2.2.2.2.2.2.2.2.2.2.2.2.2.2.2.2.2.2.2.2.2.2.2.1
theorem k0_mult58_dvd : ∀ (i : grid0.Coords) (arg10 : BitVec 32) (k0_hw1 : k0_chk1 i arg10), 256 ∣ (k0_mult58 i arg10).toNat := fun i arg10 k0_hw1 => k0_hw1.1.2.2.2.2.2.2.2.2.2.2.2.2.2.2.2.2.2.2.2.2.2.2.2.2.2.2.1
theorem k0_mult59_dvd : ∀ (i : grid0.Coords) (arg10 : BitVec 32) (k0_hw1 : k0_chk1 i arg10), 256 ∣ (k0_mult59 i arg10).toNat := fun i arg10 k0_hw1 => k0_hw1.1.2.2.2.2.2.2.2.2.2.2.2.2.2.2.2.2.2.2.2.2.2.2.2.2.2.2.2.1
theorem k0_mult60_dvd : ∀ (i : grid0.Coords) (arg10 : BitVec 32) (k0_hw1 : k0_chk1 i arg10), 256 ∣ (k0_mult60 i arg10).toNat := fun i arg10 k0_hw1 => k0_hw1.1.2.2.2.2.2.2.2.2.2.2.2.2.2.2.2.2.2.2.2.2.2.2.2.2.2.2.2.2.1
theorem k0_mult61_dvd : ∀ (i : grid0.Coords) (arg10 : BitVec 32) (k0_hw1 : k0_chk1 i arg10), 256 ∣ (k0_mult61 i arg10).toNat := fun i arg10 k0_hw1 => k0_hw1.1.2.2.2.2.2.2.2.2.2.2.2.2.2.2.2.2.2.2.2.2.2.2.2.2.2.2.2.2.2.1
theorem k0_mult62_dvd : ∀ (i : grid0.Coords) (arg10 : BitVec 32) (k0_hw1 : k0_chk1 i arg10), 256 ∣ (k0_mult62 i arg10).toNat := fun i arg10 k0_hw1 => k0_hw1.1.2.2.2.2.2.2.2.2.2.2.2.2.2.2.2.2.2.2.2.2.2.2.2.2.2.2.2.2.2.2.1
theorem k0_mult63_dvd : ∀ (i : grid0.Coords) (arg10 : BitVec 32) (k0_hw1 : k0_chk1 i arg10), 256 ∣ (k0_mult63 i arg10).toNat := fun i arg10 k0_hw1 => k0_hw1.1.2.2.2.2.2.2.2.2.2.2.2.2.2.2.2.2.2.2.2.2.2.2.2.2.2.2.2.2.2.2.2
theorem k0_mult64_dvd : ∀ (i : grid0.Coords) (arg10 : BitVec 32) (k0_hw1 : k0_chk1 i arg10), 256 ∣ (k0_mult64 i arg10).toNat := fun i arg10 k0_hw1 => k0_hw1.2

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "stop" => some ⊥
  | _ => none
-- ==== ReferenceIdeal.lean ====
abbrev S2x4x16384x128 : Shape := ⟨4, ![2, 4, 16384, 128]⟩
abbrev S2x4x16384x16384 : Shape := ⟨4, ![2, 4, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S2x16384x4x128 : Shape := ⟨4, ![2, 16384, 4, 128]⟩
abbrev S2x16384x512 : Shape := ⟨3, ![2, 16384, 512]⟩

abbrev nBuf : Space → Nat
  | .hbm => 45
  | .vmem => 0
  | .smem => 0
  | _ => 0

abbrev bufTy : (tb : Table) → Fin (tcTables nBuf tb) → BufTy
  | .hbm, ⟨0, _⟩ => ⟨S2x4x16384x128, .bf16⟩
  | .hbm, ⟨1, _⟩ => ⟨S2x4x16384x128, .bf16⟩
  | .hbm, ⟨2, _⟩ => ⟨S2x4x16384x128, .bf16⟩
  | .hbm, ⟨3, _⟩ => ⟨S2x4x16384x128, .f32⟩
  | .hbm, ⟨4, _⟩ => ⟨S2x4x16384x128, .f32⟩
  | .hbm, ⟨5, _⟩ => ⟨S2x4x16384x128, .f32⟩
  | .hbm, ⟨6, _⟩ => ⟨S2x4x16384x16384, .f32⟩
  | .hbm, ⟨7, _⟩ => ⟨S16384, .i32⟩
  | .hbm, ⟨8, _⟩ => ⟨S1x16384, .i32⟩
  | .hbm, ⟨9, _⟩ => ⟨S16384x1, .i32⟩
  | .hbm, ⟨10, _⟩ => ⟨S16384x16384, .i32⟩
  | .hbm, ⟨11, _⟩ => ⟨S16384x16384, .i32⟩
  | .hbm, ⟨12, _⟩ => ⟨S16384x16384, .i1⟩
  | .hbm, ⟨13, _⟩ => ⟨S_, .f32⟩
  | .hbm, ⟨14, _⟩ => ⟨S2x4x16384x16384, .f32⟩
  | .hbm, ⟨15, _⟩ => ⟨S2x4x16384x16384, .f32⟩
  | .hbm, ⟨16, _⟩ => ⟨S2x4x16384x16384, .f32⟩
  | .hbm, ⟨17, _⟩ => ⟨S2x4x16384x16384, .f32⟩
  | .hbm, ⟨18, _⟩ => ⟨S2x4x16384x16384, .f32⟩
  | .hbm, ⟨19, _⟩ => ⟨S2x4x16384x16384, .f32⟩
  | .hbm, ⟨20, _⟩ => ⟨S2x4x16384x16384, .f32⟩
  | .hbm, ⟨21, _⟩ => ⟨S2x4x16384x16384, .f32⟩
  | .hbm, ⟨22, _⟩ => ⟨S_, .f32⟩
  | .hbm, ⟨23, _⟩ => ⟨S_, .f32⟩
  | .hbm, ⟨24, _⟩ => ⟨S2x4x16384x16384, .i1⟩
  | .hbm, ⟨25, _⟩ => ⟨S2x4x16384x16384, .f32⟩
  | .hbm, ⟨26, _⟩ => ⟨S2x4x16384x16384, .f32⟩
  | .hbm, ⟨27, _⟩ => ⟨S16384x1, .i32⟩
  | .hbm, ⟨28, _⟩ => ⟨S1x16384, .i32⟩
  | .hbm, ⟨29, _⟩ => ⟨S16384x16384, .i32⟩
  | .hbm, ⟨30, _⟩ => ⟨S16384x16384, .i32⟩
  | .hbm, ⟨31, _⟩ => ⟨S16384x16384, .i1⟩
  | .hbm, ⟨32, _⟩ => ⟨S16384x16384, .f32⟩
  | .hbm, ⟨33, _⟩ => ⟨S2x4x16384x16384, .f32⟩
  | .hbm, ⟨34, _⟩ => ⟨S2x4x16384x16384, .f32⟩
  | .hbm, ⟨35, _⟩ => ⟨S2x4x16384x16384, .f32⟩
  | .hbm, ⟨36, _⟩ => ⟨S_, .f32⟩
  | .hbm, ⟨37, _⟩ => ⟨S_, .f32⟩
  | .hbm, ⟨38, _⟩ => ⟨S2x4x16384x16384, .i1⟩
  | .hbm, ⟨39, _⟩ => ⟨S2x4x16384x16384, .f32⟩
  | .hbm, ⟨40, _⟩ => ⟨S2x4x16384x16384, .f32⟩
  | .hbm, ⟨41, _⟩ => ⟨S2x4x16384x128, .f32⟩
  | .hbm, ⟨42, _⟩ => ⟨S2x16384x4x128, .f32⟩
  | .hbm, ⟨43, _⟩ => ⟨S2x16384x512, .f32⟩
  | .hbm, ⟨44, _⟩ => ⟨S2x16384x512, .bf16⟩
  | _, _ => ⟨S2x4x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x8208 : Shape := ⟨2, ![1024, 8208]⟩
abbrev S128 : Shape := ⟨1, ![128]⟩
abbrev S1024x2048 : Shape := ⟨2, ![1024, 2048]⟩
abbrev S1024x1024 : Shape := ⟨2, ![1024, 1024]⟩
abbrev S1024x3072 : Shape := ⟨2, ![1024, 3072]⟩
abbrev S1024x512 : Shape := ⟨2, ![1024, 512]⟩
abbrev S1024x6656 : Shape := ⟨2, ![1024, 6656]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S1x128 : Shape := ⟨2, ![1, 128]⟩
abbrev S32768x6656 : Shape := ⟨2, ![32768, 6656]⟩
abbrev S32768x128 : Shape := ⟨2, ![32768, 128]⟩
abbrev S2x4x16384x128 : Shape := ⟨4, ![2, 4, 16384, 128]⟩
abbrev S512x1024 : Shape := ⟨2, ![512, 1024]⟩
abbrev S512x6656 : Shape := ⟨2, ![512, 6656]⟩
abbrev S512x128 : Shape := ⟨2, ![512, 128]⟩
abbrev S1x4x512x128 : Shape := ⟨4, ![1, 4, 512, 128]⟩
abbrev S512 : Shape := ⟨1, ![512]⟩
abbrev S512x1 : Shape := ⟨2, ![512, 1]⟩
abbrev S512x512 : Shape := ⟨2, ![512, 512]⟩
abbrev S1x1x512x128 : Shape := ⟨4, ![1, 1, 512, 128]⟩

abbrev nBuf : Space → Nat
  | .hbm => 24
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8208, .f32⟩
  | .hbm, ⟨3, _⟩ => ⟨S128, .f32⟩
  | .hbm, ⟨4, _⟩ => ⟨S128, .f32⟩
  | .hbm, ⟨5, _⟩ => ⟨S1024x8208, .bf16⟩
  | .hbm, ⟨6, _⟩ => ⟨S1024x2048, .bf16⟩
  | .hbm, ⟨7, _⟩ => ⟨S1024x1024, .bf16⟩
  | .hbm, ⟨8, _⟩ => ⟨S1024x3072, .bf16⟩
  | .hbm, ⟨9, _⟩ => ⟨S1024x512, .bf16⟩
  | .hbm, ⟨10, _⟩ => ⟨S1024x6656, .bf16⟩
  | .hbm, ⟨11, _⟩ => ⟨S1024x1536, .bf16⟩
  | .hbm, ⟨12, _⟩ => ⟨S1024x16, .bf16⟩
  | .hbm, ⟨13, _⟩ => ⟨S_, .i32⟩
  | .hbm, ⟨14, _⟩ => ⟨S_, .bf16⟩
  | .hbm, ⟨15, _⟩ => ⟨S1024x128, .bf16⟩
  | .hbm, ⟨16, _⟩ => ⟨S1x1024, .f32⟩
  | .hbm, ⟨17, _⟩ => ⟨S1x128, .f32⟩
  | .hbm, ⟨18, _⟩ => ⟨S1x128, .f32⟩
  | .hbm, ⟨19, _⟩ => ⟨S32768x6656, .bf16⟩
  | .hbm, ⟨20, _⟩ => ⟨S32768x128, .f32⟩
  | .hbm, ⟨21, _⟩ => ⟨S2x4x16384x128, .bf16⟩
  | .hbm, ⟨22, _⟩ => ⟨S2x4x16384x128, .bf16⟩
  | .hbm, ⟨23, _⟩ => ⟨S2x4x16384x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6656, .bf16⟩
  | .local _ .vmem, ⟨4, _⟩ => ⟨S1024x1536, .bf16⟩
  | .local _ .vmem, ⟨5, _⟩ => ⟨S1024x128, .bf16⟩
  | .local _ .vmem, ⟨6, _⟩ => ⟨S1x128, .f32⟩
  | .local _ .vmem, ⟨7, _⟩ => ⟨S1x128, .f32⟩
  | .local _ .vmem, ⟨8, _⟩ => ⟨S512x6656, .bf16⟩
  | .local _ .vmem, ⟨9, _⟩ => ⟨S512x6656, .bf16⟩
  | .local _ .vmem, ⟨10, _⟩ => ⟨S512x128, .f32⟩
  | .local _ .vmem, ⟨11, _⟩ => ⟨S512x128, .f32⟩
  | .local _ .vmem, ⟨12, _⟩ => ⟨S1x4x512x128, .bf16⟩
  | .local _ .vmem, ⟨13, _⟩ => ⟨S1x4x512x128, .bf16⟩
  | .local _ .vmem, ⟨14, _⟩ => ⟨S1x4x512x128, .bf16⟩
  | .local _ .vmem, ⟨15, _⟩ => ⟨S1x4x512x128, .bf16⟩
  | .local _ .vmem, ⟨16, _⟩ => ⟨S1x4x512x128, .bf16⟩
  | .local _ .vmem, ⟨17, _⟩ => ⟨S1x4x512x128, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x6656 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S32768x1024 : Shape := ⟨2, ![32768, 1024]⟩
abbrev S1024 : Shape := ⟨1, ![1024]⟩
abbrev S1024x8208 : Shape := ⟨2, ![1024, 8208]⟩
abbrev S128 : Shape := ⟨1, ![128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8208 : Shape := ⟨2, ![32768, 8208]⟩
abbrev S32768x2048 : Shape := ⟨2, ![32768, 2048]⟩
abbrev S32768x16 : Shape := ⟨2, ![32768, 16]⟩
abbrev S32768x512 : Shape := ⟨2, ![32768, 512]⟩
abbrev S32768x3072 : Shape := ⟨2, ![32768, 3072]⟩
abbrev S32768x6656 : Shape := ⟨2, ![32768, 6656]⟩
abbrev S32768x128 : Shape := ⟨2, ![32768, 128]⟩
abbrev S2x16384x4x128 : Shape := ⟨4, ![2, 16384, 4, 128]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩
abbrev S2x4x16384x128 : Shape := ⟨4, ![2, 4, 16384, 128]⟩

abbrev nBuf : Space → Nat
  | .hbm => 79
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8208, .f32⟩
  | .hbm, ⟨3, _⟩ => ⟨S128, .f32⟩
  | .hbm, ⟨4, _⟩ => ⟨S128, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x8208, .f32⟩
  | .hbm, ⟨22, _⟩ => ⟨S32768x1024, .f32⟩
  | .hbm, ⟨23, _⟩ => ⟨S32768x2048, .f32⟩
  | .hbm, ⟨24, _⟩ => ⟨S32768x16, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x3072, .f32⟩
  | .hbm, ⟨30, _⟩ => ⟨S32768x6656, .f32⟩
  | .hbm, ⟨31, _⟩ => ⟨S32768x6656, .bf16⟩
  | .hbm, ⟨32, _⟩ => ⟨S_, .i32⟩
  | .hbm, ⟨33, _⟩ => ⟨S_, .f32⟩
  | .hbm, ⟨34, _⟩ => ⟨S32768x128, .f32⟩
  | .hbm, ⟨35, _⟩ => ⟨S2x16384x4x128, .f32⟩
  | .hbm, ⟨36, _⟩ => ⟨S2x16384x4x128, .f32⟩
  | .hbm, ⟨37, _⟩ => ⟨S_, .f32⟩
  | .hbm, ⟨38, _⟩ => ⟨S2x16384x4, .f32⟩
  | .hbm, ⟨39, _⟩ => ⟨S2x16384x4x1, .f32⟩
  | .hbm, ⟨40, _⟩ => ⟨S_, .f32⟩
  | .hbm, ⟨41, _⟩ => ⟨S2x16384x4x1, .f32⟩
  | .hbm, ⟨42, _⟩ => ⟨S2x16384x4x1, .f32⟩
  | .hbm, ⟨43, _⟩ => ⟨S_, .f32⟩
  | .hbm, ⟨44, _⟩ => ⟨S2x16384x4x1, .f32⟩
  | .hbm, ⟨45, _⟩ => ⟨S2x16384x4x1, .f32⟩
  | .hbm, ⟨46, _⟩ => ⟨S2x16384x4x1, .f32⟩
  | .hbm, ⟨47, _⟩ => ⟨S2x16384x4x128, .f32⟩
  | .hbm, ⟨48, _⟩ => ⟨S2x16384x4x128, .f32⟩
  | .hbm, ⟨49, _⟩ => ⟨S1x1x1x128, .f32⟩
  | .hbm, ⟨50, _⟩ => ⟨S2x16384x4x128, .f32⟩
  | .hbm, ⟨51, _⟩ => ⟨S2x16384x4x128, .f32⟩
  | .hbm, ⟨52, _⟩ => ⟨S_, .f32⟩
  | .hbm, ⟨53, _⟩ => ⟨S2x16384x4x128, .f32⟩
  | .hbm, ⟨54, _⟩ => ⟨S2x16384x4x128, .f32⟩
  | .hbm, ⟨55, _⟩ => ⟨S2x4x16384x128, .f32⟩
  | .hbm, ⟨56, _⟩ => ⟨S2x4x16384x128, .bf16⟩
  | .hbm, ⟨57, _⟩ => ⟨S2x16384x4x128, .f32⟩
  | .hbm, ⟨58, _⟩ => ⟨S2x16384x4x128, .f32⟩
  | .hbm, ⟨59, _⟩ => ⟨S_, .f32⟩
  | .hbm, ⟨60, _⟩ => ⟨S2x16384x4, .f32⟩
  | .hbm, ⟨61, _⟩ => ⟨S2x16384x4x1, .f32⟩
  | .hbm, ⟨62, _⟩ => ⟨S_, .f32⟩
  | .hbm, ⟨63, _⟩ => ⟨S2x16384x4x1, .f32⟩
  | .hbm, ⟨64, _⟩ => ⟨S2x16384x4x1, .f32⟩
  | .hbm, ⟨65, _⟩ => ⟨S_, .f32⟩
  | .hbm, ⟨66, _⟩ => ⟨S2x16384x4x1, .f32⟩
  | .hbm, ⟨67, _⟩ => ⟨S2x16384x4x1, .f32⟩
  | .hbm, ⟨68, _⟩ => ⟨S2x16384x4x1, .f32⟩
  | .hbm, ⟨69, _⟩ => ⟨S2x16384x4x128, .f32⟩
  | .hbm, ⟨70, _⟩ => ⟨S2x16384x4x128, .f32⟩
  | .hbm, ⟨71, _⟩ => ⟨S1x1x1x128, .f32⟩
  | .hbm, ⟨72, _⟩ => ⟨S2x16384x4x128, .f32⟩
  | .hbm, ⟨73, _⟩ => ⟨S2x16384x4x128, .f32⟩
  | .hbm, ⟨74, _⟩ => ⟨S2x4x16384x128, .f32⟩
  | .hbm, ⟨75, _⟩ => ⟨S2x4x16384x128, .bf16⟩
  | .hbm, ⟨76, _⟩ => ⟨S2x16384x4x128, .f32⟩
  | .hbm, ⟨77, _⟩ => ⟨S2x4x16384x128, .f32⟩
  | .hbm, ⟨78, _⟩ => ⟨S2x4x16384x128, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_call0_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S_, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Kernel4.lean ====
abbrev S32768x1024 : Shape := ⟨2, ![32768, 1024]⟩
abbrev S32768x512 : Shape := ⟨2, ![32768, 512]⟩
abbrev S32768x6656 : Shape := ⟨2, ![32768, 6656]⟩
abbrev S4x128x128 : Shape := ⟨3, ![4, 128, 128]⟩
abbrev S512 : Shape := ⟨1, ![512]⟩
abbrev S1024x1024 : Shape := ⟨2, ![1024, 1024]⟩
abbrev S512x1024 : Shape := ⟨2, ![512, 1024]⟩
abbrev S1x512 : Shape := ⟨2, ![1, 512]⟩
abbrev S512x512 : Shape := ⟨2, ![512, 512]⟩
abbrev S16x512 : Shape := ⟨2, ![16, 512]⟩
abbrev S528x512 : Shape := ⟨2, ![528, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S512x256 : Shape := ⟨2, ![512, 256]⟩
abbrev S1024x256 : Shape := ⟨2, ![1024, 256]⟩

abbrev nBuf : Space → Nat
  | .hbm => 17
  | .vmem => 25
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x512, .bf16⟩
  | .hbm, ⟨3, _⟩ => ⟨S32768x6656, .bf16⟩
  | .hbm, ⟨4, _⟩ => ⟨S4x128x128, .f32⟩
  | .hbm, ⟨5, _⟩ => ⟨S512, .f32⟩
  | .hbm, ⟨6, _⟩ => ⟨S1024x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024x1024, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S4x128x128, .bf16⟩
  | .hbm, ⟨15, _⟩ => ⟨S1x512, .f32⟩
  | .hbm, ⟨16, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S4x128x128, .bf16⟩
  | .local _ .vmem, ⟨21, _⟩ => ⟨S1x512, .f32⟩
  | .local _ .vmem, ⟨22, _⟩ => ⟨S512x1024, .f32⟩
  | .local _ .vmem, ⟨23, _⟩ => ⟨S512x1024, .f32⟩
  | .local _ .vmem, ⟨24, _⟩ => ⟨S528x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let c0_i32_0 : BitVec 32 := 0#32
  ![v2.toNat, c12_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S32768x1024 : Shape := ⟨2, ![32768, 1024]⟩
abbrev S32768x512 : Shape := ⟨2, ![32768, 512]⟩
abbrev S32768x6656 : Shape := ⟨2, ![32768, 6656]⟩
abbrev S4x128x128 : Shape := ⟨3, ![4, 128, 128]⟩
abbrev S512 : Shape := ⟨1, ![512]⟩
abbrev S1024x1024 : Shape := ⟨2, ![1024, 1024]⟩
abbrev S512x1024 : Shape := ⟨2, ![512, 1024]⟩
abbrev S32768x3072 : Shape := ⟨2, ![32768, 3072]⟩
abbrev S_ : Shape := ⟨0, ![]⟩
abbrev S2x16384x4x128 : Shape := ⟨4, ![2, 16384, 4, 128]⟩
abbrev S16384 : Shape := ⟨1, ![16384]⟩
abbrev S4 : Shape := ⟨1, ![4]⟩
abbrev S16384x1 : Shape := ⟨2, ![16384, 1]⟩
abbrev S1x16384 : Shape := ⟨2, ![1, 16384]⟩
abbrev S16384x16384 : Shape := ⟨2, ![16384, 16384]⟩
abbrev S1x16384x16384 : Shape := ⟨3, ![1, 16384, 16384]⟩
abbrev S4x1x1 : Shape := ⟨3, ![4, 1, 1]⟩
abbrev S4x16384x16384 : Shape := ⟨3, ![4, 16384, 16384]⟩
abbrev S1x4 : Shape := ⟨2, ![1, 4]⟩
abbrev S16384x4 : Shape := ⟨2, ![16384, 4]⟩
abbrev S4x2x128x16384 : Shape := ⟨4, ![4, 2, 128, 16384]⟩
abbrev S1x16384x4x1 : Shape := ⟨4, ![1, 16384, 4, 1]⟩
abbrev S4x128x2x16384 : Shape := ⟨4, ![4, 128, 2, 16384]⟩
abbrev S1x512 : Shape := ⟨2, ![1, 512]⟩

abbrev nBuf : Space → Nat
  | .hbm => 81
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x512, .bf16⟩
  | .hbm, ⟨3, _⟩ => ⟨S32768x6656, .bf16⟩
  | .hbm, ⟨4, _⟩ => ⟨S4x128x128, .f32⟩
  | .hbm, ⟨5, _⟩ => ⟨S512, .f32⟩
  | .hbm, ⟨6, _⟩ => ⟨S1024x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S32768x3072, .bf16⟩
  | .hbm, ⟨11, _⟩ => ⟨S32768x3072, .f32⟩
  | .hbm, ⟨12, _⟩ => ⟨S32768x3072, .f32⟩
  | .hbm, ⟨13, _⟩ => ⟨S32768x3072, .f32⟩
  | .hbm, ⟨14, _⟩ => ⟨S_, .f32⟩
  | .hbm, ⟨15, _⟩ => ⟨S32768x3072, .f32⟩
  | .hbm, ⟨16, _⟩ => ⟨S32768x3072, .f32⟩
  | .hbm, ⟨17, _⟩ => ⟨S_, .f32⟩
  | .hbm, ⟨18, _⟩ => ⟨S32768x3072, .f32⟩
  | .hbm, ⟨19, _⟩ => ⟨S32768x3072, .f32⟩
  | .hbm, ⟨20, _⟩ => ⟨S32768x512, .bf16⟩
  | .hbm, ⟨21, _⟩ => ⟨S32768x512, .f32⟩
  | .hbm, ⟨22, _⟩ => ⟨S2x16384x4x128, .f32⟩
  | .hbm, ⟨23, _⟩ => ⟨S16384, .i32⟩
  | .hbm, ⟨24, _⟩ => ⟨S4, .i32⟩
  | .hbm, ⟨25, _⟩ => ⟨S_, .i32⟩
  | .hbm, ⟨26, _⟩ => ⟨S4, .i32⟩
  | .hbm, ⟨27, _⟩ => ⟨S4, .i32⟩
  | .hbm, ⟨28, _⟩ => ⟨S16384x1, .i32⟩
  | .hbm, ⟨29, _⟩ => ⟨S1x16384, .i32⟩
  | .hbm, ⟨30, _⟩ => ⟨S16384x16384, .i32⟩
  | .hbm, ⟨31, _⟩ => ⟨S16384x16384, .i32⟩
  | .hbm, ⟨32, _⟩ => ⟨S16384x16384, .i32⟩
  | .hbm, ⟨33, _⟩ => ⟨S_, .i32⟩
  | .hbm, ⟨34, _⟩ => ⟨S16384x16384, .i32⟩
  | .hbm, ⟨35, _⟩ => ⟨S16384x16384, .i1⟩
  | .hbm, ⟨36, _⟩ => ⟨S1x16384x16384, .i1⟩
  | .hbm, ⟨37, _⟩ => ⟨S1x16384x16384, .i32⟩
  | .hbm, ⟨38, _⟩ => ⟨S4x1x1, .i32⟩
  | .hbm, ⟨39, _⟩ => ⟨S4x16384x16384, .i32⟩
  | .hbm, ⟨40, _⟩ => ⟨S4x16384x16384, .i32⟩
  | .hbm, ⟨41, _⟩ => ⟨S4x16384x16384, .i1⟩
  | .hbm, ⟨42, _⟩ => ⟨S4x16384x16384, .i1⟩
  | .hbm, ⟨43, _⟩ => ⟨S4x16384x16384, .i1⟩
  | .hbm, ⟨44, _⟩ => ⟨S4x16384x16384, .f32⟩
  | .hbm, ⟨45, _⟩ => ⟨S16384x1, .i32⟩
  | .hbm, ⟨46, _⟩ => ⟨S_, .i32⟩
  | .hbm, ⟨47, _⟩ => ⟨S16384x1, .i32⟩
  | .hbm, ⟨48, _⟩ => ⟨S16384x1, .i32⟩
  | .hbm, ⟨49, _⟩ => ⟨S1x4, .i32⟩
  | .hbm, ⟨50, _⟩ => ⟨S16384x4, .i32⟩
  | .hbm, ⟨51, _⟩ => ⟨S16384x4, .i32⟩
  | .hbm, ⟨52, _⟩ => ⟨S16384x4, .i32⟩
  | .hbm, ⟨53, _⟩ => ⟨S16384x4, .f32⟩
  | .hbm, ⟨54, _⟩ => ⟨S4x2x128x16384, .f32⟩
  | .hbm, ⟨55, _⟩ => ⟨S2x16384x4x128, .f32⟩
  | .hbm, ⟨56, _⟩ => ⟨S1x16384x4x1, .f32⟩
  | .hbm, ⟨57, _⟩ => ⟨S2x16384x4x128, .f32⟩
  | .hbm, ⟨58, _⟩ => ⟨S2x16384x4x128, .f32⟩
  | .hbm, ⟨59, _⟩ => ⟨S2x16384x4x128, .f32⟩
  | .hbm, ⟨60, _⟩ => ⟨S4x128x2x16384, .f32⟩
  | .hbm, ⟨61, _⟩ => ⟨S2x16384x4x128, .f32⟩
  | .hbm, ⟨62, _⟩ => ⟨S32768x512, .f32⟩
  | .hbm, ⟨63, _⟩ => ⟨S1x512, .f32⟩
  | .hbm, ⟨64, _⟩ => ⟨S32768x512, .f32⟩
  | .hbm, ⟨65, _⟩ => ⟨S32768x512, .f32⟩
  | .hbm, ⟨66, _⟩ => ⟨S32768x1024, .f32⟩
  | .hbm, ⟨67, _⟩ => ⟨S32768x1024, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S32768x512, .f32⟩
  | .hbm, ⟨72, _⟩ => ⟨S32768x1024, .f32⟩
  | .hbm, ⟨73, _⟩ => ⟨S32768x1024, .f32⟩
  | .hbm, ⟨74, _⟩ => ⟨S32768x1024, .f32⟩
  | .hbm, ⟨75, _⟩ => ⟨S32768x1024, .f32⟩
  | .hbm, ⟨76, _⟩ => ⟨S32768x1024, .f32⟩
  | .hbm, ⟨77, _⟩ => ⟨S32768x1024, .f32⟩
  | .hbm, ⟨78, _⟩ => ⟨S32768x1024, .f32⟩
  | .hbm, ⟨79, _⟩ => ⟨S32768x1024, .f32⟩
  | .hbm, ⟨80, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩

abbrev nD : Nat := 1
abbrev τ : Topo := Topo.v7x

variable {F : FTy → Type} [FloatOps F]
-- ==== Kernel5.lean ====
abbrev S69632x1024 : Shape := ⟨2, ![69632, 1024]⟩
abbrev S136 : Shape := ⟨1, ![136]⟩
abbrev S1 : Shape := ⟨1, ![1]⟩
abbrev S8x1024x1792 : Shape := ⟨3, ![8, 1024, 1792]⟩
abbrev S8x1792x1024 : Shape := ⟨3, ![8, 1792, 1024]⟩
abbrev S512x1024 : Shape := ⟨2, ![512, 1024]⟩
abbrev S1x1024x1792 : Shape := ⟨3, ![1, 1024, 1792]⟩
abbrev S1x1792x1024 : Shape := ⟨3, ![1, 1792, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 8
  | .vmem => 10
  | .smem => 2
  | _ => 0

abbrev bufTy : (tb : Table) → Fin (tcTables nBuf tb) → BufTy
  | .hbm, ⟨0, _⟩ => ⟨S69632x1024, .f32⟩
  | .hbm, ⟨1, _⟩ => ⟨S8x1024x1792, .f32⟩
  | .hbm, ⟨2, _⟩ => ⟨S8x1024x1792, .f32⟩
  | .hbm, ⟨3, _⟩ => ⟨S8x1792x1024, .f32⟩
  | .hbm, ⟨4, _⟩ => ⟨S8x1024x1792, .bf16⟩
  | .hbm, ⟨5, _⟩ => ⟨S8x1024x1792, .bf16⟩
  | .hbm, ⟨6, _⟩ => ⟨S8x1792x1024, .bf16⟩
  | .hbm, ⟨7, _⟩ => ⟨S69632x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .smem, ⟨0, _⟩ => ⟨S136, .i32⟩
  | .local _ .smem, ⟨1, _⟩ => ⟨S1, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S69632x1024 : Shape := ⟨2, ![69632, 1024]⟩
abbrev S136 : Shape := ⟨1, ![136]⟩
abbrev S1 : Shape := ⟨1, ![1]⟩
abbrev S8x1024x1792 : Shape := ⟨3, ![8, 1024, 1792]⟩
abbrev S8x1792x1024 : Shape := ⟨3, ![8, 1792, 1024]⟩
abbrev S136x512x1024 : Shape := ⟨3, ![136, 512, 1024]⟩
abbrev S_ : Shape := ⟨0, ![]⟩
abbrev S136x1 : Shape := ⟨2, ![136, 1]⟩
abbrev S136x1024x1792 : Shape := ⟨3, ![136, 1024, 1792]⟩
abbrev S136x512x1792 : Shape := ⟨3, ![136, 512, 1792]⟩
abbrev S136x1792x1024 : Shape := ⟨3, ![136, 1792, 1024]⟩
abbrev S136x1x1 : Shape := ⟨3, ![136, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S69632x1024, .f32⟩
  | .hbm, ⟨1, _⟩ => ⟨S136, .i32⟩
  | .hbm, ⟨2, _⟩ => ⟨S1, .i32⟩
  | .hbm, ⟨3, _⟩ => ⟨S8x1024x1792, .f32⟩
  | .hbm, ⟨4, _⟩ => ⟨S8x1024x1792, .f32⟩
  | .hbm, ⟨5, _⟩ => ⟨S8x1792x1024, .f32⟩
  | .hbm, ⟨6, _⟩ => ⟨S136x512x1024, .f32⟩
  | .hbm, ⟨7, _⟩ => ⟨S_, .i32⟩
  | .hbm, ⟨8, _⟩ => ⟨S136, .i32⟩
  | .hbm, ⟨9, _⟩ => ⟨S136, .i1⟩
  | .hbm, ⟨10, _⟩ => ⟨S_, .i32⟩
  | .hbm, ⟨11, _⟩ => ⟨S136, .i32⟩
  | .hbm, ⟨12, _⟩ => ⟨S136, .i32⟩
  | .hbm, ⟨13, _⟩ => ⟨S136, .i32⟩
  | .hbm, ⟨14, _⟩ => ⟨S136x1, .i32⟩
  | .hbm, ⟨15, _⟩ => ⟨S136x1024x1792, .f32⟩
  | .hbm, ⟨16, _⟩ => ⟨S136x512x1792, .f32⟩
  | .hbm, ⟨17, _⟩ => ⟨S136x512x1792, .f32⟩
  | .hbm, ⟨18, _⟩ => ⟨S136x512x1792, .f32⟩
  | .hbm, ⟨19, _⟩ => ⟨S_, .f32⟩
  | .hbm, ⟨20, _⟩ => ⟨S136x512x1792, .f32⟩
  | .hbm, ⟨21, _⟩ => ⟨S136x512x1792, .f32⟩
  | .hbm, ⟨22, _⟩ => ⟨S_, .f32⟩
  | .hbm, ⟨23, _⟩ => ⟨S136x512x1792, .f32⟩
  | .hbm, ⟨24, _⟩ => ⟨S136x512x1792, .f32⟩
  | .hbm, ⟨25, _⟩ => ⟨S136x512x1792, .f32⟩
  | .hbm, ⟨26, _⟩ => ⟨S_, .i32⟩
  | .hbm, ⟨27, _⟩ => ⟨S136, .i32⟩
  | .hbm, ⟨28, _⟩ => ⟨S136, .i1⟩
  | .hbm, ⟨29, _⟩ => ⟨S_, .i32⟩
  | .hbm, ⟨30, _⟩ => ⟨S136, .i32⟩
  | .hbm, ⟨31, _⟩ => ⟨S136, .i32⟩
  | .hbm, ⟨32, _⟩ => ⟨S136, .i32⟩
  | .hbm, ⟨33, _⟩ => ⟨S136x1, .i32⟩
  | .hbm, ⟨34, _⟩ => ⟨S136x1024x1792, .f32⟩
  | .hbm, ⟨35, _⟩ => ⟨S136x512x1792, .f32⟩
  | .hbm, ⟨36, _⟩ => ⟨S136x512x1792, .f32⟩
  | .hbm, ⟨37, _⟩ => ⟨S_, .i32⟩
  | .hbm, ⟨38, _⟩ => ⟨S136, .i32⟩
  | .hbm, ⟨39, _⟩ => ⟨S136, .i1⟩
  | .hbm, ⟨40, _⟩ => ⟨S_, .i32⟩
  | .hbm, ⟨41, _⟩ => ⟨S136, .i32⟩
  | .hbm, ⟨42, _⟩ => ⟨S136, .i32⟩
  | .hbm, ⟨43, _⟩ => ⟨S136, .i32⟩
  | .hbm, ⟨44, _⟩ => ⟨S136x1, .i32⟩
  | .hbm, ⟨45, _⟩ => ⟨S136x1792x1024, .f32⟩
  | .hbm, ⟨46, _⟩ => ⟨S136x512x1024, .f32⟩
  | .hbm, ⟨47, _⟩ => ⟨S136, .i32⟩
  | .hbm, ⟨48, _⟩ => ⟨S_, .i32⟩
  | .hbm, ⟨49, _⟩ => ⟨S136, .i32⟩
  | .hbm, ⟨50, _⟩ => ⟨S136, .i1⟩
  | .hbm, ⟨51, _⟩ => ⟨S136x1x1, .i1⟩
  | .hbm, ⟨52, _⟩ => ⟨S_, .f32⟩
  | .hbm, ⟨53, _⟩ => ⟨S_, .f32⟩
  | .hbm, ⟨54, _⟩ => ⟨S136x512x1024, .i1⟩
  | .hbm, ⟨55, _⟩ => ⟨S136x512x1024, .f32⟩
  | .hbm, ⟨56, _⟩ => ⟨S136x512x1024, .f32⟩
  | .hbm, ⟨57, _⟩ => ⟨S69632x1024, .f32⟩
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== Kernel6.lean ====
abbrev S32768x1024 : Shape := ⟨2, ![32768, 1024]⟩
abbrev S1024 : Shape := ⟨1, ![1024]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S8x32768 : Shape := ⟨2, ![8, 32768]⟩
abbrev S32768x128 : Shape := ⟨2, ![32768, 128]⟩
abbrev S512x1024 : Shape := ⟨2, ![512, 1024]⟩
abbrev S8x512 : Shape := ⟨2, ![8, 512]⟩
abbrev S512x128 : Shape := ⟨2, ![512, 128]⟩
abbrev S512 : Shape := ⟨1, ![512]⟩
abbrev S512x1 : Shape := ⟨2, ![512, 1]⟩
abbrev S128x512 : Shape := ⟨2, ![128, 512]⟩

abbrev nBuf : Space → Nat
  | .hbm => 10
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8, .f32⟩
  | .hbm, ⟨3, _⟩ => ⟨S_, .i32⟩
  | .hbm, ⟨4, _⟩ => ⟨S_, .f32⟩
  | .hbm, ⟨5, _⟩ => ⟨S1024x128, .f32⟩
  | .hbm, ⟨6, _⟩ => ⟨S1x1024, .f32⟩
  | .hbm, ⟨7, _⟩ => ⟨S32768x1024, .f32⟩
  | .hbm, ⟨8, _⟩ => ⟨S8x32768, .i32⟩
  | .hbm, ⟨9, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .f32⟩
  | .local _ .vmem, ⟨4, _⟩ => ⟨S512x1024, .f32⟩
  | .local _ .vmem, ⟨5, _⟩ => ⟨S512x1024, .f32⟩
  | .local _ .vmem, ⟨6, _⟩ => ⟨S8x512, .i32⟩
  | .local _ .vmem, ⟨7, _⟩ => ⟨S8x512, .i32⟩
  | .local _ .vmem, ⟨8, _⟩ => ⟨S512x128, .f32⟩
  | .local _ .vmem, ⟨9, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S32768x1024 : Shape := ⟨2, ![32768, 1024]⟩
abbrev S1024 : Shape := ⟨1, ![1024]⟩
abbrev S1024x8 : Shape := ⟨2, ![1024, 8]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8 : Shape := ⟨2, ![32768, 8]⟩
abbrev S32768x2 : Shape := ⟨2, ![32768, 2]⟩
abbrev S2x32768 : Shape := ⟨2, ![2, 32768]⟩
abbrev S8x32768 : Shape := ⟨2, ![8, 32768]⟩
abbrev S32768x128 : Shape := ⟨2, ![32768, 128]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x8, .f32⟩
  | .hbm, ⟨20, _⟩ => ⟨S32768x2, .f32⟩
  | .hbm, ⟨21, _⟩ => ⟨S32768x2, .i32⟩
  | .hbm, ⟨22, _⟩ => ⟨S_, .f32⟩
  | .hbm, ⟨23, _⟩ => ⟨S32768, .f32⟩
  | .hbm, ⟨24, _⟩ => ⟨S_, .f32⟩
  | .hbm, ⟨25, _⟩ => ⟨S32768, .f32⟩
  | .hbm, ⟨26, _⟩ => ⟨S32768, .f32⟩
  | .hbm, ⟨27, _⟩ => ⟨S32768x1, .f32⟩
  | .hbm, ⟨28, _⟩ => ⟨S32768x2, .f32⟩
  | .hbm, ⟨29, _⟩ => ⟨S32768x2, .f32⟩
  | .hbm, ⟨30, _⟩ => ⟨S32768x2, .f32⟩
  | .hbm, ⟨31, _⟩ => ⟨S_, .f32⟩
  | .hbm, ⟨32, _⟩ => ⟨S32768, .f32⟩
  | .hbm, ⟨33, _⟩ => ⟨S32768x1, .f32⟩
  | .hbm, ⟨34, _⟩ => ⟨S32768x2, .f32⟩
  | .hbm, ⟨35, _⟩ => ⟨S32768x2, .f32⟩
  | .hbm, ⟨36, _⟩ => ⟨S2x32768, .i32⟩
  | .hbm, ⟨37, _⟩ => ⟨S_, .i32⟩
  | .hbm, ⟨38, _⟩ => ⟨S_, .i32⟩
  | .hbm, ⟨39, _⟩ => ⟨S8x32768, .i32⟩
  | .hbm, ⟨40, _⟩ => ⟨S_, .i32⟩
  | .hbm, ⟨41, _⟩ => ⟨S_, .f32⟩
  | .hbm, ⟨42, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_call0_v0 : Ref sig .tc := ⟨.hbm, 38, rfl⟩
abbrev main_v26 : Ref sig .tc := ⟨.hbm, 39, rfl⟩
abbrev main_c_5 : Ref sig .tc := ⟨.hbm, 40, rfl⟩
abbrev main_call1_v0 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Proof.SbI.Visit.lean ====
/-
  The stick-breaking kernel written once per visit. The kernel's text visits its thirty-two query tiles one after the
  other, in full; here a visit is one function of its tile `c`, and the text is shown to be the list of the visits. This
  module has the pure functions of a visit (the scores, the negated log of the rest of the stick, the weights) for any
  float values, the visit's programs, and the kernel body and the loop body as lists of visits.
-/
module

public import proofs.«01_k».proof.Proof.Gen.KernelIdeal
public import Idealize.ShloMosaic.Lib.Tactic

@[expose] public section

noncomputable section

namespace Cert.Proof.SbI

open Cert.KernelIdeal Cert.KernelIdeal.Gen
open Idealize.ShloMosaic Idealize.ShloMosaic.TcCoe
open Idealize.SL Idealize.SL.Sem
open Idealize.ShloMosaic.Tactic

variable {F : FTy → Type} [FloatOps F] [Named F]

/-! ### The values of a visit -/

/-- The scores of a query tile against a key tile. -/
def scores (q k : FVec F S256x128 .bf16) : FVec F S256x256 .f32 :=
  matmul dot_S256x128_S256x128_S256x256_1_1_0_0_n_n none q k (constant S256x256 .f32 0x00000000#32)

/-- A splat of zero. -/
def zeroS : FVec F S256x256 .f32 := broadcast S256x256 (Scalar.ofBits .f32 0x00000000#32 : F .f32)

/-- `max z 0 + log (1 + exp (-|z|))`: minus the log of the part of the stick that `z` leaves. -/
def restNeg (z : FVec F S256x256 .f32) : FVec F S256x256 .f32 :=
  addf (maximumf z zeroS)
    (log (addf (broadcast S256x256 (Scalar.ofBits .f32 0x3F800000#32 : F .f32)) (exp (subf zeroS (absf z)))))

/-- `z` less `restNeg z`: the log of the part that `z` breaks off. -/
def breakLog (z : FVec F S256x256 .f32) : FVec F S256x256 .f32 := subf z (restNeg z)

/-- The strict lower triangle. -/
def below : IVec S256x256 1 :=
  cmpi .slt (iota .tc S256x256 32 [1] iota_S256x256_d1_w32) (iota .tc S256x256 32 [0] iota_S256x256_d0_w32)

/-- The product with the triangle and the ones: the sums over later columns, and the whole row sums. -/
def sums (n : FVec F S256x256 .f32) (uo : FVec F S256x384 .bf16) : FVec F S256x384 .f32 :=
  matmul dot_S256x256_S256x384_S256x384_1_0_0_1_n_n none (truncf .bf16 n bitsLt_bf16_f32) uo (constant S256x384 .f32 0x00000000#32)

/-- The sums over later columns, -/
def sufs (s : FVec F S256x384 .f32) : FVec F S256x256 .f32 := extractStridedSlice S256x256 ![0, 0] s slices_S256x384_o0_0_S256x256
/-- and the row sums, one per lane. -/
def tots (s : FVec F S256x384 .f32) : FVec F S256x128 .f32 := extractStridedSlice S256x128 ![0, 256] s slices_S256x384_o0_256_S256x128

/-- The weights times the value tile. -/
def weigh (w : FVec F S256x256 .f32) (v : FVec F S256x128 .bf16) : FVec F S256x128 .f32 :=
  matmul dot_S256x256_S256x128_S256x128_1_0_0_1_n_n none (truncf .bf16 w bitsLt_bf16_f32) v (constant S256x128 .f32 0x00000000#32)

/-- The masked sums of a diagonal tile. -/
def diagSums (z : FVec F S256x256 .f32) (uo : FVec F S256x384 .bf16) : FVec F S256x384 .f32 :=
  sums (select below (restNeg z) zeroS) uo

/-- What a diagonal visit leaves in the carry, -/
def diagCarry (z : FVec F S256x256 .f32) (uo : FVec F S256x384 .bf16) : FVec F S256x128 .f32 :=
  subf (broadcast S256x128 (Scalar.ofBits .f32 0x00000000#32 : F .f32)) (tots (diagSums z uo))

/-- and in the accumulator. -/
def diagAcc (z : FVec F S256x256 .f32) (uo : FVec F S256x384 .bf16) (v : FVec F S256x128 .bf16) : FVec F S256x128 .f32 :=
  weigh (select below (exp (subf (breakLog z) (sufs (diagSums z uo)))) zeroS) v

/-- What a later visit leaves in the carry, -/
def offCarry (z : FVec F S256x256 .f32) (uo : FVec F S256x384 .bf16) (prev : FVec F S256x128 .f32) : FVec F S256x128 .f32 :=
  subf prev (tots (sums (restNeg z) uo))

/-- the weights it takes, zero where there is no such key tile, -/
def offWeights (z : FVec F S256x256 .f32) (uo : FVec F S256x384 .bf16) (prev : FVec F S256x128 .f32) (b : BitVec 1) : FVec F S256x256 .f32 :=
  Scalar.select b
    (exp (addf (subf (breakLog z) (sufs (sums (restNeg z) uo)))
      (concatenate S256x256 1 [⟨S256x128, prev⟩, ⟨S256x128, prev⟩] concatenates_S256x128_S256x128_S256x256_d1)))
    zeroS

/-- and what it leaves in the accumulator. -/
def offAcc (z : FVec F S256x256 .f32) (uo : FVec F S256x384 .bf16) (prev acc : FVec F S256x128 .f32) (b : BitVec 1)
    (v : FVec F S256x128 .bf16) : FVec F S256x128 .f32 :=
  addf acc (weigh (offWeights z uo prev b) v)

/-- The largest entry of a carry row. -/
def top (x : FVec F S256x128 .f32) : F .f32 :=
  extractAt ![0, 0, 0] (shapeCast S1x1x1
    (multiReduction .maximumf [1, 2] S1 (shapeCast S1x256x128 x shapeCasts_S256x128_S1x256x128) 0xFF800000#32 reduces_S1x256x128_S1 (.inl rfl) rfl)
    shapeCasts_S1_S1x1x1) inpos_S1x1x1_p0_0_0

/-- The bound under which a chain is finished. -/
def stop : F .f32 := Named.named κ "stop" 0xC2DC0000#32

/-! ### The chains -/

/-- The chains of a point, in the order they are visited. -/
def chains : List (Fin 32) :=
  [0, 1, 2, 3, 4, 5, 6, 7, 8, 9, 10, 11, 12, 13, 14, 15, 16, 17, 18, 19, 20, 21, 22, 23, 24, 25, 26, 27, 28, 29, 30, 31]

/-- A program for each chain of a list, then a program over what they returned. -/
def each {α β : Type} {E : Type → Type} (f : Fin 32 → Prog E α) : List (Fin 32) → (List α → Prog E β) → Prog E β
  | [], k => k []
  | c :: cs, k => f c >>= fun a => each f cs fun bs => k (a :: bs)

/-- Whether chain `c` has a tile left at step `j` and has not finished. -/
def need (v0 j : BitVec 32) (c : Fin 32) (x : F .f32) : BitVec 1 :=
  Scalar.andi (Scalar.cmpi .sge (Scalar.subi (Scalar.addi v0 (BitVec.ofNat 32 c.val)) j) 0#32) (Scalar.cmpf .ogt x stop)

/-- Some of the bits is set. -/
def anyOf : List (BitVec 1) → BitVec 1
  | [] => 0#1
  | b :: bs => bs.foldl Scalar.ori b

/-- The bits of the chains. -/
def needs (v0 j : BitVec 32) : List (Fin 32) → List (F .f32) → List (BitVec 1)
  | c :: cs, x :: xs => need v0 j c x :: needs v0 j cs xs
  | _, _ => []

/-- Whether another step is wanted, as the loop's word. -/
def unfinished (v0 j : BitVec 32) (xs : List (F .f32)) : BitVec 32 := Scalar.extui (anyOf (needs v0 j chains xs))

/-- The first query tile of the point. -/
def first (i : grid0.Coords) : BitVec 32 := Scalar.muli (BitVec.ofNat 32 (i 2).val) 32#32

/-! ### The rectangles of chain `c` -/

theorem inbQ : ∀ (c : Fin 32) (a : Fin 4), (![0, 0, c.val * 256, 0] : Fin 4 → Nat) a + S1x1x256x128.size a ≤ S1x1x8192x128.size a := by decide
theorem inbR : ∀ (c : Fin 32) (a : Fin 3), (![c.val, 0, 0] : Fin 3 → Nat) a + S1x256x128.size a ≤ S32x256x128.size a := by decide
theorem inbO : ∀ (c : Fin 32) (a : Fin 3), (![0, c.val * 256, 0] : Fin 3 → Nat) a + S1x256x128.size a ≤ S1x8192x128.size a := by decide

/-- Its queries in the query block, -/
abbrev rQ (c : Fin 32) : Rect S1x1x8192x128 := Rect.unit (s := S1x1x8192x128) ![0, 0, c.val * 256, 0] S1x1x256x128.size (inbQ c)
/-- its row of the carry and of the accumulator, -/
abbrev rR (c : Fin 32) : Rect S32x256x128 := Rect.unit (s := S32x256x128) ![c.val, 0, 0] S1x256x128.size (inbR c)
/-- and its rows of the result block. -/
abbrev rO (c : Fin 32) : Rect S1x8192x128 := Rect.unit (s := S1x8192x128) ![0, c.val * 256, 0] S1x256x128.size (inbO c)

theorem packedO : ∀ c : Fin 32, (rO c).PackedRows (EltTy.packing .bf16) := by decide

/-- The keys and values of chain `c` at the point's own tiles, -/
abbrev rD (i : grid0.Coords) (c : Fin 32) : Rect S1x1x16384x128 :=
  Rect.unit (s := S1x1x16384x128) (k0_off1 i (BitVec.ofNat 32 c.val)) S1x1x256x128.size (k0_off1_inb i c)
/-- and `j` tiles earlier. -/
abbrev rB (i : grid0.Coords) (j : BitVec 32) (h : k0_chk1 i j) (c : Fin 32) : Rect S1x1x16384x128 :=
  Rect.unit (s := S1x1x16384x128) (k0_off2 i j (BitVec.ofNat 32 c.val)) S1x1x256x128.size (k0_off2_inb i j h c)

/-! ### The programs -/

section Progs

variable (i : grid0.Coords)
  (arg3 : Memref sig .tc .vmem S1x1x8192x128 .bf16) (harg3 : arg3.IsWhole)
  (arg4 : Memref sig .tc .vmem S1x1x16384x128 .bf16) (harg4 : arg4.IsWhole)
  (arg5 : Memref sig .tc .vmem S1x1x16384x128 .bf16) (harg5 : arg5.IsWhole)
  (arg6 : Memref sig .tc .vmem S256x384 .bf16) (harg6 : arg6.IsWhole)
  (arg7 : Memref sig .tc .vmem S1x8192x128 .bf16) (harg7 : arg7.IsWhole)
  (arg8 : Memref sig .tc .vmem S32x256x128 .f32) (harg8 : arg8.IsWhole)
  (arg9 : Memref sig .tc .vmem S32x256x128 .f32) (harg9 : arg9.IsWhole)

/-- A visit to chain `c`'s own key tile. -/
def diagVisit (uo : FVec F S256x384 .bf16) (c : Fin 32) : Prog (TpuEff nD τ sig (Elt F) (Λ₀ F) .tc) (F .f32) := do
  let q : Vec F S1x1x256x128 .bf16 ← Prog.lift (.load arg3 (rQ c).toLoadRect (View.loadsAt_vmem h_S1x1x256x128))
  let k : Vec F S1x1x256x128 .bf16 ← Prog.lift (.load arg4 (rD i c).toLoadRect (View.loadsAt_vmem h_S1x1x256x128))
  let v : Vec F S1x1x256x128 .bf16 ← Prog.lift (.load arg5 (rD i c).toLoadRect (View.loadsAt_vmem h_S1x1x256x128))
  let _ : Vec F S1x256x128 .f32 ← Prog.lift (.load arg9 (rR c).toLoadRect (View.loadsAt_vmem h_S1x256x128))
  Prog.lift (.store arg9 (rR c)
    (shapeCast S1x256x128 (diagAcc (scores (shapeCast S256x128 q shapeCasts_S1x1x256x128_S256x128) (shapeCast S256x128 k shapeCasts_S1x1x256x128_S256x128)) uo
      (shapeCast S256x128 v shapeCasts_S1x1x256x128_S256x128)) shapeCasts_S256x128_S1x256x128 : FVec F S1x256x128 .f32)
    Finset.univ (View.stores_vmem_bits_univ h_S1x256x128 rfl) (.inl rfl))
  let _ : Vec F S1x256x128 .f32 ← Prog.lift (.load arg8 (rR c).toLoadRect (View.loadsAt_vmem h_S1x256x128))
  Prog.lift (.store arg8 (rR c)
    (shapeCast S1x256x128 (diagCarry (scores (shapeCast S256x128 q shapeCasts_S1x1x256x128_S256x128) (shapeCast S256x128 k shapeCasts_S1x1x256x128_S256x128)) uo)
      shapeCasts_S256x128_S1x256x128 : FVec F S1x256x128 .f32)
    Finset.univ (View.stores_vmem_bits_univ h_S1x256x128 rfl) (.inl rfl))
  pure (top (diagCarry (scores (shapeCast S256x128 q shapeCasts_S1x1x256x128_S256x128) (shapeCast S256x128 k shapeCasts_S1x1x256x128_S256x128)) uo))

/-- A visit to the key tile `j` before chain `c`'s own. -/
def offVisit (uo : FVec F S256x384 .bf16) (j : BitVec 32) (h : k0_chk1 i j) (c : Fin 32) :
    Prog (TpuEff nD τ sig (Elt F) (Λ₀ F) .tc) (F .f32) := do
  let q : Vec F S1x1x256x128 .bf16 ← Prog.lift (.load arg3 (rQ c).toLoadRect (View.loadsAt_vmem h_S1x1x256x128))
  let k : Vec F S1x1x256x128 .bf16 ← Prog.lift (.load arg4 (rB i j h c).toLoadRect (View.loadsAt_vmem h_S1x1x256x128))
  let v : Vec F S1x1x256x128 .bf16 ← Prog.lift (.load arg5 (rB i j h c).toLoadRect (View.loadsAt_vmem h_S1x1x256x128))
  let p : Vec F S1x256x128 .f32 ← Prog.lift (.load arg8 (rR c).toLoadRect (View.loadsAt_vmem h_S1x256x128))
  let a : Vec F S1x256x128 .f32 ← Prog.lift (.load arg9 (rR c).toLoadRect (View.loadsAt_vmem h_S1x256x128))
  let _ : Vec F S1x256x128 .f32 ← Prog.lift (.load arg9 (rR c).toLoadRect (View.loadsAt_vmem h_S1x256x128))
  Prog.lift (.store arg9 (rR c)
    (shapeCast S1x256x128 (offAcc (scores (shapeCast S256x128 q shapeCasts_S1x1x256x128_S256x128) (shapeCast S256x128 k shapeCasts_S1x1x256x128_S256x128)) uo
      (shapeCast S256x128 p shapeCasts_S1x256x128_S256x128) (shapeCast S256x128 a shapeCasts_S1x256x128_S256x128)
      (Scalar.cmpi .sge (Scalar.subi (Scalar.addi (first i) (BitVec.ofNat 32 c.val)) j) 0#32)
      (shapeCast S256x128 v shapeCasts_S1x1x256x128_S256x128)) shapeCasts_S256x128_S1x256x128 : FVec F S1x256x128 .f32)
    Finset.univ (View.stores_vmem_bits_univ h_S1x256x128 rfl) (.inl rfl))
  let _ : Vec F S1x256x128 .f32 ← Prog.lift (.load arg8 (rR c).toLoadRect (View.loadsAt_vmem h_S1x256x128))
  Prog.lift (.store arg8 (rR c)
    (shapeCast S1x256x128 (offCarry (scores (shapeCast S256x128 q shapeCasts_S1x1x256x128_S256x128) (shapeCast S256x128 k shapeCasts_S1x1x256x128_S256x128)) uo
      (shapeCast S256x128 p shapeCasts_S1x256x128_S256x128)) shapeCasts_S256x128_S1x256x128 : FVec F S1x256x128 .f32)
    Finset.univ (View.stores_vmem_bits_univ h_S1x256x128 rfl) (.inl rfl))
  pure (top (offCarry (scores (shapeCast S256x128 q shapeCasts_S1x1x256x128_S256x128) (shapeCast S256x128 k shapeCasts_S1x1x256x128_S256x128)) uo
    (shapeCast S256x128 p shapeCasts_S1x256x128_S256x128)))

/-- The copy of chain `c`'s accumulator to the result block. -/
def copyOut (c : Fin 32) : Prog (TpuEff nD τ sig (Elt F) (Λ₀ F) .tc) PUnit := do
  let a : Vec F S1x256x128 .f32 ← Prog.lift (.load arg9 (rR c).toLoadRect (View.loadsAt_vmem h_S1x256x128))
  let _ : Vec F S1x256x128 .bf16 ← Prog.lift (.load arg7 (rO c).toLoadRect (View.loadsAt_vmem h_S1x256x128))
  Prog.lift (.store arg7 (rO c)
    (shapeCast S1x256x128 (truncf .bf16 (shapeCast S256x128 a shapeCasts_S1x256x128_S256x128 : FVec F S256x128 .f32) bitsLt_bf16_f32)
      shapeCasts_S256x128_S1x256x128 : FVec F S1x256x128 .bf16)
    Finset.univ (View.stores_vmem h_S1x256x128 (harg7.storeExact_slice rfl _ (packedO c)) (fun _ => rfl)) (.inl rfl))

/-- The loop's label, its test and its step. -/
def loopProg (uo : FVec F S256x384 .bf16) (j w : BitVec 32) : Prog (TpuEff nD τ sig (Elt F) (Λ₀ F) .tc) (BitVec 32 × BitVec 32) :=
  if Scalar.cmpi .sgt w 0#32 = 1#1 then
    Prog.lift (TpuEff.assume (k0_chk1 i j) (k0_chk1.dec i j)) >>= fun h =>
    each (offVisit i arg3 arg4 arg5 arg8 arg9 uo j h.down) chains fun xs =>
      Prog.lift (.call (1 : (Λ₀ F).Label) ⟨i, arg3, harg3, arg4, harg4, arg5, harg5, uo, arg8, harg8, arg9, harg9,
        Scalar.addi j 1#32, unfinished (first i) (Scalar.addi j 1#32) xs⟩)
  else pure (j, w)

/-- The kernel's body. -/
def bodyProg : Prog (TpuEff nD τ sig (Elt F) (Λ₀ F) .tc) PUnit := do
  let u : Vec F S256x384 .bf16 ← Prog.lift (.load arg6 (Rect.unit (s := S256x384) ![0, 0] S256x384.size inb_S256x384_S256x384_0_0).toLoadRect (View.loadsAt_vmem h_S256x384))
  each (diagVisit i arg3 arg4 arg5 arg8 arg9 (shapeCast S256x384 u shapeCasts_S256x384_S256x384)) chains fun xs => do
    let _ ← Prog.lift (.call (1 : (Λ₀ F).Label) ⟨i, arg3, harg3, arg4, harg4, arg5, harg5, shapeCast S256x384 u shapeCasts_S256x384_S256x384, arg8, harg8, arg9, harg9,
        1#32, unfinished (first i) 1#32 xs⟩)
    each (copyOut arg7 harg7 arg9) chains fun _ => pure ⟨⟩

end Progs

end Cert.Proof.SbI

end
-- ==== Proof.SbI.Text.lean ====
/-
  The kernel's printed text is the list of visits: the two programs are one after unfolding.
-/
module

public import proofs.«01_k».proof.Proof.SbI.Visit

@[expose] public section

noncomputable section

namespace Cert.Proof.SbI

open Cert.KernelIdeal Cert.KernelIdeal.Gen
open Idealize.ShloMosaic Idealize.ShloMosaic.TcCoe
open Idealize.SL Idealize.SL.Sem
open Idealize.ShloMosaic.Tactic

variable {F : FTy → Type} [FloatOps F] [Named F]

/-- The loop's label is its visits. -/
theorem loop_eq (i : grid0.Coords)
    (arg3 : Memref sig .tc .vmem S1x1x8192x128 .bf16) (harg3 : arg3.IsWhole)
    (arg4 : Memref sig .tc .vmem S1x1x16384x128 .bf16) (harg4 : arg4.IsWhole)
    (arg5 : Memref sig .tc .vmem S1x1x16384x128 .bf16) (harg5 : arg5.IsWhole)
    (uo : FVec F S256x384 .bf16)
    (arg8 : Memref sig .tc .vmem S32x256x128 .f32) (harg8 : arg8.IsWhole)
    (arg9 : Memref sig .tc .vmem S32x256x128 .f32) (harg9 : arg9.IsWhole) (j w : BitVec 32) :
    cc0_while1 i arg3 harg3 arg4 harg4 arg5 harg5 uo arg8 harg8 arg9 harg9 j w
      = loopProg i arg3 harg3 arg4 harg4 arg5 harg5 arg8 harg8 arg9 harg9 uo j w := by
  sl_kernel_rfl

/-- The kernel's body is its visits, the loop and the copies. -/
theorem body_eq (i : grid0.Coords)
    (arg3 : Memref sig .tc .vmem S1x1x8192x128 .bf16) (harg3 : arg3.IsWhole)
    (arg4 : Memref sig .tc .vmem S1x1x16384x128 .bf16) (harg4 : arg4.IsWhole)
    (arg5 : Memref sig .tc .vmem S1x1x16384x128 .bf16) (harg5 : arg5.IsWhole)
    (arg6 : Memref sig .tc .vmem S256x384 .bf16) (harg6 : arg6.IsWhole)
    (arg7 : Memref sig .tc .vmem S1x8192x128 .bf16) (harg7 : arg7.IsWhole)
    (arg8 : Memref sig .tc .vmem S32x256x128 .f32) (harg8 : arg8.IsWhole)
    (arg9 : Memref sig .tc .vmem S32x256x128 .f32) (harg9 : arg9.IsWhole) :
    cc0_sb_attention (F := F) i arg3 harg3 arg4 harg4 arg5 harg5 arg6 harg6 arg7 harg7 arg8 harg8 arg9 harg9
      = bodyProg i arg3 harg3 arg4 harg4 arg5 harg5 arg6 arg7 harg7 arg8 harg8 arg9 harg9 := by
  sl_kernel_rfl

end Cert.Proof.SbI

end
-- ==== Proof.SbI.Rows.lean ====
/-
  The buffers of the stick-breaking kernel read chain by chain: a block of rows of the keys, the queries or the values as
  a tile (`slab`), the carry and the accumulator as thirty-two tiles (`ofRows`), the result block as thirty-two tiles one
  under the other (`stack`). With them the words the kernel computes for its row offsets, as numbers.
-/
module

public import proofs.«01_k».proof.Proof.SbI.Visit
public import Idealize.ShloMosaic.Lib.Pipeline.FrameBody
public import Idealize.ShloMosaic.Lib.Pipeline.Value

@[expose] public section

noncomputable section

namespace Cert.Proof.SbI

open Cert.KernelIdeal Cert.KernelIdeal.Gen
open Idealize.ShloMosaic Idealize.ShloMosaic.TcCoe
open Idealize.SL Idealize.SL.Sem
open Idealize.ShloMosaic.Tactic

variable {F : FTy → Type} [FloatOps F] [Named F]

/-! ### Indices by their coordinates -/

def at2 {m n : ℕ} (r : Fin m) (l : Fin n) : (⟨2, ![m, n]⟩ : Shape).Idx
  | ⟨0, _⟩ => r
  | ⟨1, _⟩ => l

def at3 {k m n : ℕ} (c : Fin k) (r : Fin m) (l : Fin n) : (⟨3, ![k, m, n]⟩ : Shape).Idx
  | ⟨0, _⟩ => c
  | ⟨1, _⟩ => r
  | ⟨2, _⟩ => l

def at4 {j k m n : ℕ} (b : Fin j) (c : Fin k) (r : Fin m) (l : Fin n) : (⟨4, ![j, k, m, n]⟩ : Shape).Idx
  | ⟨0, _⟩ => b
  | ⟨1, _⟩ => c
  | ⟨2, _⟩ => r
  | ⟨3, _⟩ => l

theorem at2_eta {m n : ℕ} (x : (⟨2, ![m, n]⟩ : Shape).Idx) : at2 (x 0) (x 1) = x :=
  funext fun a => match a with | ⟨0, _⟩ => rfl | ⟨1, _⟩ => rfl
theorem at3_eta {k m n : ℕ} (x : (⟨3, ![k, m, n]⟩ : Shape).Idx) : at3 (x 0) (x 1) (x 2) = x :=
  funext fun a => match a with | ⟨0, _⟩ => rfl | ⟨1, _⟩ => rfl | ⟨2, _⟩ => rfl

/-! ### Tiles of a long array -/

/-- The 256 rows from row `o` on. -/
def slab {n : ℕ} [NeZero n] (X : Vec F ⟨4, ![1, 1, n, 128]⟩ .bf16) (o : ℕ) : Vec F S256x128 .bf16 :=
  fun x => X (at4 (0 : Fin 1) (0 : Fin 1) (Fin.ofNat n (o + (x 0).val)) (x 1))

/-- A load of those rows is the tile. -/
theorem slab_ld {n : ℕ} [NeZero n] (X : Vec F ⟨4, ![1, 1, n, 128]⟩ .bf16) (off : Fin 4 → ℕ) (o : ℕ) (ho : off = ![0, 0, o, 0])
    (inb : ∀ a, off a + S1x1x256x128.size a ≤ (⟨4, ![1, 1, n, 128]⟩ : Shape).size a) :
    shapeCast S256x128 (fun x => X ((Rect.unit (s := ⟨4, ![1, 1, n, 128]⟩) off S1x1x256x128.size inb).idx x)) shapeCasts_S1x1x256x128_S256x128 = slab X o := by
  subst ho
  funext x
  have h256 : (x 0).val < 256 := (x 0).isLt
  have hn : o + 256 ≤ n := inb (2 : Fin 4)
  refine (shapeCast_apply (t := S256x128) _ _ x (at4 (0 : Fin 1) (0 : Fin 1) (x 0) (x 1)) ?_).trans ?_
  · rw [Shape.rowMajor_val_four, Shape.rowMajor_val_two]
    show ((0 * 1 + 0) * 256 + (x 0).val) * 128 + (x 1).val = (x 0).val * 128 + (x 1).val
    omega
  · unfold slab
    refine congrArg X (funext fun a => Fin.ext ?_)
    match a with
    | ⟨0, _⟩ => rfl
    | ⟨1, _⟩ => rfl
    | ⟨2, _⟩ =>
      show o + 1 * (x 0).val = (o + (x 0).val) % n
      rw [Nat.mod_eq_of_lt (by omega)]; omega
    | ⟨3, _⟩ => show 0 + 1 * (x 1).val = (x 1).val; omega

/-! ### Thirty-two tiles in one buffer -/

/-- The carry's and the accumulator's buffer, tile by tile. -/
def ofRows {e : EltTy} (R : Fin 32 → Vec F S256x128 e) : Vec F S32x256x128 e := fun y => R (y 0) (at2 (y 1) (y 2))

/-- Any contents are so given. -/
theorem ofRows_eta {e : EltTy} (X : Vec F S32x256x128 e) : ofRows (fun c x => X (at3 c (x 0) (x 1))) = X :=
  funext fun y => congrArg X (at3_eta y)

/-- A load of row `c` is tile `c`. -/
theorem ofRows_ld {e : EltTy} (R : Fin 32 → Vec F S256x128 e) (c : Fin 32) :
    shapeCast S256x128 (fun x => ofRows R ((rR c).idx x)) shapeCasts_S1x256x128_S256x128 = R c := by
  funext x
  refine (shapeCast_apply (t := S256x128) _ _ x (at3 (0 : Fin 1) (x 0) (x 1)) ?_).trans ?_
  · rw [Shape.rowMajor_val_three, Shape.rowMajor_val_two]
    show (0 * 256 + (x 0).val) * 128 + (x 1).val = (x 0).val * 128 + (x 1).val
    omega
  · unfold ofRows
    have h0 : (rR c).idx (at3 (0 : Fin 1) (x 0) (x 1)) 0 = c := Fin.ext (by show c.val + 1 * 0 = c.val; omega)
    have h1 : (rR c).idx (at3 (0 : Fin 1) (x 0) (x 1)) 1 = x 0 := Fin.ext (by show 0 + 1 * (x 0).val = _; omega)
    have h2 : (rR c).idx (at3 (0 : Fin 1) (x 0) (x 1)) 2 = x 1 := Fin.ext (by show 0 + 1 * (x 1).val = _; omega)
    have h3 : ∀ (a : Fin 32) (r : Fin 256) (l : Fin 128), a = c → r = x 0 → l = x 1 → R a (at2 r l) = R c x := by
      intro a r l ha hr hl; subst ha; subst hr; subst hl; exact congrArg (R a) (at2_eta x)
    exact h3 _ _ _ h0 h1 h2

/-- A tile stored in row `c`, at the indices of the row -/
theorem ofRows_update_in {e : EltTy} (R : Fin 32 → Vec F S256x128 e) (c : Fin 32) (w : Vec F S256x128 e) (x : S1x256x128.Idx) :
    ofRows (Function.update R c w) ((rR c).idx x) = shapeCast S1x256x128 w shapeCasts_S256x128_S1x256x128 x := by
  have h := congrFun (ofRows_ld (Function.update R c w) c) (at2 (x 1) (x 2))
  rw [Function.update_self] at h
  have hx0 : (x 0).val < 1 := (x 0).isLt
  refine Eq.trans ?_ (h.trans ?_)
  · refine (shapeCast_apply (t := S256x128) (fun x => ofRows (Function.update R c w) ((rR c).idx x)) _ _ x ?_).symm
    rw [Shape.rowMajor_val_three, Shape.rowMajor_val_two]
    show ((x 0).val * 256 + (x 1).val) * 128 + (x 2).val = (x 1).val * 128 + (x 2).val
    omega
  · refine (shapeCast_apply (t := S1x256x128) w _ x _ ?_).symm
    rw [Shape.rowMajor_val_three, Shape.rowMajor_val_two]
    show (x 1).val * 128 + (x 2).val = ((x 0).val * 256 + (x 1).val) * 128 + (x 2).val
    omega

/-- and at the others. -/
theorem ofRows_update_out {e : EltTy} (R : Fin 32 → Vec F S256x128 e) (c : Fin 32) (w : Vec F S256x128 e) (y : S32x256x128.Idx)
    (hy : ∀ x, (rR c).idx x ≠ y) : ofRows (Function.update R c w) y = ofRows R y := by
  refine congrFun (Function.update_of_ne (a := (y 0 : Fin 32)) (a' := c) ?_ w R) _
  intro h
  refine hy (at3 (0 : Fin 1) (y 1) (y 2)) (funext fun a => Fin.ext ?_)
  match a with
  | ⟨0, _⟩ => show c.val + 1 * 0 = (y 0).val; rw [h]; omega
  | ⟨1, _⟩ => show 0 + 1 * (y 1).val = (y 1).val; omega
  | ⟨2, _⟩ => show 0 + 1 * (y 2).val = (y 2).val; omega

/-! ### Thirty-two tiles one under the other -/

/-- The chain of a row of the result block. -/
def chainOf (r : Fin 8192) : Fin 32 := ⟨r.val / 256, by have := r.isLt; omega⟩
/-- The row within the chain's tile. -/
def rowOf (r : Fin 8192) : Fin 256 := ⟨r.val % 256, Nat.mod_lt _ (by decide)⟩

/-- The result block, tile by tile. -/
def stack {e : EltTy} (R : Fin 32 → Vec F S256x128 e) : Vec F S1x8192x128 e := fun y => R (chainOf (y 1)) (at2 (rowOf (y 1)) (y 2))

theorem stack_eta {e : EltTy} (X : Vec F S1x8192x128 e) :
    stack (fun c x => X (at3 (0 : Fin 1) (⟨c.val * 256 + (x 0).val, by have := c.isLt; have h : (x 0).val < 256 := (x 0).isLt; omega⟩ : Fin 8192) (x 1))) = X := by
  funext y
  unfold stack
  refine congrArg X (funext fun a => Fin.ext ?_)
  match a with
  | ⟨0, _⟩ => show 0 = (y 0).val; have h : (y 0).val < 1 := (y 0).isLt; omega
  | ⟨1, _⟩ => show (y 1).val / 256 * 256 + (y 1).val % 256 = (y 1).val; omega
  | ⟨2, _⟩ => rfl

theorem stack_update_in {e : EltTy} (R : Fin 32 → Vec F S256x128 e) (c : Fin 32) (w : Vec F S256x128 e) (x : S1x256x128.Idx) :
    stack (Function.update R c w) ((rO c).idx x) = shapeCast S1x256x128 w shapeCasts_S256x128_S1x256x128 x := by
  have hx0 : (x 0).val < 1 := (x 0).isLt
  have hx1 : (x 1).val < 256 := (x 1).isLt
  have hc : chainOf ((rO c).idx x 1) = c := Fin.ext (by
    show (c.val * 256 + 1 * (x 1).val) / 256 = c.val; omega)
  have hr : rowOf ((rO c).idx x 1) = x 1 := Fin.ext (by
    show (c.val * 256 + 1 * (x 1).val) % 256 = (x 1).val; omega)
  have hl : (rO c).idx x 2 = x 2 := Fin.ext (by show 0 + 1 * (x 2).val = _; omega)
  unfold stack
  rw [hc, hr, hl, Function.update_self]
  refine (shapeCast_apply (t := S1x256x128) w _ x _ ?_).symm
  rw [Shape.rowMajor_val_three, Shape.rowMajor_val_two]
  show (x 1).val * 128 + (x 2).val = ((x 0).val * 256 + (x 1).val) * 128 + (x 2).val
  omega

theorem stack_update_out {e : EltTy} (R : Fin 32 → Vec F S256x128 e) (c : Fin 32) (w : Vec F S256x128 e) (y : S1x8192x128.Idx)
    (hy : ∀ x, (rO c).idx x ≠ y) : stack (Function.update R c w) y = stack R y := by
  unfold stack
  rw [Function.update_of_ne]
  intro h
  have h' : (y 1).val / 256 = c.val := congrArg Fin.val h
  refine hy (at3 (0 : Fin 1) (rowOf (y 1)) (y 2)) (funext fun a => Fin.ext ?_)
  match a with
  | ⟨0, _⟩ => show 0 + 1 * 0 = (y 0).val; have h : (y 0).val < 1 := (y 0).isLt; omega
  | ⟨1, _⟩ => show c.val * 256 + 1 * ((y 1).val % 256) = (y 1).val; omega
  | ⟨2, _⟩ => show 0 + 1 * (y 2).val = (y 2).val; omega

/-! ### The words -/

/-- The word of a row offset, -/
def word (a : Fin 2) (j c : BitVec 32) : BitVec 32 :=
  Scalar.muli (Scalar.maxsi (Scalar.subi (Scalar.addi (Scalar.muli (BitVec.ofNat 32 a.val) 32#32) c) j) 0#32) 256#32

/-- as a number: the tile `j` before the chain's own, none before the first. -/
theorem word_toNat : ∀ (a : Fin 2) (j : Fin 65) (c : Fin 32),
    (word a (BitVec.ofNat 32 j.val) (BitVec.ofNat 32 c.val)).toNat = (32 * a.val + c.val - j.val) * 256 := by
  decide +kernel

/-- Whether there is such a tile. -/
theorem sge_eq : ∀ (a : Fin 2) (j : Fin 65) (c : Fin 32),
    Scalar.cmpi .sge (Scalar.subi (Scalar.addi (Scalar.muli (BitVec.ofNat 32 a.val) 32#32) (BitVec.ofNat 32 c.val)) (BitVec.ofNat 32 j.val)) 0#32
      = if j.val ≤ 32 * a.val + c.val then 1#1 else 0#1 := by
  decide +kernel

theorem off1_eq (i : grid0.Coords) (c : Fin 32) : k0_off1 i (BitVec.ofNat 32 c.val) = ![0, 0, (32 * (i 2).val + c.val) * 256, 0] := by
  have h := word_toNat (i 2) 0 c
  rw [show k0_off1 i (BitVec.ofNat 32 c.val) = ![0, 0, (word (i 2) (BitVec.ofNat 32 0) (BitVec.ofNat 32 c.val)).toNat, 0] from by
    unfold k0_off1 word
    show ![0, 0, (Scalar.muli (Scalar.maxsi _ 0#32) 256#32).toNat, 0] = _
    simp only [Scalar.subi, IntOp.subi, BitVec.ofNat_eq_ofNat, BitVec.sub_zero]]
  exact congrArg (fun n => (![0, 0, n, 0] : Fin 4 → ℕ)) (h.trans (by show (_ - 0) * 256 = _; rw [Nat.sub_zero]))

theorem off2_eq (i : grid0.Coords) (j : ℕ) (hj : j < 65) (c : Fin 32) :
    k0_off2 i (BitVec.ofNat 32 j) (BitVec.ofNat 32 c.val) = ![0, 0, (32 * (i 2).val + c.val - j) * 256, 0] :=
  congrArg (fun n => (![0, 0, n, 0] : Fin 4 → ℕ)) (word_toNat (i 2) ⟨j, hj⟩ c)

/-- A word times 256 is a multiple of 256. -/
theorem dvd_muli (x : BitVec 32) : 256 ∣ (Scalar.muli x 256#32).toNat := by
  show 256 ∣ (x * 256#32).toNat
  rw [BitVec.toNat_mul]
  show 256 ∣ (x.toNat * 256) % 2 ^ 32
  omega

/-- The loop's checks hold at every step that the loop can reach. -/
theorem chk (i : grid0.Coords) (j : ℕ) (hj : j < 65) : k0_chk1 i (BitVec.ofNat 32 j) := by
  have hoff : ∀ (r : Fin 32), ∀ a, (k0_off2 i (BitVec.ofNat 32 j) (BitVec.ofNat 32 r.val)) a + S1x1x256x128.size a ≤ S1x1x16384x128.size a := by
    intro r a
    rw [off2_eq i j hj r]
    have h2 : (i 2).val < 2 := (i 2).isLt
    have hr := r.isLt
    match a with
    | ⟨0, _⟩ => exact (by decide : 0 + 1 ≤ 1)
    | ⟨1, _⟩ => exact (by decide : 0 + 1 ≤ 1)
    | ⟨2, _⟩ => show (32 * (i 2).val + r.val - j) * 256 + 256 ≤ 16384; omega
    | ⟨3, _⟩ => exact (by decide : 0 + 128 ≤ 128)
  exact ⟨⟨dvd_muli _, hoff, dvd_muli _, dvd_muli _, dvd_muli _, dvd_muli _, dvd_muli _, dvd_muli _, dvd_muli _, dvd_muli _, dvd_muli _,
    dvd_muli _, dvd_muli _, dvd_muli _, dvd_muli _, dvd_muli _, dvd_muli _, dvd_muli _, dvd_muli _, dvd_muli _, dvd_muli _, dvd_muli _,
    dvd_muli _, dvd_muli _, dvd_muli _, dvd_muli _, dvd_muli _, dvd_muli _, dvd_muli _, dvd_muli _, dvd_muli _, dvd_muli _⟩, dvd_muli _⟩

end Cert.Proof.SbI

end
-- ==== Proof.SbI.Spec.lean ====
/-
  What the programs of the stick-breaking kernel do, for buffers owned through any memrefs: a visit changes its own tile
  of the carry and of the accumulator, a list of visits does so for each chain of the list, and the loop, entered at step
  `j` with the test's word of the current tiles, leaves the tiles of `loopSt`.
-/
module

public import proofs.«01_k».proof.Proof.SbI.Text
public import proofs.«01_k».proof.Proof.SbI.Rows
public import Idealize.ShloMosaic.Lib.Pipeline.Frame

@[expose] public section

noncomputable section

namespace Cert.Proof.SbI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The calls of the loop's label are counted by the naturals. -/
abbrev 𝒱₀ : Variants := Variants.nat

/-- A buffer owned through a memref, with its contents. -/
abbrev own (d : Dev nD) {sp : Space} {s : Shape} {e : EltTy} (m : Memref sig .tc sp s e) (q : PosShare TreeShare) (X : Vec F s e) : sProp 𝕄 :=
  owns (Val := Elt F) (d : Thread nD τ) m q X

/-! ### Loads and stores of owned buffers -/

section Access

variable (d : Dev nD) (bd : Option (𝒱₀).V) (E : Set ℕ) {α : Type}

/-- A load through an owned memref reads its contents. -/
theorem load_owns {sp : CoreSpace} {s : Shape} {e : EltTy} {m : Memref sig .tc sp s e} {r : LoadRect s} {hl : m.view.LoadsAt r}
    {k : (r.shape.Idx → Elt F e) → Prog (TpuEff nD τ sig (Elt F) (Λ₀ F) .tc) α} {q : PosShare TreeShare} (X : Vec F s e) {Q : α → sProp 𝕄} :
    own d m q X ⊢ iprop((own d m q X -∗ wp frame (wpE (defs₀ (F := F)) 𝒱₀ (d : Thread nD τ) bd) E (k fun x => X (r.idx x)) Q)
      -∗ wp frame (wpE (defs₀ (F := F)) 𝒱₀ (d : Thread nD τ) bd) E (Prog.op (TpuEff.load m r hl) k) Q) := by
  unfold own owns
  iintro ⟨%f, %hf, H⟩ Hk
  subst hf
  iapply (wp_load 𝒱₀ (d : Thread nD τ) bd E (m := m) (View.setOn_subset_set _ _)) $$ H
  iintro H
  iapply Hk
  iexists f
  isplitr; · (ipureintro; rfl)
  iexact H

/-- A store through an owned memref changes the contents in its rectangle. -/
theorem store_owns {sp : CoreSpace} {s : Shape} {e : EltTy} {m : Memref sig .tc sp s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) (Λ₀ F) .tc) α} (X Y : Vec F s e) {Q : α → sProp 𝕄}
    (hin : ∀ x, Y (r.idx x) = w x) (hout : ∀ y, (∀ x, r.idx x ≠ y) → Y y = X y) :
    own d m fullShare X ⊢ iprop((own d m fullShare Y -∗ wp frame (wpE (defs₀ (F := F)) 𝒱₀ (d : Thread nD τ) bd) E (k ⟨⟩) Q)
      -∗ wp frame (wpE (defs₀ (F := F)) 𝒱₀ (d : Thread nD τ) bd) E (Prog.op (TpuEff.store m r w Finset.univ hx hm) k) Q) := by
  unfold own owns
  iintro ⟨%f, %hf, H⟩ Hk
  subst hf
  iapply (wp_store 𝒱₀ (d : Thread nD τ) bd E (m := m) (r := r) (Mk := Finset.univ) (f := f)
    ((View.setOn_subset_set _ _).trans (View.set_slice_subset (v := m.view) r))) $$ H
  iintro H
  iapply Hk
  iexists ((m.access r).write (Elt F) f w Finset.univ)
  isplitr
  · ipureintro
    funext y
    by_cases hy : ∃ x, r.idx x = y
    · obtain ⟨x, rfl⟩ := hy
      exact (View.read_slice_write_emb r f w (Finset.mem_univ x)).trans (hin x).symm
    · refine (View.read_slice_write_of_not_mem r f w Finset.univ ?_).trans (hout y fun x hx => hy ⟨x, hx⟩).symm
      intro hmem
      obtain ⟨x, -, hx⟩ := Finset.mem_map.mp hmem
      exact hy ⟨x, hx⟩
  · iexact H

end Access

/-! ### A list of visits -/

section Each

variable (d : Dev nD) (bd : Option (𝒱₀).V) (E : Set ℕ) {α β S : Type}

/-- The tiles after the chains of a list were visited. -/
def over (new : Fin 32 → S → S) (cs : List (Fin 32)) (σ : Fin 32 → S) : Fin 32 → S := fun c => if c ∈ cs then new c (σ c) else σ c

theorem over_cons (new : Fin 32 → S → S) (c : Fin 32) (cs : List (Fin 32)) (hc : c ∉ cs) (σ : Fin 32 → S) :
    over new cs (Function.update σ c (new c (σ c))) = over new (c :: cs) σ := by
  funext x
  unfold over
  by_cases hx : x = c
  · subst hx
    rw [if_neg hc, if_pos List.mem_cons_self, Function.update_self]
  · rw [Function.update_of_ne hx]
    simp only [List.mem_cons, hx, false_or]

theorem over_chains (new : Fin 32 → S → S) (σ : Fin 32 → S) : over new chains σ = fun c => new c (σ c) :=
  funext fun c => if_pos ((by decide : ∀ c : Fin 32, c ∈ chains) c)

theorem chains_nodup : chains.Nodup := by decide

/-- Visits that each change their own chain's state change the states of the list's chains. -/
theorem each_spec (I : (Fin 32 → S) → sProp 𝕄) (f : Fin 32 → Prog (TpuEff nD τ sig (Elt F) (Λ₀ F) .tc) α)
    (new : Fin 32 → S → S) (ret : Fin 32 → S → α)
    (hf : ∀ c σ (Q : α → sProp 𝕄), iprop(I σ ∗ (I (Function.update σ c (new c (σ c))) -∗ Q (ret c (σ c))))
      ⊢ wp frame (wpE (defs₀ (F := F)) 𝒱₀ (d : Thread nD τ) bd) E (f c) Q) :
    ∀ (cs : List (Fin 32)), cs.Nodup → ∀ (k : List α → Prog (TpuEff nD τ sig (Elt F) (Λ₀ F) .tc) β) σ (Q : β → sProp 𝕄),
      iprop(I σ ∗ (I (over new cs σ) -∗ wp frame (wpE (defs₀ (F := F)) 𝒱₀ (d : Thread nD τ) bd) E (k (cs.map fun c => ret c (σ c))) Q))
        ⊢ wp frame (wpE (defs₀ (F := F)) 𝒱₀ (d : Thread nD τ) bd) E (each f cs k) Q := by
  intro cs
  induction cs with
  | nil =>
    intro _ k σ Q
    show iprop(I σ ∗ (I (over new [] σ) -∗ wp frame _ E (k []) Q)) ⊢ wp frame _ E (k []) Q
    rw [show over new [] σ = σ from funext fun c => if_neg List.not_mem_nil]
    iintro ⟨H, Hk⟩
    iapply Hk; iexact H
  | cons c cs ih =>
    intro hn k σ Q
    have hc : c ∉ cs := (List.nodup_cons.mp hn).1
    show _ ⊢ wp frame _ E (f c >>= fun a => each f cs fun bs => k (a :: bs)) Q
    rw [wp_bind]
    iintro ⟨H, Hk⟩
    iapply (hf c σ)
    isplitl [H]; · iexact H
    iintro H
    iapply (ih (List.nodup_cons.mp hn).2 (fun bs => k (ret c (σ c) :: bs)) (Function.update σ c (new c (σ c))) Q)
    isplitl [H]; · iexact H
    rw [over_cons new c cs hc σ]
    have hmap : (cs.map fun x => ret x (Function.update σ c (new c (σ c)) x)) = cs.map fun x => ret x (σ x) :=
      List.map_congr_left fun x hx => by
        have hxc : x ≠ c := fun h => hc (by rw [← h]; exact hx)
        rw [Function.update_of_ne hxc]
    rw [hmap]
    iexact Hk

end Each

/-! ### The states of the chains -/

/-- A chain's carry and accumulator. -/
abbrev St (F : FTy → Type) : Type := FVec F S256x128 .f32 × FVec F S256x128 .f32

/-- The carries of the states, -/
abbrev cars (σ : Fin 32 → St F) : Fin 32 → Vec F S256x128 .f32 := fun c => (σ c).1
/-- and the accumulators. -/
abbrev accs (σ : Fin 32 → St F) : Fin 32 → Vec F S256x128 .f32 := fun c => (σ c).2

section Steps

variable (i : grid0.Coords) (XQ : Vec F S1x1x8192x128 .bf16) (XK XV : Vec F S1x1x16384x128 .bf16) (uo : FVec F S256x384 .bf16)

/-- The scores of chain `c` against the key tile `j` before its own. -/
def zAt (j : ℕ) (c : Fin 32) : FVec F S256x256 .f32 :=
  scores (slab XQ (c.val * 256)) (slab XK ((32 * (i 2).val + c.val - j) * 256))

/-- The values of that tile. -/
def vAt (j : ℕ) (c : Fin 32) : FVec F S256x128 .bf16 := slab XV ((32 * (i 2).val + c.val - j) * 256)

/-- Whether there is such a tile. -/
def has (j : ℕ) (c : Fin 32) : BitVec 1 :=
  Scalar.cmpi .sge (Scalar.subi (Scalar.addi (first i) (BitVec.ofNat 32 c.val)) (BitVec.ofNat 32 j)) 0#32

/-- The state after the visit to the chain's own tile, -/
def diagSt (c : Fin 32) : St F := (diagCarry (zAt i XQ XK 0 c) uo, diagAcc (zAt i XQ XK 0 c) uo (vAt i XV 0 c))

/-- and the visit to the tile `j` before. -/
def offSt (j : ℕ) (c : Fin 32) (s : St F) : St F :=
  (offCarry (zAt i XQ XK j c) uo s.1, offAcc (zAt i XQ XK j c) uo s.1 s.2 (has i j c) (vAt i XV j c))

/-- The test's word at step `j`. -/
def wordAt (j : ℕ) (σ : Fin 32 → St F) : BitVec 32 := unfinished (first i) (BitVec.ofNat 32 j) (chains.map fun c => top (σ c).1)

/-- The states after `n` or fewer steps from step `j`. -/
def loopSt : ℕ → ℕ → (Fin 32 → St F) → (Fin 32 → St F)
  | 0, _, σ => σ
  | n + 1, j, σ => if Scalar.cmpi .sgt (wordAt i j σ) 0#32 = 1#1 then loopSt n (j + 1) (fun c => offSt i XQ XK XV uo j c (σ c)) else σ

end Steps

/-! ### The programs' effects -/

section Programs

variable (d : Dev nD) (E : Set ℕ) (i : grid0.Coords)
  (arg3 : Memref sig .tc .vmem S1x1x8192x128 .bf16) (harg3 : arg3.IsWhole)
  (arg4 : Memref sig .tc .vmem S1x1x16384x128 .bf16) (harg4 : arg4.IsWhole)
  (arg5 : Memref sig .tc .vmem S1x1x16384x128 .bf16) (harg5 : arg5.IsWhole)
  (arg6 : Memref sig .tc .vmem S256x384 .bf16) (harg6 : arg6.IsWhole)
  (arg7 : Memref sig .tc .vmem S1x8192x128 .bf16) (harg7 : arg7.IsWhole)
  (arg8 : Memref sig .tc .vmem S32x256x128 .f32) (harg8 : arg8.IsWhole)
  (arg9 : Memref sig .tc .vmem S32x256x128 .f32) (harg9 : arg9.IsWhole)
  (XQ : Vec F S1x1x8192x128 .bf16) (XK XV : Vec F S1x1x16384x128 .bf16) (uo : FVec F S256x384 .bf16)

/-- The buffers of the visits: queries, keys, values, and the chains' states. -/
def held (σ : Fin 32 → St F) : sProp 𝕄 :=
  iprop(own d arg3 fullShare XQ ∗ own d arg4 fullShare XK ∗ own d arg5 fullShare XV
    ∗ own d arg8 fullShare (ofRows (cars σ)) ∗ own d arg9 fullShare (ofRows (accs σ)))

theorem fst_update (σ : Fin 32 → St F) (c : Fin 32) (s : St F) :
    cars (Function.update σ c s) = Function.update (cars σ) c s.1 := by
  funext x
  show (Function.update σ c s x).1 = _
  by_cases h : x = c
  · subst h; rw [Function.update_self, Function.update_self]
  · rw [Function.update_of_ne h, Function.update_of_ne h]

theorem snd_update (σ : Fin 32 → St F) (c : Fin 32) (s : St F) :
    accs (Function.update σ c s) = Function.update (accs σ) c s.2 := by
  funext x
  show (Function.update σ c s x).2 = _
  by_cases h : x = c
  · subst h; rw [Function.update_self, Function.update_self]
  · rw [Function.update_of_ne h, Function.update_of_ne h]

theorem diag_spec (bd : Option (𝒱₀).V) (c : Fin 32) (σ : Fin 32 → St F) (Q : F .f32 → sProp 𝕄) :
    iprop(held d arg3 arg4 arg5 arg8 arg9 XQ XK XV σ
        ∗ (held d arg3 arg4 arg5 arg8 arg9 XQ XK XV (Function.update σ c (diagSt i XQ XK XV uo c)) -∗ Q (top (diagSt i XQ XK XV uo c).1)))
      ⊢ wp frame (wpE (defs₀ (F := F)) 𝒱₀ (d : Thread nD τ) bd) E (diagVisit i arg3 arg4 arg5 arg8 arg9 uo c) Q := by
  unfold diagVisit held
  simp only [Prog.lift, Prog.bind_op, Prog.bind_ret, Prog.pure_eq_ret]
  rw [fst_update, snd_update]
  rw [show top (diagSt i XQ XK XV uo c).1 = top (diagCarry (scores (slab XQ (c.val * 256)) (slab XK ((32 * (i 2).val + c.val) * 256))) uo) from rfl]
  iintro ⟨⟨HQ, HK, HV, HR, HA⟩, Hk⟩
  iapply (load_owns d bd E XQ) $$ HQ; iintro HQ
  iapply (load_owns d bd E XK) $$ HK; iintro HK
  iapply (load_owns d bd E XV) $$ HV; iintro HV
  rw [slab_ld XQ _ (c.val * 256) rfl (inbQ c), slab_ld XK _ _ (off1_eq i c) (k0_off1_inb i c), slab_ld XV _ _ (off1_eq i c) (k0_off1_inb i c)]
  iapply (load_owns d bd E (ofRows (accs σ))) $$ HA; iintro HA
  iapply (store_owns d bd E (ofRows (accs σ)) (ofRows (Function.update (accs σ) c (diagSt i XQ XK XV uo c).2))
    (ofRows_update_in _ c _) (ofRows_update_out _ c _)) $$ HA; iintro HA
  iapply (load_owns d bd E (ofRows (cars σ))) $$ HR; iintro HR
  iapply (store_owns d bd E (ofRows (cars σ)) (ofRows (Function.update (cars σ) c (diagSt i XQ XK XV uo c).1))
    (ofRows_update_in _ c _) (ofRows_update_out _ c _)) $$ HR; iintro HR
  rw [wp_ret]; imodintro
  iapply Hk
  isplitl [HQ]; · iexact HQ
  isplitl [HK]; · iexact HK
  isplitl [HV]; · iexact HV
  isplitl [HR]; · iexact HR
  iexact HA

theorem off_spec (bd : Option (𝒱₀).V) (j : ℕ) (hj : j < 65) (c : Fin 32) (σ : Fin 32 → St F) (Q : F .f32 → sProp 𝕄) :
    iprop(held d arg3 arg4 arg5 arg8 arg9 XQ XK XV σ
        ∗ (held d arg3 arg4 arg5 arg8 arg9 XQ XK XV (Function.update σ c (offSt i XQ XK XV uo j c (σ c))) -∗ Q (top (offSt i XQ XK XV uo j c (σ c)).1)))
      ⊢ wp frame (wpE (defs₀ (F := F)) 𝒱₀ (d : Thread nD τ) bd) E
          (offVisit i arg3 arg4 arg5 arg8 arg9 uo (BitVec.ofNat 32 j) (chk i j hj) c) Q := by
  unfold offVisit held
  simp only [Prog.lift, Prog.bind_op, Prog.bind_ret, Prog.pure_eq_ret]
  rw [fst_update, snd_update]
  rw [show top (offSt i XQ XK XV uo j c (σ c)).1
    = top (offCarry (scores (slab XQ (c.val * 256)) (slab XK ((32 * (i 2).val + c.val - j) * 256))) uo (cars σ c)) from rfl]
  iintro ⟨⟨HQ, HK, HV, HR, HA⟩, Hk⟩
  iapply (load_owns d bd E XQ) $$ HQ; iintro HQ
  iapply (load_owns d bd E XK) $$ HK; iintro HK
  iapply (load_owns d bd E XV) $$ HV; iintro HV
  rw [slab_ld XQ _ (c.val * 256) rfl (inbQ c), slab_ld XK _ _ (off2_eq i j hj c) (k0_off2_inb i _ (chk i j hj) c),
    slab_ld XV _ _ (off2_eq i j hj c) (k0_off2_inb i _ (chk i j hj) c)]
  iapply (load_owns d bd E (ofRows (cars σ))) $$ HR; iintro HR
  iapply (load_owns d bd E (ofRows (accs σ))) $$ HA; iintro HA
  rw [ofRows_ld (cars σ) c, ofRows_ld (accs σ) c]
  iapply (load_owns d bd E (ofRows (accs σ))) $$ HA; iintro HA
  iapply (store_owns d bd E (ofRows (accs σ)) (ofRows (Function.update (accs σ) c (offSt i XQ XK XV uo j c (σ c)).2))
    (ofRows_update_in _ c _) (ofRows_update_out _ c _)) $$ HA; iintro HA
  iapply (load_owns d bd E (ofRows (cars σ))) $$ HR; iintro HR
  iapply (store_owns d bd E (ofRows (cars σ)) (ofRows (Function.update (cars σ) c (offSt i XQ XK XV uo j c (σ c)).1))
    (ofRows_update_in _ c _) (ofRows_update_out _ c _)) $$ HR; iintro HR
  rw [wp_ret]; imodintro
  iapply Hk
  isplitl [HQ]; · iexact HQ
  isplitl [HK]; · iexact HK
  isplitl [HV]; · iexact HV
  isplitl [HR]; · iexact HR
  iexact HA

/-- The states after a list of visits with the loop's, and what they return, in the order of the chains. -/
theorem map_top (σ : Fin 32 → St F) (j : ℕ) :
    (chains.map fun c => top (offSt i XQ XK XV uo j c (σ c)).1) = chains.map fun c => top ((fun c => offSt i XQ XK XV uo j c (σ c)) c).1 := rfl

/-- What the loop's label does with `n` steps left at step `j`. -/
def spec (n j : ℕ) (σ : Fin 32 → St F) : sWPT 𝕄 (BitVec 32 × BitVec 32) := do
  sWPT.consume (held d arg3 arg4 arg5 arg8 arg9 XQ XK XV σ)
  let r ← sWPT.arbitrary
  sWPT.produce (held d arg3 arg4 arg5 arg8 arg9 XQ XK XV (loopSt i XQ XK XV uo n j σ))
  pure r

theorem spec_apply (n j : ℕ) (σ : Fin 32 → St F) (K : BitVec 32 × BitVec 32 → sProp 𝕄) :
    spec d i arg3 arg4 arg5 arg8 arg9 XQ XK XV uo n j σ K
      = iprop(held d arg3 arg4 arg5 arg8 arg9 XQ XK XV σ
        ∗ ∀ r : BitVec 32 × BitVec 32, held d arg3 arg4 arg5 arg8 arg9 XQ XK XV (loopSt i XQ XK XV uo n j σ) -∗ K r) := rfl

/-- At step 64 no chain has a tile left. -/
theorem none_left : ∀ (a : Fin 2) (c : Fin 32),
    Scalar.cmpi .sge (Scalar.subi (Scalar.addi (Scalar.muli (BitVec.ofNat 32 a.val) 32#32) (BitVec.ofNat 32 c.val)) (BitVec.ofNat 32 64)) 0#32 = 0#1 := by
  decide +kernel

theorem needs_zero (v0 j : BitVec 32) (h : ∀ c : Fin 32, Scalar.cmpi .sge (Scalar.subi (Scalar.addi v0 (BitVec.ofNat 32 c.val)) j) 0#32 = 0#1) :
    ∀ cs (xs : List (F .f32)), ∀ b ∈ needs v0 j cs xs, b = 0#1 := by
  intro cs
  induction cs with
  | nil => intro xs b hb; exact absurd hb (by simp [needs])
  | cons c cs ih =>
    intro xs b hb
    cases xs with
    | nil => exact absurd hb (by simp [needs])
    | cons x xs =>
      rw [needs] at hb
      rcases List.mem_cons.mp hb with hb | hb
      · rw [hb, need, h c]
        show 0#1 &&& _ = 0#1
        exact BitVec.zero_and
      · exact ih xs b hb

theorem foldl_zero : ∀ (bs : List (BitVec 1)), (∀ b ∈ bs, b = 0#1) → bs.foldl Scalar.ori 0#1 = 0#1 := by
  intro bs
  induction bs with
  | nil => intro _; rfl
  | cons b bs ih =>
    intro h
    rw [List.foldl_cons, h b List.mem_cons_self]
    exact ih fun x hx => h x (List.mem_cons_of_mem _ hx)

theorem anyOf_zero : ∀ (bs : List (BitVec 1)), (∀ b ∈ bs, b = 0#1) → anyOf bs = 0#1 := by
  intro bs h
  cases bs with
  | nil => rfl
  | cons b bs =>
    rw [anyOf, h b List.mem_cons_self]
    exact foldl_zero bs fun x hx => h x (List.mem_cons_of_mem _ hx)

theorem word_end (σ : Fin 32 → St F) : ¬Scalar.cmpi .sgt (wordAt i 64 σ) 0#32 = 1#1 := by
  unfold wordAt unfinished
  rw [anyOf_zero _ (needs_zero (first i) (BitVec.ofNat 32 64) (none_left (i 2)) _ _)]
  decide

theorem addi_one : ∀ j : Fin 65, Scalar.addi (BitVec.ofNat 32 j.val) 1#32 = BitVec.ofNat 32 (j.val + 1) := by decide +kernel

/-- The label meets its specification, by induction on the steps left: at the end no chain has a tile left, before it
    either the test fails or each chain is visited and the label called for the step after. -/
theorem spec_le : ∀ (n j : ℕ), j + n = 64 → ∀ (σ : Fin 32 → St F) (K : BitVec 32 × BitVec 32 → sProp 𝕄),
    spec d i arg3 arg4 arg5 arg8 arg9 XQ XK XV uo n j σ K
      ⊢ wp frame (wpE (defs₀ (F := F)) 𝒱₀ (d : Thread nD τ) (some n)) E
          (defs₀ (F := F) .tc 1 ⟨i, arg3, harg3, arg4, harg4, arg5, harg5, uo, arg8, harg8, arg9, harg9, BitVec.ofNat 32 j, wordAt i j σ⟩) K := by
  intro n
  induction n with
  | zero =>
    intro j hj σ K
    have hj' : j = 64 := by omega
    subst hj'
    rw [spec_apply]
    show _ ⊢ wp frame (wpE (defs₀ (F := F)) 𝒱₀ (d : Thread nD τ) (some 0)) E
      (cc0_while1 i arg3 harg3 arg4 harg4 arg5 harg5 uo arg8 harg8 arg9 harg9 (BitVec.ofNat 32 64) (wordAt i 64 σ)) K
    rw [loop_eq]; unfold loopProg
    rw [if_neg (word_end i σ), Prog.pure_eq_ret, wp_ret]
    iintro ⟨H, Hk⟩
    imodintro
    iapply Hk
    iexact H
  | succ n ih =>
    intro j hj σ K
    rw [spec_apply]
    show _ ⊢ wp frame (wpE (defs₀ (F := F)) 𝒱₀ (d : Thread nD τ) (some (n + 1))) E
      (cc0_while1 i arg3 harg3 arg4 harg4 arg5 harg5 uo arg8 harg8 arg9 harg9 (BitVec.ofNat 32 j) (wordAt i j σ)) K
    rw [loop_eq]; unfold loopProg
    by_cases hw : Scalar.cmpi .sgt (wordAt i j σ) 0#32 = 1#1
    · rw [if_pos hw, loopSt, if_pos hw]
      simp only [Prog.lift, Prog.bind_op, Prog.bind_ret]
      have hj65 : j < 65 := by omega
      iintro ⟨H, Hk⟩
      iapply (wp_assume 𝒱₀ (d : Thread nD τ) (some (n + 1)) E (chk i j hj65))
      iapply (each_spec d (some (n + 1)) E (held d arg3 arg4 arg5 arg8 arg9 XQ XK XV)
        (offVisit i arg3 arg4 arg5 arg8 arg9 uo (BitVec.ofNat 32 j) (chk i j hj65))
        (offSt i XQ XK XV uo j) (fun c s => top (offSt i XQ XK XV uo j c s).1)
        (fun c σ Q => off_spec d E i arg3 arg4 arg5 arg8 arg9 XQ XK XV uo (some (n + 1)) j hj65 c σ Q) chains chains_nodup _ σ)
      isplitl [H]; · iexact H
      rw [over_chains]
      iintro H
      rw [addi_one ⟨j, hj65⟩]
      iapply (wp_call_spec 𝒱₀ (d : Thread nD τ) (some (n + 1)) E
        (spec d i arg3 arg4 arg5 arg8 arg9 XQ XK XV uo n (j + 1) (fun c => offSt i XQ XK XV uo j c (σ c))) n
        (fun u hu => by cases hu; exact Nat.lt_succ_self n) (ih (j + 1) (by omega) (fun c => offSt i XQ XK XV uo j c (σ c))))
      rw [spec_apply]
      isplitl [H]; · iexact H
      iintro %r H
      rw [wp_ret]; imodintro
      iapply Hk
      iexact H
    · rw [if_neg hw, loopSt, if_neg hw, Prog.pure_eq_ret, wp_ret]
      iintro ⟨H, Hk⟩
      imodintro
      iapply Hk
      iexact H

/-! ### The copies and the whole body -/

/-- The accumulators and the result block while the copies run. -/
def copying (As : Fin 32 → Vec F S256x128 .f32) (R : Fin 32 → Vec F S256x128 .bf16) : sProp 𝕄 :=
  iprop(own d arg9 fullShare (ofRows As) ∗ own d arg7 fullShare (stack R))

theorem copy_spec (bd : Option (𝒱₀).V) (As : Fin 32 → Vec F S256x128 .f32) (c : Fin 32) (R : Fin 32 → Vec F S256x128 .bf16) (Q : PUnit → sProp 𝕄) :
    iprop(copying d arg7 arg9 As R ∗ (copying d arg7 arg9 As (Function.update R c (truncf .bf16 (As c) bitsLt_bf16_f32)) -∗ Q ⟨⟩))
      ⊢ wp frame (wpE (defs₀ (F := F)) 𝒱₀ (d : Thread nD τ) bd) E (copyOut arg7 harg7 arg9 c) Q := by
  unfold copyOut copying
  simp only [Prog.lift, Prog.bind_op, Prog.bind_ret]
  iintro ⟨⟨HA, HR⟩, Hk⟩
  iapply (load_owns d bd E (ofRows As)) $$ HA; iintro HA
  rw [ofRows_ld As c]
  iapply (load_owns d bd E (stack R)) $$ HR; iintro HR
  iapply (store_owns d bd E (stack R) (stack (Function.update R c (truncf .bf16 (As c) bitsLt_bf16_f32)))
    (stack_update_in _ c _) (stack_update_out _ c _)) $$ HR; iintro HR
  rw [wp_ret]; imodintro
  iapply Hk
  isplitl [HA]; · iexact HA
  iexact HR

/-- The states at the end of the point. -/
def endSt : Fin 32 → St F := loopSt i XQ XK XV uo 63 1 (diagSt i XQ XK XV uo)

/-- The result block the body leaves. -/
def outBlock : Vec F S1x8192x128 .bf16 := stack fun c => truncf .bf16 (endSt i XQ XK XV uo c).2 bitsLt_bf16_f32

/-- The kernel's body: it reads its inputs and leaves the result block, whatever the other buffers held. -/
theorem body_spec (X8 X9 : Vec F S32x256x128 .f32) (X7 : Vec F S1x8192x128 .bf16) (Q : PUnit → sProp 𝕄) :
    iprop((own d arg3 fullShare XQ ∗ own d arg4 fullShare XK ∗ own d arg5 fullShare XV ∗ own d arg6 fullShare uo
        ∗ own d arg7 fullShare X7 ∗ own d arg8 fullShare X8 ∗ own d arg9 fullShare X9)
      ∗ ((own d arg3 fullShare XQ ∗ own d arg4 fullShare XK ∗ own d arg5 fullShare XV ∗ own d arg6 fullShare uo
        ∗ own d arg7 fullShare (outBlock i XQ XK XV uo) ∗ (∃ X, own d arg8 fullShare X) ∗ (∃ X, own d arg9 fullShare X)) -∗ Q ⟨⟩))
      ⊢ wp frame (wpE (defs₀ (F := F)) 𝒱₀ (d : Thread nD τ) none) E
          (cc0_sb_attention (F := F) i arg3 harg3 arg4 harg4 arg5 harg5 arg6 harg6 arg7 harg7 arg8 harg8 arg9 harg9) Q := by
  rw [body_eq]; unfold bodyProg
  obtain ⟨R8, rfl⟩ : ∃ R, X8 = ofRows R := ⟨_, (ofRows_eta X8).symm⟩
  obtain ⟨R9, rfl⟩ : ∃ R, X9 = ofRows R := ⟨_, (ofRows_eta X9).symm⟩
  obtain ⟨R7, rfl⟩ : ∃ R, X7 = stack R := ⟨_, (stack_eta X7).symm⟩
  simp only [Prog.lift, Prog.bind_op, Prog.bind_ret]
  iintro ⟨⟨HQ, HK, HV, HU, HO, HR, HA⟩, Hk⟩
  iapply (load_owns d none E uo) $$ HU; iintro HU
  have huo : shapeCast S256x384 (fun x => uo ((Rect.unit (s := S256x384) ![0, 0] S256x384.size inb_S256x384_S256x384_0_0).toLoadRect.idx x)) shapeCasts_S256x384_S256x384 = uo := by
    refine (shapeCast_self (s := S256x384) _ _).trans (funext fun x => ?_)
    refine congrArg uo (funext fun a => Fin.ext ?_)
    match a with
    | ⟨0, _⟩ => show 0 + 1 * (x 0).val = (x 0).val; omega
    | ⟨1, _⟩ => show 0 + 1 * (x 1).val = (x 1).val; omega
  rw [huo]
  iapply (each_spec d none E (held d arg3 arg4 arg5 arg8 arg9 XQ XK XV)
    (diagVisit i arg3 arg4 arg5 arg8 arg9 uo)
    (fun c _ => diagSt i XQ XK XV uo c) (fun c _ => top (diagSt i XQ XK XV uo c).1)
    (fun c σ Q => diag_spec d E i arg3 arg4 arg5 arg8 arg9 XQ XK XV uo none c σ Q) chains chains_nodup _ (fun c => (R8 c, R9 c)))
  isplitl [HQ HK HV HR HA]
  · unfold held
    isplitl [HQ]; · iexact HQ
    isplitl [HK]; · iexact HK
    isplitl [HV]; · iexact HV
    isplitl [HR]; · iexact HR
    iexact HA
  rw [over_chains]
  iintro H
  iapply (wp_call_spec 𝒱₀ (d : Thread nD τ) none E (spec d i arg3 arg4 arg5 arg8 arg9 XQ XK XV uo 63 1 (diagSt i XQ XK XV uo)) (63 : ℕ)
    (fun u hu => nomatch hu) (spec_le d E i arg3 harg3 arg4 harg4 arg5 harg5 arg8 harg8 arg9 harg9 XQ XK XV uo 63 1 rfl (diagSt i XQ XK XV uo)))
  rw [spec_apply]
  isplitl [H]; · iexact H
  iintro %r H
  unfold held
  icases H with ⟨HQ, HK, HV, HR, HA⟩
  iapply (each_spec d none E (copying d arg7 arg9 (accs (loopSt i XQ XK XV uo 63 1 (diagSt i XQ XK XV uo))))
    (copyOut arg7 harg7 arg9) (fun c _ => truncf .bf16 (accs (loopSt i XQ XK XV uo 63 1 (diagSt i XQ XK XV uo)) c) bitsLt_bf16_f32) (fun _ _ => ⟨⟩)
    (fun c R Q => copy_spec d E arg7 harg7 arg9 none _ c R Q) chains chains_nodup _ R7)
  isplitl [HA HO]
  · unfold copying
    isplitl [HA]; · iexact HA
    iexact HO
  rw [over_chains]
  unfold copying
  iintro ⟨HA, HO⟩
  rw [Prog.pure_eq_ret, wp_ret]; imodintro
  iapply Hk
  isplitl [HQ]; · iexact HQ
  isplitl [HK]; · iexact HK
  isplitl [HV]; · iexact HV
  isplitl [HU]; · iexact HU
  isplitl [HO]; · iexact HO
  isplitl [HR]; · iexists _; iexact HR
  iexists _; iexact HA

end Programs

end Cert.Proof.SbI

end
-- ==== Proof.SbI.Frame.lean ====
/-
  The run of the stick-breaking kernel: at each point the body leaves `outBlock` of the point's blocks, so that every
  execution ends with the result's array put together from those blocks and with the arguments unchanged.
-/
module

public import proofs.«01_k».proof.Proof.SbI.Spec
public import proofs.«01_k».proof.Proof.Gen.KernelIdeal.Launch
public import proofs.«01_k».proof.Proof.Gen.KernelIdeal.Points
public import Idealize.ShloMosaic.Lib.Pipeline.Sound

@[expose] public section

noncomputable section

namespace Cert.Proof.SbI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers' contents after the operations before the kernel. -/
def entry (c : Dev nD) (b : Ref sig .tc) : Buf (Elt F) ((c.tc : Thread nD τ).loc b) := StableHlo.after hostOps0 (fun b => m (c, b)) b

/-- The arrays of the windows at entry. -/
def arrs (c : Dev nD) (w : Fin (cfg0 (F := F)).W) : Buf (Elt F) (((cfg0 (F := F)).win w).arr.view.loc (c.tc : Thread nD τ)) :=
  entry m c (Pipeline.arrRef (cfg0 (F := F)).spec w)

/-- The block of a window at a point. -/
def blockIn (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (arrs m c w)

/-- The queries, the keys, the values and the matrix of a point. -/
def blkQ (c : Dev nD) (t : Fin (cfg0 (F := F)).N) : Vec F S1x1x8192x128 .bf16 := blockIn m c 0 t
def blkK (c : Dev nD) (t : Fin (cfg0 (F := F)).N) : Vec F S1x1x16384x128 .bf16 := blockIn m c 1 t
def blkV (c : Dev nD) (t : Fin (cfg0 (F := F)).N) : Vec F S1x1x16384x128 .bf16 := blockIn m c 2 t
def blkU (c : Dev nD) (t : Fin (cfg0 (F := F)).N) : Vec F S256x384 .bf16 := blockIn m c 3 t

/-- What the body leaves in the result's buffer at a point. -/
def outAt (c : Dev nD) (t : Fin (cfg0 (F := F)).N) : Vec F S1x8192x128 .bf16 :=
  outBlock (grid0.coords t) (blkQ m c t) (blkK m c t) (blkV m c t) (blkU m c t)

/-- What the body leaves in each window's buffer at each point. -/
def afterAt (c : Dev nD) : (w : Fin (cfg0 (F := F)).W) → (t : Fin (cfg0 (F := F)).N) → ((cfg0 (F := F)).win w).block.Idx → Elt F ((cfg0 (F := F)).win w).elt
  | ⟨0, _⟩ => fun t => blkQ m c t
  | ⟨1, _⟩ => fun t => blkK m c t
  | ⟨2, _⟩ => fun t => blkV m c t
  | ⟨3, _⟩ => fun t => blkU m c t
  | ⟨4, _⟩ => fun t => outAt m c t

/-- The proof data of the pipeline. -/
def dat0 (c : Dev nD) : Dat τ (Elt F) Unit ℕ (UR sig nD τ) ℕ (cfg0 (F := F)) c where
  A := arrs m c
  after := afterAt m c
  Φ _ := Pipeline.ΦA (cfg0 (F := F)).spec c
  q _ := fullShare
  owed _ := 0

def dats : (p : Fin 1) → (c : Dev nD) → Dat τ (Elt F) Unit ℕ (UR sig nD τ) ℕ (cfgs (F := F) p) c
  | ⟨0, _⟩ => dat0 m

theorem before0 (c : Dev nD) (t : Fin (cfg0 (F := F)).N) (x) : (dat0 m c).before 0 t x = blkQ m c t :=
  (dat0 m c).before_in_eq_fetched 0 rfl (fun _ => rfl) (fun _ _ _ => rfl) (fun _ => rfl) t x
theorem before1 (c : Dev nD) (t : Fin (cfg0 (F := F)).N) (x) : (dat0 m c).before 1 t x = blkK m c t :=
  (dat0 m c).before_in_eq_fetched 1 rfl (fun _ => rfl) (fun _ _ _ => rfl) (fun _ => rfl) t x
theorem before2 (c : Dev nD) (t : Fin (cfg0 (F := F)).N) (x) : (dat0 m c).before 2 t x = blkV m c t :=
  (dat0 m c).before_in_eq_fetched 2 rfl (fun _ => rfl) (fun _ _ _ => rfl) (fun _ => rfl) t x
theorem before3 (c : Dev nD) (t : Fin (cfg0 (F := F)).N) (x) : (dat0 m c).before 3 t x = blkU m c t :=
  (dat0 m c).before_in_eq_fetched 3 rfl (fun _ => rfl) (fun _ _ _ => rfl) (fun _ => rfl) t x

theorem own_whole (c : Dev nD) (b : Ref sig .tc) (X : b.ty.Contents (Elt F)) :
    (owns (Val := Elt F) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

/-- A scratch buffer at any contents is owned through its memref, -/
theorem own_of_scratch (c : Dev nD) (b : Ref sig .tc) :
    iprop(∃ f : Buf (Elt F) ((c : Thread nD τ).loc b), ((c : Thread nD τ).loc b) ↦{fullShare} f)
      ⊢ (iprop(∃ X, owns (Val := Elt F) (c : Thread nD τ) (Memref.whole b) fullShare X) : sProp 𝕄) := by
  iintro ⟨%f, H⟩
  iexists f
  rw [own_whole]
  iexists f
  isplitr; · (ipureintro; rfl)
  iexact H

theorem exists_of_owned (c : Dev nD) (b : Ref sig .tc) (X : b.ty.Contents (Elt F)) :
    (owns (Val := Elt F) (c : Thread nD τ) (Memref.whole b) fullShare X : sProp 𝕄)
      ⊢ iprop(∃ f : Buf (Elt F) ((c : Thread nD τ).loc b), ((c : Thread nD τ).loc b) ↦{fullShare} f) := by
  rw [own_whole]
  iintro ⟨%f, %hf, H⟩
  iexists f
  iexact H

/-- and back. -/
theorem scratch_of_own (c : Dev nD) (b : Ref sig .tc) :
    (iprop(∃ X, owns (Val := Elt F) (c : Thread nD τ) (Memref.whole b) fullShare X) : sProp 𝕄)
      ⊢ iprop(∃ f : Buf (Elt F) ((c : Thread nD τ).loc b), ((c : Thread nD τ).loc b) ↦{fullShare} f) := by
  iintro ⟨%X, H⟩
  iapply (exists_of_owned c b X)
  iexact H

theorem after0 (c : Dev nD) (t : Fin (cfg0 (F := F)).N) : (dat0 m c).after 0 t = blkQ m c t := rfl
theorem after1 (c : Dev nD) (t : Fin (cfg0 (F := F)).N) : (dat0 m c).after 1 t = blkK m c t := rfl
theorem after2 (c : Dev nD) (t : Fin (cfg0 (F := F)).N) : (dat0 m c).after 2 t = blkV m c t := rfl
theorem after3 (c : Dev nD) (t : Fin (cfg0 (F := F)).N) : (dat0 m c).after 3 t = blkU m c t := rfl
theorem after4 (c : Dev nD) (t : Fin (cfg0 (F := F)).N) : (dat0 m c).after 4 t = outAt m c t := rfl
theorem inv (c : Dev nD) (t : Fin ((cfg0 (F := F)).N + 1)) : (dat0 m c).Φ t = Pipeline.ΦA spec0 c := rfl
theorem owes_succ (c : Dev nD) (t : Fin (cfg0 (F := F)).N) : (dat0 m c).owesAt () t.succ = (dat0 m c).owesAt () t.castSucc := rfl

/-- What the body is called with at a point, -/
def bodyPre (c : Dev nD) (t : Fin (cfg0 (F := F)).N) : sProp 𝕄 :=
  iprop((dat0 m c).Φ t.castSucc ∗ (dat0 m c).owesAt () t.castSucc
      ∗ (∃ d, owns (c : Thread nD τ) (st0_0 t) fullShare ((dat0 m c).before 0 t d))
      ∗ (∃ d, owns (c : Thread nD τ) (st0_1 t) fullShare ((dat0 m c).before 1 t d))
      ∗ (∃ d, owns (c : Thread nD τ) (st0_2 t) fullShare ((dat0 m c).before 2 t d))
      ∗ (∃ d, owns (c : Thread nD τ) (st0_3 t) fullShare ((dat0 m c).before 3 t d))
      ∗ (∃ d, owns (c : Thread nD τ) (st0_4 t) fullShare ((dat0 m c).before 4 t d)))

/-- and what it leaves. -/
def bodyPost (c : Dev nD) (t : Fin (cfg0 (F := F)).N) : sProp 𝕄 :=
  iprop((dat0 m c).Φ t.succ ∗ (dat0 m c).owesAt () t.succ
      ∗ owns (c : Thread nD τ) (st0_0 t) fullShare ((dat0 m c).after 0 t)
      ∗ owns (c : Thread nD τ) (st0_1 t) fullShare ((dat0 m c).after 1 t)
      ∗ owns (c : Thread nD τ) (st0_2 t) fullShare ((dat0 m c).after 2 t)
      ∗ owns (c : Thread nD τ) (st0_3 t) fullShare ((dat0 m c).after 3 t)
      ∗ owns (c : Thread nD τ) (st0_4 t) fullShare ((dat0 m c).after 4 t))

theorem body_at (c : Dev nD) (t : Fin (cfg0 (F := F)).N) :
    bodyPre m c t ⊢ wp frame (wpE (defs₀ (F := F)) 𝒱₀ (c : Thread nD τ) none) Set.univ (bodyAt0 (F := F) t) fun _ => bodyPost m c t := by
  unfold bodyPre bodyPost
  rw [after0, after1, after2, after3, after4, inv, inv, owes_succ]
  unfold Pipeline.ΦA
  rw [scopedRest0_eq]
  iintro ⟨⟨⟨HR, HA⟩, Hg⟩, Ho, ⟨%d0, H0⟩, ⟨%d1, H1⟩, ⟨%d2, H2⟩, ⟨%d3, H3⟩, ⟨%d4, H4⟩⟩
  rw [before0, before1, before2, before3]
  ihave HR := (own_of_scratch c cc0_scratch0) $$ HR
  ihave HA := (own_of_scratch c cc0_scratch1) $$ HA
  icases HR with ⟨%X8, HR⟩
  icases HA with ⟨%X9, HA⟩
  iapply (body_spec c Set.univ (grid0.coords t) (st0_0 t) _ (st0_1 t) _ (st0_2 t) _ (st0_3 t) _ (st0_4 t) _
    (Memref.whole cc0_scratch0) _ (Memref.whole cc0_scratch1) _ (blkQ m c t) (blkK m c t) (blkV m c t) (blkU m c t) X8 X9 ((dat0 m c).before 4 t d4))
  isplitl [H0 H1 H2 H3 H4 HR HA]
  · isplitl [H0]; · iexact H0
    isplitl [H1]; · iexact H1
    isplitl [H2]; · iexact H2
    isplitl [H3]; · iexact H3
    isplitl [H4]; · iexact H4
    isplitl [HR]; · iexact HR
    iexact HA
  iintro ⟨H0, H1, H2, H3, H4, HR, HA⟩
  isplitl [HR HA Hg]
  · isplitl [HR HA]
    · isplitl [HR]
      · iapply (scratch_of_own c cc0_scratch0); iexact HR
      · iapply (scratch_of_own c cc0_scratch1); iexact HA
    iexact Hg
  isplitl [Ho]; · iexact Ho
  isplitl [H0]; · iexact H0
  isplitl [H1]; · iexact H1
  isplitl [H2]; · iexact H2
  isplitl [H3]; · iexact H3
  iexact H4

/-- The body obligation. -/
theorem body_obligation (c : Dev nD) : BodyObligation (dat0 (F := F) m c) (defs₀ (F := F)) 𝒱₀ () Set.univ := fun t => by
  rw [bigSep_W0, bigSep_W0]
  sl_whnfR [defs₀, Defs.onTc]
  have h := body_at m c t
  unfold bodyPre bodyPost bodyAt0 at h
  convert h using 2
  · exact rfl
  · funext x
    exact rfl

set_option backward.isDefEq.respectTransparency.types false in
/-- The run. -/
theorem run : θ_run (defs (F := F)) (onTc main) (s₀ m ρ)
    (fun r => Pipeline.FramePost (cfgs (F := F)) (dats m) (0 : Fin 1) (entry m) r ∧ r.2.sem = fun _ => 0) :=
  Pipeline.θ_run_frame (Q' := _) (cfgs (F := F)) (dats m) (0 : Fin 1) launch0 (defs₀ (F := F)) 𝒱₀ m ρ (main (F := F))
    (hbody := fun c => (body_obligation m c).loose) (hshare := fun c => (dats m 0 c).share_full fun _ => rfl)
    (howed := fun _ _ => rfl) (V := entry m)
    (hmain := Pipeline.hmain_prefix (cfgs (F := F)) (0 : Fin 1) (defs₀ (F := F)) 𝒱₀ m (main (F := F)) hostOps0 hostOps0_sub
      (by simp only [hostOps0, List.Forall]; exact ⟨rfl, rfl, rfl, rfl, rfl, rfl, rfl, rfl, rfl, rfl⟩) main_chain)
    (hA := fun _ _ => rfl) (hΦ := fun _ _ => rfl)

/-- The operations before the kernel leave the arguments alone. -/
theorem entry_arg0 (c : Dev nD) : entry m c main_arg0 = m ((c.tc : Thread nD τ).loc main_arg0) := rfl
theorem entry_arg1 (c : Dev nD) : entry m c main_arg1 = m ((c.tc : Thread nD τ).loc main_arg1) := rfl
theorem entry_arg2 (c : Dev nD) : entry m c main_arg2 = m ((c.tc : Thread nD τ).loc main_arg2) := rfl

/-- Every execution ends with the result put together from the blocks the points leave, the arguments unchanged and
    every semaphore at zero. -/
theorem ends : θ_run (defs (F := F)) (onTc main) (s₀ m ρ) (fun r => (∀ c : Dev nD,
      r.2.mem ((c.tc : Thread nD τ).loc main_v9) = (dat0 m c).arrAt 4 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ?_, h.2⟩) (run m ρ)
  have hw := (h.1 c).1
  refine ⟨hw 4, (hw 0).trans ?_, (hw 1).trans ?_, (hw 2).trans ?_⟩
  · exact ((dat0 m c).arrAt_in 0 rfl _).trans (entry_arg0 m c)
  · exact ((dat0 m c).arrAt_in 1 rfl _).trans (entry_arg1 m c)
  · exact ((dat0 m c).arrAt_in 2 rfl _).trans (entry_arg2 m c)

/-- The frame. -/
theorem frames : θ_run (defs (F := F)) (onTc main) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (ends m ρ)

end Cert.Proof.SbI
end
-- ==== Proof.SbK.Text.lean ====
/-
  The kernel's printed text is the list of visits: the two programs are one after unfolding.
-/
module

public import proofs.«01_k».proof.Proof.SbK.Visit

@[expose] public section

noncomputable section

namespace Cert.Proof.SbK

open Cert.Kernel Cert.Kernel.Gen
open Idealize.ShloMosaic Idealize.ShloMosaic.TcCoe
open Idealize.SL Idealize.SL.Sem
open Idealize.ShloMosaic.Tactic

variable {F : FTy → Type} [FloatOps F]

/-- The loop's label is its visits. -/
theorem loop_eq (i : grid0.Coords)
    (arg3 : Memref sig .tc .vmem S1x1x8192x128 .bf16) (harg3 : arg3.IsWhole)
    (arg4 : Memref sig .tc .vmem S1x1x16384x128 .bf16) (harg4 : arg4.IsWhole)
    (arg5 : Memref sig .tc .vmem S1x1x16384x128 .bf16) (harg5 : arg5.IsWhole)
    (uo : FVec F S256x384 .bf16)
    (arg8 : Memref sig .tc .vmem S32x256x128 .f32) (harg8 : arg8.IsWhole)
    (arg9 : Memref sig .tc .vmem S32x256x128 .f32) (harg9 : arg9.IsWhole) (j w : BitVec 32) :
    cc0_while1 i arg3 harg3 arg4 harg4 arg5 harg5 uo arg8 harg8 arg9 harg9 j w
      = loopProg i arg3 harg3 arg4 harg4 arg5 harg5 arg8 harg8 arg9 harg9 uo j w := by
  sl_kernel_rfl

/-- The kernel's body is its visits, the loop and the copies. -/
theorem body_eq (i : grid0.Coords)
    (arg3 : Memref sig .tc .vmem S1x1x8192x128 .bf16) (harg3 : arg3.IsWhole)
    (arg4 : Memref sig .tc .vmem S1x1x16384x128 .bf16) (harg4 : arg4.IsWhole)
    (arg5 : Memref sig .tc .vmem S1x1x16384x128 .bf16) (harg5 : arg5.IsWhole)
    (arg6 : Memref sig .tc .vmem S256x384 .bf16) (harg6 : arg6.IsWhole)
    (arg7 : Memref sig .tc .vmem S1x8192x128 .bf16) (harg7 : arg7.IsWhole)
    (arg8 : Memref sig .tc .vmem S32x256x128 .f32) (harg8 : arg8.IsWhole)
    (arg9 : Memref sig .tc .vmem S32x256x128 .f32) (harg9 : arg9.IsWhole) :
    cc0_sb_attention (F := F) i arg3 harg3 arg4 harg4 arg5 harg5 arg6 harg6 arg7 harg7 arg8 harg8 arg9 harg9
      = bodyProg i arg3 harg3 arg4 harg4 arg5 harg5 arg6 arg7 harg7 arg8 harg8 arg9 harg9 := by
  sl_kernel_rfl

end Cert.Proof.SbK

end
-- ==== Proof.Rms.lean ====
/-
  What the projection and the dense feed-forward kernel share at the ideal floats: a row divided by the root of the mean of
  its squares, and a plain product of two matrices into zeros.
-/
module

public import Idealize.ShloMosaic.Lib.MatmulPlain
public import Idealize.ShloMosaic.Lib.IdealHost
public import Idealize.ShloMosaic.Lib.ValueIdx
public import Idealize.ShloMosaic.Lib.ValueLayout
public import Idealize.ShloMosaic.Lib.Pipeline.Value
public import Idealize.ShloMosaic.PureOps.Ideal.Laws
public import Idealize.ShloMosaic.PureOps.Reduce

@[expose] public section

noncomputable section

namespace Cert.Proof.Rms

open Idealize.ShloMosaic Idealize.ShloMosaic.ValueIdx

/-- The small number under the root. -/
abbrev tiny : EReal := Ideal.ofBits .f32 0x358637BD#32

/-- What a row is multiplied by: one over the root of the mean of its squares, `count` of them, and a little more. -/
def factor {n : ℕ} (count : EReal) (f : Fin n → EReal) : EReal := Ideal.rsqrt (Ideal.div (∑ k, f k * f k) count + tiny)

/-- A row of 1024 divided by its root mean square and multiplied by the gains. -/
def normed {M : ℕ} (X : (⟨2, ![M, 1024]⟩ : Shape).Idx → EReal) (g : (⟨1, ![1024]⟩ : Shape).Idx → EReal) (r : Fin M) (e : Fin 1024) : EReal :=
  X (ix2 r e) * factor (Ideal.ofBits .f32 0x44800000#32) (fun k : Fin 1024 => X (ix2 r k)) * g (ix1 e)

/-- A vector as one column. -/
theorem column_apply {a : ℕ} (v : (⟨1, ![a]⟩ : Shape).Idx → EReal) (h : (⟨1, ![a]⟩ : Shape).ShapeCasts ⟨2, ![a, 1]⟩) (r : Fin a) :
    shapeCast ⟨2, ![a, 1]⟩ v h (ix2 r (0 : Fin 1)) = v (ix1 r) := by
  refine shapeCast_apply (t := ⟨2, ![a, 1]⟩) v h _ _ ?_
  rw [Shape.rowMajor_val_one, Shape.rowMajor_val_two]
  show r.val = r.val * 1 + 0
  omega

/-- A column repeated along the rows. -/
theorem spread_apply {a n : ℕ} (v : (⟨2, ![a, 1]⟩ : Shape).Idx → EReal) (h : (⟨2, ![a, 1]⟩ : Shape).Broadcasts ⟨2, ![a, n]⟩)
    (r : Fin a) (k : Fin n) : broadcastTo ⟨2, ![a, n]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- The sums of the rows. -/
theorem rowSum_apply {a n : ℕ} (x : FVec Ideal ⟨2, ![a, n]⟩ .f32) (h : (⟨2, ![a, n]⟩ : Shape).Reduces [1] ⟨1, ![a]⟩)
    (hφ : FKind.Formats .f32) (hacc : (0x00000000#32 : BitVec FTy.f32.bits) = FKind.add.neutral .f32 hφ) (r : Fin a) :
    multiReduction .add [1] ⟨1, ![a]⟩ x 0x00000000#32 h hφ hacc (ix1 r) = ∑ k : Fin n, x (ix2 r k) := by
  refine (Ideal.multiReduction_add_single (a := (1 : Fin 2)) x _ h hφ hacc (ix1 r)).trans ?_
  refine Finset.sum_congr rfl fun k _ => congrArg x (funext fun ax => Fin.ext ?_)
  rw [h.lift_val]
  match ax with
  | ⟨0, _⟩ => rfl
  | ⟨1, _⟩ => rfl

/-- The rows divided by the roots of the means of their squares, as a kernel writes it. -/
def rms (a n : ℕ) (word : BitVec 32) (x : FVec Ideal ⟨2, ![a, n]⟩ .f32) (h : (⟨2, ![a, n]⟩ : Shape).Reduces [1] ⟨1, ![a]⟩)
    (hc : (⟨1, ![a]⟩ : Shape).ShapeCasts ⟨2, ![a, 1]⟩) (hb : (⟨2, ![a, 1]⟩ : Shape).Broadcasts ⟨2, ![a, n]⟩) :
    FVec Ideal ⟨2, ![a, n]⟩ .f32 :=
  mulf x (broadcastTo ⟨2, ![a, n]⟩ (rsqrt (addf (divf (shapeCast ⟨2, ![a, 1]⟩
    (multiReduction .add [1] ⟨1, ![a]⟩ (mulf x x) 0x00000000#32 h (.inl rfl) rfl) hc) (broadcast ⟨2, ![a, 1]⟩ (Scalar.ofBits .f32 word)))
    (broadcast ⟨2, ![a, 1]⟩ (Scalar.ofBits .f32 0x358637BD#32)))) hb)

theorem rms_apply (a n : ℕ) (word : BitVec 32) (x : FVec Ideal ⟨2, ![a, n]⟩ .f32) (h : (⟨2, ![a, n]⟩ : Shape).Reduces [1] ⟨1, ![a]⟩)
    (hc : (⟨1, ![a]⟩ : Shape).ShapeCasts ⟨2, ![a, 1]⟩) (hb : (⟨2, ![a, 1]⟩ : Shape).Broadcasts ⟨2, ![a, n]⟩) (r : Fin a) (k : Fin n) :
    rms a n word x h hc hb (ix2 r k) = x (ix2 r k) * factor (Ideal.ofBits .f32 word) fun k => x (ix2 r k) := by
  refine congrArg (x (ix2 r k) * ·) ((spread_apply _ hb r k).trans ?_)
  exact congrArg (fun s => Ideal.rsqrt (Ideal.div s (Ideal.ofBits .f32 word) + tiny))
    ((column_apply _ hc r).trans (rowSum_apply (mulf x x) h (.inl rfl) rfl r))

/-- A product into zeros. -/
theorem product_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant ⟨2, ![M, N]⟩ .f32 0x00000000#32) (ix2 r c)
      = ∑ k : Fin K, lhs (ix2 r k) * rhs (ix2 k c) := by
  refine (Ideal.matmul_plain_apply prec lhs rhs _ r c).trans ?_
  show Ideal.ofBits .f32 0x00000000#32 + _ = _
  rw [Ideal.ofBits_zero_f32, zero_add]

end Cert.Proof.Rms

end
-- ==== Proof.Mrg.Pool.lean ====
/-
  The pooling branch of the merge kernel at the ideal floats: a block of rows with the sixteen rows before it, the sums of the last
  rows, and for every group of lanes the mean less the row, mixed by the group's matrix and scaled.
-/
module

public import proofs.«01_k».proof.Proof.Gen.Kernel4Ideal.Value
public import proofs.«01_k».proof.Proof.Rms
public import Idealize.ShloMosaic.Lib.Pipeline.ValueKit

@[expose] public section

noncomputable section

namespace Cert.Proof.Mrg

open Cert.Kernel4Ideal Cert.Kernel4Ideal.Gen
open Idealize.ShloMosaic hiding ix1 ix2 ix3
open Idealize.ShloMosaic.TcCoe Idealize.ShloMosaic.ValueIdx
open Cert.Proof.Rms

/-- The place in its sequence of the first row of block `n`, as the kernel works it out. -/
def start (n : ℕ) : BitVec 32 :=
  let v0 : BitVec 32 := Scalar.muli (BitVec.ofNat 32 n) 512#32
  let v1 : BitVec 1 := Scalar.cmpi .eq 16384#32 0#32
  let v2 : BitVec 32 := Scalar.select v1 1#32 16384#32
  let v3 : BitVec 32 := Scalar.remsi v0 v2
  let v4 : BitVec 1 := Scalar.cmpi .ne v3 0#32
  let v5 : BitVec 1 := Scalar.cmpi .slt v3 0#32
  let v6 : BitVec 1 := Scalar.cmpi .slt v2 0#32
  let v7 : BitVec 1 := Scalar.xori v5 v6
  let v8 : BitVec 1 := Scalar.andi v7 v4
  let v9 : BitVec 32 := Scalar.addi v3 v2
  Scalar.select v8 v9 v3

theorem start_eq : ∀ n : Fin 64, start n.val = BitVec.ofNat 32 (n.val % 32 * 512) := by decide +kernel

theorem start_zero : ∀ n : Fin 64, Scalar.cmpi .eq (start n.val) 0#32 = BitVec.ofBool (decide (n.val % 32 = 0)) := by decide +kernel

section Block

variable (i : grid0.Coords) (U : Vec Ideal S512x512 .bf16) (H : Vec Ideal S16x512 .bf16)

/-- The place of a row in its sequence. -/
theorem place_apply (r : Fin 512) : k0_pay4 i (ix2 r (0 : Fin 1)) = BitVec.ofNat 32 ((i 0).val % 32 * 512 + r.val) := by
  have hs : start (i 0).val = BitVec.ofNat 32 ((i 0).val % 32 * 512) := start_eq (i 0)
  have hr : k0_pay4 i (ix2 r (0 : Fin 1)) = start (i 0).val + BitVec.ofNat 32 r.val := by
    refine congrArg (start (i 0).val + ·) ?_
    show BitVec.ofNat 32 (0 * 512 + r.val) = _
    rw [Nat.zero_mul, Nat.zero_add]
  rw [hr, hs, BitVec.ofNat_add]

/-- The sixteen rows before the block: zeros where the block is the first of its sequence. -/
theorem before_apply (y : S16x512.Idx) : k0_pay2 i H y = if (i 0).val % 32 = 0 then 0 else H y := by
  have hs : Scalar.cmpi .eq (start (i 0).val) 0#32 = BitVec.ofBool (decide ((i 0).val % 32 = 0)) := start_zero (i 0)
  have h : k0_pay2 i H = Scalar.select (Scalar.cmpi .eq (start (i 0).val) 0#32) (fun _ => Ideal.ofBits .f32 0x00000000#32) H := by
    unfold k0_pay2
    exact shapeCast_self _ _
  rw [h, hs]
  by_cases c : (i 0).val % 32 = 0
  · rw [if_pos c, decide_eq_true c]
    exact Ideal.ofBits_zero_f32
  · rw [if_neg c, decide_eq_false c]
    rfl

/-- The row `k` before row `r` of the block, which may be one of the sixteen before. -/
def earlier (r : Fin 512) (q : Fin 512) (k : ℕ) : EReal :=
  if r.val < k then k0_pay2 i H (ix2 (Fin.ofNat 16 (16 + r.val - k)) q) else U (ix2 (Fin.ofNat 512 (r.val - k)) q)

/-- What is read of the rows written one below the other. -/
abbrev loaded (o c : ℕ) (inb : ∀ a : Fin 2, (![o, c] : Fin 2 → ℕ) a + (![512, 128] : Fin 2 → ℕ) a ≤ S528x512.size a) : FVec Ideal S512x128 .f32 :=
  View.readCov (Val := Elt Ideal) (View.whole cc0_scratch0)
    [⟨Rect.unit ![16, 0] ![512, 512] inb_S528x512_S512x512_16_0, k0_pay3 U⟩, ⟨Rect.unit ![0, 0] ![16, 512] inb_S528x512_S16x512_0_0, k0_pay2 i H⟩]
    (Rect.unit (s := S528x512) ![o, c] ![512, 128] inb).toLoadRect

theorem loaded_apply (o c : ℕ) (inb : ∀ a : Fin 2, (![o, c] : Fin 2 → ℕ) a + (![512, 128] : Fin 2 → ℕ) a ≤ S528x512.size a) (k : ℕ) (hk : o + k = 16)
    (r : Fin 512) (l : Fin 128) (q : Fin 512) (hq : q.val = c + l.val) : loaded i U H o c inb (ix2 r l) = earlier i U H r q k := by
  have hl := l.isLt
  have hr := r.isLt
  unfold loaded
  rw [View.readCov_eq_canon']
  unfold earlier
  by_cases h : r.val < k
  · rw [if_pos h]
    have hv : (Fin.ofNat 16 (16 + r.val - k)).val = 16 + r.val - k := Nat.mod_eq_of_lt (by omega)
    have hidx : (Rect.unit (s := S528x512) ![o, c] ![512, 128] inb).toLoadRect.idx (ix2 r l)
        = (Rect.unit (s := S528x512) ![0, 0] ![16, 512] inb_S528x512_S16x512_0_0).emb (ix2 (Fin.ofNat 16 (16 + r.val - k)) q) := by
      refine funext fun a => Fin.ext ?_
      match a with
      | ⟨0, _⟩ => show o + 1 * r.val = 0 + 1 * (Fin.ofNat 16 (16 + r.val - k)).val; rw [hv]; omega
      | ⟨1, _⟩ => show c + 1 * l.val = 0 + 1 * q.val; omega
    show View.canon _ ((Rect.unit (s := S528x512) ![o, c] ![512, 128] inb).toLoadRect.idx (ix2 r l)) = _
    rw [hidx, View.canon_cons_of_not_mem, View.canon_cons_emb]
    intro hm
    obtain ⟨x, hx⟩ := LoadRect.exists_idx_of_mem (Rect.unit (s := S528x512) ![16, 0] ![512, 512] inb_S528x512_S512x512_16_0).toLoadRect hm
    have h0 : 16 + 1 * (x 0).val = 0 + 1 * (Fin.ofNat 16 (16 + r.val - k)).val := congrArg (fun y : S528x512.Idx => (y 0).val) hx
    rw [hv] at h0
    omega
  · rw [if_neg h]
    have hv : (Fin.ofNat 512 (r.val - k)).val = r.val - k := Nat.mod_eq_of_lt (by omega)
    have hidx : (Rect.unit (s := S528x512) ![o, c] ![512, 128] inb).toLoadRect.idx (ix2 r l)
        = (Rect.unit (s := S528x512) ![16, 0] ![512, 512] inb_S528x512_S512x512_16_0).emb (ix2 (Fin.ofNat 512 (r.val - k)) q) := by
      refine funext fun a => Fin.ext ?_
      match a with
      | ⟨0, _⟩ => show o + 1 * r.val = 16 + 1 * (Fin.ofNat 512 (r.val - k)).val; rw [hv]; omega
      | ⟨1, _⟩ => show c + 1 * l.val = 0 + 1 * q.val; omega
    show View.canon _ ((Rect.unit (s := S528x512) ![o, c] ![512, 128] inb).toLoadRect.idx (ix2 r l)) = _
    rw [hidx, View.canon_cons_emb]
    exact congrFun (shapeCast_self _ _) _

end Block

/-- How many rows the mean over the last `w` is of, at place `s`. -/
def count (w s : ℕ) : EReal := FloatOps.sitofp (F := Ideal) .f32 (IntOp.minsi (BitVec.ofNat 32 s + 1#32) (BitVec.ofNat 32 w))

/-- One group's columns, as the kernel writes them: the sums divided by the counts, less the rows, mixed and scaled. -/
def mixed (w : ℕ) (pos : IVec S512x1 32) (cur sum : FVec Ideal S512x128 .f32) (pw : Vec Ideal S1x128x128 .bf16) (ps : Vec Ideal S1x128 .f32) :
    FVec Ideal S512x128 .bf16 :=
  truncf .bf16 (mulf (matmul (φ₁ := .bf16) (φ₂ := .bf16) dot_S512x128_S128x128_S512x128_1_0_0_1_n_n none
    (truncf .bf16 (subf (divf sum (broadcastTo S512x128 (sitofp .f32 (minsi (addi pos (broadcast S512x1 1#32)) (broadcast S512x1 (BitVec.ofNat 32 w)))) broadcasts_S512x1_S512x128)) cur) bitsLt_bf16_f32)
    (shapeCast S128x128 pw shapeCasts_S1x128x128_S128x128) (constant S512x128 .f32 0x00000000#32))
    (broadcastTo S512x128 ps broadcasts_S1x128_S512x128)) bitsLt_bf16_f32

theorem mixed_apply (w : ℕ) (pos : IVec S512x1 32) (cur sum : FVec Ideal S512x128 .f32) (pw : Vec Ideal S1x128x128 .bf16) (ps : Vec Ideal S1x128 .f32)
    (r : Fin 512) (o : Fin 128) (s : ℕ) (hs : pos (ix2 r (0 : Fin 1)) = BitVec.ofNat 32 s) :
    mixed w pos cur sum pw ps (ix2 r o)
      = (∑ l : Fin 128, (Ideal.div (sum (ix2 r l)) (count w s) - cur (ix2 r l)) * pw (ix3 (0 : Fin 1) l o)) * ps (ix2 (0 : Fin 1) o) := by
  unfold mixed
  refine congrArg₂ (· * ·) ((product_apply (M := 512) (K := 128) (N := 128) none _ _ r o).trans (Finset.sum_congr rfl fun l _ => ?_))
    (broadcastTo_1b_ab_apply ps broadcasts_S1x128_S512x128 r o)
  refine congrArg₂ (· * ·) (congrArg (fun d => Ideal.div (sum (ix2 r l)) d - cur (ix2 r l)) ?_) ?_
  · refine (spread_apply _ broadcasts_S512x1_S512x128 r l).trans ?_
    unfold count
    rw [← hs]
    rfl
  · refine shapeCast_apply (s := S1x128x128) (t := S128x128) pw shapeCasts_S1x128x128_S128x128 _ _ ?_
    have e2 : (S128x128.rowMajor (ix2 l o)).val = l.val * 128 + o.val := Shape.rowMajor_val_two _
    have e3 : (S1x128x128.rowMajor (ix3 (0 : Fin 1) l o)).val = (0 * 128 + l.val) * 128 + o.val := Shape.rowMajor_val_three _
    rw [e2, e3]
    omega

/-- Four blocks of columns one after the other. -/
theorem quarters_apply {n N : ℕ} (A0 A1 A2 A3 : (⟨2, ![512, n]⟩ : Shape).Idx → EReal) (v : Fin 512 → ℕ → EReal)
    (h0 : ∀ r l, A0 (ix2 r l) = v r l.val) (h1 : ∀ r l, A1 (ix2 r l) = v r (n + l.val)) (h2 : ∀ r l, A2 (ix2 r l) = v r (2 * n + l.val))
    (h3 : ∀ r l, A3 (ix2 r l) = v r (3 * n + l.val)) (hN : N = 4 * n)
    (hc : Shape.Concatenates ([(⟨⟨2, ![512, n]⟩, A0⟩ : (s : Shape) × (s.Idx → EReal)), ⟨⟨2, ![512, n]⟩, A1⟩, ⟨⟨2, ![512, n]⟩, A2⟩, ⟨⟨2, ![512, n]⟩, A3⟩].map (·.1)) ⟨2, ![512, N]⟩ 1)
    (r : Fin 512) (j : Fin N) :
    concatenate ⟨2, ![512, N]⟩ 1 [(⟨⟨2, ![512, n]⟩, A0⟩ : (s : Shape) × (s.Idx → EReal)), ⟨⟨2, ![512, n]⟩, A1⟩, ⟨⟨2, ![512, n]⟩, A2⟩, ⟨⟨2, ![512, n]⟩, A3⟩] hc (ix2 r j) = v r j.val := by
  have hj := j.isLt
  have piece : ∀ (k : ℕ) (hk : k < 4) (A : (⟨2, ![512, n]⟩ : Shape).Idx → EReal)
      (hx : [(⟨⟨2, ![512, n]⟩, A0⟩ : (s : Shape) × (s.Idx → EReal)), ⟨⟨2, ![512, n]⟩, A1⟩, ⟨⟨2, ![512, n]⟩, A2⟩, ⟨⟨2, ![512, n]⟩, A3⟩][k] = ⟨⟨2, ![512, n]⟩, A⟩) (pre : ℕ)
      (hpre : ((([(⟨⟨2, ![512, n]⟩, A0⟩ : (s : Shape) × (s.Idx → EReal)), ⟨⟨2, ![512, n]⟩, A1⟩, ⟨⟨2, ![512, n]⟩, A2⟩, ⟨⟨2, ![512, n]⟩, A3⟩].take k).map (·.1)).map
        fun s : Shape => if h : s.rank = 2 then s.size ((1 : Fin 2).cast h.symm) else 0).sum = pre) (lo : pre ≤ j.val) (hi : j.val - pre < n),
      concatenate ⟨2, ![512, N]⟩ 1 [(⟨⟨2, ![512, n]⟩, A0⟩ : (s : Shape) × (s.Idx → EReal)), ⟨⟨2, ![512, n]⟩, A1⟩, ⟨⟨2, ![512, n]⟩, A2⟩, ⟨⟨2, ![512, n]⟩, A3⟩] hc (ix2 r j)
        = A (ix2 r (⟨j.val - pre, hi⟩ : Fin n)) := by
    intro k hk A hx pre hpre lo hi
    refine concatenate_apply_piece (t := ⟨2, ![512, N]⟩) 1 _ hc (ix2 r j) k hk ⟨2, ![512, n]⟩ A hx rfl pre hpre (ix2 r (⟨j.val - pre, hi⟩ : Fin n)) (fun b hb => ?_) ?_
    · match b with
      | ⟨0, _⟩ => rfl
      | ⟨1, _⟩ => exact absurd rfl hb
    · show pre + (j.val - pre) = j.val
      omega
  by_cases c1 : j.val < n
  · refine (piece 0 (by omega) A0 rfl 0 (by simp) (Nat.zero_le _) c1).trans ((h0 r _).trans (congrArg (v r) ?_))
    exact Nat.sub_zero _
  by_cases c2 : j.val < 2 * n
  · refine (piece 1 (by omega) A1 rfl n (by simp) (by omega) (by omega)).trans ((h1 r _).trans (congrArg (v r) ?_))
    show n + (j.val - n) = j.val
    omega
  by_cases c3 : j.val < 3 * n
  · refine (piece 2 (by omega) A2 rfl (2 * n) (by simp; omega) (by omega) (by omega)).trans ((h2 r _).trans (congrArg (v r) ?_))
    show 2 * n + (j.val - 2 * n) = j.val
    omega
  · refine (piece 3 (by omega) A3 rfl (3 * n) (by simp; omega) (by omega) (by omega)).trans ((h3 r _).trans (congrArg (v r) ?_))
    show 3 * n + (j.val - 3 * n) = j.val
    omega

section Groups

variable (i : grid0.Coords) (U : Vec Ideal S512x512 .bf16) (H : Vec Ideal S16x512 .bf16) (PW : Vec Ideal S4x128x128 .bf16) (PS : Vec Ideal S1x512 .f32)

/-- The rows and, one after the other, the `n` rows before them, added up. -/
def sums (c : ℕ) (hc : c + 128 ≤ 512) : (n : ℕ) → n ≤ 16 → FVec Ideal S512x128 .f32
  | 0, _ => loaded i U H 16 c (fun a => match a with | ⟨0, _⟩ => (by decide : 16 + 512 ≤ 528) | ⟨1, _⟩ => hc)
  | n + 1, h => addf (sums c hc n (Nat.le_of_succ_le h))
      (loaded i U H (16 - (n + 1)) c (fun a => match a with | ⟨0, _⟩ => (by omega : 16 - (n + 1) + 512 ≤ 528) | ⟨1, _⟩ => hc))

theorem sums_apply (c : ℕ) (hc : c + 128 ≤ 512) (r : Fin 512) (l : Fin 128) (q : Fin 512) (hq : q.val = c + l.val) : ∀ (n : ℕ) (h : n ≤ 16),
    sums i U H c hc n h (ix2 r l) = ∑ k ∈ Finset.range (n + 1), earlier i U H r q k
  | 0, _ => by
    rw [Finset.sum_range_one]
    exact loaded_apply i U H 16 c _ 0 rfl r l q hq
  | n + 1, h => by
    rw [Finset.sum_range_succ]
    exact congrArg₂ (· + ·) (sums_apply c hc r l q hq n _) (loaded_apply i U H _ c _ (n + 1) (by omega) r l q hq)

/-- The mean of the last `w` rows less the row. -/
def pooledAt (w : ℕ) (r q : Fin 512) : EReal :=
  Ideal.div (∑ k ∈ Finset.range w, earlier i U H r q k) (count w ((i 0).val % 32 * 512 + r.val)) - earlier i U H r q 0

/-- The pooled rows of column `p`'s group, mixed and scaled. -/
def poolAt (r : Fin 512) (p : ℕ) : EReal :=
  (∑ l : Fin 128, pooledAt i U H (2 ^ (p / 128 + 1)) r (Fin.ofNat 512 (p / 128 * 128 + l.val)) * PW (ix3 (Fin.ofNat 4 (p / 128)) l (Fin.ofNat 128 (p % 128))))
    * PS (ix2 (0 : Fin 1) (Fin.ofNat 512 p))

/-- One group's columns, as the kernel writes them. -/
abbrev group (g c n : ℕ) (hc : c + 128 ≤ 512) (h : n ≤ 16)
    (inw : ∀ a : Fin 3, (![g, 0, 0] : Fin 3 → ℕ) a + (![1, 128, 128] : Fin 3 → ℕ) a ≤ S4x128x128.size a)
    (ins : ∀ a : Fin 2, (![0, c] : Fin 2 → ℕ) a + (![1, 128] : Fin 2 → ℕ) a ≤ S1x512.size a) : FVec Ideal S512x128 .bf16 :=
  mixed (n + 1) (k0_pay4 i) (sums i U H c hc 0 (Nat.zero_le _)) (sums i U H c hc n h) (View.ld PW (Rect.unit (s := S4x128x128) ![g, 0, 0] ![1, 128, 128] inw))
    (View.ld PS (Rect.unit (s := S1x512) ![0, c] ![1, 128] ins))

theorem group_apply (g c n : ℕ) (hc : c + 128 ≤ 512) (h : n ≤ 16) (inw ins) (hg : c = g * 128) (hn : n + 1 = 2 ^ (g + 1)) (r : Fin 512) (o : Fin 128) :
    group i U H PW PS g c n hc h inw ins (ix2 r o) = poolAt i U H PW PS r (c + o.val) := by
  have ho := o.isLt
  have e1 : (c + o.val) / 128 = g := by omega
  have e2 : (c + o.val) % 128 = o.val := by omega
  have hg4 : (Fin.ofNat 4 g).val = g := Nat.mod_eq_of_lt (by omega)
  have hoo : Fin.ofNat 128 o.val = o := Fin.ext (Nat.mod_eq_of_lt ho)
  have hco : (Fin.ofNat 512 (c + o.val)).val = c + o.val := Nat.mod_eq_of_lt (by omega)
  unfold group
  rw [mixed_apply _ _ _ _ _ _ r o _ (place_apply i r)]
  unfold poolAt pooledAt
  rw [e1, e2, hoo, ← hn, ← hg]
  refine congrArg₂ (· * ·) (Finset.sum_congr rfl fun l _ => ?_) ?_
  · have hl := l.isLt
    have hq : (Fin.ofNat 512 (c + l.val)).val = c + l.val := Nat.mod_eq_of_lt (by omega)
    rw [sums_apply i U H c hc r l _ hq, sums_apply i U H c hc r l _ hq, Finset.sum_range_one]
    refine congrArg (_ * ·) (View.ld_unit_apply_of (S := S4x128x128) PW _ _ inw _ _ fun a => ?_)
    match a with
    | ⟨0, _⟩ => show (Fin.ofNat 4 g).val = g + 0; rw [hg4]; rfl
    | ⟨1, _⟩ => show l.val = 0 + l.val; omega
    | ⟨2, _⟩ => show o.val = 0 + o.val; omega
  · refine View.ld_unit_apply_of (S := S1x512) PS _ _ ins _ _ fun a => ?_
    match a with
    | ⟨0, _⟩ => rfl
    | ⟨1, _⟩ => exact hco

/-- The pooling branch of a block, as the kernel writes it. -/
def pooling : FVec Ideal S512x512 .bf16 :=
  concatenate S512x512 1
    [⟨S512x128, group i U H PW PS 0 0 1 (by decide) (by decide) inb_S4x128x128_S1x128x128_0_0_0 inb_S1x512_S1x128_0_0⟩,
      ⟨S512x128, group i U H PW PS 1 128 3 (by decide) (by decide) inb_S4x128x128_S1x128x128_1_0_0 inb_S1x512_S1x128_0_128⟩,
      ⟨S512x128, group i U H PW PS 2 256 7 (by decide) (by decide) inb_S4x128x128_S1x128x128_2_0_0 inb_S1x512_S1x128_0_256⟩,
      ⟨S512x128, group i U H PW PS 3 384 15 (by decide) (by decide) inb_S4x128x128_S1x128x128_3_0_0 inb_S1x512_S1x128_0_384⟩]
    concatenates_S512x128_S512x128_S512x128_S512x128_S512x512_d1

theorem pooling_apply (r : Fin 512) (p : Fin 512) : pooling i U H PW PS (ix2 r p) = poolAt i U H PW PS r p.val :=
  quarters_apply (n := 128) (N := 512) _ _ _ _ (poolAt i U H PW PS)
    (fun r l => (group_apply i U H PW PS 0 0 1 _ _ _ _ rfl rfl r l).trans (congrArg (poolAt i U H PW PS r) (Nat.zero_add _)))
    (fun r l => group_apply i U H PW PS 1 128 3 _ _ _ _ rfl rfl r l)
    (fun r l => group_apply i U H PW PS 2 256 7 _ _ _ _ rfl rfl r l)
    (fun r l => group_apply i U H PW PS 3 384 15 _ _ _ _ rfl rfl r l) rfl _ r p

end Groups

end Cert.Proof.Mrg

end
-- ==== Proof.Mrg.Block.lean ====
/-
  What the merge kernel leaves in its block of rows at the ideal floats: the three branches, each taken through its matrix and
  multiplied by its gate, added up, taken through the output matrix and added to the rows.
-/
module

public import proofs.«01_k».proof.Proof.Mrg.Pool

@[expose] public section

noncomputable section

namespace Cert.Proof.Mrg

open Cert.Kernel4Ideal Cert.Kernel4Ideal.Gen
open Idealize.ShloMosaic hiding ix1 ix2 ix3
open Idealize.ShloMosaic.TcCoe Idealize.ShloMosaic.ValueIdx
open Cert.Proof.Rms

section Parts

variable (Y : FVec Ideal S512x512 .bf16) (YS : Vec Ideal S512x1024 .bf16) (YB : Vec Ideal S512x512 .bf16) (G0 G1 G2 : Vec Ideal S512x1024 .bf16)
  (WS : Vec Ideal S1024x1024 .bf16) (WB WP : Vec Ideal S512x1024 .bf16)

/-- A gated branch in 256 columns. -/
abbrev branch {K : ℕ} (A : FVec Ideal ⟨2, ![512, K]⟩ .bf16) (G : Vec Ideal S512x1024 .bf16) (W : Vec Ideal ⟨2, ![K, 1024]⟩ .bf16) (off : ℕ)
    (inb : ∀ a : Fin 2, (![0, off] : Fin 2 → ℕ) a + (![512, 256] : Fin 2 → ℕ) a ≤ S512x1024.size a)
    (inw : ∀ a : Fin 2, (![0, off] : Fin 2 → ℕ) a + (![K, 256] : Fin 2 → ℕ) a ≤ (⟨2, ![K, 1024]⟩ : Shape).size a) : FVec Ideal S512x256 .f32 :=
  mulf (logistic (extf (F := Ideal) (s := S512x256) .f32 (View.ld G (Rect.unit (s := S512x1024) ![0, off] ![512, 256] inb)) bitsLt_bf16_f32))
    (matmul (φ₁ := .bf16) (φ₂ := .bf16) (DotDims.plain 512 K 256) none A (View.ld W (Rect.unit (s := ⟨2, ![K, 1024]⟩) ![0, off] ![K, 256] inw))
      (constant S512x256 .f32 0x00000000#32))

theorem branch_apply {K : ℕ} (A : FVec Ideal ⟨2, ![512, K]⟩ .bf16) (G : Vec Ideal S512x1024 .bf16) (W : Vec Ideal ⟨2, ![K, 1024]⟩ .bf16) (off : ℕ) (inb inw)
    (r : Fin 512) (l : Fin 256) (d : Fin 1024) (hd : d.val = off + l.val) :
    branch A G W off inb inw (ix2 r l) = Ideal.logistic (G (ix2 r d)) * ∑ k : Fin K, A (ix2 r k) * W (ix2 k d) := by
  refine congrArg₂ (· * ·) (congrArg Ideal.logistic ?_) ((product_apply (M := 512) (K := K) (N := 256) none A _ r l).trans
    (Finset.sum_congr rfl fun k _ => congrArg (A (ix2 r k) * ·) ?_))
  · exact View.ld_unit_apply_of (S := S512x1024) G _ _ inb _ _ fun a => match a with
      | ⟨0, _⟩ => by show r.val = 0 + r.val; omega
      | ⟨1, _⟩ => hd
  · exact View.ld_unit_apply_of (S := ⟨2, ![K, 1024]⟩) W _ _ inw _ _ fun a => match a with
      | ⟨0, _⟩ => by show k.val = 0 + k.val; omega
      | ⟨1, _⟩ => hd

/-- 256 columns of the three gated branches added up, as the kernel writes them. -/
def part (off : ℕ) (inb : ∀ a : Fin 2, (![0, off] : Fin 2 → ℕ) a + (![512, 256] : Fin 2 → ℕ) a ≤ S512x1024.size a)
    (inw : ∀ a : Fin 2, (![0, off] : Fin 2 → ℕ) a + (![1024, 256] : Fin 2 → ℕ) a ≤ S1024x1024.size a) : FVec Ideal S512x256 .bf16 :=
  truncf .bf16 (addf (addf (branch (K := 1024) YS G0 WS off inb inw) (branch (K := 512) YB G1 WB off inb inb)) (branch (K := 512) Y G2 WP off inb inb)) bitsLt_bf16_f32

/-- The three gated branches at a column, added up. -/
def mergedAt (r : Fin 512) (d : Fin 1024) : EReal :=
  Ideal.logistic (G0 (ix2 r d)) * (∑ k : Fin 1024, YS (ix2 r k) * WS (ix2 k d)) + Ideal.logistic (G1 (ix2 r d)) * (∑ k : Fin 512, YB (ix2 r k) * WB (ix2 k d))
    + Ideal.logistic (G2 (ix2 r d)) * ∑ k : Fin 512, Y (ix2 r k) * WP (ix2 k d)

theorem part_apply (off : ℕ) (inb inw) (r : Fin 512) (l : Fin 256) (d : Fin 1024) (hd : d.val = off + l.val) :
    part Y YS YB G0 G1 G2 WS WB WP off inb inw (ix2 r l) = mergedAt Y YS YB G0 G1 G2 WS WB WP r d :=
  congrArg₂ (· + ·) (congrArg₂ (· + ·) (branch_apply (K := 1024) YS G0 WS off inb inw r l d hd) (branch_apply (K := 512) YB G1 WB off inb inb r l d hd))
    (branch_apply (K := 512) Y G2 WP off inb inb r l d hd)

/-- The branches in all columns, as the kernel writes them. -/
def parts : FVec Ideal S512x1024 .bf16 :=
  concatenate S512x1024 1
    [⟨S512x256, part Y YS YB G0 G1 G2 WS WB WP 0 inb_S512x1024_S512x256_0_0 inb_S1024x1024_S1024x256_0_0⟩,
      ⟨S512x256, part Y YS YB G0 G1 G2 WS WB WP 256 inb_S512x1024_S512x256_0_256 inb_S1024x1024_S1024x256_0_256⟩,
      ⟨S512x256, part Y YS YB G0 G1 G2 WS WB WP 512 inb_S512x1024_S512x256_0_512 inb_S1024x1024_S1024x256_0_512⟩,
      ⟨S512x256, part Y YS YB G0 G1 G2 WS WB WP 768 inb_S512x1024_S512x256_0_768 inb_S1024x1024_S1024x256_0_768⟩]
    concatenates_S512x256_S512x256_S512x256_S512x256_S512x1024_d1

theorem parts_apply (r : Fin 512) (d : Fin 1024) : parts Y YS YB G0 G1 G2 WS WB WP (ix2 r d) = mergedAt Y YS YB G0 G1 G2 WS WB WP r d := by
  have hv : ∀ (off : ℕ), off + 256 ≤ 1024 → ∀ (l : Fin 256), (Fin.ofNat 1024 (off + l.val)).val = off + l.val := fun off ho l =>
    Nat.mod_eq_of_lt (by have := l.isLt; omega)
  refine (quarters_apply (n := 256) (N := 1024) _ _ _ _ (fun r d => mergedAt Y YS YB G0 G1 G2 WS WB WP r (Fin.ofNat 1024 d))
    (fun r l => part_apply Y YS YB G0 G1 G2 WS WB WP 0 _ _ r l _ ?_) (fun r l => part_apply Y YS YB G0 G1 G2 WS WB WP 256 _ _ r l _ (hv 256 (by decide) l))
    (fun r l => part_apply Y YS YB G0 G1 G2 WS WB WP 512 _ _ r l _ (hv 512 (by decide) l))
    (fun r l => part_apply Y YS YB G0 G1 G2 WS WB WP 768 _ _ r l _ (hv 768 (by decide) l)) rfl _ r d).trans ?_
  · exact (Nat.mod_eq_of_lt (by have := l.isLt; omega)).trans (Nat.zero_add _).symm
  · exact congrArg (mergedAt Y YS YB G0 G1 G2 WS WB WP r) (Fin.ext (Nat.mod_eq_of_lt d.isLt))

theorem part_one : k0_pay15 Y (k0_pay13 YS YB (View.ld G0 (Rect.unit (s := S512x1024) ![0, 0] ![512, 256] inb_S512x1024_S512x256_0_0))
    (View.ld WS (Rect.unit (s := S1024x1024) ![0, 0] ![1024, 256] inb_S1024x1024_S1024x256_0_0)) (View.ld G1 (Rect.unit (s := S512x1024) ![0, 0] ![512, 256] inb_S512x1024_S512x256_0_0))
    (View.ld WB (Rect.unit (s := S512x1024) ![0, 0] ![512, 256] inb_S512x1024_S512x256_0_0))) (k0_pay14 (View.ld G2 (Rect.unit (s := S512x1024) ![0, 0] ![512, 256] inb_S512x1024_S512x256_0_0)))
    (View.ld WP (Rect.unit (s := S512x1024) ![0, 0] ![512, 256] inb_S512x1024_S512x256_0_0))
      = part Y YS YB G0 G1 G2 WS WB WP 0 inb_S512x1024_S512x256_0_0 inb_S1024x1024_S1024x256_0_0 := by
  unfold k0_pay15 k0_pay14 k0_pay13 part branch
  simp only [shapeCast_self]
  rfl

theorem part_two : k0_pay16 Y YS YB (View.ld G0 (Rect.unit (s := S512x1024) ![0, 256] ![512, 256] inb_S512x1024_S512x256_0_256))
    (View.ld WS (Rect.unit (s := S1024x1024) ![0, 256] ![1024, 256] inb_S1024x1024_S1024x256_0_256)) (View.ld G1 (Rect.unit (s := S512x1024) ![0, 256] ![512, 256] inb_S512x1024_S512x256_0_256))
    (View.ld WB (Rect.unit (s := S512x1024) ![0, 256] ![512, 256] inb_S512x1024_S512x256_0_256)) (View.ld G2 (Rect.unit (s := S512x1024) ![0, 256] ![512, 256] inb_S512x1024_S512x256_0_256))
    (View.ld WP (Rect.unit (s := S512x1024) ![0, 256] ![512, 256] inb_S512x1024_S512x256_0_256))
      = part Y YS YB G0 G1 G2 WS WB WP 256 inb_S512x1024_S512x256_0_256 inb_S1024x1024_S1024x256_0_256 := by
  unfold k0_pay16 part branch
  simp only [shapeCast_self]
  rfl

theorem part_three : k0_pay18 Y YB (k0_pay17 YS (View.ld G0 (Rect.unit (s := S512x1024) ![0, 512] ![512, 256] inb_S512x1024_S512x256_0_512))
    (View.ld WS (Rect.unit (s := S1024x1024) ![0, 512] ![1024, 256] inb_S1024x1024_S1024x256_0_512))) (View.ld G1 (Rect.unit (s := S512x1024) ![0, 512] ![512, 256] inb_S512x1024_S512x256_0_512))
    (View.ld WB (Rect.unit (s := S512x1024) ![0, 512] ![512, 256] inb_S512x1024_S512x256_0_512)) (View.ld G2 (Rect.unit (s := S512x1024) ![0, 512] ![512, 256] inb_S512x1024_S512x256_0_512))
    (View.ld WP (Rect.unit (s := S512x1024) ![0, 512] ![512, 256] inb_S512x1024_S512x256_0_512))
      = part Y YS YB G0 G1 G2 WS WB WP 512 inb_S512x1024_S512x256_0_512 inb_S1024x1024_S1024x256_0_512 := by
  unfold k0_pay18 k0_pay17 part branch
  simp only [shapeCast_self]
  rfl

theorem whole_eq (x : Vec Ideal S512x1024 .f32) (w : Vec Ideal S1024x1024 .bf16) :
    k0_pay1 Y (part Y YS YB G0 G1 G2 WS WB WP 0 inb_S512x1024_S512x256_0_0 inb_S1024x1024_S1024x256_0_0)
    (part Y YS YB G0 G1 G2 WS WB WP 256 inb_S512x1024_S512x256_0_256 inb_S1024x1024_S1024x256_0_256)
    (part Y YS YB G0 G1 G2 WS WB WP 512 inb_S512x1024_S512x256_0_512 inb_S1024x1024_S1024x256_0_512)
    (k0_pay19 YS YB (View.ld G0 (Rect.unit (s := S512x1024) ![0, 768] ![512, 256] inb_S512x1024_S512x256_0_768))
    (View.ld WS (Rect.unit (s := S1024x1024) ![0, 768] ![1024, 256] inb_S1024x1024_S1024x256_0_768)) (View.ld G1 (Rect.unit (s := S512x1024) ![0, 768] ![512, 256] inb_S512x1024_S512x256_0_768))
    (View.ld WB (Rect.unit (s := S512x1024) ![0, 768] ![512, 256] inb_S512x1024_S512x256_0_768))) (k0_pay20 (View.ld G2 (Rect.unit (s := S512x1024) ![0, 768] ![512, 256] inb_S512x1024_S512x256_0_768)))
    (View.ld WP (Rect.unit (s := S512x1024) ![0, 768] ![512, 256] inb_S512x1024_S512x256_0_768)) x w
      = addf x (matmul (φ₁ := .bf16) (φ₂ := .bf16) dot_S512x1024_S1024x1024_S512x1024_1_0_0_1_n_n none (parts Y YS YB G0 G1 G2 WS WB WP) w
        (constant S512x1024 .f32 0x00000000#32)) := by
  have h : truncf .bf16 (addf (k0_pay19 YS YB (View.ld G0 (Rect.unit (s := S512x1024) ![0, 768] ![512, 256] inb_S512x1024_S512x256_0_768))
      (View.ld WS (Rect.unit (s := S1024x1024) ![0, 768] ![1024, 256] inb_S1024x1024_S1024x256_0_768)) (View.ld G1 (Rect.unit (s := S512x1024) ![0, 768] ![512, 256] inb_S512x1024_S512x256_0_768))
      (View.ld WB (Rect.unit (s := S512x1024) ![0, 768] ![512, 256] inb_S512x1024_S512x256_0_768))) (mulf (k0_pay20 (View.ld G2 (Rect.unit (s := S512x1024) ![0, 768] ![512, 256] inb_S512x1024_S512x256_0_768)))
      (matmul (φ₁ := .bf16) (φ₂ := .bf16) dot_S512x512_S512x256_S512x256_1_0_0_1_n_n none Y (View.ld WP (Rect.unit (s := S512x1024) ![0, 768] ![512, 256] inb_S512x1024_S512x256_0_768)) (constant S512x256 .f32 0x00000000#32)))) bitsLt_bf16_f32
      = part Y YS YB G0 G1 G2 WS WB WP 768 inb_S512x1024_S512x256_0_768 inb_S1024x1024_S1024x256_0_768 := by
    unfold k0_pay20 k0_pay19 part branch
    simp only [shapeCast_self]
    rfl
  unfold k0_pay1 parts
  rw [shapeCast_self, shapeCast_self, ← h]

end Parts

section Written

variable (i : grid0.Coords) (U : Vec Ideal S512x512 .bf16) (H : Vec Ideal S16x512 .bf16) (PW : Vec Ideal S4x128x128 .bf16) (PS : Vec Ideal S1x512 .f32)

theorem group_two : k0_pay7 (loaded i U H 16 0 inb_S528x512_S512x128_16_0) (k0_pay5 (loaded i U H 16 0 inb_S528x512_S512x128_16_0) (loaded i U H 15 0 inb_S528x512_S512x128_15_0)) (k0_pay6 i)
    (View.ld PW (Rect.unit (s := S4x128x128) ![0, 0, 0] ![1, 128, 128] inb_S4x128x128_S1x128x128_0_0_0)) (View.ld PS (Rect.unit (s := S1x512) ![0, 0] ![1, 128] inb_S1x512_S1x128_0_0))
      = group i U H PW PS 0 0 1 (by decide) (by decide) inb_S4x128x128_S1x128x128_0_0_0 inb_S1x512_S1x128_0_0 := by
  unfold k0_pay7 k0_pay6 k0_pay5 group mixed
  simp only [shapeCast_self]
  rfl

theorem group_four : k0_pay8 (k0_pay4 i) (loaded i U H 16 128 inb_S528x512_S512x128_16_128) (loaded i U H 15 128 inb_S528x512_S512x128_15_128) (loaded i U H 14 128 inb_S528x512_S512x128_14_128) (loaded i U H 13 128 inb_S528x512_S512x128_13_128)
    (View.ld PW (Rect.unit (s := S4x128x128) ![1, 0, 0] ![1, 128, 128] inb_S4x128x128_S1x128x128_1_0_0)) (View.ld PS (Rect.unit (s := S1x512) ![0, 128] ![1, 128] inb_S1x512_S1x128_0_128))
      = group i U H PW PS 1 128 3 (by decide) (by decide) inb_S4x128x128_S1x128x128_1_0_0 inb_S1x512_S1x128_0_128 := by
  unfold k0_pay8 group mixed
  simp only [shapeCast_self]
  rfl

theorem group_eight : k0_pay9 (k0_pay4 i) (loaded i U H 16 256 inb_S528x512_S512x128_16_256) (loaded i U H 15 256 inb_S528x512_S512x128_15_256) (loaded i U H 14 256 inb_S528x512_S512x128_14_256) (loaded i U H 13 256 inb_S528x512_S512x128_13_256)
    (loaded i U H 12 256 inb_S528x512_S512x128_12_256) (loaded i U H 11 256 inb_S528x512_S512x128_11_256) (loaded i U H 10 256 inb_S528x512_S512x128_10_256) (loaded i U H 9 256 inb_S528x512_S512x128_9_256)
    (View.ld PW (Rect.unit (s := S4x128x128) ![2, 0, 0] ![1, 128, 128] inb_S4x128x128_S1x128x128_2_0_0)) (View.ld PS (Rect.unit (s := S1x512) ![0, 256] ![1, 128] inb_S1x512_S1x128_0_256))
      = group i U H PW PS 2 256 7 (by decide) (by decide) inb_S4x128x128_S1x128x128_2_0_0 inb_S1x512_S1x128_0_256 := by
  unfold k0_pay9 group mixed
  simp only [shapeCast_self]
  rfl

theorem sums_sixteen : k0_pay10 (loaded i U H 16 384 inb_S528x512_S512x128_16_384) (loaded i U H 15 384 inb_S528x512_S512x128_15_384) (loaded i U H 14 384 inb_S528x512_S512x128_14_384) (loaded i U H 13 384 inb_S528x512_S512x128_13_384)
    (loaded i U H 12 384 inb_S528x512_S512x128_12_384) (loaded i U H 11 384 inb_S528x512_S512x128_11_384) (loaded i U H 10 384 inb_S528x512_S512x128_10_384) (loaded i U H 9 384 inb_S528x512_S512x128_9_384)
    (loaded i U H 8 384 inb_S528x512_S512x128_8_384) (loaded i U H 7 384 inb_S528x512_S512x128_7_384) (loaded i U H 6 384 inb_S528x512_S512x128_6_384) (loaded i U H 5 384 inb_S528x512_S512x128_5_384)
    (loaded i U H 4 384 inb_S528x512_S512x128_4_384) (loaded i U H 3 384 inb_S528x512_S512x128_3_384) (loaded i U H 2 384 inb_S528x512_S512x128_2_384) (loaded i U H 1 384 inb_S528x512_S512x128_1_384)
      = sums i U H 384 (by decide) 15 (by decide) := rfl

theorem pooling_eq : k0_pay12 (k0_pay4 i) (group i U H PW PS 0 0 1 (by decide) (by decide) inb_S4x128x128_S1x128x128_0_0_0 inb_S1x512_S1x128_0_0)
    (group i U H PW PS 1 128 3 (by decide) (by decide) inb_S4x128x128_S1x128x128_1_0_0 inb_S1x512_S1x128_0_128)
    (group i U H PW PS 2 256 7 (by decide) (by decide) inb_S4x128x128_S1x128x128_2_0_0 inb_S1x512_S1x128_0_256)
    (loaded i U H 16 384 inb_S528x512_S512x128_16_384) (sums i U H 384 (by decide) 15 (by decide)) k0_pay11 (View.ld PW (Rect.unit (s := S4x128x128) ![3, 0, 0] ![1, 128, 128] inb_S4x128x128_S1x128x128_3_0_0)) (View.ld PS (Rect.unit (s := S1x512) ![0, 384] ![1, 128] inb_S1x512_S1x128_0_384))
      = pooling i U H PW PS := by
  unfold k0_pay12 k0_pay11 pooling
  rw [shapeCast_self]
  rfl

end Written

variable (m : (ℓ : Loc nD τ sig) → Buf (Elt Ideal) ℓ) (c : Dev nD) (t : Fin cfg0.N)

/-- The pooling branch of block `t`. -/
abbrev pool : FVec Ideal S512x512 .bf16 := pooling (grid0.coords t) (iblk m c 3 t) (iblk m c 4 t) (iblk m c 12 t) (iblk m c 13 t)

theorem block_eq : outsAt0 m c t
    = addf (F := Ideal) (s := S512x1024) (φ := .f32) (iblk m c 0 t) (matmul (φ₁ := .bf16) (φ₂ := .bf16) dot_S512x1024_S1024x1024_S512x1024_1_0_0_1_n_n none
      (parts (pool m c t) (iblk m c 1 t) (iblk m c 2 t) (X0_5 m c t) (X0_6 m c t) (X0_7 m c t) (iblk m c 8 t) (iblk m c 9 t) (iblk m c 10 t))
      (iblk m c 11 t) (constant S512x1024 .f32 0x00000000#32)) := by
  unfold outsAt0
  frame_out
  rw [group_two, group_four, group_eight, sums_sixteen, pooling_eq, part_one, part_two, part_three, whole_eq]

theorem block_apply (r : Fin 512) (j : Fin 1024) (x : Vec Ideal S512x1024 .f32) (w : Vec Ideal S1024x1024 .bf16) (hx : iblk m c 0 t = x) (hw : iblk m c 11 t = w) :
    outsAt0 m c t (ix2 r j)
      = x (ix2 r j) + ∑ d : Fin 1024, mergedAt (pool m c t) (iblk m c 1 t) (iblk m c 2 t) (X0_5 m c t) (X0_6 m c t) (X0_7 m c t)
        (iblk m c 8 t) (iblk m c 9 t) (iblk m c 10 t) r d * w (ix2 d j) := by
  rw [block_eq, hx, hw]
  refine congrArg (x (ix2 r j) + ·) ((product_apply (φ₁ := .bf16) (φ₂ := .bf16) (M := 512) (K := 1024) (N := 1024) none _ _ r j).trans (Finset.sum_congr rfl fun d _ => ?_))
  exact congrArg (· * w (ix2 d j)) (parts_apply _ _ _ _ _ _ _ _ _ r d)

end Cert.Proof.Mrg

end
-- ==== Proof.Mrg.Value.lean ====
/-
  The result of the merge call at the ideal floats, put together from its blocks: the pooling branch of the projected rows, the three
  branches taken through their matrices and gated, and their sum taken through the output matrix and added to the rows.
-/
module

public import proofs.«01_k».proof.Proof.Mrg.Block
public import Idealize.ShloMosaic.Lib.StableHlo

@[expose] public section

noncomputable section

namespace Cert.Proof.Mrg

open Cert.Kernel4Ideal Cert.Kernel4Ideal.Gen
open Idealize.ShloMosaic hiding ix1 ix2 ix3
open Idealize.ShloMosaic.TcCoe Idealize.ShloMosaic.ValueIdx
open Cert.Proof.Rms

section Result

variable (X : FVec Ideal S32768x1024 .f32) (YS : FVec Ideal S32768x1024 .bf16) (YB : FVec Ideal S32768x512 .bf16) (P : FVec Ideal S32768x6656 .bf16)
  (PW : FVec Ideal S4x128x128 .f32) (PS : FVec Ideal S512 .f32) (WS : FVec Ideal S1024x1024 .f32) (WB WP : FVec Ideal S512x1024 .f32)
  (WO : FVec Ideal S1024x1024 .f32)

/-- The pooled column `q` of the row `k` before row `R`, zero before the first row of the sequence. -/
def before (R : Fin 32768) (q k : ℕ) : EReal :=
  if k ≤ R.val % 16384 then P (ix2 (Fin.ofNat 32768 (R.val - k)) (Fin.ofNat 6656 (6144 + q))) else 0

/-- The mean of the last `w` rows of the sequence less the row. -/
def pooled (w : ℕ) (R : Fin 32768) (q : ℕ) : EReal :=
  Ideal.div (∑ k ∈ Finset.range w, before P R q k) (count w (R.val % 16384)) - before P R q 0

/-- The pooling branch: every group of 128 columns has its own window, matrix and scales. -/
def branchPool (R : Fin 32768) (p : ℕ) : EReal :=
  (∑ l : Fin 128, pooled P (2 ^ (p / 128 + 1)) R (p / 128 * 128 + l.val) * PW (ix3 (Fin.ofNat 4 (p / 128)) l (Fin.ofNat 128 (p % 128)))) * PS (ix1 (Fin.ofNat 512 p))

/-- A gate of a row. -/
def gate (off : ℕ) (R : Fin 32768) (d : Fin 1024) : EReal := Ideal.logistic (P (ix2 R (Fin.ofNat 6656 (off + d.val))))

/-- The three gated branches added up. -/
def together (R : Fin 32768) (d : Fin 1024) : EReal :=
  gate P 3072 R d * (∑ k : Fin 1024, YS (ix2 R k) * WS (ix2 k d)) + gate P 4096 R d * (∑ k : Fin 512, YB (ix2 R k) * WB (ix2 k d))
    + gate P 5120 R d * ∑ k : Fin 512, branchPool P PW PS R k.val * WP (ix2 k d)

/-- The result. -/
def merge : FVec Ideal S32768x1024 .f32 := fun y => X y + ∑ d : Fin 1024, together YS YB P PW PS WS WB WP (y 0) d * WO (ix2 d (y 1))

end Result

variable (m : (ℓ : Loc nD τ sig) → Buf (Elt Ideal) ℓ) (c : Dev nD)

/-! ### What the blocks hold -/

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![t.val, 12] := by decide +kernel
theorem index4 : ∀ t : Fin grid0.N, win0_4.index t = ![32 * t.val - 1, 12] := by decide +kernel
theorem index5 : ∀ t : Fin grid0.N, win0_5.index t = ![t.val, 3] := by decide +kernel
theorem index6 : ∀ t : Fin grid0.N, win0_6.index t = ![t.val, 4] := by decide +kernel
theorem index7 : ∀ t : Fin grid0.N, win0_7.index t = ![t.val, 5] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![0, 0] := by decide +kernel
theorem index12 : ∀ t : Fin grid0.N, win0_12.index t = ![0, 0, 0] := by decide +kernel
theorem index13 : ∀ t : Fin grid0.N, win0_13.index t = ![0, 0] := by decide +kernel
theorem index14 : ∀ t : Fin grid0.N, win0_14.index t = ![t.val, 0] := by decide +kernel

theorem coords_eq : ∀ t : Fin grid0.N, (grid0.coords t 0).val = t.val := by decide +kernel

theorem weightsSsd_eq : V m c main_v0 = (m ((c.tc : Thread nD τ).loc main_arg6)) := by
  show StableHlo.after hostOps0 _ _ = _
  after_results
  rfl

theorem weightsSb_eq : V m c main_v1 = (m ((c.tc : Thread nD τ).loc main_arg7)) := by
  show StableHlo.after hostOps0 _ _ = _
  after_results
  rfl

theorem weightsPool_eq : V m c main_v2 = (m ((c.tc : Thread nD τ).loc main_arg8)) := by
  show StableHlo.after hostOps0 _ _ = _
  after_results
  rfl

theorem weightsOut_eq : V m c main_v3 = (m ((c.tc : Thread nD τ).loc main_arg9)) := by
  show StableHlo.after hostOps0 _ _ = _
  after_results
  rfl

theorem matrices_eq : V m c main_v4 = (m ((c.tc : Thread nD τ).loc main_arg4)) := by
  show StableHlo.after hostOps0 _ _ = _
  after_results
  rfl

theorem scales_eq : V m c main_v5 = shapeCast S1x512 (m ((c.tc : Thread nD τ).loc main_arg5)) shapeCasts_S512_S1x512 := by
  show StableHlo.after hostOps0 _ _ = _
  after_results
  rfl

/-- The point's rows, counted from the first. -/
def rowAt (t : Fin cfg0.N) (r : Fin 512) : Fin 32768 := ⟨t.val * 512 + r.val, by have h : t.val < 64 := t.isLt; have := r.isLt; omega⟩

theorem blk0 (t : Fin cfg0.N) (r : Fin 512) (e : Fin 1024) : iblk m c 0 t (ix2 r e) = (m ((c.tc : Thread nD τ).loc main_arg0)) (ix2 (rowAt t r) e) := by
  unfold iblk
  rw [View.read_apply, V_main_arg0]
  refine congrArg (m ((c.tc : Thread nD τ).loc main_arg0)) ?_
  blk_ext [index0 t, rowAt]

theorem blk1 (t : Fin cfg0.N) (r : Fin 512) (e : Fin 1024) : iblk m c 1 t (ix2 r e) = (m ((c.tc : Thread nD τ).loc main_arg1)) (ix2 (rowAt t r) e) := by
  unfold iblk
  rw [View.read_apply, V_main_arg1]
  refine congrArg (m ((c.tc : Thread nD τ).loc main_arg1)) ?_
  blk_ext [index1 t, rowAt]

theorem blk2 (t : Fin cfg0.N) (r : Fin 512) (e : Fin 512) : iblk m c 2 t (ix2 r e) = (m ((c.tc : Thread nD τ).loc main_arg2)) (ix2 (rowAt t r) e) := by
  unfold iblk
  rw [View.read_apply, V_main_arg2]
  refine congrArg (m ((c.tc : Thread nD τ).loc main_arg2)) ?_
  blk_ext [index2 t, rowAt]

/-- The projected rows. -/
abbrev projected : FVec Ideal S32768x6656 .bf16 := (m ((c.tc : Thread nD τ).loc main_arg3))

theorem blk3 (t : Fin cfg0.N) (r q : Fin 512) : iblk m c 3 t (ix2 r q) = projected m c (ix2 (rowAt t r) (Fin.ofNat 6656 (6144 + q.val))) := by
  have hq : (6144 + q.val) % 6656 = 6144 + q.val := Nat.mod_eq_of_lt (by have := q.isLt; omega)
  unfold iblk
  rw [View.read_apply, V_main_arg3]
  refine congrArg (projected m c) ?_
  blk_ext [index3 t, rowAt, Fin.ofNat, hq]

theorem blk4 (t : Fin cfg0.N) (ht : t.val ≠ 0) (r : Fin 16) (q : Fin 512) (R : Fin 32768) (hR : R.val = t.val * 512 + r.val - 16) :
    iblk m c 4 t (ix2 r q) = projected m c (ix2 R (Fin.ofNat 6656 (6144 + q.val))) := by
  have hq : (6144 + q.val) % 6656 = 6144 + q.val := Nat.mod_eq_of_lt (by have := q.isLt; omega)
  unfold iblk
  rw [View.read_apply, V_main_arg3]
  refine congrArg (projected m c) ?_
  blk_ext [index4 t, hR, Fin.ofNat, hq]
  show (32 * t.val - 1) * 16 + r.val = t.val * 512 + r.val - 16
  omega

theorem blk5 (t : Fin cfg0.N) (r : Fin 512) (d : Fin 1024) : X0_5 m c t (ix2 r d) = projected m c (ix2 (rowAt t r) (Fin.ofNat 6656 (3072 + d.val))) := by
  have hd : (3072 + d.val) % 6656 = 3072 + d.val := Nat.mod_eq_of_lt (by have := d.isLt; omega)
  unfold X0_5 Pipeline.Window.fill
  rw [dif_pos (moved0_5 t _)]
  unfold iblk
  rw [View.read_apply, V_main_arg3]
  refine congrArg (projected m c) ?_
  blk_ext [index5 t, rowAt, Fin.ofNat, hd]

theorem blk6 (t : Fin cfg0.N) (r : Fin 512) (d : Fin 1024) : X0_6 m c t (ix2 r d) = projected m c (ix2 (rowAt t r) (Fin.ofNat 6656 (4096 + d.val))) := by
  have hd : (4096 + d.val) % 6656 = 4096 + d.val := Nat.mod_eq_of_lt (by have := d.isLt; omega)
  unfold X0_6 Pipeline.Window.fill
  rw [dif_pos (moved0_6 t _)]
  unfold iblk
  rw [View.read_apply, V_main_arg3]
  refine congrArg (projected m c) ?_
  blk_ext [index6 t, rowAt, Fin.ofNat, hd]

theorem blk7 (t : Fin cfg0.N) (r : Fin 512) (d : Fin 1024) : X0_7 m c t (ix2 r d) = projected m c (ix2 (rowAt t r) (Fin.ofNat 6656 (5120 + d.val))) := by
  have hd : (5120 + d.val) % 6656 = 5120 + d.val := Nat.mod_eq_of_lt (by have := d.isLt; omega)
  unfold X0_7 Pipeline.Window.fill
  rw [dif_pos (moved0_7 t _)]
  unfold iblk
  rw [View.read_apply, V_main_arg3]
  refine congrArg (projected m c) ?_
  blk_ext [index7 t, rowAt, Fin.ofNat, hd]

theorem blk8 (t : Fin cfg0.N) : iblk m c 8 t = (m ((c.tc : Thread nD τ).loc main_arg6)) := by
  funext y
  unfold iblk
  rw [View.read_apply]
  show V m c main_v0 _ = _
  rw [weightsSsd_eq]
  refine congrArg (m ((c.tc : Thread nD τ).loc main_arg6)) ?_
  blk_ext [index8 t]

theorem blk9 (t : Fin cfg0.N) : iblk m c 9 t = (m ((c.tc : Thread nD τ).loc main_arg7)) := by
  funext y
  unfold iblk
  rw [View.read_apply]
  show V m c main_v1 _ = _
  rw [weightsSb_eq]
  refine congrArg (m ((c.tc : Thread nD τ).loc main_arg7)) ?_
  blk_ext [index9 t]

theorem blk10 (t : Fin cfg0.N) : iblk m c 10 t = (m ((c.tc : Thread nD τ).loc main_arg8)) := by
  funext y
  unfold iblk
  rw [View.read_apply]
  show V m c main_v2 _ = _
  rw [weightsPool_eq]
  refine congrArg (m ((c.tc : Thread nD τ).loc main_arg8)) ?_
  blk_ext [index10 t]

theorem blk11 (t : Fin cfg0.N) : iblk m c 11 t = (m ((c.tc : Thread nD τ).loc main_arg9)) := by
  funext y
  unfold iblk
  rw [View.read_apply]
  show V m c main_v3 _ = _
  rw [weightsOut_eq]
  refine congrArg (m ((c.tc : Thread nD τ).loc main_arg9)) ?_
  blk_ext [index11 t]

theorem blk12 (t : Fin cfg0.N) : iblk m c 12 t = (m ((c.tc : Thread nD τ).loc main_arg4)) := by
  funext y
  unfold iblk
  rw [View.read_apply]
  show V m c main_v4 _ = _
  rw [matrices_eq]
  refine congrArg (m ((c.tc : Thread nD τ).loc main_arg4)) ?_
  blk_ext [index12 t]

theorem blk13 (t : Fin cfg0.N) (p : Fin 512) : iblk m c 13 t (ix2 (0 : Fin 1) p) = (m ((c.tc : Thread nD τ).loc main_arg5)) (ix1 p) := by
  unfold iblk
  rw [View.read_apply]
  show V m c main_v5 _ = _
  rw [scales_eq]
  refine (congrArg (shapeCast S1x512 (m ((c.tc : Thread nD τ).loc main_arg5)) shapeCasts_S512_S1x512) (?_ : _ = ix2 (0 : Fin 1) p)).trans ?_
  · blk_ext [index13 t]
  · refine shapeCast_apply _ _ _ _ ?_
    have h1 : (S512.rowMajor (ix1 p)).val = p.val := Shape.rowMajor_val_one _
    have h2 : (S1x512.rowMajor (ix2 (0 : Fin 1) p)).val = 0 * 512 + p.val := Shape.rowMajor_val_two _
    exact h1.trans (by omega)

/-! ### The array -/

theorem earlier_at (t : Fin cfg0.N) (r q : Fin 512) (k : ℕ) (hk : k ≤ 16) :
    earlier (grid0.coords t) (iblk m c 3 t) (iblk m c 4 t) r q k = before (projected m c) (rowAt t r) q.val k := by
  have ht : t.val < 64 := t.isLt
  have hr := r.isLt
  have hR : (rowAt t r).val = t.val * 512 + r.val := rfl
  unfold earlier before
  rw [hR]
  by_cases h : r.val < k
  · rw [if_pos h, before_apply, coords_eq t]
    by_cases h0 : t.val % 32 = 0
    · rw [if_pos h0, if_neg (by omega)]
    · rw [if_neg h0, if_pos (by omega)]
      refine blk4 m c t (by omega) _ q _ ?_
      have e1 : (Fin.ofNat 16 (16 + r.val - k)).val = 16 + r.val - k := Nat.mod_eq_of_lt (by omega)
      have e2 : (Fin.ofNat 32768 (t.val * 512 + r.val - k)).val = t.val * 512 + r.val - k := Nat.mod_eq_of_lt (by omega)
      rw [e1, e2]
      omega
  · rw [if_neg h, if_pos (by omega)]
    refine (blk3 m c t _ q).trans (congrArg (fun R => projected m c (ix2 R (Fin.ofNat 6656 (6144 + q.val)))) (Fin.ext ?_))
    have e1 : (Fin.ofNat 512 (r.val - k)).val = r.val - k := Nat.mod_eq_of_lt (by omega)
    have e2 : (Fin.ofNat 32768 (t.val * 512 + r.val - k)).val = t.val * 512 + r.val - k := Nat.mod_eq_of_lt (by omega)
    show t.val * 512 + (Fin.ofNat 512 (r.val - k)).val = (Fin.ofNat 32768 (t.val * 512 + r.val - k)).val
    rw [e1, e2]
    omega

theorem pool_at (t : Fin cfg0.N) (r p : Fin 512) :
    pool m c t (ix2 r p) = branchPool (projected m c) (m ((c.tc : Thread nD τ).loc main_arg4)) (m ((c.tc : Thread nD τ).loc main_arg5)) (rowAt t r) p.val := by
  have hp := p.isLt
  have ht : t.val < 64 := t.isLt
  have hr := r.isLt
  have hw : 2 ^ (p.val / 128 + 1) ≤ 2 ^ 4 := Nat.pow_le_pow_right (by decide) (by omega)
  have hs : (grid0.coords t 0).val % 32 * 512 + r.val = (rowAt t r).val % 16384 := by
    rw [coords_eq t]
    show _ = (t.val * 512 + r.val) % 16384
    omega
  refine (pooling_apply _ _ _ _ _ r p).trans ?_
  unfold poolAt branchPool pooledAt pooled
  rw [blk13, blk12, hs]
  refine congrArg₂ (· * ·) (Finset.sum_congr rfl fun l _ => congrArg (· * _) ?_) (congrArg (m ((c.tc : Thread nD τ).loc main_arg5)) rfl)
  have hl := l.isLt
  have hq : (Fin.ofNat 512 (p.val / 128 * 128 + l.val)).val = p.val / 128 * 128 + l.val := Nat.mod_eq_of_lt (by omega)
  refine congrArg₂ (· - ·) (congrArg (fun s => Ideal.div s _) (Finset.sum_congr rfl fun k hk => ?_)) ?_
  · have hk' := Finset.mem_range.mp hk
    rw [earlier_at m c t r _ k (by omega), hq]
  · rw [earlier_at m c t r _ 0 (by omega), hq]

theorem block_at (t : Fin cfg0.N) (r : Fin 512) (j : Fin 1024) :
    outsAt0 m c t (ix2 r j) = merge (m ((c.tc : Thread nD τ).loc main_arg0)) (m ((c.tc : Thread nD τ).loc main_arg1)) (m ((c.tc : Thread nD τ).loc main_arg2)) (projected m c) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 (rowAt t r) j) := by
  refine (block_apply m c t r j _ _ rfl (blk11 m c t)).trans ?_
  unfold merge
  refine congrArg₂ (· + ·) (blk0 m c t r j) (Finset.sum_congr rfl fun d _ => congrArg (· * _) ?_)
  unfold mergedAt together gate
  rw [blk5, blk6, blk7, blk8, blk9, blk10]
  refine congrArg₂ (· + ·) (congrArg₂ (· + ·) (congrArg (_ * ·) (Finset.sum_congr rfl fun k _ => ?_)) (congrArg (_ * ·) (Finset.sum_congr rfl fun k _ => ?_)))
    (congrArg (_ * ·) (Finset.sum_congr rfl fun k _ => ?_))
  · exact congrArg (· * _) (blk1 m c t r k)
  · exact congrArg (· * _) (blk2 m c t r k)
  · exact congrArg (· * _) (pool_at m c t r k)

theorem array_eq :
    (dats m 0 c).arrAt 14 cfg0.N = merge (m ((c.tc : Thread nD τ).loc main_arg0)) (m ((c.tc : Thread nD τ).loc main_arg1)) (m ((c.tc : Thread nD τ).loc main_arg2)) (projected m c) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (dats m 0 c).arrAt_eq_of_covers 14 _ (by decide +kernel) fun t hf y => ?_
  blk_simp
  rw [after0_14]
  refine (congrArg (outsAt0 m c t) (ValueIdx.eq_ix2 _)).trans ((block_at m c t _ _).trans (congrArg (merge _ _ _ _ _ _ _ _ _ _) ?_))
  blk_ext [index14 t, rowAt]

end Cert.Proof.Mrg

end
-- ==== Proof.Mrg.Plain.lean ====
/-
  The reference of the merge call, read off at an index: the same function of the arguments as the kernel's. The sums of the last rows are
  products with a matrix of zeros and ones, one for every window.
-/
module

public import proofs.«01_k».proof.Proof.Gen.Reference4Ideal.Read
public import proofs.«01_k».proof.Proof.Mrg.Value

@[expose] public section

noncomputable section

namespace Cert.Proof.Mrg

open Cert.Reference4Ideal Cert.Reference4Ideal.Read
open Idealize.ShloMosaic hiding ix1 ix2 ix3 ix4
open Idealize.ShloMosaic.ValueIdx
open Cert.Proof.Rms

/-! ### Windows as matrices of zeros and ones -/

/-- A difference of two places, read signed. -/
theorem difference_toInt (t s : ℕ) (ht : t < 16384) (hs : s < 16384) : (IntOp.subi (BitVec.ofNat 32 t) (BitVec.ofNat 32 s)).toInt = (t : ℤ) - (s : ℤ) := by
  show (BitVec.ofNat 32 t - BitVec.ofNat 32 s).toInt = _
  rw [BitVec.toInt_sub, BitVec.toInt_ofNat', BitVec.toInt_ofNat']
  simp only [Int.bmod]
  omega

theorem small_toInt (w : ℕ) (hw : w ≤ 16) : (BitVec.ofNat 32 w).toInt = (w : ℤ) := by
  rw [BitVec.toInt_ofNat']
  simp only [Int.bmod]
  omega

/-- The entry of a window's matrix. -/
theorem entry_eq (t s w : ℕ) (ht : t < 16384) (hs : s < 16384) (hw : w ≤ 16) :
    FloatOps.uitofp (F := Ideal) .f32 (IntOp.andi (IntOp.cmpi .sge (IntOp.subi (BitVec.ofNat 32 t) (BitVec.ofNat 32 s)) 0#32)
      (IntOp.cmpi .slt (IntOp.subi (BitVec.ofNat 32 t) (BitVec.ofNat 32 s)) (BitVec.ofNat 32 w))) = (if s ≤ t ∧ t - s < w then 1 else 0 : EReal) := by
  have e1 : IntOp.cmpi .sge (IntOp.subi (BitVec.ofNat 32 t) (BitVec.ofNat 32 s)) 0#32 = BitVec.ofBool (decide (s ≤ t)) := by
    refine congrArg BitVec.ofBool (Bool.eq_iff_iff.mpr ?_)
    show BitVec.sle 0#32 (IntOp.subi (BitVec.ofNat 32 t) (BitVec.ofNat 32 s)) = true ↔ _
    rw [BitVec.sle_iff_toInt_le, difference_toInt t s ht hs, decide_eq_true_iff]
    show (0 : ℤ) ≤ _ ↔ _
    omega
  have e2 : IntOp.cmpi .slt (IntOp.subi (BitVec.ofNat 32 t) (BitVec.ofNat 32 s)) (BitVec.ofNat 32 w) = BitVec.ofBool (decide ((t : ℤ) - (s : ℤ) < (w : ℤ))) := by
    refine congrArg BitVec.ofBool (Bool.eq_iff_iff.mpr ?_)
    show BitVec.slt (IntOp.subi (BitVec.ofNat 32 t) (BitVec.ofNat 32 s)) (BitVec.ofNat 32 w) = true ↔ _
    rw [BitVec.slt_iff_toInt_lt, difference_toInt t s ht hs, small_toInt w hw, decide_eq_true_iff]
  rw [e1, e2]
  by_cases h1 : s ≤ t
  · by_cases h2 : (t : ℤ) - (s : ℤ) < (w : ℤ)
    · rw [if_pos ⟨h1, by omega⟩, decide_eq_true h1, decide_eq_true h2]
      show (((1 : ℕ) : ℝ) : EReal) = 1
      simp
    · rw [if_neg (fun h => h2 (by omega)), decide_eq_true h1, decide_eq_false h2]
      show (((0 : ℕ) : ℝ) : EReal) = 0
      simp
  · rw [if_neg (fun h => h1 h.1), decide_eq_false h1]
    have : ∀ b : Bool, IntOp.andi (BitVec.ofBool false) (BitVec.ofBool b) = 0#1 := by decide
    rw [this]
    show (((0 : ℕ) : ℝ) : EReal) = 0
    simp

/-- The sum of a sequence against a window's row is the sum of its last terms. -/
theorem sum_window (f : Fin 16384 → EReal) (t : Fin 16384) (w : ℕ) :
    (∑ s : Fin 16384, f s * (if s.val ≤ t.val ∧ t.val - s.val < w then 1 else 0 : EReal))
      = ∑ k ∈ Finset.range w, if k ≤ t.val then f (Fin.ofNat 16384 (t.val - k)) else 0 := by
  have ht := t.isLt
  have hv : ∀ k, (Fin.ofNat 16384 (t.val - k)).val = t.val - k := fun k => Nat.mod_eq_of_lt (by omega)
  simp only [mul_ite, mul_one, mul_zero]
  rw [← Finset.sum_filter, ← Finset.sum_filter]
  refine Finset.sum_nbij' (fun s : Fin 16384 => t.val - s.val) (fun k => Fin.ofNat 16384 (t.val - k)) ?_ ?_ ?_ ?_ ?_
  · intro s hs
    have h := (Finset.mem_filter.mp hs).2
    exact Finset.mem_filter.mpr ⟨Finset.mem_range.mpr h.2, Nat.sub_le _ _⟩
  · intro k hk
    have h := Finset.mem_filter.mp hk
    have h1 := Finset.mem_range.mp h.1
    have h2 := h.2
    refine Finset.mem_filter.mpr ⟨Finset.mem_univ _, ?_⟩
    rw [hv]
    omega
  · intro s hs
    have h := (Finset.mem_filter.mp hs).2
    refine Fin.ext ?_
    show (Fin.ofNat 16384 (t.val - (t.val - s.val))).val = s.val
    rw [hv]
    omega
  · intro k hk
    have h := (Finset.mem_filter.mp hk).2
    show t.val - (Fin.ofNat 16384 (t.val - k)).val = k
    rw [hv]
    omega
  · intro s hs
    have h := (Finset.mem_filter.mp hs).2
    refine congrArg f (Fin.ext ?_)
    show s.val = (Fin.ofNat 16384 (t.val - (t.val - s.val))).val
    rw [hv]
    omega

/-! ### The pooling branch -/

/-- The width of a group's window. -/
theorem width_eq (g : Fin 4) : val_main_v14 (F := Ideal) (ix1 g) = BitVec.ofNat 32 (2 ^ (g.val + 1)) := by
  rw [val_main_v14_apply, val_main_v13_apply]
  show IntOp.shli .host 2#32 (BitVec.ofNat 32 g.val) = _
  revert g
  decide

theorem width_le (g : Fin 4) : 2 ^ (g.val + 1) ≤ 16 := by
  revert g
  decide

theorem inside_apply (g : Fin 4) (t s : Fin 16384) :
    val_main_v30 (F := Ideal) (ix3 g t s) = (if s.val ≤ t.val ∧ t.val - s.val < 2 ^ (g.val + 1) then 1 else 0 : EReal) := by
  have hd : val_main_v19 (F := Ideal) (ix2 t s) = IntOp.subi (BitVec.ofNat 32 t.val) (BitVec.ofNat 32 s.val) := by
    rw [val_main_v19_apply, val_main_v17_apply, val_main_v15_apply, val_main_v18_apply, val_main_v16_apply]
    rfl
  have h28 : val_main_v28 (F := Ideal) (ix3 g t s) = IntOp.cmpi .sge (IntOp.subi (BitVec.ofNat 32 t.val) (BitVec.ofNat 32 s.val)) 0#32 := by
    rw [val_main_v28_apply, val_main_v22_apply, val_main_v21_apply, val_main_v20_apply,
      show idx_main_v22 (idx_main_v28 (ix3 g t s)) = ix2 t s from ValueIdx.eq_ix2 _, hd]
    rfl
  have h27 : val_main_v27 (F := Ideal) (ix3 g t s)
      = IntOp.cmpi .slt (IntOp.subi (BitVec.ofNat 32 t.val) (BitVec.ofNat 32 s.val)) (BitVec.ofNat 32 (2 ^ (g.val + 1))) := by
    rw [val_main_v27_apply, val_main_v25_apply, val_main_v23_apply, val_main_v26_apply, val_main_v24_apply,
      show idx_main_v23 (idx_main_v25 (ix3 g t s)) = ix2 t s from ValueIdx.eq_ix2 _,
      show idx_main_v24 (idx_main_v26 (ix3 g t s)) = ix1 g from ValueIdx.eq_ix1 _, hd, width_eq]
  rw [val_main_v30_apply, val_main_v29_apply, h28, h27]
  exact entry_eq t.val s.val _ t.isLt s.isLt (width_le g)

variable (P : FVec Ideal S32768x6656 .bf16)

/-- The row of token `s` of sequence `b`. -/
def tokenRow (b : Fin 2) (s : Fin 16384) : Fin 32768 := ⟨b.val * 16384 + s.val, by have := b.isLt; have := s.isLt; omega⟩

theorem rows_apply (b : Fin 2) (s : Fin 16384) (g : Fin 4) (l : Fin 128) :
    val_main_v10 (F := Ideal) P (ix4 b s g l) = P (ix2 (tokenRow b s) (Fin.ofNat 6656 (6144 + (g.val * 128 + l.val)))) := by
  have hg := g.isLt
  have hl := l.isLt
  have hn : (Fin.ofNat 6656 (6144 + (g.val * 128 + l.val))).val = 6144 + (g.val * 128 + l.val) := Nat.mod_eq_of_lt (by omega)
  rw [val_main_v10_apply, val_main_v9_apply, val_main_v8_apply]
  refine congrArg P (funext fun a => Fin.ext ?_)
  match a with
  | ⟨0, _⟩ =>
    show (((b.val * 16384 + s.val) * 4 + g.val) * 128 + l.val) / 512 = b.val * 16384 + s.val
    omega
  | ⟨1, _⟩ =>
    show 6144 + (((b.val * 16384 + s.val) * 4 + g.val) * 128 + l.val) % 512 = (Fin.ofNat 6656 (6144 + (g.val * 128 + l.val))).val
    rw [hn]
    omega

theorem place_eq (b : Fin 2) (t : Fin 16384) : (tokenRow b t).val % 16384 = t.val := by
  have ht := t.isLt
  show (b.val * 16384 + t.val) % 16384 = t.val
  omega

theorem plain_pooled (b : Fin 2) (t : Fin 16384) (g : Fin 4) (l : Fin 128) :
    val_main_v44 (F := Ideal) P (ix4 b t g l) = pooled P (2 ^ (g.val + 1)) (tokenRow b t) (g.val * 128 + l.val) := by
  have ht := t.isLt
  have hb := b.isLt
  have h10 : val_main_v10 (F := Ideal) P (ix4 b t g l) = before P (tokenRow b t) (g.val * 128 + l.val) 0 := by
    rw [rows_apply]
    unfold before
    rw [if_pos (Nat.zero_le _)]
    exact congrArg (fun R => P (ix2 R _)) (Fin.ext (Nat.mod_eq_of_lt (tokenRow b t).isLt).symm)
  have h40 : val_main_v40 (F := Ideal) P (ix4 b t g l) = ∑ k ∈ Finset.range (2 ^ (g.val + 1)), before P (tokenRow b t) (g.val * 128 + l.val) k := by
    rw [val_main_v40_apply, show idx_main_v40 (ix4 b t g l) = ix4 g b l t from ValueIdx.eq_ix4 _, val_main_v39_apply]
    refine (Finset.sum_congr rfl fun s _ => ?_).trans ((sum_window (fun s => val_main_v10 (F := Ideal) P (ix4 b s g l)) t _).trans (Finset.sum_congr rfl fun k _ => ?_))
    · rw [show lidx_main_v39 (ix4 g b l t) s = ix4 b s g l from ValueIdx.eq_ix4 _, show ridx_main_v39 (ix4 g b l t) s = ix3 g t s from ValueIdx.eq_ix3 _, inside_apply]
    · unfold before
      rw [place_eq]
      by_cases h : k ≤ t.val
      · rw [if_pos h, if_pos h, rows_apply]
        refine congrArg (fun R => P (ix2 R _)) (Fin.ext ?_)
        have e1 : (Fin.ofNat 16384 (t.val - k)).val = t.val - k := Nat.mod_eq_of_lt (by omega)
        have e2 : (Fin.ofNat 32768 ((tokenRow b t).val - k)).val = b.val * 16384 + t.val - k := Nat.mod_eq_of_lt (by show b.val * 16384 + t.val - k < 32768; omega)
        rw [e2]
        show b.val * 16384 + (Fin.ofNat 16384 (t.val - k)).val = _
        rw [e1]
        omega
      · rw [if_neg h, if_neg h]
  have h42 : val_main_v42 (F := Ideal) (ix4 b t g l) = count (2 ^ (g.val + 1)) ((tokenRow b t).val % 16384) := by
    rw [place_eq, val_main_v42_apply, val_main_v41_apply, val_main_v38_apply, val_main_v37_apply, val_main_v35_apply, val_main_v36_apply, val_main_v33_apply,
      val_main_v31_apply, val_main_v34_apply, val_main_v32_apply,
      show idx_main_v34 (idx_main_v36 (idx_main_v41 (idx_main_v42 (ix4 b t g l)))) = ix1 g from ValueIdx.eq_ix1 _, width_eq]
    rfl
  rw [val_main_v44_apply, val_main_v43_apply, h40, h42, h10]
  rfl

variable (PW : FVec Ideal S4x128x128 .f32) (PS : FVec Ideal S512 .f32)

theorem plain_pool (R : Fin 32768) (p : Fin 512) : val_main_v50 (F := Ideal) P PW PS (ix2 R p) = branchPool P PW PS R p.val := by
  have hR := R.isLt
  have hp := p.isLt
  have hg : (Fin.ofNat 4 (p.val / 128)).val = p.val / 128 := Nat.mod_eq_of_lt (by omega)
  have ho : (Fin.ofNat 128 (p.val % 128)).val = p.val % 128 := Nat.mod_eq_of_lt (by omega)
  have hb : (Fin.ofNat 2 (R.val / 16384)).val = R.val / 16384 := Nat.mod_eq_of_lt (by omega)
  have ht : (Fin.ofNat 16384 (R.val % 16384)).val = R.val % 16384 := Nat.mod_eq_of_lt (by omega)
  have hrow : tokenRow (Fin.ofNat 2 (R.val / 16384)) (Fin.ofNat 16384 (R.val % 16384)) = R := Fin.ext (by
    show (Fin.ofNat 2 (R.val / 16384)).val * 16384 + (Fin.ofNat 16384 (R.val % 16384)).val = R.val
    rw [hb, ht]
    omega)
  have hidx : idx_main_v47 (ix2 R p) = ix4 (Fin.ofNat 2 (R.val / 16384)) (Fin.ofNat 16384 (R.val % 16384)) (Fin.ofNat 4 (p.val / 128)) (Fin.ofNat 128 (p.val % 128)) := by
    refine funext fun a => Fin.ext ?_
    match a with
    | ⟨0, _⟩ => show (R.val * 512 + p.val) / 8388608 = (Fin.ofNat 2 (R.val / 16384)).val; rw [hb]; omega
    | ⟨1, _⟩ => show (R.val * 512 + p.val) / 512 % 16384 = (Fin.ofNat 16384 (R.val % 16384)).val; rw [ht]; omega
    | ⟨2, _⟩ => show (R.val * 512 + p.val) / 128 % 4 = (Fin.ofNat 4 (p.val / 128)).val; rw [hg]; omega
    | ⟨3, _⟩ => show (R.val * 512 + p.val) % 128 = (Fin.ofNat 128 (p.val % 128)).val; rw [ho]; omega
  have h47 : val_main_v47 (F := Ideal) P PW (ix2 R p)
      = ∑ l : Fin 128, pooled P (2 ^ (p.val / 128 + 1)) R (p.val / 128 * 128 + l.val) * PW (ix3 (Fin.ofNat 4 (p.val / 128)) l (Fin.ofNat 128 (p.val % 128))) := by
    rw [val_main_v47_apply, hidx, val_main_v46_apply, val_main_v45_apply]
    refine Finset.sum_congr rfl fun l _ => ?_
    generalize hg' : Fin.ofNat 4 (p.val / 128) = g at *
    generalize ho' : Fin.ofNat 128 (p.val % 128) = o at *
    generalize hb' : Fin.ofNat 2 (R.val / 16384) = b at *
    generalize ht' : Fin.ofNat 16384 (R.val % 16384) = t at *
    rw [show lidx_main_v45 (idx_main_v46 (ix4 b t g o)) l = ix3 g l o from ValueIdx.eq_ix3 _,
      show ridx_main_v45 (idx_main_v46 (ix4 b t g o)) l = ix4 b t g l from ValueIdx.eq_ix4 _, plain_pooled, hrow, hg]
    exact mul_comm _ _
  have h49 : val_main_v49 (F := Ideal) PS (ix2 R p) = PS (ix1 (Fin.ofNat 512 p.val)) := by
    rw [val_main_v49_apply, val_main_v48_apply]
    refine congrArg PS ?_
    rw [show Fin.ofNat 512 p.val = p from Fin.ext (Nat.mod_eq_of_lt hp)]
    exact ValueIdx.eq_ix1 _
  rw [val_main_v50_apply, h47, h49]
  rfl

/-! ### The gates and the result -/

theorem plain_gate (R : Fin 32768) (d : Fin 1024) (off : ℕ) (k : Fin 3072) (hk : 3072 + k.val = off + d.val) :
    val_main_v7 (F := Ideal) P (ix2 R k) = gate P off R d := by
  have hk' := k.isLt
  have e : idx_main_v0 (ix2 R k) = ix2 R (Fin.ofNat 6656 (off + d.val)) := by
    have hn : (Fin.ofNat 6656 (off + d.val)).val = off + d.val := Nat.mod_eq_of_lt (by omega)
    refine funext fun a => Fin.ext ?_
    match a with
    | ⟨0, _⟩ => rfl
    | ⟨1, _⟩ => show 3072 + k.val = (Fin.ofNat 6656 (off + d.val)).val; rw [hn]; exact hk
  show Ideal.div (Ideal.ofBits .f32 0x3F800000#32) (Ideal.ofBits .f32 0x3F800000#32 + Ideal.exp (-val_main_v0 (F := Ideal) P (ix2 R k))) = _
  rw [Ideal.ofBits_one_f32, val_main_v0_apply, e]
  rfl

variable (X : FVec Ideal S32768x1024 .f32) (YS : FVec Ideal S32768x1024 .bf16) (YB : FVec Ideal S32768x512 .bf16)
  (WS : FVec Ideal S1024x1024 .f32) (WB WP : FVec Ideal S512x1024 .f32) (WO : FVec Ideal S1024x1024 .f32)

theorem plain_together (R : Fin 32768) (d : Fin 1024) :
    val_main_v63 (F := Ideal) YS YB P PW PS WS WB WP (ix2 R d) = together YS YB P PW PS WS WB WP R d := by
  have hd := d.isLt
  have g0 : val_main_v51 (F := Ideal) P (ix2 R d) = gate P 3072 R d := by
    rw [val_main_v51_apply, show idx_main_v51 (ix2 R d) = ix2 R (⟨d.val, by omega⟩ : Fin 3072) from ValueIdx.eq_ix2 _]
    exact plain_gate P R d 3072 _ rfl
  have g1 : val_main_v55 (F := Ideal) P (ix2 R d) = gate P 4096 R d := by
    rw [val_main_v55_apply, show idx_main_v55 (ix2 R d) = ix2 R (⟨1024 + d.val, by omega⟩ : Fin 3072) from ValueIdx.eq_ix2 _]
    exact plain_gate P R d 4096 _ (by show 3072 + (1024 + d.val) = 4096 + d.val; omega)
  have g2 : val_main_v60 (F := Ideal) P (ix2 R d) = gate P 5120 R d := by
    rw [val_main_v60_apply, show idx_main_v60 (ix2 R d) = ix2 R (⟨2048 + d.val, by omega⟩ : Fin 3072) from ValueIdx.eq_ix2 _]
    exact plain_gate P R d 5120 _ (by show 3072 + (2048 + d.val) = 5120 + d.val; omega)
  have p0 : val_main_v53 (F := Ideal) YS WS (ix2 R d) = ∑ k : Fin 1024, YS (ix2 R k) * WS (ix2 k d) := by
    rw [val_main_v53_apply]
    refine Finset.sum_congr rfl fun k _ => ?_
    rw [show lidx_main_v53 (ix2 R d) k = ix2 R k from ValueIdx.eq_ix2 _, show ridx_main_v53 (ix2 R d) k = ix2 k d from ValueIdx.eq_ix2 _]
    rfl
  have p1 : val_main_v57 (F := Ideal) YB WB (ix2 R d) = ∑ k : Fin 512, YB (ix2 R k) * WB (ix2 k d) := by
    rw [val_main_v57_apply]
    refine Finset.sum_congr rfl fun k _ => ?_
    rw [show lidx_main_v57 (ix2 R d) k = ix2 R k from ValueIdx.eq_ix2 _, show ridx_main_v57 (ix2 R d) k = ix2 k d from ValueIdx.eq_ix2 _]
    rfl
  have p2 : val_main_v61 (F := Ideal) P PW PS WP (ix2 R d) = ∑ k : Fin 512, branchPool P PW PS R k.val * WP (ix2 k d) := by
    rw [val_main_v61_apply]
    refine Finset.sum_congr rfl fun k _ => ?_
    rw [show lidx_main_v61 (ix2 R d) k = ix2 R k from ValueIdx.eq_ix2 _, show ridx_main_v61 (ix2 R d) k = ix2 k d from ValueIdx.eq_ix2 _, plain_pool]
  rw [val_main_v63_apply, val_main_v59_apply, val_main_v54_apply, val_main_v58_apply, val_main_v62_apply, g0, g1, g2, p0, p1, p2]
  rfl

theorem plain_eq : val_main_v65 (F := Ideal) X YS YB P PW PS WS WB WP WO = merge X YS YB P PW PS WS WB WP WO := by
  funext y
  obtain ⟨R, j, rfl⟩ : ∃ (R : Fin 32768) (j : Fin 1024), y = ix2 R j := ⟨y 0, y 1, ValueIdx.eq_ix2 y⟩
  rw [val_main_v65_apply, val_main_v64_apply]
  exact congrArg₂ (· + ·) rfl (Finset.sum_congr rfl fun d _ => by
    rw [show lidx_main_v64 (ix2 R j) d = ix2 R d from ValueIdx.eq_ix2 _, show ridx_main_v64 (ix2 R j) d = ix2 d j from ValueIdx.eq_ix2 _, plain_together])

end Cert.Proof.Mrg

end
-- ==== Proof.Ffn.Block.lean ====
/-
  What the dense feed-forward kernel leaves in a block of its result at the ideal floats: the block of rows it read, plus,
  entry by entry, the sum over all 2816 hidden units of the unit's value times its weight towards the entry.
-/
module

public import proofs.«01_k».proof.Proof.Gen.Kernel3Ideal.Value
public import proofs.«01_k».proof.Proof.Rms
public import Idealize.ShloMosaic.Lib.Pipeline.ValueKit

@[expose] public section

noncomputable section

namespace Cert.Proof.Ffn

open Cert.Kernel3Ideal Cert.Kernel3Ideal.Gen
open Idealize.ShloMosaic hiding ix2
open Idealize.ShloMosaic.TcCoe Idealize.ShloMosaic.ValueIdx
open Cert.Proof.Rms

/-- A hidden unit of a row: `s · sigmoid s · u`, of the row's products with the unit's two columns. -/
def unit {n : ℕ} (h : Fin n → EReal) (gate up : Fin n → EReal) : EReal :=
  (∑ e, h e * gate e) * Ideal.logistic (∑ e, h e * gate e) * ∑ e, h e * up e

/-- One chunk of 256 hidden units added to what is there already. -/
def chunk (xb : FVec Ideal S512x1024 .bf16) (wg wu : FVec Ideal S1024x256 .bf16) (acc : Vec Ideal S512x1024 .f32) (wd : FVec Ideal S256x1024 .bf16) :
    FVec Ideal S512x1024 .f32 :=
  have g : FVec Ideal S512x256 .f32 := matmul dot_S512x1024_S1024x256_S512x256_1_0_0_1_n_n none xb wg (constant S512x256 .f32 0x00000000#32)
  have u : FVec Ideal S512x256 .f32 := matmul dot_S512x1024_S1024x256_S512x256_1_0_0_1_n_n none xb wu (constant S512x256 .f32 0x00000000#32)
  addf acc (matmul dot_S512x256_S256x1024_S512x1024_1_0_0_1_n_n none (truncf .bf16 (mulf (mulf g (logistic g)) u) bitsLt_bf16_f32) wd
    (constant S512x1024 .f32 0x00000000#32))

theorem chunk_apply (xb : FVec Ideal S512x1024 .bf16) (wg wu : FVec Ideal S1024x256 .bf16) (acc : Vec Ideal S512x1024 .f32)
    (wd : FVec Ideal S256x1024 .bf16) (r : Fin 512) (j : Fin 1024) :
    chunk xb wg wu acc wd (ix2 r j)
      = acc (ix2 r j) + ∑ s : Fin 256, unit (fun e : Fin 1024 => xb (ix2 r e)) (fun e => wg (ix2 e s)) (fun e => wu (ix2 e s)) * wd (ix2 s j) := by
  have hg := fun s => product_apply (M := 512) (K := 1024) (N := 256) none xb wg r s
  have hu := fun s => product_apply (M := 512) (K := 1024) (N := 256) none xb wu r s
  refine congrArg (acc (ix2 r j) + ·) ((product_apply (M := 512) (K := 256) (N := 1024) none _ wd r j).trans ?_)
  refine Finset.sum_congr rfl fun s _ => congrArg (· * wd (ix2 s j)) ?_
  unfold unit
  rw [← hg s, ← hu s]
  rfl

/-- The rows the products are of. -/
abbrev rows (x : Vec Ideal S512x1024 .f32) (g : Vec Ideal S1x1024 .f32) : FVec Ideal S512x1024 .bf16 := k0_pay2 x g

theorem rows_apply (x : Vec Ideal S512x1024 .f32) (g : Vec Ideal S1x1024 .f32) (r : Fin 512) (e : Fin 1024) :
    rows x g (ix2 r e) = x (ix2 r e) * factor (Ideal.ofBits .f32 0x44800000#32) (fun k : Fin 1024 => x (ix2 r k)) * g (ix2 (0 : Fin 1) e) := by
  unfold rows k0_pay2
  rw [shapeCast_self]
  refine congrArg₂ (· * ·) (rms_apply 512 1024 0x44800000#32 x reduces_S512x1024_S512 shapeCasts_S512_S512x1 broadcasts_S512x1_S512x1024 r e)
    (broadcastTo_1b_ab_apply g broadcasts_S1x1024_S512x1024 r e)

section Sum

variable (x : Vec Ideal S512x1024 .f32) (h : FVec Ideal S512x1024 .bf16) (wg wu : Vec Ideal S1024x2816 .bf16) (wd : Vec Ideal S2816x1024 .bf16)

/-- The term of hidden unit `k`. -/
def term (r : Fin 512) (j : Fin 1024) (k : Fin 2816) : EReal :=
  unit (fun e : Fin 1024 => h (ix2 r e)) (fun e => wg (ix2 e k)) (fun e => wu (ix2 e k)) * wd (ix2 k j)

/-- The result after the first `n` hidden units. -/
def upTo (n : ℕ) : Vec Ideal S512x1024 .f32 := fun y => x y + ∑ k ∈ Finset.range n, term h wg wu wd (y 0) (y 1) (Fin.ofNat 2816 k)

theorem upTo_zero : upTo x h wg wu wd 0 = x := funext fun y => by
  unfold upTo; rw [Finset.range_zero, Finset.sum_empty, add_zero]

theorem upTo_all (r : Fin 512) (j : Fin 1024) : upTo x h wg wu wd 2816 (ix2 r j) = x (ix2 r j) + ∑ k, term h wg wu wd r j k := by
  unfold upTo
  rw [Finset.sum_range]
  refine congrArg (x (ix2 r j) + ·) (Finset.sum_congr rfl fun k _ => congrArg (term h wg wu wd r j) (Fin.ext ?_))
  exact Nat.mod_eq_of_lt k.isLt

/-- A chunk takes the result 256 units further. -/
theorem chunk_upTo (n : ℕ) (hn : n + 256 ≤ 2816) (inb : ∀ a : Fin 2, (![0, n] : Fin 2 → ℕ) a + (![1024, 256] : Fin 2 → ℕ) a ≤ S1024x2816.size a)
    (inb' : ∀ a : Fin 2, (![n, 0] : Fin 2 → ℕ) a + (![256, 1024] : Fin 2 → ℕ) a ≤ S2816x1024.size a) :
    chunk h (View.ld wg (Rect.unit (s := S1024x2816) ![0, n] ![1024, 256] inb)) (View.ld wu (Rect.unit (s := S1024x2816) ![0, n] ![1024, 256] inb))
      (upTo x h wg wu wd n) (View.ld wd (Rect.unit (s := S2816x1024) ![n, 0] ![256, 1024] inb')) = upTo x h wg wu wd (n + 256) := by
  funext y
  obtain ⟨r, j, rfl⟩ : ∃ (r : Fin 512) (j : Fin 1024), y = ix2 r j := ⟨y 0, y 1, ValueIdx.eq_ix2 y⟩
  rw [chunk_apply]
  unfold upTo
  rw [Finset.sum_range_add, ← add_assoc, Finset.sum_range (n := 256)]
  refine congrArg₂ (· + ·) rfl (Finset.sum_congr rfl fun s _ => ?_)
  have hs := s.isLt
  have hm : (n + s.val) % 2816 = n + s.val := Nat.mod_eq_of_lt (by omega)
  have col : ∀ (w : Vec Ideal S1024x2816 .bf16) (e : Fin 1024),
      View.ld w (Rect.unit (s := S1024x2816) ![0, n] ![1024, 256] inb) (ix2 e s) = w (ix2 e (Fin.ofNat 2816 (n + s.val))) := fun w e =>
    View.ld_unit_apply_of (S := S1024x2816) w _ _ inb _ _ fun a => match a with
      | ⟨0, _⟩ => by show e.val = 0 + e.val; omega
      | ⟨1, _⟩ => by show (n + s.val) % 2816 = n + s.val; exact hm
  have row : View.ld wd (Rect.unit (s := S2816x1024) ![n, 0] ![256, 1024] inb') (ix2 s j) = wd (ix2 (Fin.ofNat 2816 (n + s.val)) j) :=
    View.ld_unit_apply_of (S := S2816x1024) wd _ _ inb' _ _ fun a => match a with
      | ⟨0, _⟩ => by show (n + s.val) % 2816 = n + s.val; exact hm
      | ⟨1, _⟩ => by show j.val = 0 + j.val; omega
  unfold term
  refine congrArg₂ (· * ·) ?_ row
  exact congrArg₂ (unit _) (funext fun e => col wg e) (funext fun e => col wu e)

end Sum

/-- The block the body leaves: eleven chunks, one after the other. -/
theorem left_eq (c : Dev nD) (i : grid0.Coords) (arg1 : Memref sig .tc .vmem S512x1024 .f32) (harg1 : arg1.IsWhole)
    (arg2 : Memref sig .tc .vmem S1x1024 .f32) (harg2 : arg2.IsWhole) (arg3 : Memref sig .tc .vmem S1024x2816 .bf16) (harg3 : arg3.IsWhole)
    (arg4 : Memref sig .tc .vmem S1024x2816 .bf16) (harg4 : arg4.IsWhole) (arg5 : Memref sig .tc .vmem S2816x1024 .bf16) (harg5 : arg5.IsWhole)
    (arg6 : Memref sig .tc .vmem S512x1024 .f32) (harg6 : arg6.IsWhole) (x : Vec Ideal S512x1024 .f32) (g : Vec Ideal S1x1024 .f32)
    (wg wu : Vec Ideal S1024x2816 .bf16) (wd : Vec Ideal S2816x1024 .bf16) :
    out0_A_5 c i arg1 harg1 arg2 harg2 arg3 harg3 arg4 harg4 arg5 harg5 arg6 harg6 x g wg wu wd = upTo x (rows x g) wg wu wd 2816 := by
  frame_out
  have step := fun n => chunk_upTo x (rows x g) wg wu wd n
  rw [← step 2560 (by omega) inb_S1024x2816_S1024x256_0_2560 inb_S2816x1024_S256x1024_2560_0,
    ← step 2304 (by omega) inb_S1024x2816_S1024x256_0_2304 inb_S2816x1024_S256x1024_2304_0,
    ← step 2048 (by omega) inb_S1024x2816_S1024x256_0_2048 inb_S2816x1024_S256x1024_2048_0,
    ← step 1792 (by omega) inb_S1024x2816_S1024x256_0_1792 inb_S2816x1024_S256x1024_1792_0,
    ← step 1536 (by omega) inb_S1024x2816_S1024x256_0_1536 inb_S2816x1024_S256x1024_1536_0,
    ← step 1280 (by omega) inb_S1024x2816_S1024x256_0_1280 inb_S2816x1024_S256x1024_1280_0,
    ← step 1024 (by omega) inb_S1024x2816_S1024x256_0_1024 inb_S2816x1024_S256x1024_1024_0,
    ← step 768 (by omega) inb_S1024x2816_S1024x256_0_768 inb_S2816x1024_S256x1024_768_0,
    ← step 512 (by omega) inb_S1024x2816_S1024x256_0_512 inb_S2816x1024_S256x1024_512_0,
    ← step 256 (by omega) inb_S1024x2816_S1024x256_0_256 inb_S2816x1024_S256x1024_256_0,
    ← step 0 (by omega) inb_S1024x2816_S1024x256_0_0 inb_S2816x1024_S256x1024_0_0, upTo_zero]
  unfold k0_pay1 k0_pay3 k0_pay4 k0_pay5 k0_pay6 k0_pay7 k0_pay8 k0_pay9 k0_pay10 k0_pay11 k0_pay12 k0_pay13 k0_pay14 k0_pay15 k0_pay16 k0_pay17
    k0_pay18 k0_pay19 chunk rows
  simp only [shapeCast_self]

end Cert.Proof.Ffn

end
-- ==== Proof.Exp.Block.lean ====
/-
  What the experts' kernel leaves in a block of its result at the ideal floats: entry by entry, the sum over all 1792 hidden
  units of the block's expert of the unit's value times its weight towards the entry; zeros where no block is in use.
-/
module

public import proofs.«01_k».proof.Proof.Gen.Kernel5Ideal.Frame
public import proofs.«01_k».proof.Proof.Ffn.Block

@[expose] public section

noncomputable section

namespace Cert.Proof.Exp

open Cert.Kernel5Ideal Cert.Kernel5Ideal.Gen
open Idealize.ShloMosaic hiding ix2 ix3
open Idealize.ShloMosaic.TcCoe Idealize.ShloMosaic.ValueIdx
open Cert.Proof.Ffn (unit)

/-- One chunk of 256 hidden units of the expert added to what is there already. -/
def chunk (xb : FVec Ideal S512x1024 .bf16) (wg wu : Vec Ideal S1x1024x256 .bf16) (acc : Vec Ideal S512x1024 .f32) (wd : Vec Ideal S1x256x1024 .bf16) :
    FVec Ideal S512x1024 .f32 :=
  have g' : FVec Ideal S1024x256 .bf16 := shapeCast S1024x256 wg shapeCasts_S1x1024x256_S1024x256
  have u' : FVec Ideal S1024x256 .bf16 := shapeCast S1024x256 wu shapeCasts_S1x1024x256_S1024x256
  have d' : FVec Ideal S256x1024 .bf16 := shapeCast S256x1024 wd shapeCasts_S1x256x1024_S256x1024
  have g : FVec Ideal S512x256 .f32 := matmul dot_S512x1024_S1024x256_S512x256_1_0_0_1_n_n none xb g' (constant S512x256 .f32 0x00000000#32)
  have u : FVec Ideal S512x256 .f32 := matmul dot_S512x1024_S1024x256_S512x256_1_0_0_1_n_n none xb u' (constant S512x256 .f32 0x00000000#32)
  addf acc (matmul dot_S512x256_S256x1024_S512x1024_1_0_0_1_n_n none (truncf .bf16 (mulf (mulf g (logistic g)) u) bitsLt_bf16_f32) d'
    (constant S512x1024 .f32 0x00000000#32))

theorem chunk_apply (xb : FVec Ideal S512x1024 .bf16) (wg wu : Vec Ideal S1x1024x256 .bf16) (acc : Vec Ideal S512x1024 .f32)
    (wd : Vec Ideal S1x256x1024 .bf16) (r : Fin 512) (j : Fin 1024) :
    chunk xb wg wu acc wd (ix2 r j)
      = acc (ix2 r j) + ∑ s : Fin 256, unit (fun e : Fin 1024 => xb (ix2 r e)) (fun e => wg (ix3 (0 : Fin 1) e s)) (fun e => wu (ix3 (0 : Fin 1) e s))
          * wd (ix3 (0 : Fin 1) s j) := by
  have col : ∀ (w : Vec Ideal S1x1024x256 .bf16) (s : Fin 256),
      (fun e : Fin 1024 => shapeCast S1024x256 w shapeCasts_S1x1024x256_S1024x256 (ix2 e s)) = fun e => w (ix3 (0 : Fin 1) e s) := fun w s =>
    funext fun e => shapeCast_1ab_ab_apply w _ e s
  refine (Ffn.chunk_apply xb (shapeCast S1024x256 wg shapeCasts_S1x1024x256_S1024x256) (shapeCast S1024x256 wu shapeCasts_S1x1024x256_S1024x256) acc
    (shapeCast S256x1024 wd shapeCasts_S1x256x1024_S256x1024) r j).trans ?_
  refine congrArg (acc (ix2 r j) + ·) (Finset.sum_congr rfl fun s _ => congrArg₂ (· * ·) (congrArg₂ (unit _) (col wg s) (col wu s)) ?_)
  exact shapeCast_1ab_ab_apply wd _ s j

section Sum

variable (x : FVec Ideal S512x1024 .bf16) (wg wu : Vec Ideal S1x1024x1792 .bf16) (wd : Vec Ideal S1x1792x1024 .bf16)

/-- The term of hidden unit `k`. -/
def term (r : Fin 512) (j : Fin 1024) (k : Fin 1792) : EReal :=
  unit (fun e : Fin 1024 => x (ix2 r e)) (fun e => wg (ix3 (0 : Fin 1) e k)) (fun e => wu (ix3 (0 : Fin 1) e k)) * wd (ix3 (0 : Fin 1) k j)

/-- The result after the first `n` hidden units. -/
def upTo (n : ℕ) : Vec Ideal S512x1024 .f32 := fun y => ∑ k ∈ Finset.range n, term x wg wu wd (y 0) (y 1) (Fin.ofNat 1792 k)

theorem zeros_apply (y : S512x1024.Idx) : k0_pay1 (F := Ideal) y = (0 : EReal) := Ideal.ofBits_zero .f32

theorem upTo_zero : upTo x wg wu wd 0 = (k0_pay1 (F := Ideal)) := funext fun y => (Finset.sum_range_zero _).trans (zeros_apply y).symm

theorem upTo_all (r : Fin 512) (j : Fin 1024) : upTo x wg wu wd 1792 (ix2 r j) = ∑ k, term x wg wu wd r j k := by
  unfold upTo
  rw [Finset.sum_range]
  refine Finset.sum_congr rfl fun k _ => congrArg (term x wg wu wd r j) (Fin.ext ?_)
  exact Nat.mod_eq_of_lt k.isLt

/-- A chunk takes the result 256 units further. -/
theorem chunk_upTo (n : ℕ) (hn : n + 256 ≤ 1792) (inb : ∀ a : Fin 3, (![0, 0, n] : Fin 3 → ℕ) a + (![1, 1024, 256] : Fin 3 → ℕ) a ≤ S1x1024x1792.size a)
    (inb' : ∀ a : Fin 3, (![0, n, 0] : Fin 3 → ℕ) a + (![1, 256, 1024] : Fin 3 → ℕ) a ≤ S1x1792x1024.size a) :
    chunk x (View.ld wg (Rect.unit (s := S1x1024x1792) ![0, 0, n] ![1, 1024, 256] inb)) (View.ld wu (Rect.unit (s := S1x1024x1792) ![0, 0, n] ![1, 1024, 256] inb))
      (upTo x wg wu wd n) (View.ld wd (Rect.unit (s := S1x1792x1024) ![0, n, 0] ![1, 256, 1024] inb')) = upTo x wg wu wd (n + 256) := by
  funext y
  obtain ⟨r, j, rfl⟩ : ∃ (r : Fin 512) (j : Fin 1024), y = ix2 r j := ⟨y 0, y 1, ValueIdx.eq_ix2 y⟩
  rw [chunk_apply]
  unfold upTo
  rw [Finset.sum_range_add, Finset.sum_range (n := 256)]
  refine congrArg₂ (· + ·) rfl (Finset.sum_congr rfl fun s _ => ?_)
  have hs := s.isLt
  have hm : (n + s.val) % 1792 = n + s.val := Nat.mod_eq_of_lt (by omega)
  have col : ∀ (w : Vec Ideal S1x1024x1792 .bf16) (e : Fin 1024),
      View.ld w (Rect.unit (s := S1x1024x1792) ![0, 0, n] ![1, 1024, 256] inb) (ix3 (0 : Fin 1) e s) = w (ix3 (0 : Fin 1) e (Fin.ofNat 1792 (n + s.val))) := fun w e =>
    View.ld_unit_apply_of (S := S1x1024x1792) w _ _ inb _ _ fun a => match a with
      | ⟨0, _⟩ => rfl
      | ⟨1, _⟩ => by show e.val = 0 + e.val; omega
      | ⟨2, _⟩ => by show (n + s.val) % 1792 = n + s.val; exact hm
  have row : View.ld wd (Rect.unit (s := S1x1792x1024) ![0, n, 0] ![1, 256, 1024] inb') (ix3 (0 : Fin 1) s j) = wd (ix3 (0 : Fin 1) (Fin.ofNat 1792 (n + s.val)) j) :=
    View.ld_unit_apply_of (S := S1x1792x1024) wd _ _ inb' _ _ fun a => match a with
      | ⟨0, _⟩ => rfl
      | ⟨1, _⟩ => by show (n + s.val) % 1792 = n + s.val; exact hm
      | ⟨2, _⟩ => by show j.val = 0 + j.val; omega
  unfold term
  refine congrArg₂ (· * ·) ?_ row
  exact congrArg₂ (unit _) (funext fun e => col wg e) (funext fun e => col wu e)

end Sum

section Left

variable (c : Dev nD) (i : grid0.Coords) (arg3 : Memref sig .tc .vmem S512x1024 .f32) (harg3 : arg3.IsWhole)
  (arg4 : Memref sig .tc .vmem S1x1024x1792 .bf16) (harg4 : arg4.IsWhole) (arg5 : Memref sig .tc .vmem S1x1024x1792 .bf16) (harg5 : arg5.IsWhole)
  (arg6 : Memref sig .tc .vmem S1x1792x1024 .bf16) (harg6 : arg6.IsWhole) (arg7 : Memref sig .tc .vmem S512x1024 .f32) (harg7 : arg7.IsWhole)
  (x : Vec Ideal S512x1024 .f32) (wg wu : Vec Ideal S1x1024x1792 .bf16) (wd : Vec Ideal S1x1792x1024 .bf16)
  (xt0 : TbBuf0 (F := Ideal) c tbM0_0) (xt1 : TbBuf0 (F := Ideal) c tbM0_1)

/-- The block the body leaves where a block is in use: zeros, then seven chunks, one after the other. -/
theorem left_used (hc) :
    out0_A_4 c i arg3 harg3 arg4 harg4 arg5 harg5 arg6 harg6 arg7 harg7 x wg wu wd xt0 xt1 hc = upTo (k0_pay2 x) wg wu wd 1792 := by
  frame_out
  have step := fun n => chunk_upTo (k0_pay2 x) wg wu wd n
  rw [← step 1536 (by omega) inb_S1x1024x1792_S1x1024x256_0_0_1536 inb_S1x1792x1024_S1x256x1024_0_1536_0,
    ← step 1280 (by omega) inb_S1x1024x1792_S1x1024x256_0_0_1280 inb_S1x1792x1024_S1x256x1024_0_1280_0,
    ← step 1024 (by omega) inb_S1x1024x1792_S1x1024x256_0_0_1024 inb_S1x1792x1024_S1x256x1024_0_1024_0,
    ← step 768 (by omega) inb_S1x1024x1792_S1x1024x256_0_0_768 inb_S1x1792x1024_S1x256x1024_0_768_0,
    ← step 512 (by omega) inb_S1x1024x1792_S1x1024x256_0_0_512 inb_S1x1792x1024_S1x256x1024_0_512_0,
    ← step 256 (by omega) inb_S1x1024x1792_S1x1024x256_0_0_256 inb_S1x1792x1024_S1x256x1024_0_256_0,
    ← step 0 (by omega) inb_S1x1024x1792_S1x1024x256_0_0_0 inb_S1x1792x1024_S1x256x1024_0_0_0, upTo_zero]
  unfold k0_pay3 k0_pay4 k0_pay5 k0_pay6 k0_pay7 k0_pay8 k0_pay9 k0_pay10 k0_pay11 k0_pay12 k0_pay13 k0_pay14 chunk
  simp only [shapeCast_self]

/-- The block the body leaves where none is: zeros. -/
theorem left_unused (hc) : out0_B_4 c i arg3 harg3 arg4 harg4 arg5 harg5 arg6 harg6 arg7 harg7 x wg wu wd xt0 xt1 hc = k0_pay1 (F := Ideal) := by
  frame_out

end Left

end Cert.Proof.Exp

end
-- ==== Proof.Exp.Pre.lean ====
/-
  What the precondition says of the two tables of the experts' call, and that every block the call places by them lies inside
  its array: an expert is one of eight, and with a block in use the last block in use has an index from 0 up.
-/
module

public import proofs.«01_k».proof.Defs
public import proofs.«01_k».proof.Proof.Gen.Kernel5.Frame
public import proofs.«01_k».proof.Proof.Gen.Kernel5Ideal.Frame
public import proofs.«01_k».proof.Proof.Gen.Pre_routed
public import Idealize.ShloMosaic.Lib.ReduceAll

@[expose] public section

noncomputable section

namespace Cert.Proof.Exp

open Idealize.ShloMosaic Idealize.SL.Sem

/-- The tables' words: every block's expert is one of eight, and a block is in use. -/
def Routed (b : IVec ⟨1, ![136]⟩ 32) (n : IVec ⟨1, ![1]⟩ 32) : Prop :=
  (∀ y, 0 ≤ (b y).toInt ∧ (b y).toInt < 8) ∧ ∀ y, 0 < (n y).toInt

theorem routed_of_fn {F : FTy → Type} [FloatOps F] (x : FVec F Cert.Pre_routed.S69632x1024 .f32) (b : IVec Cert.Pre_routed.S136 32) (n : IVec Cert.Pre_routed.S1 32)
    (g u : FVec F Cert.Pre_routed.S8x1024x1792 .f32) (d : FVec F Cert.Pre_routed.S8x1792x1024 .f32)
    (h : Cert.Pre_routed.fn x b n g u d = fun _ => 1#1) : Routed b n := by
  haveI : Subsingleton Cert.Pre_routed.S_.Idx := ⟨fun p q => funext fun a => a.elim0⟩
  obtain ⟨h1, h2⟩ := IntOp.andi_eq_one.1 (congrFun h fun a : Fin 0 => a.elim0)
  obtain ⟨h3, h4⟩ := IntOp.andi_eq_one.1 h1
  refine ⟨fun y => ⟨?_, ?_⟩, fun y => ?_⟩
  · exact IntOp.cmpi_sge.1 (Host.reduce_andi_all _ _ _ _ _ h3 y)
  · exact IntOp.cmpi_slt.1 (Host.reduce_andi_all _ _ _ _ _ h4 y)
  · exact IntOp.cmpi_sgt.1 (Host.reduce_andi_all _ _ _ _ _ h2 y)

/-- The block of rows of a point: its own, or the last in use. -/
theorem rows_inside (n : BitVec 32) (hn : 0 < n.toInt) (i : ℕ) (hi : i < 136) : ∀ a : Fin 2,
    ((![(Scalar.minsi (BitVec.ofNat 32 i) (Scalar.subi n 1#32)).toNat, (0#32 : BitVec 32).toNat] : Fin 2 → ℕ) a + 1) * (![512, 1024] : Fin 2 → ℕ) a
      ≤ (![69632, 1024] : Fin 2 → ℕ) a := by
  have hr := Affine.word_range n
  refine Affine.blk_cons (e := min (i : ℤ) (n.toInt - 1)) (Affine.minsi (Affine.ofNat i ⟨rfl, by omega⟩)
    (Affine.subi (Affine.word n) (Affine.ofNat 1 ⟨rfl, by omega⟩) ⟨rfl, by omega, by omega⟩) rfl) ⟨by omega, by omega⟩ ?_
  exact Affine.blk_cons (Affine.ofNat 0 ⟨rfl, by omega⟩) ⟨by omega, by omega⟩ Affine.blk_nil

/-- The weights of the expert of a block. -/
theorem expert_inside (b : BitVec 32) (h0 : 0 ≤ b.toInt) (h8 : b.toInt < 8) (p q : ℕ) : ∀ a : Fin 3,
    ((![b.toNat, (0#32 : BitVec 32).toNat, (0#32 : BitVec 32).toNat] : Fin 3 → ℕ) a + 1) * (![1, p, q] : Fin 3 → ℕ) a ≤ (![8, p, q] : Fin 3 → ℕ) a := by
  refine Affine.blk_cons (Affine.word b) ⟨by omega, h0⟩ ?_
  exact Affine.blk_cons (Affine.ofNat 0 ⟨rfl, by omega⟩) ⟨by omega, by omega⟩ (Affine.blk_cons (Affine.ofNat 0 ⟨rfl, by omega⟩) ⟨by omega, by omega⟩ Affine.blk_nil)

theorem ok_kernel (m : (ℓ : Loc Cert.Kernel5.nD Cert.Kernel5.τ Cert.Kernel5.sig) → Buf (Elt Bits) ℓ) (h : Cert.Pre_Kernel5 m) : Cert.Kernel5.Gen.Ok m := by
  obtain ⟨hb, hn⟩ := routed_of_fn _ _ _ _ _ _ (h 0)
  have b0 : ∀ y, 0 ≤ BitVec.toInt (Cert.Kernel5.Gen.V m 0 Cert.Kernel5.main_arg1 y) ∧ BitVec.toInt (Cert.Kernel5.Gen.V m 0 Cert.Kernel5.main_arg1 y) < 8 := by
    rw [Cert.Kernel5.Gen.V_main_arg1]; exact hb
  have n0 : ∀ y, 0 < BitVec.toInt (Cert.Kernel5.Gen.V m 0 Cert.Kernel5.main_arg2 y) := by
    rw [Cert.Kernel5.Gen.V_main_arg2]; exact hn
  refine ⟨fun i => ⟨rows_inside _ (n0 _) _ (i 0).isLt, .inl rfl⟩, fun i => ⟨expert_inside _ (b0 _).1 (b0 _).2 1024 1792, ?_⟩,
    fun i => ⟨expert_inside _ (b0 _).1 (b0 _).2 1024 1792, ?_⟩, fun i => ⟨expert_inside _ (b0 _).1 (b0 _).2 1792 1024, ?_⟩⟩
  all_goals exact .inr (Affine.block_words_dvd (of_decide_eq_true rfl) (by decide))

theorem ok_ideal (m : (ℓ : Loc Cert.Kernel5Ideal.nD Cert.Kernel5Ideal.τ Cert.Kernel5Ideal.sig) → Buf (Elt Ideal) ℓ) (h : Cert.Pre_Kernel5Ideal m) :
    Cert.Kernel5Ideal.Gen.Ok m := by
  obtain ⟨hb, hn⟩ := routed_of_fn _ _ _ _ _ _ (h 0)
  have b0 : ∀ y, 0 ≤ BitVec.toInt (Cert.Kernel5Ideal.Gen.V m 0 Cert.Kernel5Ideal.main_arg1 y) ∧ BitVec.toInt (Cert.Kernel5Ideal.Gen.V m 0 Cert.Kernel5Ideal.main_arg1 y) < 8 := by
    rw [Cert.Kernel5Ideal.Gen.V_main_arg1]; exact hb
  have n0 : ∀ y, 0 < BitVec.toInt (Cert.Kernel5Ideal.Gen.V m 0 Cert.Kernel5Ideal.main_arg2 y) := by
    rw [Cert.Kernel5Ideal.Gen.V_main_arg2]; exact hn
  refine ⟨fun i => ⟨rows_inside _ (n0 _) _ (i 0).isLt, .inl rfl⟩, fun i => ⟨expert_inside _ (b0 _).1 (b0 _).2 1024 1792, ?_⟩,
    fun i => ⟨expert_inside _ (b0 _).1 (b0 _).2 1024 1792, ?_⟩, fun i => ⟨expert_inside _ (b0 _).1 (b0 _).2 1792 1024, ?_⟩⟩
  all_goals exact .inr (Affine.block_words_dvd (of_decide_eq_true rfl) (by decide))

end Cert.Proof.Exp

end
-- ==== Proof.Exp.Value.lean ====
/-
  The result of the experts' kernel at the ideal floats, put together from its blocks: a row of a block in use is the gated sum
  over the hidden units of the block's expert; a row of any other block is zero.
-/
module

public import proofs.«01_k».proof.Proof.Exp.Block
public import proofs.«01_k».proof.Proof.Exp.Pre
public import Idealize.ShloMosaic.Lib.StableHlo

@[expose] public section

noncomputable section

namespace Cert.Proof.Exp

open Cert.Kernel5Ideal Cert.Kernel5Ideal.Gen
open Idealize.ShloMosaic hiding ix1 ix2 ix3
open Idealize.ShloMosaic.TcCoe Idealize.ShloMosaic.ValueIdx Idealize.SL.Sem
open Cert.Proof.Ffn (unit)

/-- The block a row is in. -/
def blockOf (r : Fin 69632) : Fin 136 := ⟨r.val / 512, by have := r.isLt; omega⟩

/-- The expert of a block. -/
def expertOf (b : IVec S136 32) (t : Fin 136) : Fin 8 := Fin.ofNat 8 (b (ix1 t)).toNat

/-- The result. -/
def experts (X : FVec Ideal S69632x1024 .f32) (b : IVec S136 32) (n : IVec S1 32) (Wg Wu : FVec Ideal S8x1024x1792 .f32)
    (Wd : FVec Ideal S8x1792x1024 .f32) : FVec Ideal S69632x1024 .f32 := fun y =>
  if ((blockOf (y 0)).val : ℤ) < (n (ix1 (0 : Fin 1))).toInt then
    ∑ k : Fin 1792, unit (fun e : Fin 1024 => X (ix2 (y 0) e)) (fun e => Wg (ix3 (expertOf b (blockOf (y 0))) e k))
      (fun e => Wu (ix3 (expertOf b (blockOf (y 0))) e k)) * Wd (ix3 (expertOf b (blockOf (y 0))) k (y 1))
  else (0 : EReal)

variable (m : (ℓ : Loc nD τ sig) → Buf (Elt Ideal) ℓ) (hO : Ok m) (c : Dev nD)

abbrev rowsIn : FVec Ideal S69632x1024 .f32 := m ((c.tc : Thread nD τ).loc main_arg0)
abbrev expertIn : IVec S136 32 := m ((c.tc : Thread nD τ).loc main_arg1)
abbrev usedIn : IVec S1 32 := m ((c.tc : Thread nD τ).loc main_arg2)
abbrev gateIn : FVec Ideal S8x1024x1792 .f32 := m ((c.tc : Thread nD τ).loc main_arg3)
abbrev upIn : FVec Ideal S8x1024x1792 .f32 := m ((c.tc : Thread nD τ).loc main_arg4)
abbrev downIn : FVec Ideal S8x1792x1024 .f32 := m ((c.tc : Thread nD τ).loc main_arg5)

/-! ### What the blocks hold -/

theorem gate_eq : V m c main_v0 = gateIn m c := by
  show StableHlo.after hostOps0 _ _ = _
  after_results
  rfl

theorem up_eq : V m c main_v1 = upIn m c := by
  show StableHlo.after hostOps0 _ _ = _
  after_results
  rfl

theorem down_eq : V m c main_v2 = downIn m c := by
  show StableHlo.after hostOps0 _ _ = _
  after_results
  rfl

theorem coord_eq : ∀ t : Fin grid0.N, (grid0.coords t 0).val = t.val := by decide +kernel

/-- The point's rows, counted from the first. -/
def rowAt (t : Fin (cfgM m hO).N) (r : Fin 512) : Fin 69632 := ⟨t.val * 512 + r.val, by have h : t.val < 136 := t.isLt; have := r.isLt; omega⟩

/-- The tables' words as the launch memory holds them. -/
theorem used_word (x : S1.Idx) : tbl m 1 x = usedIn m c (ix1 (0 : Fin 1)) := by
  obtain rfl : c = 0 := Subsingleton.elim _ _
  show V m 0 main_arg2 x = _
  rw [V_main_arg2]
  refine congrArg (usedIn m 0) ((ValueIdx.eq_ix1 x).trans (congrArg ix1 ?_))
  exact Subsingleton.elim (α := Fin 1) _ _

theorem expert_word (x : S136.Idx) : tbl m 0 x = expertIn m c x := by
  obtain rfl : c = 0 := Subsingleton.elim _ _
  show V m 0 main_arg1 x = _
  rw [V_main_arg1]

/-- The body's guard: the point's block is in use. -/
theorem used_iff (t : Fin (cfgM m hO).N) :
    cond0_0 (grid0.coords t) (tbM0_1.view.readAt (Elt Ideal) (Rect.unit (s := S1) ![0] S1.size inb_S1_S1_0).toLoadRect (tbl m 1)
      (Shape.Idx.first (numel1_S1.symm ▸ Nat.one_pos))) ↔ (t.val : ℤ) < (usedIn m c (ix1 (0 : Fin 1))).toInt := by
  have e := used_word m c
  have ht : t.val < 136 := t.isLt
  have hc := coord_eq t
  have hi : (BitVec.ofNat 32 (grid0.coords t 0).val).toInt = t.val := by
    rw [hc, BitVec.toInt_ofNat']
    exact Int.bmod_eq_of_le (by omega) (by omega)
  unfold cond0_0
  refine (Scalar.guard_iff _).trans (IntOp.cmpi_slt.trans ?_)
  rw [hi]
  show _ < BitVec.toInt (tbl m 1 _) ↔ _
  rw [e]

theorem toNat_of_toInt (w : BitVec 32) (k : ℕ) (h : w.toInt = k) : w.toNat = k := by
  have := BitVec.toInt_eq_toNat_cond w
  have := w.isLt
  split at * <;> omega

/-! ### Where the blocks lie -/

/-- The block of rows of a point in use is the point's own. -/
theorem index0 (t : Fin (cfgM m hO).N) (hu : (t.val : ℤ) < (usedIn m c (ix1 (0 : Fin 1))).toInt) :
    (pcfg0.win (adm m hO) 0).index t = ![t.val, 0] := by
  have ht : t.val < 136 := t.isLt
  refine (congrArg (fun w : BitVec 32 => (![(Scalar.minsi (BitVec.ofNat 32 (grid0.coords t 0).val) (Scalar.subi w 1#32)).toNat,
    (0#32 : BitVec 32).toNat] : Fin 2 → ℕ)) (used_word m c _)).trans ?_
  beta_reduce
  rw [coord_eq t]
  have hr := Affine.word_range (usedIn m c (ix1 (0 : Fin 1)))
  have h := Affine.minsi (Affine.ofNat t.val ⟨rfl, by omega⟩) (Affine.subi (Affine.word (usedIn m c (ix1 (0 : Fin 1)))) (Affine.ofNat 1 ⟨rfl, by omega⟩) ⟨rfl, by omega, by omega⟩)
    (e := (t.val : ℤ)) (by omega)
  unfold Affine.IsInt at h
  rw [toNat_of_toInt _ _ h]
  rfl

variable (hb : ∀ y, 0 ≤ (expertIn m c y).toInt ∧ (expertIn m c y).toInt < 8)
include hb

theorem expert_at (t : Fin 136) (x : S136.Idx) (hx : (x 0).val = t.val) : BitVec.toNat (tbl m 0 x) = (expertOf (expertIn m c) t).val := by
  obtain ⟨h0, h8⟩ := hb x
  have := BitVec.toInt_eq_toNat_cond (expertIn m c x)
  have e : x = ix1 t := (ValueIdx.eq_ix1 x).trans (congrArg ix1 (Fin.ext hx))
  rw [expert_word m c]
  show _ = (expertIn m c (ix1 t)).toNat % 8
  rw [← e]
  have := (expertIn m c x).isLt
  split at * <;> omega

omit hb in
/-- The word a point reads of the table of experts is its block's. -/
theorem place_eq (t : Fin (cfgM m hO).N) (j : S1.Idx) :
    ((Rect.unit (s := S136) (k0_off1 (grid0.coords t)) S1.size (k0_off1_inb (grid0.coords t))).emb j 0).val = t.val := by
  have ht : t.val < 136 := t.isLt
  have hj : (j 0).val = 0 := Nat.lt_one_iff.1 (j 0).isLt
  show (BitVec.ofNat 32 (grid0.coords t 0).val).toNat + 1 * (j 0).val = t.val
  rw [hj, coord_eq t, BitVec.toNat_ofNat]
  omega

/-- The weights of a point are its expert's. -/
theorem index1 (t : Fin (cfgM m hO).N) : (pcfg0.win (adm m hO) 1).index t = ![(expertOf (expertIn m c) t).val, 0, 0] :=
  congrArg (fun w : ℕ => (![w, 0, 0] : Fin 3 → ℕ)) (expert_at m c hb t _ (place_eq m hO t _))

theorem index2 (t : Fin (cfgM m hO).N) : (pcfg0.win (adm m hO) 2).index t = ![(expertOf (expertIn m c) t).val, 0, 0] :=
  congrArg (fun w : ℕ => (![w, 0, 0] : Fin 3 → ℕ)) (expert_at m c hb t _ (place_eq m hO t _))

theorem index3 (t : Fin (cfgM m hO).N) : (pcfg0.win (adm m hO) 3).index t = ![(expertOf (expertIn m c) t).val, 0, 0] :=
  congrArg (fun w : ℕ => (![w, 0, 0] : Fin 3 → ℕ)) (expert_at m c hb t _ (place_eq m hO t _))

/-! ### What the blocks hold -/

omit hb in
theorem blk0 (t : Fin (cfgM m hO).N) (hu : (t.val : ℤ) < (usedIn m c (ix1 (0 : Fin 1))).toInt) (r : Fin 512) (e : Fin 1024) :
    iblk m hO c 0 t (ix2 r e) = rowsIn m c (ix2 (rowAt m hO t r) e) := by
  have h := index0 m hO c t hu
  have h0 : (pcfg0.win (adm m hO) 0).index t 0 = t.val := congrFun h 0
  have h1 : (pcfg0.win (adm m hO) 0).index t 1 = 0 := congrFun h 1
  unfold iblk
  refine (View.read_apply _ _).trans ?_
  show V m c main_arg0 _ = _
  rw [V_main_arg0]
  refine congrArg (rowsIn m c) ?_
  blk_ext [rowAt]
  · exact congrArg (· * 512 + r.val) h0
  · exact (congrArg (· * 1024 + e.val) h1).trans (by show 0 * 1024 + e.val = e.val; omega)

theorem blk1 (t : Fin (cfgM m hO).N) (e : Fin 1024) (k : Fin 1792) :
    iblk m hO c 1 t (ix3 (0 : Fin 1) e k) = gateIn m c (ix3 (expertOf (expertIn m c) t) e k) := by
  have h := index1 m hO c hb t
  unfold iblk
  refine (View.read_apply _ _).trans ?_
  show V m c main_v0 _ = _
  rw [gate_eq]
  refine congrArg (gateIn m c) ?_
  blk_ext []
  · exact congrFun h 0
  · exact (congrArg (· * 1024 + e.val) (congrFun h 1)).trans (by show 0 * 1024 + e.val = e.val; omega)
  · exact (congrArg (· * 1792 + k.val) (congrFun h 2)).trans (by show 0 * 1792 + k.val = k.val; omega)

theorem blk2 (t : Fin (cfgM m hO).N) (e : Fin 1024) (k : Fin 1792) :
    iblk m hO c 2 t (ix3 (0 : Fin 1) e k) = upIn m c (ix3 (expertOf (expertIn m c) t) e k) := by
  have h := index2 m hO c hb t
  unfold iblk
  refine (View.read_apply _ _).trans ?_
  show V m c main_v1 _ = _
  rw [up_eq]
  refine congrArg (upIn m c) ?_
  blk_ext []
  · exact congrFun h 0
  · exact (congrArg (· * 1024 + e.val) (congrFun h 1)).trans (by show 0 * 1024 + e.val = e.val; omega)
  · exact (congrArg (· * 1792 + k.val) (congrFun h 2)).trans (by show 0 * 1792 + k.val = k.val; omega)

theorem blk3 (t : Fin (cfgM m hO).N) (k : Fin 1792) (j : Fin 1024) :
    iblk m hO c 3 t (ix3 (0 : Fin 1) k j) = downIn m c (ix3 (expertOf (expertIn m c) t) k j) := by
  have h := index3 m hO c hb t
  unfold iblk
  refine (View.read_apply _ _).trans ?_
  show V m c main_v2 _ = _
  rw [down_eq]
  refine congrArg (downIn m c) ?_
  blk_ext []
  · exact congrFun h 0
  · exact (congrArg (· * 1792 + k.val) (congrFun h 1)).trans (by show 0 * 1792 + k.val = k.val; omega)
  · exact (congrArg (· * 1024 + j.val) (congrFun h 2)).trans (by show 0 * 1024 + j.val = j.val; omega)

/-! ### The array -/

omit hb in
theorem block_of (t : Fin (cfgM m hO).N) (r : Fin 512) : blockOf (rowAt m hO t r) = t := by
  have := r.isLt
  refine Fin.ext ?_
  show (t.val * 512 + r.val) / 512 = t.val
  omega

theorem block_apply (t : Fin (cfgM m hO).N) (r : Fin 512) (j : Fin 1024) :
    outsAt0 m hO c t (ix2 r j)
      = experts (rowsIn m c) (expertIn m c) (usedIn m c) (gateIn m c) (upIn m c) (downIn m c) (ix2 (rowAt m hO t r) j) := by
  have hblock := block_of m hO t r
  show _ = ite (((blockOf (rowAt m hO t r)).val : ℤ) < _) _ _
  rw [hblock]
  by_cases hu : (t.val : ℤ) < (usedIn m c (ix1 (0 : Fin 1))).toInt
  · rw [if_pos hu]
    refine (congrFun (outsAt0_A m hO c t ((used_iff m hO c t).2 hu)) (ix2 r j)).trans ?_
    refine (congrFun (left_used c (grid0.coords t) (ms0_0 m hO t) _ (ms0_1 m hO t) _ (ms0_2 m hO t) _ (ms0_3 m hO t) _ (ms0_4 m hO t) _
      (iblk m hO c 0 t) (iblk m hO c 1 t) (iblk m hO c 2 t) (iblk m hO c 3 t) (tbl m 0) (tbl m 1) _) (ix2 r j)).trans ?_
    refine (upTo_all _ _ _ _ r j).trans ?_
    refine Finset.sum_congr rfl fun k _ => ?_
    unfold term
    refine congrArg₂ (· * ·) ?_ (blk3 m hO c hb t k j)
    have hx : (fun e : Fin 1024 => k0_pay2 (iblk m hO c 0 t) (ix2 r e)) = fun e => rowsIn m c (ix2 (rowAt m hO t r) e) :=
      funext fun e => blk0 m hO c t hu r e
    have hg : (fun e : Fin 1024 => iblk m hO c 1 t (ix3 (0 : Fin 1) e k)) = fun e => gateIn m c (ix3 (expertOf (expertIn m c) t) e k) :=
      funext fun e => blk1 m hO c hb t e k
    have hw : (fun e : Fin 1024 => iblk m hO c 2 t (ix3 (0 : Fin 1) e k)) = fun e => upIn m c (ix3 (expertOf (expertIn m c) t) e k) :=
      funext fun e => blk2 m hO c hb t e k
    exact congrArg₂ (fun f => f) (congrArg₂ unit hx hg) hw
  · rw [if_neg hu]
    refine (congrFun (outsAt0_B m hO c t (fun h => hu ((used_iff m hO c t).1 h))) (ix2 r j)).trans ?_
    refine (congrFun (left_unused c (grid0.coords t) (ms0_0 m hO t) _ (ms0_1 m hO t) _ (ms0_2 m hO t) _ (ms0_3 m hO t) _ (ms0_4 m hO t) _
      (iblk m hO c 0 t) (iblk m hO c 1 t) (iblk m hO c 2 t) (iblk m hO c 3 t) (tbl m 0) (tbl m 1) _) (ix2 r j)).trans ?_
    exact zeros_apply _

omit hb in
/-- Where the result's blocks lie: each point's is its own. -/
theorem index4 (t : Fin (cfgM m hO).N) : (pcfg0.win (adm m hO) 4).index t = ![t.val, 0] := by
  have ht : t.val < 136 := t.isLt
  show (![(BitVec.ofNat 32 (grid0.coords t 0).val).toNat, (0#32 : BitVec 32).toNat] : Fin 2 → ℕ) = _
  rw [coord_eq t, BitVec.toNat_ofNat, Nat.mod_eq_of_lt (by omega)]
  rfl

omit hb in
/-- The result's blocks cover it. -/
theorem covered : ((cfgM m hO).win 4).Covers := by
  refine ⟨fun a => match a with | ⟨0, _⟩ => (by decide : 0 < 512) | ⟨1, _⟩ => (by decide : 0 < 1024), fun β => ?_⟩
  have h0 : (β (0 : Fin 2)).val < 136 := (β (0 : Fin 2)).isLt.trans_eq (show (69632 + 512 - 1) / 512 = 136 by norm_num)
  have h1 : (β (1 : Fin 2)).val < 1 := (β (1 : Fin 2)).isLt.trans_eq (show (1024 + 1024 - 1) / 1024 = 1 by norm_num)
  refine ⟨⟨(β (0 : Fin 2)).val, h0⟩, flush0_4 (adm m hO) _, fun a => ?_⟩
  refine ⟨(congrFun (index4 m hO ⟨(β (0 : Fin 2)).val, h0⟩) a).trans ?_, Or.inl rfl⟩
  match a with
  | ⟨0, _⟩ => rfl
  | ⟨1, _⟩ => exact (Nat.lt_one_iff.1 h1).symm

theorem array_eq : (dats m hO 0 c).arrAt 4 (cfgM m hO).N = experts (rowsIn m c) (expertIn m c) (usedIn m c) (gateIn m c) (upIn m c) (downIn m c) := by
  refine (dats m hO 0 c).arrAt_eq_of_covers 4 _ (covered m hO) fun t hf y => ?_
  have h0 : (pcfg0.win (adm m hO) 4).index t 0 = t.val := congrFun (index4 m hO t) 0
  have h1 : (pcfg0.win (adm m hO) 4).index t 1 = 0 := congrFun (index4 m hO t) 1
  blk_simp
  refine (congrFun (after0_4 m hO c t) _).trans ?_
  refine (congrArg (outsAt0 m hO c t) (ValueIdx.eq_ix2 _)).trans ((block_apply m hO c hb t _ _).trans (congrArg (experts _ _ _ _ _ _) ?_))
  blk_ext [rowAt]
  · exact congrArg (· * 512 + (y (0 : Fin 2)).val) h0.symm
  · exact (show (y (1 : Fin 2)).val = 0 * 1024 + (y (1 : Fin 2)).val by omega).trans (congrArg (· * 1024 + (y (1 : Fin 2)).val) h1.symm)

/-! ### The run -/

omit hb in
/-- Under the precondition the call ends with the result in place and its arguments unchanged. -/
theorem ends (g : Dev nD → PrngReg) (h : Cert.Pre_Kernel5Ideal m) :
    θ_run (defs (F := Ideal)) (onTc (τ := τ) (main (F := Ideal))) ⟨m, fun _ => 0, g⟩ (fun r => ∀ c : Dev nD,
      r.2.mem ((c.tc : Thread nD τ).loc main_v3) = experts (rowsIn m c) (expertIn m c) (usedIn m c) (gateIn m c) (upIn m c) (downIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have hO := ok_ideal m h
  have hr := θ_run_and (run_main m g hO) (unchanged m g hO)
  refine (θ_run defs _ _).mono (fun r hr c => ⟨?_, hr.2 c⟩) hr
  exact ((hr.1 c).1 4).trans (array_eq m hO c (routed_of_fn _ _ _ _ _ _ (h c)).1)

end Cert.Proof.Exp

end
-- ==== Proof.Exp.Plain.lean ====
/-
  The reference of the experts' call, read off at an index: the same function of the arguments as the kernel's.
-/
module

public import proofs.«01_k».proof.Proof.Gen.Reference5Ideal.Read
public import proofs.«01_k».proof.Proof.Exp.Value

@[expose] public section

noncomputable section

namespace Cert.Proof.Exp

open Cert.Reference5Ideal Cert.Reference5Ideal.Gen Cert.Reference5Ideal.Read
open Idealize.ShloMosaic hiding ix1 ix2 ix3
open Idealize.ShloMosaic.ValueIdx
open Cert.Proof.Ffn (unit)

/-! ### Taking a whole matrix of a stack -/

/-- The dimensions of a gather of whole matrices out of a stack of eight. -/
abbrev wholeDims (p q : ℕ) (wf : GatherDims.WF ⟨3, ![8, p, q]⟩ ⟨2, ![136, 1]⟩ ⟨3, ![136, p, q]⟩ [1, 2] [0] [] [0] [] 1 ![1, p, q]) :
    GatherDims ⟨3, ![8, p, q]⟩ ⟨2, ![136, 1]⟩ ⟨3, ![136, p, q]⟩ where
  offsetDims := [1, 2]
  collapsedSliceDims := [0]
  operandBatchingDims := []
  startIndicesBatchingDims := []
  startIndexMap := [0]
  indexVectorDim := 1
  sliceSizes := ![1, p, q]
  wf := wf

/-- Where the index names a matrix of the stack, the gather takes that one. -/
theorem gather_whole {α : Type} {p q : ℕ}
    (wf : GatherDims.WF ⟨3, ![8, p, q]⟩ ⟨2, ![136, 1]⟩ ⟨3, ![136, p, q]⟩ [1, 2] [0] [] [0] [] 1 ![1, p, q])
    (x : (⟨3, ![8, p, q]⟩ : Shape).Idx → α) (idx : IVec ⟨2, ![136, 1]⟩ 32) (t : Fin 136) (i : Fin p) (j : Fin q) (e : Fin 8)
    (he : (idx (ix2 t (0 : Fin 1))).toInt = e.val) :
    Host.gather (wholeDims p q wf) x idx (ix3 t i j) = x (ix3 e i j) := by
  unfold Host.gather
  refine congrArg x (funext fun a => Fin.ext ?_)
  show (wholeDims p q wf).start (ix3 t i j) idx a + (wholeDims p q wf).batchCoord (ix3 t i j) a + (wholeDims p q wf).offCoord (ix3 t i j) a = _
  rw [GatherDims.batchCoord_eq_zero _ _ _ (fun h => List.not_mem_nil h), Nat.add_zero]
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (wholeDims p q wf).startIndexMap from List.mem_singleton.mpr rfl)]
    have hsi : (wholeDims p q wf).siIdx (ix3 t i j) ⟨List.idxOf (0 : Fin 3) (wholeDims p q wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    have h8 := e.isLt
    show min (idx ((wholeDims p q wf).siIdx (ix3 t i j) ⟨List.idxOf (0 : Fin 3) (wholeDims p q wf).startIndexMap,
        List.idxOf_lt_length_iff.2 (List.mem_singleton.mpr rfl)⟩)).toInt.toNat (8 - 1) = e.val
    rw [hsi, he]
    omega
  · unfold GatherDims.start
    rw [dif_neg (show ¬ (1 : Fin 3) ∈ (wholeDims p q wf).startIndexMap from fun h => absurd (List.mem_singleton.mp h) (by decide : ¬ (1 : Fin 3) = 0)), Nat.zero_add]
    unfold GatherDims.offCoord
    rw [dif_pos (show (1 : Fin 3) ∈ (wholeDims p q wf).sKept from (GatherDims.mem_sKept _ _).mpr ⟨fun h => absurd (List.mem_singleton.mp h) (by decide : ¬ (1 : Fin 3) = 0), List.not_mem_nil⟩)]
    rfl
  · unfold GatherDims.start
    rw [dif_neg (show ¬ (2 : Fin 3) ∈ (wholeDims p q wf).startIndexMap from fun h => absurd (List.mem_singleton.mp h) (by decide : ¬ (2 : Fin 3) = 0)), Nat.zero_add]
    unfold GatherDims.offCoord
    rw [dif_pos (show (2 : Fin 3) ∈ (wholeDims p q wf).sKept from (GatherDims.mem_sKept _ _).mpr ⟨fun h => absurd (List.mem_singleton.mp h) (by decide : ¬ (2 : Fin 3) = 0), List.not_mem_nil⟩)]
    rfl

/-! ### The reference -/

variable (X : FVec Ideal S69632x1024 .f32) (b : IVec S136 32) (n : IVec S1 32) (Wg Wu : FVec Ideal S8x1024x1792 .f32)
  (Wd : FVec Ideal S8x1792x1024 .f32)
variable (hb : ∀ y, 0 ≤ (b y).toInt ∧ (b y).toInt < 8)
include hb

/-- A block's index into the stacks, which is not negative and so is not counted from their end. -/
theorem plain_index (t : Fin 136) : (val_main_v6 (F := Ideal) b (ix2 t (0 : Fin 1))).toInt = (expertOf b t).val := by
  rw [val_main_v6_apply, show idx_main_v6 (ix2 t (0 : Fin 1)) = ix1 t from ValueIdx.eq_ix1 _, val_main_v5_apply, val_main_v2_apply, val_main_v1_apply]
  obtain ⟨h0, h8⟩ := hb (ix1 t)
  have hn : IntOp.cmpi .slt (b (ix1 t)) (0#32) = 0#1 := by
    refine congrArg BitVec.ofBool (decide_eq_false ?_)
    show ¬ (b (ix1 t)).toInt < 0
    omega
  show (Scalar.select (IntOp.cmpi .slt (b (ix1 t)) (0#32)) _ (b (ix1 t))).toInt = _
  rw [hn]
  show (b (ix1 t)).toInt = (((b (ix1 t)).toNat % 8 : ℕ) : ℤ)
  have := BitVec.toInt_eq_toNat_cond (b (ix1 t))
  have := (b (ix1 t)).isLt
  split at * <;> omega

theorem plain_gate (t : Fin 136) (e : Fin 1024) (k : Fin 1792) : val_main_v7 (F := Ideal) b Wg (ix3 t e k) = Wg (ix3 (expertOf b t) e k) :=
  gather_whole _ Wg _ t e k _ (plain_index b hb t)

theorem plain_up (t : Fin 136) (e : Fin 1024) (k : Fin 1792) : val_main_v16 (F := Ideal) b Wu (ix3 t e k) = Wu (ix3 (expertOf b t) e k) :=
  gather_whole _ Wu _ t e k _ (plain_index b hb t)

theorem plain_down (t : Fin 136) (k : Fin 1792) (j : Fin 1024) : val_main_v25 (F := Ideal) b Wd (ix3 t k j) = Wd (ix3 (expertOf b t) k j) :=
  gather_whole _ Wd _ t k j _ (plain_index b hb t)

/-- The row at a place of a block. -/
abbrev rowOf (t : Fin 136) (s : Fin 512) : Fin 69632 := ⟨t.val * 512 + s.val, by have := t.isLt; have := s.isLt; omega⟩

omit hb in
theorem plain_row (t : Fin 136) (s : Fin 512) (e : Fin 1024) : val_main_v0 (F := Ideal) X (ix3 t s e) = X (ix2 (rowOf t s) e) := by
  rw [val_main_v0_apply]
  have := e.isLt
  refine congrArg X ((ValueIdx.eq_ix2 _).trans (congrArg₂ ix2 (Fin.ext ?_) (Fin.ext ?_)))
  · show ((t.val * 512 + s.val) * 1024 + e.val) / 1024 = t.val * 512 + s.val
    omega
  · show ((t.val * 512 + s.val) * 1024 + e.val) % 1024 = e.val
    omega

theorem plain_unit (t : Fin 136) (s : Fin 512) (k : Fin 1792) :
    val_main_v18 (F := Ideal) X b Wg Wu (ix3 t s k)
      = unit (fun e : Fin 1024 => X (ix2 (rowOf t s) e)) (fun e => Wg (ix3 (expertOf b t) e k)) (fun e => Wu (ix3 (expertOf b t) e k)) := by
  have h8 : val_main_v8 (F := Ideal) X b Wg (ix3 t s k) = ∑ e : Fin 1024, X (ix2 (rowOf t s) e) * Wg (ix3 (expertOf b t) e k) := by
    refine (val_main_v8_apply X b Wg (ix3 t s k)).trans (Finset.sum_congr rfl fun e _ => ?_)
    rw [show lidx_main_v8 (ix3 t s k) e = ix3 t s e from ValueIdx.eq_ix3 _, show ridx_main_v8 (ix3 t s k) e = ix3 t e k from ValueIdx.eq_ix3 _, plain_row,
      plain_gate b Wg hb]
  have h17 : val_main_v17 (F := Ideal) X b Wu (ix3 t s k) = ∑ e : Fin 1024, X (ix2 (rowOf t s) e) * Wu (ix3 (expertOf b t) e k) := by
    refine (val_main_v17_apply X b Wu (ix3 t s k)).trans (Finset.sum_congr rfl fun e _ => ?_)
    rw [show lidx_main_v17 (ix3 t s k) e = ix3 t s e from ValueIdx.eq_ix3 _, show ridx_main_v17 (ix3 t s k) e = ix3 t e k from ValueIdx.eq_ix3 _, plain_row,
      plain_up b Wu hb]
  rw [val_main_v18_apply, h17]
  show val_main_v8 (F := Ideal) X b Wg (ix3 t s k) * Ideal.div (Ideal.ofBits .f32 0x3F800000#32) (Ideal.ofBits .f32 0x3F800000#32 + Ideal.exp (-val_main_v8 (F := Ideal) X b Wg (ix3 t s k))) * _ = _
  rw [h8, Ideal.ofBits_one_f32]
  rfl

omit hb in
/-- The mask of the blocks in use. -/
theorem plain_used (t : Fin 136) (s : Fin 512) (j : Fin 1024) :
    val_main_call1_v1 (F := Ideal) n (ix3 t s j) = BitVec.ofBool (decide ((t.val : ℤ) < (n (ix1 (0 : Fin 1))).toInt)) := by
  rw [val_main_call1_v1_apply, val_main_v31_apply, val_main_v30_apply, val_main_v27_apply, val_main_v29_apply]
  have e : val_main_v28 (F := Ideal) n (idx_main_v29 (idx_main_v31 (idx_main_call1_v1 (ix3 t s j)))) = n (ix1 (0 : Fin 1)) := by
    refine congrArg n ((ValueIdx.eq_ix1 _).trans (congrArg ix1 ?_))
    exact Subsingleton.elim (α := Fin 1) _ _
  rw [e]
  have ht := t.isLt
  have hi : (BitVec.ofNat 32 t.val).toInt = t.val := by
    rw [BitVec.toInt_ofNat']
    exact Int.bmod_eq_of_le (by omega) (by omega)
  show BitVec.ofBool (BitVec.slt (BitVec.ofNat 32 t.val) (n (ix1 (0 : Fin 1)))) = _
  refine congrArg BitVec.ofBool (Bool.eq_iff_iff.mpr ?_)
  rw [BitVec.slt_iff_toInt_lt, hi, decide_eq_true_iff]

theorem plain_eq : val_main_v33 (F := Ideal) X b n Wg Wu Wd = experts X b n Wg Wu Wd := by
  funext y
  obtain ⟨r, j, rfl⟩ : ∃ (r : Fin 69632) (j : Fin 1024), y = ix2 r j := ⟨y 0, y 1, ValueIdx.eq_ix2 y⟩
  have hr := r.isLt
  have hj := j.isLt
  have hs : r.val % 512 < 512 := Nat.mod_lt _ (by decide)
  have e : idx_main_v33 (ix2 r j) = ix3 (blockOf r) (⟨r.val % 512, hs⟩ : Fin 512) j := by
    refine (ValueIdx.eq_ix3 _).trans ?_
    refine congr (congrArg₂ ix3 (Fin.ext ?_) (Fin.ext ?_)) (Fin.ext ?_)
    · show (r.val * 1024 + j.val) / 524288 = r.val / 512
      omega
    · show (r.val * 1024 + j.val) / 1024 % 512 = r.val % 512
      omega
    · show (r.val * 1024 + j.val) % 1024 = j.val
      omega
  have er : rowOf (blockOf r) (⟨r.val % 512, hs⟩ : Fin 512) = r := by
    refine Fin.ext ?_
    show r.val / 512 * 512 + r.val % 512 = r.val
    omega
  rw [val_main_v33_apply, e, val_main_v32_apply, plain_used]
  show _ = ite (((blockOf r).val : ℤ) < _) _ _
  by_cases hu : ((blockOf r).val : ℤ) < (n (ix1 (0 : Fin 1))).toInt
  · rw [if_pos hu, decide_eq_true hu]
    show val_main_v26 (F := Ideal) X b Wg Wu Wd (ix3 (blockOf r) (⟨r.val % 512, hs⟩ : Fin 512) j) = _
    refine (val_main_v26_apply X b Wg Wu Wd _).trans (Finset.sum_congr rfl fun k _ => ?_)
    rw [show lidx_main_v26 (ix3 (blockOf r) (⟨r.val % 512, hs⟩ : Fin 512) j) k = ix3 (blockOf r) (⟨r.val % 512, hs⟩ : Fin 512) k from ValueIdx.eq_ix3 _,
      show ridx_main_v26 (ix3 (blockOf r) (⟨r.val % 512, hs⟩ : Fin 512) j) k = ix3 (blockOf r) k j from ValueIdx.eq_ix3 _,
      plain_unit X b Wg Wu hb, plain_down b Wd hb, er]
  · rw [if_neg hu, decide_eq_false hu]
    exact Ideal.ofBits_zero_f32

end Cert.Proof.Exp

end
-- ==== Proof.Rtr.Pick.lean ====
/-
  The two largest of a row's eight scores, equal scores in the order of their positions: what a stable descending sort
  puts first and second, and what two rounds of maximum and least position find among 128 lanes of which 120 are minus infinity.
-/
module

public import Idealize.ShloMosaic.Lib.SortFacts
public import Idealize.ShloMosaic.Lib.ValueIdx
public import Idealize.ShloMosaic.PureOps.Ideal.Laws

@[expose] public section

noncomputable section

namespace Cert.Proof.Rtr

open Idealize.ShloMosaic

/-- `x` comes before `y`: a larger score, or an equal one at an earlier position. -/
def Before {n : ℕ} (a : Fin n → EReal) (x y : Fin n) : Prop := a y < a x ∨ a x = a y ∧ x < y

theorem before_trans {n : ℕ} {a : Fin n → EReal} {x y z : Fin n} (h : Before a x y) (h' : Before a y z) : Before a x z := by
  rcases h with h | ⟨h, hx⟩ <;> rcases h' with h' | ⟨h', hy⟩
  · exact .inl (h'.trans h)
  · exact .inl (h' ▸ h)
  · exact .inl (h ▸ h')
  · exact .inr ⟨h.trans h', hx.trans hy⟩

/-- The comparison the sort is given. -/
def greater {n : ℕ} (a : Fin n → EReal) (x y : Fin n) : Bool := Ideal.cmp .ogt (a x) (a y) == 1#1

theorem greater_iff {n : ℕ} (a : Fin n → EReal) (x y : Fin n) : greater a x y = true ↔ a y < a x := by
  unfold greater Ideal.cmp
  by_cases h : a y < a x <;> simp [h]

theorem insert_ordered {n : ℕ} (a : Fin n → EReal) (x : Fin n) (l : List (Fin n)) (hx : ∀ y ∈ l, x < y) (hl : l.Pairwise (Before a)) :
    (insertBefore (greater a) x l).Pairwise (Before a) := by
  induction l with
  | nil => unfold insertBefore; exact List.pairwise_singleton _ _
  | cons b l ih =>
    obtain ⟨hb, hl'⟩ := List.pairwise_cons.1 hl
    unfold insertBefore
    split
    · rename_i hg
      refine List.pairwise_cons.2 ⟨fun c hc => ?_, ih (fun y hy => hx y (List.mem_cons_of_mem _ hy)) hl'⟩
      rcases List.mem_cons.1 ((perm_insertBefore (greater a) x l).mem_iff.1 hc) with rfl | hc
      · exact .inl ((greater_iff a _ _).1 hg)
      · exact hb c hc
    · rename_i hg
      have hxb : Before a x b := by
        rcases lt_or_eq_of_le (not_lt.1 fun h => hg ((greater_iff a _ _).2 h)) with h | h
        · exact .inl h
        · exact .inr ⟨h.symm, hx b List.mem_cons_self⟩
      refine List.pairwise_cons.2 ⟨fun c hc => ?_, hl⟩
      rcases List.mem_cons.1 hc with rfl | hc
      · exact hxb
      · exact before_trans hxb (hb c hc)

theorem sort_ordered {n : ℕ} (a : Fin n → EReal) (l : List (Fin n)) (hl : l.Pairwise (· < ·)) :
    (stableSort (greater a) l).Pairwise (Before a) := by
  induction l with
  | nil => exact List.Pairwise.nil
  | cons x l ih =>
    obtain ⟨hx, hl'⟩ := List.pairwise_cons.1 hl
    unfold stableSort
    exact insert_ordered a x _ (fun y hy => hx y ((perm_stableSort _ l).mem_iff.1 hy)) (ih hl')

/-- What the sort puts earlier comes before. -/
theorem sorted_before {n : ℕ} (a : Fin n → EReal) (k k' : Fin n) (h : k < k') :
    Before a (sortedFrom (greater a) k) (sortedFrom (greater a) k') := by
  unfold sortedFrom
  exact List.pairwise_iff_get.1 (sort_ordered a (List.finRange n) (List.pairwise_lt_finRange n)) _ _ h

/-- The position of the largest score. -/
def first (a : Fin 8 → EReal) : Fin 8 := sortedFrom (greater a) 0
/-- The position of the second largest. -/
def second (a : Fin 8 → EReal) : Fin 8 := sortedFrom (greater a) 1

theorem first_before (a : Fin 8 → EReal) (j : Fin 8) (hj : j ≠ first a) : Before a (first a) j := by
  obtain ⟨k, rfl⟩ := sortedFrom_surjective (greater a) j
  refine sorted_before a 0 k (Fin.pos_of_ne_zero fun h => hj ?_)
  rw [h]; rfl

theorem second_ne (a : Fin 8 → EReal) : second a ≠ first a := fun h =>
  absurd (sortedFrom_injective (greater a) h) (by decide)

theorem second_before (a : Fin 8 → EReal) (j : Fin 8) (hj : j ≠ first a) (hj' : j ≠ second a) : Before a (second a) j := by
  obtain ⟨k, rfl⟩ := sortedFrom_surjective (greater a) j
  refine sorted_before a 1 k ?_
  have h0 : k ≠ 0 := fun h => hj (by rw [h]; rfl)
  have h1 : k ≠ 1 := fun h => hj' (by rw [h]; rfl)
  have h0' : k.val ≠ 0 := fun h => h0 (Fin.ext h)
  have h1' : k.val ≠ 1 := fun h => h1 (Fin.ext h)
  show (1 : ℕ) < k.val
  omega

theorem le_first (a : Fin 8 → EReal) (j : Fin 8) : a j ≤ a (first a) := by
  by_cases h : j = first a
  · rw [h]
  · exact (first_before a j h).elim le_of_lt fun h => h.1.ge

theorem le_second (a : Fin 8 → EReal) (j : Fin 8) (hj : j ≠ first a) : a j ≤ a (second a) := by
  by_cases h : j = second a
  · rw [h]
  · exact (second_before a j hj h).elim le_of_lt fun h => h.1.ge

theorem first_le (a : Fin 8 → EReal) (j : Fin 8) (h : a j = a (first a)) : first a ≤ j := by
  by_cases hj : j = first a
  · rw [hj]
  · exact (first_before a j hj).elim (fun h' => absurd h h'.ne) fun h' => h'.2.le

theorem second_le (a : Fin 8 → EReal) (j : Fin 8) (hj : j ≠ first a) (h : a j = a (second a)) : second a ≤ j := by
  by_cases hj' : j = second a
  · rw [hj']
  · exact (second_before a j hj hj').elim (fun h' => absurd h h'.ne) fun h' => h'.2.le

/-! ### Two rounds over 128 lanes -/

/-- The scores on the first 8 of 128 lanes, minus infinity on the others. -/
def lanes (a : Fin 8 → EReal) (j : Fin 128) : EReal := if h : j.val < 8 then a ⟨j.val, h⟩ else ⊥

/-- A lane's number. -/
def number (n : ℕ) : EReal := ((n : ℝ) : EReal)

theorem number_le {m n : ℕ} : number m ≤ number n ↔ m ≤ n := by
  unfold number; rw [EReal.coe_le_coe_iff, Nat.cast_le]

theorem number_inj {m n : ℕ} : number m = number n ↔ m = n := by
  unfold number; rw [EReal.coe_eq_coe_iff, Nat.cast_inj]

/-- The lane of a position. -/
def lane (p : Fin 8) : Fin 128 := ⟨p.val, by have := p.isLt; omega⟩

theorem lanes_lane (a : Fin 8 → EReal) (p : Fin 8) : lanes a (lane p) = a p := dif_pos p.isLt

theorem max_eq (f : Fin 128 → EReal) (p : Fin 128) (h : ∀ j, f j ≤ f p) : (Finset.univ : Finset (Fin 128)).fold max ⊥ f = f p :=
  le_antisymm (Finset.fold_max_le _ |>.2 ⟨bot_le, fun j _ => h j⟩) (Finset.le_fold_max _ |>.2 (.inr ⟨p, Finset.mem_univ _, le_rfl⟩))

theorem min_eq (f : Fin 128 → EReal) (p : Fin 128) (h : ∀ j, f p ≤ f j) : (Finset.univ : Finset (Fin 128)).fold min ⊤ f = f p :=
  le_antisymm (Finset.fold_min_le _ |>.2 (.inr ⟨p, Finset.mem_univ _, le_rfl⟩)) (Finset.le_fold_min _ |>.2 ⟨le_top, fun j _ => h j⟩)

section Rounds

variable (a : Fin 8 → EReal) (ha : ∀ j, a j ≠ ⊥)
include ha

omit ha in
theorem round1_max : (Finset.univ : Finset (Fin 128)).fold max ⊥ (lanes a) = a (first a) := by
  refine (max_eq (lanes a) (lane (first a)) fun j => ?_).trans (lanes_lane a _)
  rw [lanes_lane]
  unfold lanes
  split
  · exact le_first a _
  · exact bot_le

theorem round1_min : (Finset.univ : Finset (Fin 128)).fold min ⊤ (fun j => if lanes a j = a (first a) then number j.val else number 128) = number (first a).val := by
  have h0 : (if lanes a (lane (first a)) = a (first a) then number (lane (first a)).val else number 128) = number (first a).val :=
    if_pos (lanes_lane a _)
  refine (min_eq (fun j => if lanes a j = a (first a) then number j.val else number 128) (lane (first a)) fun j => ?_).trans h0
  show (if lanes a (lane (first a)) = a (first a) then number (lane (first a)).val else number 128) ≤ _
  rw [h0]
  show _ ≤ if lanes a j = a (first a) then number j.val else number 128
  split
  · rename_i h
    by_cases hj : j.val < 8
    · rw [show lanes a j = a ⟨j.val, hj⟩ from dif_pos hj] at h
      exact number_le.2 (first_le a ⟨j.val, hj⟩ h)
    · rw [show lanes a j = ⊥ from dif_neg hj] at h
      exact absurd h.symm (ha _)
  · exact number_le.2 (by have := (first a).isLt; omega)

/-- The lanes without the largest. -/
def rest (a : Fin 8 → EReal) (j : Fin 128) : EReal := if number j.val = number (first a).val then ⊥ else lanes a j

omit ha in
theorem rest_lane (p : Fin 8) (h : p ≠ first a) : rest a (lane p) = a p := by
  exact (if_neg fun e => h (Fin.ext (number_inj.1 e))).trans (lanes_lane a p)

omit ha in
theorem round2_max : (Finset.univ : Finset (Fin 128)).fold max ⊥ (rest a) = a (second a) := by
  refine (max_eq (rest a) (lane (second a)) fun j => ?_).trans (rest_lane a _ (second_ne a))
  rw [rest_lane a _ (second_ne a)]
  unfold rest lanes
  split
  · exact bot_le
  · rename_i hn
    split
    · rename_i hj
      exact le_second a _ fun e => hn (number_inj.2 (congrArg Fin.val e))
    · exact bot_le

theorem round2_min : (Finset.univ : Finset (Fin 128)).fold min ⊤ (fun j => if rest a j = a (second a) then number j.val else number 128) = number (second a).val := by
  have h0 : (if rest a (lane (second a)) = a (second a) then number (lane (second a)).val else number 128) = number (second a).val :=
    if_pos (rest_lane a _ (second_ne a))
  refine (min_eq (fun j => if rest a j = a (second a) then number j.val else number 128) (lane (second a)) fun j => ?_).trans h0
  show (if rest a (lane (second a)) = a (second a) then number (lane (second a)).val else number 128) ≤ _
  rw [h0]
  show _ ≤ if rest a j = a (second a) then number j.val else number 128
  split
  · rename_i h
    unfold rest at h
    split at h
    · exact absurd h.symm (ha _)
    · rename_i hn
      by_cases hj : j.val < 8
      · rw [show lanes a j = a ⟨j.val, hj⟩ from dif_pos hj] at h
        exact number_le.2 (second_le a ⟨j.val, hj⟩ (fun e => hn (number_inj.2 (congrArg Fin.val e))) h)
      · rw [show lanes a j = ⊥ from dif_neg hj] at h
        exact absurd h.symm (ha _)
  · exact number_le.2 (by have := (second a).isLt; omega)

end Rounds

/-! ### The two weights -/

/-- The weight of the larger of two real scores: one over one plus the exponential of the difference. -/
def weight1 (u v : EReal) : EReal := Ideal.div 1 (1 + Ideal.exp (v - u))
/-- The weight of the smaller. -/
def weight2 (u v : EReal) : EReal := Ideal.exp (v - u) * weight1 u v

theorem soft_first (u v : ℝ) : Ideal.div (Ideal.exp ((u : EReal) - u)) (Ideal.exp ((u : EReal) - u) + Ideal.exp ((v : EReal) - u)) = weight1 u v := by
  have h : Ideal.exp ((u : EReal) - u) = 1 := by
    rw [← EReal.coe_sub, sub_self]
    show ((Real.exp 0 : ℝ) : EReal) = 1
    rw [Real.exp_zero]; rfl
  unfold weight1
  rw [h]

theorem soft_second (u v : ℝ) : Ideal.div (Ideal.exp ((v : EReal) - u)) (Ideal.exp ((u : EReal) - u) + Ideal.exp ((v : EReal) - u)) = weight2 u v := by
  have h : Ideal.exp ((u : EReal) - u) = 1 := by
    rw [← EReal.coe_sub, sub_self]
    show ((Real.exp 0 : ℝ) : EReal) = 1
    rw [Real.exp_zero]; rfl
  have he : Ideal.exp ((v : EReal) - u) = ((Real.exp (v - u) : ℝ) : EReal) := by
    rw [← EReal.coe_sub]; rfl
  have hn : (1 : EReal) + Ideal.exp ((v : EReal) - u) ≠ 0 := by
    rw [he]
    have := Real.exp_pos (v - u)
    rw [show (1 : EReal) = ((1 : ℝ) : EReal) from rfl, ← EReal.coe_add]
    exact fun e => by
      have := EReal.coe_eq_zero.1 e
      linarith
  unfold weight2 weight1
  rw [h]
  unfold Ideal.div
  rw [if_neg hn, if_neg hn, one_mul]

theorem word_bot : Ideal.ofBits .f32 0xFF800000#32 = ⊥ := by simp [Ideal.ofBits, Ideal.ieee]
theorem word_top : Ideal.ofBits .f32 0x7F800000#32 = ⊤ := by simp [Ideal.ofBits, Ideal.ieee]

open ValueIdx in
/-- The largest of each row. -/
theorem rowMax_apply {a n : ℕ} (x : FVec Ideal ⟨2, ![a, n]⟩ .f32) (h : (⟨2, ![a, n]⟩ : Shape).Reduces [1] ⟨1, ![a]⟩)
    (hφ : FKind.Formats .f32) (hacc : (0xFF800000#32 : BitVec FTy.f32.bits) = FKind.maximumf.neutral .f32 hφ) (r : Fin a) :
    multiReduction .maximumf [1] ⟨1, ![a]⟩ x 0xFF800000#32 h hφ hacc (ix1 r) = (Finset.univ : Finset (Fin n)).fold max ⊥ fun k => x (ix2 r k) := by
  refine (Ideal.multiReduction_maximumf_single (a := (1 : Fin 2)) x _ h hφ hacc (ix1 r)).trans ?_
  show (Finset.univ : Finset (Fin n)).fold max (Ideal.ofBits .f32 0xFF800000#32) _ = _
  rw [word_bot]
  refine Finset.fold_congr fun k _ => congrArg x (funext fun ax => Fin.ext ((h.lift_val (ix1 r) k ax).trans ?_))
  match ax with
  | ⟨0, _⟩ => rfl
  | ⟨1, _⟩ => rfl

end Cert.Proof.Rtr

end
-- ==== Proof.Rtr.Block.lean ====
/-
  What the router's kernel leaves in its three blocks at the ideal floats: the rows divided by their root mean squares, the
  two largest scores' positions, and the two weights.
-/
module

public import proofs.«01_k».proof.Proof.Gen.Kernel6Ideal.Value
public import proofs.«01_k».proof.Proof.Rms
public import proofs.«01_k».proof.Proof.Rtr.Pick
public import Idealize.ShloMosaic.Lib.Pipeline.ValueKit

@[expose] public section

noncomputable section

namespace Cert.Proof.Rtr

open Cert.Kernel6Ideal Cert.Kernel6Ideal.Gen
open Idealize.ShloMosaic hiding ix1 ix2
open Idealize.ShloMosaic.TcCoe Idealize.ShloMosaic.ValueIdx
open Cert.Proof.Rms

theorem word_lanes : Ideal.ofBits .f32 0x43000000#32 = number 128 := by
  unfold number
  simp [Ideal.ofBits, Ideal.ieee]
  rw [← EReal.coe_mul]
  norm_num

theorem min_single {s t : Shape} {a : Fin s.rank} (x : FVec Ideal s .f32) (acc : BitVec FTy.f32.bits)
    (h : s.Reduces [a] t) (hφ : FKind.Formats .f32) (hacc : acc = FKind.minimumf.neutral .f32 hφ) (j : t.Idx) :
    multiReduction .minimumf [a] t x acc h hφ hacc j
      = (Finset.univ : Finset (Fin (s.size a))).fold min (FloatOps.ofBits .f32 acc) (x ∘ h.lift j) := by
  rw [multiReduction_minimumf_eq_fold]; exact h.fold_filter_drop_single _ _ x j

/-- The smallest of each row. -/
theorem rowMin_apply {a n : ℕ} (x : FVec Ideal ⟨2, ![a, n]⟩ .f32) (h : (⟨2, ![a, n]⟩ : Shape).Reduces [1] ⟨1, ![a]⟩)
    (hφ : FKind.Formats .f32) (hacc : (0x7F800000#32 : BitVec FTy.f32.bits) = FKind.minimumf.neutral .f32 hφ) (r : Fin a) :
    multiReduction .minimumf [1] ⟨1, ![a]⟩ x 0x7F800000#32 h hφ hacc (ix1 r) = (Finset.univ : Finset (Fin n)).fold min ⊤ fun k => x (ix2 r k) := by
  refine (min_single (a := (1 : Fin 2)) x _ h hφ hacc (ix1 r)).trans ?_
  show (Finset.univ : Finset (Fin n)).fold min (Ideal.ofBits .f32 0x7F800000#32) _ = _
  rw [word_top]
  refine Finset.fold_congr fun k _ => congrArg x (funext fun ax => Fin.ext ((h.lift_val (ix1 r) k ax).trans ?_))
  match ax with
  | ⟨0, _⟩ => rfl
  | ⟨1, _⟩ => rfl

theorem select_eq {α : Type} (x y : EReal) (p q : α) : Scalar.select (Ideal.cmp .oeq x y) p q = if x = y then p else q := by
  unfold Scalar.select Ideal.cmp
  by_cases h : x = y <;> simp [h]

theorem lane_word : ∀ l : Fin 128, (BitVec.ofNat 32 (0 * 128 + l.val)).toInt = (l.val : ℤ) := by decide +kernel
theorem lane_small : ∀ l : Fin 128, IntOp.cmpi .slt (BitVec.ofNat 32 (0 * 128 + l.val)) 8#32 = BitVec.ofBool (decide (l.val < 8)) := by decide +kernel
theorem lane_zero : ∀ l : Fin 128, IntOp.cmpi .eq (BitVec.ofNat 32 (0 * 128 + l.val)) 0#32 = BitVec.ofBool (decide (l.val = 0)) := by decide +kernel
theorem lane_one : ∀ l : Fin 128, IntOp.cmpi .eq (BitVec.ofNat 32 (0 * 128 + l.val)) 1#32 = BitVec.ofBool (decide (l.val = 1)) := by decide +kernel

theorem select_bool {α : Type} (b : Prop) [Decidable b] (p q : α) : Scalar.select (BitVec.ofBool (decide b)) p q = if b then p else q := by
  unfold Scalar.select
  by_cases h : b <;> simp [h]

theorem word_of_number (n : ℕ) (h : n < 128) : Ideal.fptosi 32 (number n) = BitVec.ofNat 32 n := by
  unfold Ideal.fptosi number
  rw [Ideal.toIntClamped_coe, if_pos (Nat.cast_nonneg n), Int.floor_natCast]
  have e : max (-(2 ^ (32 - 1) : ℕ) : ℤ) (min ((2 ^ (32 - 1) : ℕ) - 1 : ℤ) (n : ℤ)) = (n : ℤ) := by norm_num; omega
  rw [e]
  exact BitVec.ofInt_natCast 32 n

theorem numbers_apply (r : Fin 512) (l : Fin 128) : k0_pay3 (F := Ideal) (ix2 r l) = number l.val := by
  show (((BitVec.ofNat 32 (0 * 128 + l.val)).toInt : ℝ) : EReal) = number l.val
  rw [lane_word]
  unfold number
  rw [Int.cast_natCast]

/-! ### The rows -/

theorem rows_apply (x : Vec Ideal S512x1024 .f32) (g : Vec Ideal S1x1024 .f32) (r : Fin 512) (e : Fin 1024) :
    k0_pay2 x g (ix2 r e) = x (ix2 r e) * factor (Ideal.ofBits .f32 0x44800000#32) (fun k : Fin 1024 => x (ix2 r k)) * g (ix2 (0 : Fin 1) e) := by
  unfold k0_pay2
  rw [shapeCast_self]
  refine congrArg₂ (· * ·) (rms_apply 512 1024 0x44800000#32 x reduces_S512x1024_S512 shapeCasts_S512_S512x1 broadcasts_S512x1_S512x1024 r e)
    (broadcastTo_1b_ab_apply g broadcasts_S1x1024_S512x1024 r e)

/-! ### The scores -/

theorem zero_of_real (u : EReal) (h : ∃ v : ℝ, u = (v : EReal)) : u - u = 0 := by
  obtain ⟨v, rfl⟩ := h
  rw [← EReal.coe_sub, sub_self, EReal.coe_zero]

theorem scores_apply (x : Vec Ideal S512x1024 .f32) (g : Vec Ideal S1x1024 .f32) (w : Vec Ideal S1024x128 .f32) (r : Fin 512) (l : Fin 128)
    (hx : ∀ k : Fin 1024, ∃ v : ℝ, k0_pay2 x g (ix2 r k) = (v : EReal)) (hw : ∀ k : Fin 1024, ∃ v : ℝ, w (ix2 k l) = (v : EReal)) :
    k0_pay4 x g w (ix2 r l) = if l.val < 8 then ∑ k : Fin 1024, k0_pay2 x g (ix2 r k) * w (ix2 k l) else ⊥ := by
  unfold k0_pay4
  rw [shapeCast_self]
  generalize k0_pay2 x g = h at hx ⊢
  have p1 := product_apply (M := 512) (K := 1024) (N := 128) none (truncf .bf16 h bitsLt_bf16_f32) (truncf .bf16 w bitsLt_bf16_f32) r l
  have p2 := product_apply (M := 512) (K := 1024) (N := 128) none (truncf .bf16 h bitsLt_bf16_f32)
    (truncf .bf16 (subf w (extf .f32 (truncf .bf16 w bitsLt_bf16_f32) bitsLt_bf16_f32)) bitsLt_bf16_f32) r l
  have p3 := product_apply (M := 512) (K := 1024) (N := 128) none
    (truncf .bf16 (subf h (extf .f32 (truncf .bf16 h bitsLt_bf16_f32) bitsLt_bf16_f32)) bitsLt_bf16_f32) (truncf .bf16 w bitsLt_bf16_f32) r l
  have z2 : ∑ k : Fin 1024, h (ix2 r k) * (w (ix2 k l) - w (ix2 k l)) = 0 :=
    Finset.sum_eq_zero fun k _ => by rw [zero_of_real _ (hw k), mul_zero]
  have z3 : ∑ k : Fin 1024, (h (ix2 r k) - h (ix2 r k)) * w (ix2 k l) = 0 :=
    Finset.sum_eq_zero fun k _ => by rw [zero_of_real _ (hx k), zero_mul]
  refine (congrArg (fun b => Scalar.select b _ _) (lane_small l)).trans ((select_bool _ _ _).trans ?_)
  refine congrArg₂ (fun s t => if l.val < 8 then s else t) ?_ word_bot
  refine (congrArg₂ (· + ·) p1 (congrArg₂ (· + ·) (p2.trans z2) (p3.trans z3))).trans ?_
  rw [add_zero, add_zero]
  rfl

/-! ### The two rounds -/

section Rounds

variable (N L : FVec Ideal S512x128 .f32) (C : IVec S512x128 1) (M : FVec Ideal S512x1 .f32) (r : Fin 512) (a : Fin 8 → EReal)
  (ha : ∀ j, a j ≠ ⊥) (hN : ∀ l : Fin 128, N (ix2 r l) = number l.val) (hL : ∀ l : Fin 128, L (ix2 r l) = lanes a l)
  (hC : ∀ l : Fin 128, C (ix2 r l) = Ideal.cmp .oeq (lanes a l) (a (first a))) (hM : M (ix2 r (0 : Fin 1)) = a (first a))

include ha hN hC in
theorem least_apply : k0_pay7 N C (ix2 r (0 : Fin 1)) = number (first a).val := by
  unfold k0_pay7
  refine (column_apply _ shapeCasts_S512_S512x1 r).trans ((rowMin_apply _ reduces_S512x128_S512 (.inl rfl) rfl r).trans ?_)
  refine Eq.trans (Finset.fold_congr fun l _ => ?_) (round1_min a ha)
  show Scalar.select (C (ix2 r l)) (N (ix2 r l)) (Ideal.ofBits .f32 0x43000000#32) = _
  rw [hC, hN, select_eq, word_lanes]

include ha hN hC hL in
theorem rest_apply (l : Fin 128) : k0_pay8 N L C (ix2 r l) = rest a l := by
  unfold k0_pay8
  show Scalar.select (Ideal.cmp .oeq (N (ix2 r l)) (broadcastTo S512x128 (k0_pay7 N C) broadcasts_S512x1_S512x128 (ix2 r l)))
    (Ideal.ofBits .f32 0xFF800000#32) (L (ix2 r l)) = _
  rw [select_eq, word_bot, hN, hL, spread_apply (k0_pay7 N C) broadcasts_S512x1_S512x128 r l, least_apply N C r a ha hN hC]
  rfl

include ha hN hC hL in
theorem next_apply : k0_pay9 N L C (ix2 r (0 : Fin 1)) = a (second a) := by
  unfold k0_pay9
  refine (column_apply _ shapeCasts_S512_S512x1 r).trans ((rowMax_apply _ reduces_S512x128_S512 (.inl rfl) rfl r).trans ?_)
  exact Eq.trans (Finset.fold_congr fun l _ => rest_apply N L C r a ha hN hL hC l) (round2_max a)

include ha hN hC hL hM in
theorem ratio_apply : k0_pay10 N L M C (ix2 r (0 : Fin 1)) = Ideal.exp (a (second a) - a (first a)) := by
  unfold k0_pay10
  refine (Ideal.exp_def _).trans ?_
  exact congrArg₂ (fun u v : EReal => Ideal.exp (u - v)) (next_apply N L C r a ha hN hL hC) hM

include ha hN hC hL hM in
theorem weight1_apply : k0_pay11 N L M C (ix2 r (0 : Fin 1)) = weight1 (a (first a)) (a (second a)) := by
  unfold k0_pay11
  have e := ratio_apply N L C M r a ha hN hL hC hM
  generalize k0_pay10 N L M C = v at e ⊢
  have one : (Scalar.ofBits .f32 0x3F800000#32 : Ideal .f32) = (1 : EReal) := Ideal.ofBits_one_f32
  rw [one]
  refine Eq.trans (?_ : _ = Ideal.div (1 : EReal) ((1 : EReal) + v (ix2 r (0 : Fin 1)))) ?_
  · rfl
  · rw [e]; rfl

include ha hN hC hL hM in
theorem weight2_apply : k0_pay15 N L M C (ix2 r (0 : Fin 1)) = weight2 (a (first a)) (a (second a)) := by
  unfold k0_pay15
  rw [shapeCast_self]
  exact congrArg₂ (fun u v : EReal => u * v) (ratio_apply N L C M r a ha hN hL hC hM) (weight1_apply N L C M r a ha hN hL hC hM)

include ha hN hC hL in
theorem places_apply (j : Fin 8) :
    k0_pay12 (iota .tc S512x128 32 [1] iota_S512x128_d1_w32) N L C (ix2 j r)
      = if j.val = 0 then BitVec.ofNat 32 (first a).val else if j.val = 1 then BitVec.ofNat 32 (second a).val else 0#32 := by
  unfold k0_pay12
  rw [shapeCast_self, shapeCast_self]
  have hmin : ∀ c : FVec Ideal S512x1 .f32, c = shapeCast S512x1 (multiReduction .minimumf [1] S512
        (select (cmpf .oeq (k0_pay8 N L C) (broadcastTo S512x128 (k0_pay9 N L C) broadcasts_S512x1_S512x128)) N
          (broadcast S512x128 (Scalar.ofBits .f32 0x43000000#32))) 0x7F800000#32 reduces_S512x128_S512 (.inl rfl) rfl) shapeCasts_S512_S512x1 →
      c (ix2 r (0 : Fin 1)) = number (second a).val := by
    rintro c rfl
    refine (column_apply _ shapeCasts_S512_S512x1 r).trans ((rowMin_apply _ reduces_S512x128_S512 (.inl rfl) rfl r).trans ?_)
    refine Eq.trans (Finset.fold_congr fun l _ => ?_) (round2_min a ha)
    show Scalar.select (Ideal.cmp .oeq (k0_pay8 N L C (ix2 r l)) (broadcastTo S512x128 (k0_pay9 N L C) broadcasts_S512x1_S512x128 (ix2 r l)))
      (N (ix2 r l)) (Ideal.ofBits .f32 0x43000000#32) = _
    rw [select_eq, word_lanes, hN, rest_apply N L C r a ha hN hL hC, spread_apply (k0_pay9 N L C) broadcasts_S512x1_S512x128 r l,
      next_apply N L C r a ha hN hL hC]
  have h2 := hmin _ rfl
  have h1 := least_apply N C r a ha hN hC
  refine congrArg (Ideal.fptosi 32) ((slice2_axis0_apply 0 _ slices_S128x512_o0_0_S8x512 j r (lane j) (by show j.val = 0 + j.val; omega)).trans
    (transpose_ix2_apply _ transposes_S512x128_p1_0_S128x512 (lane j) r)) |>.trans ?_
  refine (congrArg (Ideal.fptosi 32) ((congrArg₂ (fun b t => Scalar.select b _ t) (lane_zero (lane j)) (congrArg (fun b => Scalar.select b _ _) (lane_one (lane j)))).trans
    ((select_bool _ _ _).trans (congrArg (fun t => if (lane j).val = 0 then _ else t) (select_bool _ _ _))))).trans ?_
  have e1 := (spread_apply _ broadcasts_S512x1_S512x128 r (lane j)).trans h1
  have e2 := (spread_apply _ broadcasts_S512x1_S512x128 r (lane j)).trans h2
  rw [e1, e2]
  show Ideal.fptosi 32 (if j.val = 0 then _ else if j.val = 1 then _ else Ideal.ofBits .f32 0x00000000#32) = _
  have hf := (first a).isLt
  have hs := (second a).isLt
  split
  · exact word_of_number _ (by omega)
  · split
    · exact word_of_number _ (by omega)
    · rw [Ideal.ofBits_zero_f32]
      exact (congrArg (Ideal.fptosi 32) (by unfold number; simp : (0 : EReal) = number 0)).trans (word_of_number 0 (by omega))

include ha hN hC hL hM in
theorem weights_apply (l : Fin 128) :
    k0_pay1 (k0_pay11 N L M C) (k0_pay13 (iota .tc S512x128 32 [1] iota_S512x128_d1_w32)) (k0_pay14 (iota .tc S512x128 32 [1] iota_S512x128_d1_w32))
        (Scalar.ofBits .f32 0x00000000#32) (k0_pay15 N L M C) (ix2 r l)
      = if l.val = 0 then weight1 (a (first a)) (a (second a)) else if l.val = 1 then weight2 (a (first a)) (a (second a)) else 0 := by
  unfold k0_pay1 k0_pay13 k0_pay14
  rw [shapeCast_self]
  refine ((congrArg₂ (fun b t => Scalar.select b _ t) (lane_zero l) (congrArg (fun b => Scalar.select b _ _) (lane_one l))).trans
    ((select_bool _ _ _).trans (congrArg (fun t => if l.val = 0 then _ else t) (select_bool _ _ _)))).trans ?_
  have e1 := (spread_apply (k0_pay11 N L M C) broadcasts_S512x1_S512x128 r l).trans (weight1_apply N L C M r a ha hN hL hC hM)
  have e2 := (spread_apply (k0_pay15 N L M C) broadcasts_S512x1_S512x128 r l).trans (weight2_apply N L C M r a ha hN hL hC hM)
  rw [e1, e2]
  show (if l.val = 0 then _ else if l.val = 1 then _ else Ideal.ofBits .f32 0x00000000#32) = _
  rw [Ideal.ofBits_zero_f32]

end Rounds

/-! ### The three blocks -/

section Blocks

variable (x : Vec Ideal S512x1024 .f32) (g : Vec Ideal S1x1024 .f32) (w : Vec Ideal S1024x128 .f32) (r : Fin 512) (a : Fin 8 → EReal)
  (ha : ∀ j, a j ≠ ⊥) (hL : ∀ l : Fin 128, k0_pay4 x g w (ix2 r l) = lanes a l)

include hL in
theorem most_apply : k0_pay5 x g w (ix2 r (0 : Fin 1)) = a (first a) := by
  unfold k0_pay5
  refine (column_apply _ shapeCasts_S512_S512x1 r).trans ((rowMax_apply _ reduces_S512x128_S512 (.inl rfl) rfl r).trans ?_)
  exact Eq.trans (Finset.fold_congr fun l _ => hL l) (round1_max a)

include hL in
theorem hit_apply (l : Fin 128) : k0_pay6 x g w (ix2 r l) = Ideal.cmp .oeq (lanes a l) (a (first a)) := by
  unfold k0_pay6
  show Ideal.cmp .oeq (k0_pay4 x g w (ix2 r l)) (broadcastTo S512x128 (k0_pay5 x g w) broadcasts_S512x1_S512x128 (ix2 r l)) = _
  rw [hL, spread_apply (k0_pay5 x g w) broadcasts_S512x1_S512x128 r l, most_apply x g w r a hL]

theorem left3_apply (e : Fin 1024) : out0_3 x g w (ix2 r e) = k0_pay2 x g (ix2 r e) := by
  frame_out

include ha hL in
theorem left4_apply (j : Fin 8) :
    out0_4 x g w (ix2 j r) = if j.val = 0 then BitVec.ofNat 32 (first a).val else if j.val = 1 then BitVec.ofNat 32 (second a).val else 0#32 := by
  frame_out
  unfold k0_pay16 k0_pay17 k0_pay18 k0_pay20
  frame_out
  exact places_apply _ _ _ r a ha (numbers_apply r) hL (hit_apply x g w r a hL) j

include ha hL in
theorem left5_apply (l : Fin 128) :
    out0_5 x g w (ix2 r l)
      = if l.val = 0 then weight1 (a (first a)) (a (second a)) else if l.val = 1 then weight2 (a (first a)) (a (second a)) else 0 := by
  frame_out
  unfold k0_pay16 k0_pay17 k0_pay18 k0_pay19 k0_pay20
  frame_out
  exact weights_apply _ _ _ _ r a ha (numbers_apply r) hL (hit_apply x g w r a hL) (most_apply x g w r a hL) l

end Blocks

end Cert.Proof.Rtr

end
-- ==== Proof.Rtr.Spec.lean ====
/-
  The routing of a row: its eight scores, the positions of the two largest and their weights, and that rows, gains and
  weights without infinities give scores without infinities.
-/
module

public import proofs.«01_k».proof.Proof.Rms
public import proofs.«01_k».proof.Proof.Rtr.Pick

@[expose] public section

noncomputable section

namespace Cert.Proof.Rtr

open Idealize.ShloMosaic Idealize.ShloMosaic.ValueIdx
open Cert.Proof.Rms

/-- Neither infinity. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem real_sum {n : ℕ} (f : Fin n → EReal) (v : Fin n → ℝ) (h : ∀ k, f k = (v k : EReal)) : ∑ k, f k = ((∑ k, v k : ℝ) : EReal) := by
  rw [Finset.sum_congr rfl fun k _ => h k]
  exact (map_sum (⟨⟨fun r : ℝ => (r : EReal), EReal.coe_zero⟩, EReal.coe_add⟩ : ℝ →+ EReal) v Finset.univ).symm

theorem IsReal.sum {n : ℕ} {f : Fin n → EReal} (h : ∀ k, IsReal (f k)) : IsReal (∑ k, f k) := by
  choose v hv using h
  exact ⟨_, real_sum f v hv⟩

theorem word_count : Ideal.ofBits .f32 0x44800000#32 = ((1024 : ℝ) : EReal) := by
  simp [Ideal.ofBits, Ideal.ieee]
  rw [← EReal.coe_mul]
  norm_num

theorem word_tiny : ∃ t : ℝ, 0 < t ∧ tiny = (t : EReal) := by
  refine ⟨_, ?_, by unfold tiny; simp only [Ideal.ofBits, Ideal.ieee]; norm_num; rfl⟩
  rw [if_neg (by decide)]
  positivity

theorem factor_real {n : ℕ} (f : Fin n → EReal) (h : ∀ k, IsReal (f k)) : IsReal (factor (Ideal.ofBits .f32 0x44800000#32) f) := by
  choose v hv using h
  obtain ⟨t, ht, et⟩ := word_tiny
  unfold factor
  rw [real_sum (fun k => f k * f k) (fun k => v k * v k) fun k => by rw [hv, EReal.coe_mul], word_count, et]
  have hs : (0 : ℝ) ≤ ∑ k, v k * v k := Finset.sum_nonneg fun k _ => mul_self_nonneg _
  have hd : Ideal.div ((∑ k, v k * v k : ℝ) : EReal) ((1024 : ℝ) : EReal) = (((∑ k, v k * v k) * (1024 : ℝ)⁻¹ : ℝ) : EReal) := by
    unfold Ideal.div
    rw [if_neg (by norm_num), EReal.coe_mul, EReal.coe_inv]
  rw [hd, ← EReal.coe_add]
  have hp : 0 < (∑ k, v k * v k) * (1024 : ℝ)⁻¹ + t := by positivity
  refine ⟨_, (?_ : Ideal.rsqrt _ = (((Real.sqrt ((∑ k, v k * v k) * (1024 : ℝ)⁻¹ + t))⁻¹ : ℝ) : EReal))⟩
  show (if _ < (0 : ℝ) then _ else if _ = (0 : ℝ) then _ else _) = _
  rw [if_neg hp.not_gt, if_neg hp.ne']

variable (X : (⟨2, ![32768, 1024]⟩ : Shape).Idx → EReal) (g : (⟨1, ![1024]⟩ : Shape).Idx → EReal) (W : (⟨2, ![1024, 8]⟩ : Shape).Idx → EReal)

theorem normed_real (hX : ∀ y, IsReal (X y)) (hg : ∀ y, IsReal (g y)) (r : Fin 32768) (e : Fin 1024) : IsReal (normed X g r e) :=
  ((hX _).mul (factor_real _ fun k => hX _)).mul (hg _)

/-- The eight scores of a row. -/
def scores (r : Fin 32768) (e : Fin 8) : EReal := ∑ k : Fin 1024, normed X g r k * W (ix2 k e)

theorem scores_real (hX : ∀ y, IsReal (X y)) (hg : ∀ y, IsReal (g y)) (hW : ∀ y, IsReal (W y)) (r : Fin 32768) (e : Fin 8) :
    IsReal (scores X g W r e) := IsReal.sum fun k => (normed_real X g hX hg r k).mul (hW _)

/-- The rows. -/
def tokens : (⟨2, ![32768, 1024]⟩ : Shape).Idx → EReal := fun y => normed X g (y 0) (y 1)

/-- Two entries, and zeros after them. -/
def two {α : Type} (u v z : α) (n : ℕ) : α := if n = 0 then u else if n = 1 then v else z

/-- The positions of the two largest scores. -/
def places : (⟨2, ![8, 32768]⟩ : Shape).Idx → BitVec 32 := fun y =>
  two (BitVec.ofNat 32 (first (scores X g W (y 1))).val) (BitVec.ofNat 32 (second (scores X g W (y 1))).val) 0#32 (y 0).val

/-- A row's weights. -/
def weightOf (a : Fin 8 → EReal) (n : ℕ) : EReal := two (weight1 (a (first a)) (a (second a))) (weight2 (a (first a)) (a (second a))) 0 n

/-- Their weights. -/
def weights : (⟨2, ![32768, 128]⟩ : Shape).Idx → EReal := fun y => weightOf (scores X g W (y 0)) (y 1).val

end Cert.Proof.Rtr

end
-- ==== Proof.Rtr.Value.lean ====
/-
  The router's results at the ideal floats, put together from its blocks: row `r` divided by its root mean square, the
  positions of its two largest scores, and their weights.
-/
module

public import proofs.«01_k».proof.Proof.Rtr.Block
public import proofs.«01_k».proof.Proof.Rtr.Spec
public import Idealize.ShloMosaic.Lib.KernelVsHost
public import Idealize.ShloMosaic.Lib.StableHlo

@[expose] public section

noncomputable section

namespace Cert.Proof.Rtr

open Cert.Kernel6Ideal Cert.Kernel6Ideal.Gen
open Idealize.ShloMosaic hiding ix1 ix2
open Idealize.ShloMosaic.TcCoe Idealize.ShloMosaic.ValueIdx
open Cert.Proof.Rms

variable (m : (ℓ : Loc nD τ sig) → Buf (Elt Ideal) ℓ) (c : Dev nD)

/-! ### What the blocks hold -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![t.val, 0] := by decide +kernel
theorem index4 : ∀ t : Fin grid0.N, win0_4.index t = ![0, t.val] := by decide +kernel
theorem index5 : ∀ t : Fin grid0.N, win0_5.index t = ![t.val, 0] := by decide +kernel

theorem gains_eq : V m c main_v1 = shapeCast S1x1024 (m ((c.tc : Thread nD τ).loc main_arg1)) shapeCasts_S1024_S1x1024 := by
  show StableHlo.after (List.flatten [hostOps0, hostOps0_1, hostOps0_2]) _ _ = _
  simp only [List.flatten_cons, List.flatten_nil, List.append_nil, hostOps0, hostOps0_1, hostOps0_2, List.cons_append, List.nil_append]
  after_results
  rfl

theorem router_eq : V m c main_v0 = pad S1024x128 ![0, 0] ![0, 120] ![0, 0] (m ((c.tc : Thread nD τ).loc main_arg2))
    (sitofp (F := Ideal) .f32 (constantI S_ 32 0#32)) pads_S1024x8_S1024x128_000_01200 h_S_ := by
  show StableHlo.after (List.flatten [hostOps0, hostOps0_1, hostOps0_2]) _ _ = _
  simp only [List.flatten_cons, List.flatten_nil, List.append_nil, hostOps0, hostOps0_1, hostOps0_2, List.cons_append, List.nil_append]
  after_results
  rfl

/-- The point's rows, counted from the first. -/
def rowAt (t : Fin cfg0.N) (r : Fin 512) : Fin 32768 := ⟨t.val * 512 + r.val, by have h : t.val < 64 := t.isLt; have := r.isLt; omega⟩

theorem blk0 (t : Fin cfg0.N) (r : Fin 512) (e : Fin 1024) :
    iblk m c 0 t (ix2 r e) = m ((c.tc : Thread nD τ).loc main_arg0) (ix2 (rowAt t r) e) := by
  unfold iblk
  rw [View.read_apply, V_main_arg0]
  refine congrArg (m ((c.tc : Thread nD τ).loc main_arg0)) ?_
  blk_ext [index0 t, rowAt]

theorem blk1 (t : Fin cfg0.N) (e : Fin 1024) :
    iblk m c 1 t (ix2 (0 : Fin 1) e) = m ((c.tc : Thread nD τ).loc main_arg1) (ix1 e) := by
  unfold iblk
  rw [View.read_apply]
  show V m c main_v1 _ = _
  rw [gains_eq]
  refine (congrArg (shapeCast S1x1024 (m ((c.tc : Thread nD τ).loc main_arg1)) shapeCasts_S1024_S1x1024) (?_ : _ = ix2 (0 : Fin 1) e)).trans ?_
  · blk_ext [index1 t]
  · refine shapeCast_apply _ _ _ _ ?_
    have h1 : (S1024.rowMajor (ix1 e)).val = e.val := Shape.rowMajor_val_one _
    have h2 : (S1x1024.rowMajor (ix2 (0 : Fin 1) e)).val = 0 * 1024 + e.val := Shape.rowMajor_val_two _
    exact h1.trans (by omega)

theorem blk2 (t : Fin cfg0.N) : iblk m c 2 t = V m c main_v0 := by
  funext y
  unfold iblk
  rw [View.read_apply]
  show V m c main_v0 _ = _
  refine congrArg (V m c main_v0) ?_
  blk_ext [index2 t]

theorem router_inside (k : Fin 1024) (l : Fin 128) (h : l.val < 8) :
    V m c main_v0 (ix2 k l) = m ((c.tc : Thread nD τ).loc main_arg2) (ix2 k (⟨l.val, h⟩ : Fin 8)) := by
  rw [router_eq]
  refine pad_apply_of_inside _ _ _ _ _ _ _ _ (ix2 k (⟨l.val, h⟩ : Fin 8)) fun a => ?_
  match a with
  | ⟨0, _⟩ => show k.val = 0 + k.val * (0 + 1); omega
  | ⟨1, _⟩ => show l.val = 0 + l.val * (0 + 1); omega

/-! ### The arrays -/

section Arrays

variable (hX : ∀ y, IsReal (m ((c.tc : Thread nD τ).loc main_arg0) y)) (hg : ∀ y, IsReal (m ((c.tc : Thread nD τ).loc main_arg1) y))
  (hW : ∀ y, IsReal (m ((c.tc : Thread nD τ).loc main_arg2) y))

theorem rows_at (t : Fin cfg0.N) (r : Fin 512) (e : Fin 1024) :
    k0_pay2 (iblk m c 0 t) (iblk m c 1 t) (ix2 r e)
      = normed (m ((c.tc : Thread nD τ).loc main_arg0)) (m ((c.tc : Thread nD τ).loc main_arg1)) (rowAt t r) e := by
  rw [rows_apply, blk0, blk1]
  refine congrArg (fun f => _ * factor (Ideal.ofBits .f32 0x44800000#32) f * _) (funext fun k => blk0 m c t r k)

include hW in
theorem router_real (k : Fin 1024) (l : Fin 128) : IsReal (V m c main_v0 (ix2 k l)) := by
  by_cases h : l.val < 8
  · rw [router_inside m c k l h]; exact hW _
  · rw [router_eq]
    rw [pad_apply_of_not_inside _ _ _ _ _ _ _ (ix2 k l) (1 : Fin 2) fun hn => h ?_]
    · exact ⟨_, rfl⟩
    have h3 : (l.val - 0) / (0 + 1) < 8 := hn.2.2
    omega

include hX hg hW in
theorem scores_at (t : Fin cfg0.N) (r : Fin 512) (l : Fin 128) :
    k0_pay4 (iblk m c 0 t) (iblk m c 1 t) (iblk m c 2 t) (ix2 r l)
      = lanes (scores (m ((c.tc : Thread nD τ).loc main_arg0)) (m ((c.tc : Thread nD τ).loc main_arg1)) (m ((c.tc : Thread nD τ).loc main_arg2)) (rowAt t r)) l := by
  rw [scores_apply _ _ _ r l (fun k => (rows_at m c t r k).symm ▸ normed_real _ _ hX hg _ k) (fun k => (blk2 m c t).symm ▸ router_real m c hW k l)]
  unfold lanes
  by_cases h : l.val < 8
  · rw [if_pos h, dif_pos h]
    refine Finset.sum_congr rfl fun k _ => ?_
    rw [rows_at, blk2, router_inside m c k l h]
  · rw [if_neg h, dif_neg h]

include hX hg hW in
theorem scores_ne (t : Fin cfg0.N) (r : Fin 512) (e : Fin 8) :
    scores (m ((c.tc : Thread nD τ).loc main_arg0)) (m ((c.tc : Thread nD τ).loc main_arg1)) (m ((c.tc : Thread nD τ).loc main_arg2)) (rowAt t r) e ≠ ⊥ := by
  obtain ⟨v, hv⟩ := scores_real _ _ _ hX hg hW (rowAt t r) e
  rw [hv]
  exact EReal.coe_ne_bot v

theorem array3_eq :
    (dats m 0 c).arrAt 3 cfg0.N = tokens (m ((c.tc : Thread nD τ).loc main_arg0)) (m ((c.tc : Thread nD τ).loc main_arg1)) := by
  refine (dats m 0 c).arrAt_eq_of_covers 3 _ (by decide +kernel) fun t hf y => ?_
  blk_simp
  rw [after0_3]
  refine (congrArg (out0_3 _ _ _) (ValueIdx.eq_ix2 y)).trans ((left3_apply _ _ _ _ _).trans ((rows_at m c t _ _).trans ?_))
  refine (rfl : _ = tokens (m ((c.tc : Thread nD τ).loc main_arg0)) (m ((c.tc : Thread nD τ).loc main_arg1)) (ix2 (rowAt t (y 0)) (y 1))).trans (congrArg (tokens _ _) ?_)
  blk_ext [index3 t, rowAt]

include hX hg hW in
theorem array4_eq :
    (dats m 0 c).arrAt 4 cfg0.N = places (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  refine (congrArg (out0_4 _ _ _) (ValueIdx.eq_ix2 y)).trans ((left4_apply _ _ _ (y 1) _ (scores_ne m c hX hg hW t (y 1)) (scores_at m c hX hg hW t (y 1)) (y 0)).trans ?_)
  refine (rfl : _ = places (m ((c.tc : Thread nD τ).loc main_arg0)) (m ((c.tc : Thread nD τ).loc main_arg1)) (m ((c.tc : Thread nD τ).loc main_arg2)) (ix2 (y 0) (rowAt t (y 1)))).trans (congrArg (places _ _ _) ?_)
  blk_ext [index4 t, rowAt]

include hX hg hW in
theorem array5_eq :
    (dats m 0 c).arrAt 5 cfg0.N = weights (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  blk_simp
  rw [after0_5]
  refine (congrArg (out0_5 _ _ _) (ValueIdx.eq_ix2 y)).trans ((left5_apply _ _ _ (y 0) _ (scores_ne m c hX hg hW t (y 0)) (scores_at m c hX hg hW t (y 0)) (y 1)).trans ?_)
  refine (rfl : _ = weights (m ((c.tc : Thread nD τ).loc main_arg0)) (m ((c.tc : Thread nD τ).loc main_arg1)) (m ((c.tc : Thread nD τ).loc main_arg2)) (ix2 (rowAt t (y 0)) (y 1))).trans (congrArg (weights _ _ _) ?_)
  blk_ext [index5 t, rowAt]

end Arrays

end Cert.Proof.Rtr

end
-- ==== Proof.SbI.Model.lean ====
/-
  Stick breaking over the reals: for scores `Z t s` of a query row against the earlier key rows, the negated log of the
  rest of the stick, its sums over a stretch of keys, and the weighted sum of the values over that stretch. The stretch
  grows downwards by one tile of 256 keys at a time.
-/
module

public import Mathlib.Analysis.SpecialFunctions.Log.Basic
public import Mathlib.Data.EReal.Operations
public import Mathlib.Algebra.BigOperators.Intervals

@[expose] public section

noncomputable section

namespace Cert.Proof.Stick

/-- `max x 0 + log (1 + exp (-|x|))`. -/
def nrm (x : ℝ) : ℝ := max x 0 + Real.log (1 + Real.exp (-|x|))

/-- The sum of `nrm` over the keys of a stretch. -/
def spent (z : ℕ → ℝ) (lo hi : ℕ) : ℝ := ∑ u ∈ Finset.Ico lo hi, nrm (z u)

/-- The weight of key `s` for the query row `t`. -/
def wt (z : ℕ → ℝ) (t s : ℕ) : ℝ := Real.exp (z s - nrm (z s) - spent z (s + 1) t)

/-- The weighted sum of the values of the keys from `lo` on. -/
def mix (z : ℕ → ℝ) (v : ℕ → EReal) (lo t : ℕ) : EReal := ∑ s ∈ Finset.Ico lo t, ((wt z t s : ℝ) : EReal) * v s

theorem sum_tile {M : Type} [AddCommMonoid M] (f : ℕ → M) (o : ℕ) :
    ∑ k : Fin 256, f (o + k.val) = ∑ u ∈ Finset.Ico o (o + 256), f u := by
  rw [Finset.sum_Ico_eq_sum_range, Nat.add_sub_cancel_left, Fin.sum_univ_eq_sum_range (fun k => f (o + k)) 256]

/-- The keys of a tile before the `r`-th. -/
theorem sum_tile_lt {M : Type} [AddCommMonoid M] (f : ℕ → M) (o r : ℕ) (hr : r ≤ 256) :
    (∑ k : Fin 256, if k.val < r then f (o + k.val) else 0) = ∑ u ∈ Finset.Ico o (o + r), f u := by
  rw [Finset.sum_Ico_eq_sum_range, Nat.add_sub_cancel_left, Fin.sum_univ_eq_sum_range (fun k => if k < r then f (o + k) else 0) 256,
    ← Finset.sum_filter]
  refine Finset.sum_congr (Finset.ext fun x => ?_) fun _ _ => rfl
  simp only [Finset.mem_filter, Finset.mem_range]; omega

/-- The keys of a tile after the `s`-th, before the `r`-th. -/
theorem sum_tile_mid {M : Type} [AddCommMonoid M] (f : ℕ → M) (o s r : ℕ) (hr : r ≤ 256) :
    (∑ k : Fin 256, if s < k.val then (if k.val < r then f (o + k.val) else 0) else 0) = ∑ u ∈ Finset.Ico (o + s + 1) (o + r), f u := by
  rw [Fin.sum_univ_eq_sum_range (fun k => if s < k then (if k < r then f (o + k) else 0) else 0) 256]
  simp only [← ite_and]
  rw [← Finset.sum_filter]
  refine Finset.sum_nbij' (fun k => o + k) (fun u => u - o) ?_ ?_ ?_ ?_ ?_
  · intro k hk; simp only [Finset.mem_filter, Finset.mem_range] at hk; simp only [Finset.mem_Ico]; omega
  · intro u hu; simp only [Finset.mem_Ico] at hu; simp only [Finset.mem_filter, Finset.mem_range]; omega
  · intro k hk; simp
  · intro u hu; simp only [Finset.mem_Ico] at hu; show o + (u - o) = u; omega
  · intro k hk; rfl

/-- The keys of a tile after the `s`-th. -/
theorem sum_tile_gt {M : Type} [AddCommMonoid M] (f : ℕ → M) (o s : ℕ) :
    (∑ k : Fin 256, if s < k.val then f (o + k.val) else 0) = ∑ u ∈ Finset.Ico (o + s + 1) (o + 256), f u := by
  rw [← sum_tile_mid f o s 256 le_rfl]
  refine Finset.sum_congr rfl fun k _ => ?_
  rw [if_pos k.isLt]

theorem spent_split (z : ℕ → ℝ) (a b c : ℕ) (hab : a ≤ b) (hbc : b ≤ c) : spent z a c = spent z a b + spent z b c :=
  (Finset.sum_Ico_consecutive _ hab hbc).symm

theorem spent_self (z : ℕ → ℝ) (a : ℕ) : spent z a a = 0 := by simp [spent]

/-- One more tile. -/
theorem mix_tile (z : ℕ → ℝ) (v : ℕ → EReal) (o t : ℕ) (h : o + 256 ≤ t) :
    mix z v (o + 256) t + ∑ s : Fin 256, ((wt z t (o + s.val) : ℝ) : EReal) * v (o + s.val) = mix z v o t := by
  rw [sum_tile (fun u => ((wt z t u : ℝ) : EReal) * v u) o, add_comm]
  exact Finset.sum_Ico_consecutive _ (by omega) h

theorem coe_max (a b : ℝ) : ((max a b : ℝ) : EReal) = max (a : EReal) (b : EReal) := EReal.coe_strictMono.monotone.map_max

/-- Sums of reals, as extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

end Cert.Proof.Stick

end
-- ==== Proof.SbI.Ops.lean ====
/-
  The pure functions of a visit at the ideal floats, entry by entry: sums in place of products of tiles, real numbers in
  place of the logs and the exponentials wherever the scores are real.
-/
module

public import proofs.«01_k».proof.Proof.SbI.Spec
public import proofs.«01_k».proof.Proof.SbI.Model
public import Idealize.ShloMosaic.Lib.MatmulPlain
public import Idealize.ShloMosaic.Lib.IdealHost
public import Idealize.ShloMosaic.Lib.ValueIdx
public import Idealize.ShloMosaic.PureOps.Ideal.Laws
public import Idealize.ShloMosaic.PureOps.Reduce

@[expose] public section

noncomputable section

namespace Cert.Proof.SbI

open Cert.KernelIdeal Cert.KernelIdeal.Gen
open Idealize.ShloMosaic Idealize.ShloMosaic.TcCoe
open Cert.Proof.Stick

/-! ### The products -/

theorem scores_apply (q k : FVec Ideal S256x128 .bf16) (r s : Fin 256) :
    scores q k (at2 r s) = ∑ e : Fin 128, q (at2 r e) * k (at2 s e) := by
  have h := Ideal.matmul_transposedRhs_apply (M := 256) (K := 128) (N := 256) none q k (constant S256x256 .f32 0x00000000#32) r s
  refine Eq.trans ?_ (h.trans ?_)
  · rfl
  · show Ideal.ofBits .f32 0x00000000#32 + _ = _
    rw [Ideal.ofBits_zero_f32, zero_add]
    rfl

theorem sums_apply (n : FVec Ideal S256x256 .f32) (uo : FVec Ideal S256x384 .bf16) (r : Fin 256) (l : Fin 384) :
    sums n uo (at2 r l) = ∑ k : Fin 256, n (at2 r k) * uo (at2 k l) := by
  have h := Ideal.matmul_plain_apply (M := 256) (K := 256) (N := 384) none (truncf .bf16 n bitsLt_bf16_f32) uo (constant S256x384 .f32 0x00000000#32) r l
  refine Eq.trans ?_ (h.trans ?_)
  · rfl
  · show Ideal.ofBits .f32 0x00000000#32 + _ = _
    rw [Ideal.ofBits_zero_f32, zero_add]
    rfl

theorem weigh_apply (w : FVec Ideal S256x256 .f32) (v : FVec Ideal S256x128 .bf16) (r : Fin 256) (d : Fin 128) :
    weigh w v (at2 r d) = ∑ s : Fin 256, w (at2 r s) * v (at2 s d) := by
  have h := Ideal.matmul_plain_apply (M := 256) (K := 256) (N := 128) none (truncf .bf16 w bitsLt_bf16_f32) v (constant S256x128 .f32 0x00000000#32) r d
  refine Eq.trans ?_ (h.trans ?_)
  · rfl
  · show Ideal.ofBits .f32 0x00000000#32 + _ = _
    rw [Ideal.ofBits_zero_f32, zero_add]
    rfl

/-! ### The logs -/

theorem zeroS_apply (x : S256x256.Idx) : (zeroS : FVec Ideal S256x256 .f32) x = 0 := Ideal.ofBits_zero_f32

theorem max_neg_coe (x : ℝ) : max (x : EReal) (-(x : EReal)) = ((|x| : ℝ) : EReal) := by
  rw [← EReal.coe_neg, ← coe_max]; rfl

theorem restNeg_apply (z : FVec Ideal S256x256 .f32) (x : S256x256.Idx) (ζ : ℝ) (hz : z x = (ζ : EReal)) :
    restNeg z x = ((nrm ζ : ℝ) : EReal) := by
  show max (z x) (Ideal.ofBits .f32 0x00000000#32) + Ideal.log (Ideal.ofBits .f32 0x3F800000#32
    + Ideal.exp (Ideal.ofBits .f32 0x00000000#32 - max (z x) (-(z x)))) = _
  rw [hz, Ideal.ofBits_zero_f32, Ideal.ofBits_one_f32, max_neg_coe, zero_sub, ← EReal.coe_neg, Ideal.exp_coe, ← EReal.coe_one, ← EReal.coe_add,
    Ideal.log_coe, if_neg (by have := Real.exp_pos (-|ζ|); linarith), ← EReal.coe_zero, ← coe_max, ← EReal.coe_add]
  rfl

theorem breakLog_apply (z : FVec Ideal S256x256 .f32) (x : S256x256.Idx) (ζ : ℝ) (hz : z x = (ζ : EReal)) :
    breakLog z x = ((ζ - nrm ζ : ℝ) : EReal) := by
  show z x - restNeg z x = _
  rw [restNeg_apply z x ζ hz, hz, EReal.coe_sub]

/-! ### The triangle -/

theorem below_apply (r s : Fin 256) : below (at2 r s) = BitVec.ofBool (decide (s.val < r.val)) := by
  have h : ∀ r s : Fin 256, IntOp.cmpi .slt (BitVec.ofNat 32 s.val) (BitVec.ofNat 32 r.val) = BitVec.ofBool (decide (s.val < r.val)) := by
    intro r s
    have hr := r.isLt
    have hs := s.isLt
    show BitVec.ofBool (BitVec.slt _ _) = _
    congr 1
    rw [BitVec.slt_eq_decide]
    refine decide_eq_decide.mpr ?_
    rw [BitVec.toInt_eq_toNat_of_lt (by rw [BitVec.toNat_ofNat]; omega), BitVec.toInt_eq_toNat_of_lt (by rw [BitVec.toNat_ofNat]; omega),
      BitVec.toNat_ofNat, BitVec.toNat_ofNat]
    omega
  show IntOp.cmpi .slt (iota .tc S256x256 32 [1] iota_S256x256_d1_w32 (at2 r s)) (iota .tc S256x256 32 [0] iota_S256x256_d0_w32 (at2 r s)) = _
  rw [iota_single_apply, iota_single_apply]
  exact h r s

theorem select_below {α : Type} (a b : S256x256.Idx → α) (r s : Fin 256) :
    select below a b (at2 r s) = if s.val < r.val then a (at2 r s) else b (at2 r s) := by
  show Scalar.select (below (at2 r s)) _ _ = _
  rw [below_apply]
  by_cases h : s.val < r.val
  · rw [if_pos h, decide_eq_true h]; rfl
  · rw [if_neg h, decide_eq_false h]; rfl

/-- The matrix the sums are taken with: the strict lower triangle, then ones. -/
def IsTri (uo : FVec Ideal S256x384 .bf16) : Prop :=
  ∀ (k : Fin 256) (l : Fin 384), uo (at2 k l) = if l.val < 256 then (if l.val < k.val then 1 else 0) else 1

theorem sufs_apply (s : FVec Ideal S256x384 .f32) (r c : Fin 256) :
    sufs s (at2 r c) = s (at2 r ⟨c.val, by omega⟩) :=
  extractStridedSlice_apply _ _ _ _ _ fun a => match a with
    | ⟨0, _⟩ => (Nat.zero_add _).symm
    | ⟨1, _⟩ => (Nat.zero_add _).symm

theorem tots_apply (s : FVec Ideal S256x384 .f32) (r : Fin 256) (l : Fin 128) :
    tots s (at2 r l) = s (at2 r ⟨256 + l.val, by omega⟩) :=
  extractStridedSlice_apply _ _ _ _ _ fun a => match a with
    | ⟨0, _⟩ => (Nat.zero_add _).symm
    | ⟨1, _⟩ => rfl

/-- The sums over later columns of a real tile, -/
theorem sufs_sums (n : FVec Ideal S256x256 .f32) (uo : FVec Ideal S256x384 .bf16) (hu : IsTri uo) (ν : Fin 256 → ℝ) (r c : Fin 256)
    (hn : ∀ k, n (at2 r k) = ((ν k : ℝ) : EReal)) :
    sufs (sums n uo) (at2 r c) = ((∑ k : Fin 256, if c.val < k.val then ν k else 0 : ℝ) : EReal) := by
  rw [sufs_apply, sums_apply, coe_sum]
  refine Finset.sum_congr rfl fun k _ => ?_
  rw [hn k, hu k, if_pos (show c.val < 256 from c.isLt)]
  by_cases h : c.val < k.val
  · rw [if_pos h, if_pos h, mul_one]
  · rw [if_neg h, if_neg h, mul_zero, EReal.coe_zero]

/-- and the row sums. -/
theorem tots_sums (n : FVec Ideal S256x256 .f32) (uo : FVec Ideal S256x384 .bf16) (hu : IsTri uo) (ν : Fin 256 → ℝ) (r : Fin 256) (l : Fin 128)
    (hn : ∀ k, n (at2 r k) = ((ν k : ℝ) : EReal)) :
    tots (sums n uo) (at2 r l) = ((∑ k : Fin 256, ν k : ℝ) : EReal) := by
  rw [tots_apply, sums_apply, coe_sum]
  refine Finset.sum_congr rfl fun k _ => ?_
  rw [hn k, hu k, if_neg (by show ¬(256 + l.val < 256); omega), mul_one]

/-! ### The visits -/

section Visits

variable (z : FVec Ideal S256x256 .f32) (uo : FVec Ideal S256x384 .bf16) (hu : IsTri uo) (r : Fin 256)
  (Z : ℕ → ℝ) (o : ℕ) (hz : ∀ s : Fin 256, z (at2 r s) = ((Z (o + s.val) : ℝ) : EReal))
include hu hz

theorem diag_row (k : Fin 256) : select below (restNeg z) zeroS (at2 r k)
    = (((if k.val < r.val then nrm (Z (o + k.val)) else 0 : ℝ)) : EReal) := by
  rw [select_below]
  by_cases h : k.val < r.val
  · rw [if_pos h, if_pos h, restNeg_apply z _ _ (hz k)]
  · rw [if_neg h, if_neg h, zeroS_apply, EReal.coe_zero]

theorem diagCarry_apply (l : Fin 128) : diagCarry z uo (at2 r l) = ((-spent Z o (o + r.val) : ℝ) : EReal) := by
  show Ideal.ofBits .f32 0x00000000#32 - tots (diagSums z uo) (at2 r l) = _
  rw [Ideal.ofBits_zero_f32, zero_sub, diagSums, tots_sums _ uo hu _ r l (diag_row z uo hu r Z o hz),
    sum_tile_lt (fun u => nrm (Z u)) o r.val r.isLt.le, EReal.coe_neg]
  rfl

theorem diagAcc_apply (v : FVec Ideal S256x128 .bf16) (V : ℕ → EReal) (d : Fin 128) (hv : ∀ s : Fin 256, v (at2 s d) = V (o + s.val)) :
    diagAcc z uo v (at2 r d) = mix Z V o (o + r.val) := by
  rw [diagAcc, weigh_apply, mix, ← sum_tile_lt (fun s => ((wt Z (o + r.val) s : ℝ) : EReal) * V s) o r.val r.isLt.le]
  refine Finset.sum_congr rfl fun s _ => ?_
  rw [select_below]
  by_cases h : s.val < r.val
  · rw [if_pos h, if_pos h, hv s]
    refine congrArg (· * V (o + s.val)) ?_
    show Ideal.exp (breakLog z (at2 r s) - sufs (diagSums z uo) (at2 r s)) = _
    rw [breakLog_apply z _ _ (hz s), diagSums, sufs_sums _ uo hu _ r s (diag_row z uo hu r Z o hz), ← EReal.coe_sub, Ideal.exp_coe,
      sum_tile_mid (fun u => nrm (Z u)) o s.val r.val r.isLt.le]
    rfl
  · rw [if_neg h, if_neg h, zeroS_apply, zero_mul]

theorem off_row (k : Fin 256) : restNeg z (at2 r k) = ((nrm (Z (o + k.val)) : ℝ) : EReal) := restNeg_apply z _ _ (hz k)

theorem offCarry_apply (prev : FVec Ideal S256x128 .f32) (p : ℝ) (l : Fin 128) (hp : prev (at2 r l) = (p : EReal)) :
    offCarry z uo prev (at2 r l) = ((p - spent Z o (o + 256) : ℝ) : EReal) := by
  show prev (at2 r l) - tots (sums (restNeg z) uo) (at2 r l) = _
  rw [hp, tots_sums _ uo hu _ r l (off_row z uo hu r Z o hz), ← EReal.coe_sub, sum_tile (fun u => nrm (Z u)) o]
  rfl

omit hu hz in
theorem twice_apply (prev : FVec Ideal S256x128 .f32) (p : EReal) (s : Fin 256) (hp : ∀ l, prev (at2 r l) = p) :
    concatenate S256x256 1 [⟨S256x128, prev⟩, ⟨S256x128, prev⟩] concatenates_S256x128_S256x128_S256x256_d1 (at2 r s) = p := by
  by_cases h : s.val < 128
  · exact (concatenate_pair_apply_left (t := S256x256) (s₁ := S256x128) (s₂ := S256x128) 1 prev prev _ (at2 r s) rfl (at2 r ⟨s.val, h⟩)
      (fun b => match b with | ⟨0, _⟩ => rfl | ⟨1, _⟩ => rfl)).trans (hp _)
  · have hs := s.isLt
    exact (concatenate_pair_apply_right (t := S256x256) (s₁ := S256x128) (s₂ := S256x128) 1 prev prev _ (at2 r s) rfl rfl
      (at2 r ⟨s.val - 128, by omega⟩)
      (fun b hb => match b, hb with | ⟨0, _⟩, _ => rfl | ⟨1, _⟩, hb => absurd rfl hb)
      (by show s.val - 128 + 128 = s.val; omega)).trans (hp _)

/-- A visit to a tile that there is, after the keys from `o + 256` on. -/
theorem offAcc_apply (prev acc : FVec Ideal S256x128 .f32) (v : FVec Ideal S256x128 .bf16) (V : ℕ → EReal) (d : Fin 128) (t : ℕ)
    (ht : o + 256 ≤ t) (hv : ∀ s : Fin 256, v (at2 s d) = V (o + s.val))
    (hp : ∀ l, prev (at2 r l) = ((-spent Z (o + 256) t : ℝ) : EReal)) (ha : acc (at2 r d) = mix Z V (o + 256) t) :
    offAcc z uo prev acc 1#1 v (at2 r d) = mix Z V o t := by
  show acc (at2 r d) + weigh (offWeights z uo prev 1#1) v (at2 r d) = _
  rw [ha, weigh_apply, ← mix_tile Z V o t ht]
  refine congrArg (mix Z V (o + 256) t + ·) (Finset.sum_congr rfl fun s _ => ?_)
  rw [hv s]
  refine congrArg (· * V (o + s.val)) ?_
  show Ideal.exp ((breakLog z (at2 r s) - sufs (sums (restNeg z) uo) (at2 r s)) + concatenate S256x256 1 [⟨S256x128, prev⟩, ⟨S256x128, prev⟩] concatenates_S256x128_S256x128_S256x256_d1 (at2 r s)) = _
  have hs := s.isLt
  rw [twice_apply r prev _ s hp, breakLog_apply z _ _ (hz s), sufs_sums _ uo hu _ r s (off_row z uo hu r Z o hz), ← EReal.coe_sub, ← EReal.coe_add,
    Ideal.exp_coe, sum_tile_gt (fun u => nrm (Z u)) o s.val]
  unfold wt
  rw [spent_split Z (o + s.val + 1) (o + 256) t (by omega) ht]
  refine congrArg (fun x : ℝ => ((Real.exp x : ℝ) : EReal)) ?_
  unfold spent
  ring

end Visits

/-- A visit where there is no tile leaves the accumulator. -/
theorem offAcc_none (z : FVec Ideal S256x256 .f32) (uo : FVec Ideal S256x384 .bf16) (prev acc : FVec Ideal S256x128 .f32)
    (v : FVec Ideal S256x128 .bf16) (r : Fin 256) (d : Fin 128) : offAcc z uo prev acc 0#1 v (at2 r d) = acc (at2 r d) := by
  show acc (at2 r d) + weigh (offWeights z uo prev 0#1) v (at2 r d) = _
  rw [weigh_apply, Finset.sum_eq_zero, add_zero]
  intro s _
  show (zeroS : FVec Ideal S256x256 .f32) (at2 r s) * _ = _
  rw [zeroS_apply, zero_mul]

/-! ### The test -/

theorem top_gt (x : FVec Ideal S256x128 .f32) (r : Fin 256) (l : Fin 128) (p : ℝ) (hx : x (at2 r l) = (p : EReal)) : (⊥ : EReal) < top x := by
  have one : ∀ a b : S1.Idx, a = b := fun a b => funext fun k => match k with
    | ⟨0, _⟩ => Fin.ext (by
        have ha : (a 0).val < 1 := (a 0).isLt
        have hb : (b 0).val < 1 := (b 0).isLt
        show (a 0).val = (b 0).val
        omega)
  let o : S1.Idx := fun k => match k with | ⟨0, _⟩ => (0 : Fin 1)
  have hd : ∀ y, reduces_S1x256x128_S1.drop y = o := fun y => one _ _
  have e : top x = multiReduction .maximumf [1, 2] S1 (shapeCast S1x256x128 x shapeCasts_S256x128_S1x256x128) 0xFF800000#32 reduces_S1x256x128_S1 (.inl rfl) rfl o := by
    unfold top extractAt
    refine shapeCast_apply (t := S1x1x1) _ _ _ o ?_
    have h1 := (S1.rowMajor o).isLt
    have h3 := (S1x1x1.rowMajor fun k => ⟨(![0, 0, 0] : Fin 3 → ℕ) k, inpos_S1x1x1_p0_0_0 k⟩).isLt
    have e1 : S1.numel = 1 := by decide
    have e3 : S1x1x1.numel = 1 := by decide
    omega
  refine lt_of_lt_of_eq ?_ (e.trans (multiReduction_maximumf_eq_fold (F := Ideal) (φ := .f32) _ _ reduces_S1x256x128_S1 (.inl rfl) rfl o)).symm
  refine (Finset.lt_fold_max (β := EReal) (b := Ideal.ofBits .f32 0xFF800000#32) ⊥).mpr (Or.inr ⟨at3 (0 : Fin 1) r l, ?_, ?_⟩)
  · rw [Finset.mem_filter]; exact ⟨Finset.mem_univ _, hd _⟩
  · rw [shapeCast_apply (t := S1x256x128) x _ _ (at2 r l) (by
      rw [Shape.rowMajor_val_three, Shape.rowMajor_val_two]
      show r.val * 128 + l.val = (0 * 256 + r.val) * 128 + l.val
      omega), hx]
    exact EReal.bot_lt_coe p

theorem stop_eq : (stop : Ideal .f32) = (⊥ : EReal) := rfl

end Cert.Proof.SbI

end
-- ==== Proof.SbI.Loop.lean ====
/-
  The loop of the stick-breaking kernel at the ideal floats: after the visits of a step each chain holds the sums over the
  keys visited so far, and the loop ends only when no chain has a tile left. So a chain ends with the weighted sum of the
  values over all the keys before its row.
-/
module

public import proofs.«01_k».proof.Proof.SbI.Ops

@[expose] public section

noncomputable section

namespace Cert.Proof.SbI

open Cert.KernelIdeal Cert.KernelIdeal.Gen
open Idealize.ShloMosaic Idealize.ShloMosaic.TcCoe
open Cert.Proof.Stick

/-! ### The test -/

theorem ori_zero : ∀ a b : BitVec 1, Scalar.ori a b = 0#1 → a = 0#1 ∧ b = 0#1 := by decide

theorem foldl_ori_zero : ∀ (bs : List (BitVec 1)) (b : BitVec 1), bs.foldl Scalar.ori b = 0#1 → b = 0#1 ∧ ∀ x ∈ bs, x = 0#1 := by
  intro bs
  induction bs with
  | nil => intro b h; exact ⟨h, fun x hx => absurd hx List.not_mem_nil⟩
  | cons a bs ih =>
    intro b h
    obtain ⟨h1, h2⟩ := ih _ h
    obtain ⟨hb, ha⟩ := ori_zero _ _ h1
    exact ⟨hb, fun x hx => (List.mem_cons.mp hx).elim (fun e => e ▸ ha) (h2 x)⟩

theorem anyOf_all : ∀ (bs : List (BitVec 1)), anyOf bs = 0#1 → ∀ b ∈ bs, b = 0#1
  | [], _ => fun b hb => absurd hb List.not_mem_nil
  | a :: bs, h => fun b hb => (List.mem_cons.mp hb).elim (fun e => e ▸ (foldl_ori_zero bs a h).1) ((foldl_ori_zero bs a h).2 b)

theorem word_off : ∀ b : BitVec 1, ¬Scalar.cmpi .sgt (Scalar.extui b : BitVec 32) 0#32 = 1#1 → b = 0#1 := by decide

theorem need_mem (v0 j : BitVec 32) (x : Fin 32 → Ideal .f32) (c : Fin 32) :
    ∀ cs : List (Fin 32), c ∈ cs → need v0 j c (x c) ∈ needs v0 j cs (cs.map x) := by
  intro cs
  induction cs with
  | nil => intro h; exact absurd h List.not_mem_nil
  | cons a cs ih =>
    intro h
    rw [List.map_cons, needs]
    rcases List.mem_cons.mp h with h | h
    · subst h; exact List.mem_cons_self
    · exact List.mem_cons_of_mem _ (ih h)

/-- With a carry above the bound, a chain is finished only when it has no tile left. -/
theorem need_zero (v0 j : BitVec 32) (c : Fin 32) (x : Ideal .f32) (hx : (⊥ : EReal) < x) (h : need v0 j c x = 0#1) :
    Scalar.cmpi .sge (Scalar.subi (Scalar.addi v0 (BitVec.ofNat 32 c.val)) j) 0#32 = 0#1 := by
  have h1 : Scalar.cmpf .ogt x (stop : Ideal .f32) = 1#1 := by
    show BitVec.ofBool (decide ((⊥ : EReal) < x)) = 1#1
    rw [decide_eq_true hx]; rfl
  unfold need at h
  rw [h1] at h
  exact (by decide : ∀ b : BitVec 1, Scalar.andi b 1#1 = 0#1 → b = 0#1) _ h

section Point

variable (i : grid0.Coords) (XQ : Vec Ideal S1x1x8192x128 .bf16) (XK XV : Vec Ideal S1x1x16384x128 .bf16) (uo : FVec Ideal S256x384 .bf16)

/-- The value of key `u` in lane `d`. -/
def vals (d : Fin 128) (u : ℕ) : EReal := XV (at4 (0 : Fin 1) (0 : Fin 1) (Fin.ofNat 16384 u) d)

/-- The scores of the point are the reals `Z`. -/
def Scored (Z : ℕ → ℕ → ℝ) : Prop := ∀ p u : ℕ,
  (∑ e : Fin 128, XQ (at4 (0 : Fin 1) (0 : Fin 1) (Fin.ofNat 8192 p) e) * XK (at4 (0 : Fin 1) (0 : Fin 1) (Fin.ofNat 16384 u) e) : EReal) = ((Z p u : ℝ) : EReal)

variable (hu : IsTri uo) (Z : ℕ → ℕ → ℝ) (hZ : Scored XQ XK Z)

/-- The query tile of a chain, counted from the first of the sequence. -/
abbrev tile (c : Fin 32) : ℕ := 32 * (i 2).val + c.val

theorem tile_lt (c : Fin 32) : tile i c < 64 := by
  have h2 : (i 2).val < 2 := (i 2).isLt
  have hc := c.isLt
  show 32 * (i 2).val + c.val < 64
  omega

include hZ in
theorem zAt_apply (j : ℕ) (c : Fin 32) (r s : Fin 256) :
    zAt i XQ XK j c (at2 r s) = ((Z (c.val * 256 + r.val) ((tile i c - j) * 256 + s.val) : ℝ) : EReal) :=
  (scores_apply _ _ r s).trans (hZ _ _)

theorem has_eq (j : ℕ) (hj : j < 65) (c : Fin 32) : has i j c = if j ≤ tile i c then 1#1 else 0#1 := sge_eq (i 2) ⟨j, hj⟩ c

/-- The states with `J` tiles visited. -/
structure Seen (J : ℕ) (σ : Fin 32 → St Ideal) : Prop where
  real : ∀ c (r : Fin 256), ∃ p : ℝ, ∀ l, (σ c).1 (at2 r l) = (p : EReal)
  carry : ∀ c (r : Fin 256), J ≤ tile i c + 1 → ∀ l, (σ c).1 (at2 r l)
    = ((-spent (Z (c.val * 256 + r.val)) ((tile i c + 1 - J) * 256) (tile i c * 256 + r.val) : ℝ) : EReal)
  acc : ∀ c (r : Fin 256) (d : Fin 128), (σ c).2 (at2 r d)
    = mix (Z (c.val * 256 + r.val)) (vals XV d) ((tile i c + 1 - J) * 256) (tile i c * 256 + r.val)

include hu hZ

theorem seen_diag : Seen i XV Z 1 (diagSt i XQ XK XV uo) where
  real c r := ⟨_, fun l => diagCarry_apply _ uo hu r (Z (c.val * 256 + r.val)) _ (zAt_apply i XQ XK Z hZ 0 c r) l⟩
  carry c r _ l := diagCarry_apply _ uo hu r (Z (c.val * 256 + r.val)) _ (zAt_apply i XQ XK Z hZ 0 c r) l
  acc c r d := diagAcc_apply _ uo hu r (Z (c.val * 256 + r.val)) _ (zAt_apply i XQ XK Z hZ 0 c r) _ (vals XV d) d (fun s => rfl)

theorem seen_off (j : ℕ) (h1 : 1 ≤ j) (hj : j < 65) (σ : Fin 32 → St Ideal) (h : Seen i XV Z j σ) :
    Seen i XV Z (j + 1) (fun c => offSt i XQ XK XV uo j c (σ c)) where
  real c r := by
    obtain ⟨p, hp⟩ := h.real c r
    exact ⟨_, fun l => offCarry_apply _ uo hu r (Z (c.val * 256 + r.val)) _ (zAt_apply i XQ XK Z hZ j c r) _ p l (hp l)⟩
  carry c r hJ l := by
    have hp := h.carry c r (by omega) l
    refine (offCarry_apply _ uo hu r (Z (c.val * 256 + r.val)) _ (zAt_apply i XQ XK Z hZ j c r) _ _ l hp).trans ?_
    have e1 : (tile i c + 1 - j) * 256 = (tile i c - j) * 256 + 256 := by omega
    have e2 : (tile i c + 1 - (j + 1)) * 256 = (tile i c - j) * 256 := by omega
    rw [e1, e2, spent_split _ ((tile i c - j) * 256) ((tile i c - j) * 256 + 256) (tile i c * 256 + r.val) (by omega) (by omega)]
    refine congrArg (fun x : ℝ => (x : EReal)) ?_
    ring
  acc c r d := by
    show offAcc (zAt i XQ XK j c) uo (σ c).1 (σ c).2 (has i j c) (vAt i XV j c) (at2 r d) = _
    by_cases hJ : j ≤ tile i c
    · rw [has_eq i j hj c, if_pos hJ]
      have e1 : (tile i c + 1 - j) * 256 = (tile i c - j) * 256 + 256 := by omega
      have e2 : (tile i c + 1 - (j + 1)) * 256 = (tile i c - j) * 256 := by omega
      have hc := h.carry c r (by omega)
      have ha := h.acc c r d
      rw [e1] at hc ha
      rw [e2]
      have ht : (tile i c - j) * 256 + 256 ≤ tile i c * 256 + r.val := by omega
      exact offAcc_apply _ uo hu r (Z (c.val * 256 + r.val)) _ (zAt_apply i XQ XK Z hZ j c r) _ _ _ (vals XV d) d _ ht
        (fun s => rfl) hc ha
    · rw [has_eq i j hj c, if_neg hJ, offAcc_none, h.acc c r d]
      rw [show tile i c + 1 - j = tile i c + 1 - (j + 1) by omega]

/-- Each chain ends with the weighted sum over all the keys before its row. -/
theorem loopSt_acc : ∀ (n j : ℕ), 1 ≤ j → j + n = 64 → ∀ (σ : Fin 32 → St Ideal), Seen i XV Z j σ → ∀ c (r : Fin 256) (d : Fin 128),
    (loopSt i XQ XK XV uo n j σ c).2 (at2 r d) = mix (Z (c.val * 256 + r.val)) (vals XV d) 0 (tile i c * 256 + r.val) := by
  intro n
  induction n with
  | zero =>
    intro j hj1 hj σ h c r d
    rw [loopSt, h.acc c r d]
    have := tile_lt i c
    rw [show (tile i c + 1 - j) * 256 = 0 by omega]
  | succ n ih =>
    intro j hj1 hj σ h c r d
    rw [loopSt]
    by_cases hw : Scalar.cmpi .sgt (wordAt i j σ) 0#32 = 1#1
    · rw [if_pos hw]
      exact ih (j + 1) (by omega) (by omega) _ (seen_off i XQ XK XV uo hu Z hZ j hj1 (by omega) σ h) c r d
    · rw [if_neg hw, h.acc c r d]
      obtain ⟨p, hp⟩ := h.real c 0
      have h0 := anyOf_all _ (word_off _ hw) _
        (need_mem (first i) (BitVec.ofNat 32 j) (fun c => top (σ c).1) c chains ((by decide : ∀ c : Fin 32, c ∈ chains) c))
      have h1 : has i j c = 0#1 := need_zero _ _ c _ (top_gt _ 0 0 p (hp 0)) h0
      rw [has_eq i j (by omega) c] at h1
      have h2 : ¬j ≤ tile i c := fun hle => by rw [if_pos hle] at h1; exact absurd h1 (by decide)
      rw [show (tile i c + 1 - j) * 256 = 0 by omega]

/-- The block the body leaves. -/
theorem outBlock_apply (y : S1x8192x128.Idx) : outBlock i XQ XK XV uo y
    = mix (Z (y 1).val) (vals XV (y 2)) 0 ((i 2).val * 8192 + (y 1).val) := by
  have h := loopSt_acc i XQ XK XV uo hu Z hZ 63 1 le_rfl rfl _ (seen_diag i XQ XK XV uo hu Z hZ) (chainOf (y 1)) (rowOf (y 1)) (y 2)
  have hy : (y 1).val < 8192 := (y 1).isLt
  have e1 : (chainOf (y 1)).val * 256 + (rowOf (y 1)).val = (y 1).val := by
    show (y 1).val / 256 * 256 + (y 1).val % 256 = _; omega
  have e2 : tile i (chainOf (y 1)) * 256 + (rowOf (y 1)).val = (i 2).val * 8192 + (y 1).val := by
    show (32 * (i 2).val + (y 1).val / 256) * 256 + (y 1).val % 256 = _; omega
  rw [e1, e2] at h
  exact h

end Point

end Cert.Proof.SbI

end
-- ==== Proof.SbI.Value.lean ====
/-
  The result of the stick-breaking kernel at the ideal floats: its array, put together from the blocks of the points, holds
  at row `t` of head `h` the weighted sum of the head's values over the rows before `t`.
-/
module

public import proofs.«01_k».proof.Proof.SbI.Frame
public import proofs.«01_k».proof.Proof.SbI.Loop
public import Idealize.ShloMosaic.Lib.Pipeline.ValueKit.Geometry
public import Idealize.ShloMosaic.Lib.StableHlo

@[expose] public section

noncomputable section

namespace Cert.Proof.SbI

open Cert.KernelIdeal Cert.KernelIdeal.Gen
open Idealize.ShloMosaic Idealize.ShloMosaic.TcCoe
open Cert.Proof.Stick

/-- The score of a query row against a key row, as a real number. -/
def score (Q K : FVec Ideal S2x4x16384x128 .bf16) (b : Fin 2) (h : Fin 4) (t u : ℕ) : ℝ :=
  EReal.toReal (∑ e : Fin 128, Q (at4 b h (Fin.ofNat 16384 t) e) * K (at4 b h (Fin.ofNat 16384 u) e))

/-- The value of a row in lane `d`. -/
def value (V : FVec Ideal S2x4x16384x128 .bf16) (b : Fin 2) (h : Fin 4) (d : Fin 128) (u : ℕ) : EReal := V (at4 b h (Fin.ofNat 16384 u) d)

/-- The head of a lane of the result, -/
def headOf (l : Fin 512) : Fin 4 := ⟨l.val / 128, by have := l.isLt; omega⟩
/-- and the lane within the head. -/
def laneOf (l : Fin 512) : Fin 128 := ⟨l.val % 128, Nat.mod_lt _ (by decide)⟩

/-- The result: stick-breaking attention, row by row. -/
def attend (Q K V : FVec Ideal S2x4x16384x128 .bf16) : FVec Ideal S2x16384x512 .bf16 := fun y =>
  mix (score Q K (y 0) (headOf (y 2)) (y 1).val) (value V (y 0) (headOf (y 2)) (laneOf (y 2))) 0 (y 1).val

theorem attend_at (Q K V : FVec Ideal S2x4x16384x128 .bf16) (b : Fin 2) (t : Fin 16384) (l : Fin 512) (h : Fin 4) (d : Fin 128)
    (eh : headOf l = h) (el : laneOf l = d) :
    attend Q K V (at3 b t l) = mix (score Q K b h t.val) (value V b h d) 0 t.val := by subst eh; subst el; rfl

/-- Every entry is a real number. -/
def AllReal (X : FVec Ideal S2x4x16384x128 .bf16) : Prop := ∀ y, ∃ x : ℝ, X y = (x : EReal)

theorem score_eq (Q K : FVec Ideal S2x4x16384x128 .bf16) (hQ : AllReal Q) (hK : AllReal K) (b : Fin 2) (h : Fin 4) (t u : ℕ) :
    (∑ e : Fin 128, Q (at4 b h (Fin.ofNat 16384 t) e) * K (at4 b h (Fin.ofNat 16384 u) e) : EReal) = ((score Q K b h t u : ℝ) : EReal) := by
  choose q hq using hQ
  choose k hk using hK
  have e : (∑ e : Fin 128, Q (at4 b h (Fin.ofNat 16384 t) e) * K (at4 b h (Fin.ofNat 16384 u) e) : EReal)
      = ((∑ e : Fin 128, q (at4 b h (Fin.ofNat 16384 t) e) * k (at4 b h (Fin.ofNat 16384 u) e) : ℝ) : EReal) := by
    rw [coe_sum]
    exact Finset.sum_congr rfl fun e _ => by rw [hq, hk, EReal.coe_mul]
  unfold score
  rw [e, EReal.toReal_coe]

variable (m : (ℓ : Loc nD τ sig) → Buf (Elt Ideal) ℓ)

/-! ### The blocks at their coordinates -/

theorem index0 : ∀ t : Fin grid0.N, win0_0.index t = ![(grid0.coords t 0).val, (grid0.coords t 1).val, (grid0.coords t 2).val, 0] := by decide +kernel
theorem index1 : ∀ t : Fin grid0.N, win0_1.index t = ![(grid0.coords t 0).val, (grid0.coords t 1).val, 0, 0] := by decide +kernel
theorem index2 : ∀ t : Fin grid0.N, win0_2.index t = ![(grid0.coords t 0).val, (grid0.coords t 1).val, 0, 0] := by decide +kernel
theorem index3 : ∀ t : Fin grid0.N, win0_3.index t = ![0, 0] := by decide +kernel
theorem index4 : ∀ t : Fin grid0.N, win0_4.index t = ![(grid0.coords t 0).val, (grid0.coords t 2).val, (grid0.coords t 1).val] := by decide +kernel

/-- The point's query rows, counted from the first of the sequence. -/
def rowAt (t : Fin grid0.N) (p : Fin 8192) : Fin 16384 :=
  ⟨(grid0.coords t 2).val * 8192 + p.val, by have h : (grid0.coords t 2).val < 2 := (grid0.coords t 2).isLt; have := p.isLt; omega⟩

theorem blkQ_apply (c : Dev nD) (t : Fin grid0.N) (x : S1x1x8192x128.Idx) :
    blkQ m c t x = m ((c.tc : Thread nD τ).loc main_arg0) (at4 (grid0.coords t 0 : Fin 2) (grid0.coords t 1 : Fin 4) (rowAt t (x 2)) (x 3)) := by
  show (((cfg0 (F := Ideal)).win 0).blk t).view.read (Elt Ideal) (arrs m c 0) x = _
  rw [View.read_apply]
  refine congrArg (m ((c.tc : Thread nD τ).loc main_arg0)) (funext fun a => Fin.ext ?_)
  have h0 : (x 0).val < 1 := (x 0).isLt
  have h1 : (x 1).val < 1 := (x 1).isLt
  match a with
  | ⟨0, _⟩ =>
    show win0_0.index t 0 * 1 + 1 * (x 0).val = (grid0.coords t 0).val
    rw [index0]; show (grid0.coords t 0).val * 1 + 1 * (x 0).val = _; omega
  | ⟨1, _⟩ =>
    show win0_0.index t 1 * 1 + 1 * (x 1).val = (grid0.coords t 1).val
    rw [index0]; show (grid0.coords t 1).val * 1 + 1 * (x 1).val = _; omega
  | ⟨2, _⟩ =>
    show win0_0.index t 2 * 8192 + 1 * (x 2).val = (grid0.coords t 2).val * 8192 + (x 2).val
    rw [index0]; show (grid0.coords t 2).val * 8192 + 1 * (x 2).val = _; omega
  | ⟨3, _⟩ =>
    show win0_0.index t 3 * 128 + 1 * (x 3).val = (x 3).val
    rw [index0]; show 0 * 128 + 1 * (x 3).val = _; omega

theorem blkK_apply (c : Dev nD) (t : Fin grid0.N) (x : S1x1x16384x128.Idx) :
    blkK m c t x = m ((c.tc : Thread nD τ).loc main_arg1) (at4 (grid0.coords t 0 : Fin 2) (grid0.coords t 1 : Fin 4) (x 2) (x 3)) := by
  show (((cfg0 (F := Ideal)).win 1).blk t).view.read (Elt Ideal) (arrs m c 1) x = _
  rw [View.read_apply]
  refine congrArg (m ((c.tc : Thread nD τ).loc main_arg1)) (funext fun a => Fin.ext ?_)
  have h0 : (x 0).val < 1 := (x 0).isLt
  have h1 : (x 1).val < 1 := (x 1).isLt
  match a with
  | ⟨0, _⟩ =>
    show win0_1.index t 0 * 1 + 1 * (x 0).val = (grid0.coords t 0).val
    rw [index1]; show (grid0.coords t 0).val * 1 + 1 * (x 0).val = _; omega
  | ⟨1, _⟩ =>
    show win0_1.index t 1 * 1 + 1 * (x 1).val = (grid0.coords t 1).val
    rw [index1]; show (grid0.coords t 1).val * 1 + 1 * (x 1).val = _; omega
  | ⟨2, _⟩ =>
    show win0_1.index t 2 * 16384 + 1 * (x 2).val = (x 2).val
    rw [index1]; show 0 * 16384 + 1 * (x 2).val = _; omega
  | ⟨3, _⟩ =>
    show win0_1.index t 3 * 128 + 1 * (x 3).val = (x 3).val
    rw [index1]; show 0 * 128 + 1 * (x 3).val = _; omega

theorem blkV_apply (c : Dev nD) (t : Fin grid0.N) (x : S1x1x16384x128.Idx) :
    blkV m c t x = m ((c.tc : Thread nD τ).loc main_arg2) (at4 (grid0.coords t 0 : Fin 2) (grid0.coords t 1 : Fin 4) (x 2) (x 3)) := by
  show (((cfg0 (F := Ideal)).win 2).blk t).view.read (Elt Ideal) (arrs m c 2) x = _
  rw [View.read_apply]
  refine congrArg (m ((c.tc : Thread nD τ).loc main_arg2)) (funext fun a => Fin.ext ?_)
  have h0 : (x 0).val < 1 := (x 0).isLt
  have h1 : (x 1).val < 1 := (x 1).isLt
  match a with
  | ⟨0, _⟩ =>
    show win0_2.index t 0 * 1 + 1 * (x 0).val = (grid0.coords t 0).val
    rw [index2]; show (grid0.coords t 0).val * 1 + 1 * (x 0).val = _; omega
  | ⟨1, _⟩ =>
    show win0_2.index t 1 * 1 + 1 * (x 1).val = (grid0.coords t 1).val
    rw [index2]; show (grid0.coords t 1).val * 1 + 1 * (x 1).val = _; omega
  | ⟨2, _⟩ =>
    show win0_2.index t 2 * 16384 + 1 * (x 2).val = (x 2).val
    rw [index2]; show 0 * 16384 + 1 * (x 2).val = _; omega
  | ⟨3, _⟩ =>
    show win0_2.index t 3 * 128 + 1 * (x 3).val = (x 3).val
    rw [index2]; show 0 * 128 + 1 * (x 3).val = _; omega

/-! ### The matrix -/

/-- The comparison of the rows with the columns, then ones. -/
def triBits : IVec S256x384 1 :=
  concatenate S256x384 1 [⟨S256x256, cmpi .sgt (broadcastInDim S256x256 ![0, 1] bcast_S256x1_S256x256_0_1 (broadcastInDim S256x1 ![0] bcast_S256_S256x1_0 (iotaInDim S256 32 0)))
      (broadcastInDim S256x256 ![0, 1] bcast_S1x256_S256x256_0_1 (broadcastInDim S1x256 ![1] bcast_S256_S1x256_1 (iotaInDim S256 32 0)))⟩,
    ⟨S256x128, broadcastInDim S256x128 ![] bcast_S_S256x128 (constantI S_ 1 1#1)⟩] concatenates_S256x256_S256x128_S256x384_d1

theorem entry_tri (c : Dev nD) : entry m c main_v8 = (uitofp .bf16 triBits : FVec Ideal S256x384 .bf16) := rfl

theorem blkU_apply (c : Dev nD) (t : Fin grid0.N) (x : S256x384.Idx) : blkU m c t x = (uitofp .bf16 triBits : FVec Ideal S256x384 .bf16) x := by
  show (((cfg0 (F := Ideal)).win 3).blk t).view.read (Elt Ideal) (arrs m c 3) x = _
  rw [View.read_apply]
  refine (congrArg (entry m c main_v8) (funext fun a => Fin.ext ?_ : _ = x)).trans (congrFun (entry_tri m c) x)
  match a with
  | ⟨0, _⟩ =>
    show win0_3.index t 0 * 256 + 1 * (x 0).val = (x 0).val
    rw [index3]; show 0 * 256 + 1 * (x 0).val = _; omega
  | ⟨1, _⟩ =>
    show win0_3.index t 1 * 384 + 1 * (x 1).val = (x 1).val
    rw [index3]; show 0 * 384 + 1 * (x 1).val = _; omega

theorem sgt_ofNat (r s : Fin 256) : IntOp.cmpi .sgt (BitVec.ofNat 32 r.val) (BitVec.ofNat 32 s.val) = BitVec.ofBool (decide (s.val < r.val)) := by
  have hr := r.isLt
  have hs := s.isLt
  show BitVec.ofBool (BitVec.slt _ _) = _
  congr 1
  rw [BitVec.slt_eq_decide]
  refine decide_eq_decide.mpr ?_
  rw [BitVec.toInt_eq_toNat_of_lt (by rw [BitVec.toNat_ofNat]; omega), BitVec.toInt_eq_toNat_of_lt (by rw [BitVec.toNat_ofNat]; omega),
    BitVec.toNat_ofNat, BitVec.toNat_ofNat]
  omega

theorem triBits_apply (k : Fin 256) (l : Fin 384) : triBits (at2 k l) = if l.val < 256 then (if l.val < k.val then 1#1 else 0#1) else 1#1 := by
  unfold triBits
  by_cases h : l.val < 256
  · rw [if_pos h]
    refine (concatenate_pair_apply_left (t := S256x384) (s₁ := S256x256) (s₂ := S256x128) 1 _ _ _ (at2 k l) rfl (at2 k ⟨l.val, h⟩)
      (fun b => match b with | ⟨0, _⟩ => rfl | ⟨1, _⟩ => rfl)).trans ?_
    refine (sgt_ofNat k ⟨l.val, h⟩).trans ?_
    show BitVec.ofBool (decide (l.val < k.val)) = _
    by_cases hl : l.val < k.val
    · rw [decide_eq_true hl, if_pos hl]; rfl
    · rw [decide_eq_false hl, if_neg hl]; rfl
  · rw [if_neg h]
    have hl := l.isLt
    exact (concatenate_pair_apply_right (t := S256x384) (s₁ := S256x256) (s₂ := S256x128) 1 _ _ _ (at2 k l) rfl rfl
      (at2 k ⟨l.val - 256, by omega⟩)
      (fun b hb => match b, hb with | ⟨0, _⟩, _ => rfl | ⟨1, _⟩, hb => absurd rfl hb)
      (by show l.val - 256 + 256 = l.val; omega)).trans rfl

theorem isTri (c : Dev nD) (t : Fin grid0.N) : IsTri (blkU m c t) := fun k l => by
  rw [blkU_apply]
  show (((triBits (at2 k l)).toNat : ℝ) : EReal) = _
  rw [triBits_apply]
  split
  · split
    · exact congrArg (fun x : ℝ => (x : EReal)) Nat.cast_one
    · exact congrArg (fun x : ℝ => (x : EReal)) Nat.cast_zero
  · exact congrArg (fun x : ℝ => (x : EReal)) Nat.cast_one

/-! ### The array -/

section Array

variable (c : Dev nD) (hQ : AllReal (m ((c.tc : Thread nD τ).loc main_arg0))) (hK : AllReal (m ((c.tc : Thread nD τ).loc main_arg1)))
include hQ hK

theorem outAt_apply (t : Fin grid0.N) (y : S1x8192x128.Idx) :
    outAt m c t y = attend (m ((c.tc : Thread nD τ).loc main_arg0)) (m ((c.tc : Thread nD τ).loc main_arg1)) (m ((c.tc : Thread nD τ).loc main_arg2))
      (at3 (grid0.coords t 0 : Fin 2) (rowAt t (y 1))
        (⟨(grid0.coords t 1).val * 128 + (y 2).val, by
          have h : (grid0.coords t 1).val < 4 := (grid0.coords t 1).isLt
          have h2 : (y 2).val < 128 := (y 2).isLt
          omega⟩ : Fin 512)) := by
  have hh : (grid0.coords t 1).val < 4 := (grid0.coords t 1).isLt
  have ha : (grid0.coords t 2).val < 2 := (grid0.coords t 2).isLt
  have h2 : (y 2).val < 128 := (y 2).isLt
  have h1 : (y 1).val < 8192 := (y 1).isLt
  have hs : Scored (blkQ m c t) (blkK m c t) (fun p u =>
      score (m ((c.tc : Thread nD τ).loc main_arg0)) (m ((c.tc : Thread nD τ).loc main_arg1)) (grid0.coords t 0 : Fin 2) (grid0.coords t 1 : Fin 4)
        ((grid0.coords t 2).val * 8192 + p % 8192) u) := by
    intro p u
    refine Eq.trans ?_ (score_eq _ _ hQ hK _ _ _ _)
    refine Finset.sum_congr rfl fun e _ => ?_
    rw [blkQ_apply, blkK_apply]
    have e1 : rowAt t (Fin.ofNat 8192 p) = Fin.ofNat 16384 ((grid0.coords t 2).val * 8192 + p % 8192) := Fin.ext (by
      show (grid0.coords t 2).val * 8192 + p % 8192 = ((grid0.coords t 2).val * 8192 + p % 8192) % 16384
      omega)
    rw [← e1]
    rfl
  refine (outBlock_apply (grid0.coords t) _ _ _ _ (isTri m c t) _ hs y).trans ?_
  have eh : headOf (⟨(grid0.coords t 1).val * 128 + (y 2).val, by omega⟩ : Fin 512) = (grid0.coords t 1 : Fin 4) := Fin.ext (by
    show ((grid0.coords t 1).val * 128 + (y 2).val) / 128 = (grid0.coords t 1).val
    omega)
  have el : laneOf (⟨(grid0.coords t 1).val * 128 + (y 2).val, by omega⟩ : Fin 512) = (y 2 : Fin 128) := Fin.ext (by
    show ((grid0.coords t 1).val * 128 + (y 2).val) % 128 = (y 2).val
    omega)
  refine Eq.trans ?_ (attend_at _ _ _ (grid0.coords t 0 : Fin 2) (rowAt t (y 1)) _ _ _ eh el).symm
  have ev : vals (blkV m c t) (y 2) = value (m ((c.tc : Thread nD τ).loc main_arg2)) (grid0.coords t 0 : Fin 2) (grid0.coords t 1 : Fin 4) (y 2 : Fin 128) :=
    funext fun u => blkV_apply m c t _
  rw [ev]
  have ep : (y 1).val % 8192 = (y 1).val := Nat.mod_eq_of_lt h1
  refine congrArg (fun p => mix (score _ _ _ _ ((grid0.coords t 2).val * 8192 + p)) _ 0 ((grid0.coords t 2).val * 8192 + (y 1).val)) ep

/-- What the array ends with. -/
theorem arr_eq : (dat0 m c).arrAt 4 (cfg0 (F := Ideal)).N
    = attend (m ((c.tc : Thread nD τ).loc main_arg0)) (m ((c.tc : Thread nD τ).loc main_arg1)) (m ((c.tc : Thread nD τ).loc main_arg2)) := by
  refine Pipeline.Dat.arrAt_eq_of_covers (dat0 m c) 4 _ (by decide +kernel) fun t hf y => ?_
  refine (outAt_apply m c hQ hK t y).trans ?_
  refine congrArg (attend _ _ _) (funext fun a => Fin.ext ?_)
  have h0 : (y 0).val < 1 := (y 0).isLt
  match a with
  | ⟨0, _⟩ =>
    show (grid0.coords t 0).val = win0_4.index t 0 * 1 + 1 * (y 0).val
    rw [index4]; show _ = (grid0.coords t 0).val * 1 + 1 * (y 0).val; omega
  | ⟨1, _⟩ =>
    show (grid0.coords t 2).val * 8192 + (y 1).val = win0_4.index t 1 * 8192 + 1 * (y 1).val
    rw [index4]; show _ = (grid0.coords t 2).val * 8192 + 1 * (y 1).val; omega
  | ⟨2, _⟩ =>
    show (grid0.coords t 1).val * 128 + (y 2).val = win0_4.index t 2 * 128 + 1 * (y 2).val
    rw [index4]; show _ = (grid0.coords t 1).val * 128 + 1 * (y 2).val; omega

end Array

end Cert.Proof.SbI

end
-- ==== Proof.Equal.lean ====
/-
  The reference at the ideal floats, entry by entry: its result is the same weighted sum, `SbI.attend`, as the kernel's.
-/
module

public import proofs.«01_k».proof.Proof.SbI.Value
public import proofs.«01_k».proof.Proof.Gen.ReferenceIdeal.Read
public import proofs.«01_k».proof.Proof.Gen.Pre_finite

@[expose] public section

noncomputable section

namespace Cert.Proof.Plain

open Cert.ReferenceIdeal Cert.ReferenceIdeal.Gen Cert.ReferenceIdeal.Read
open Idealize.ShloMosaic
open Cert.Proof.Stick
open Cert.Proof.SbI (at2 at3 at4 AllReal score score_eq value headOf laneOf attend max_neg_coe)

theorem slt_ofNat (a b : ℕ) (ha : a < 16384) (hb : b < 16384) :
    IntOp.cmpi .slt (BitVec.ofNat 32 a) (BitVec.ofNat 32 b) = BitVec.ofBool (decide (a < b)) := by
  show BitVec.ofBool (BitVec.slt _ _) = _
  congr 1
  rw [BitVec.slt_eq_decide]
  refine decide_eq_decide.mpr ?_
  rw [BitVec.toInt_eq_toNat_of_lt (by rw [BitVec.toNat_ofNat]; omega), BitVec.toInt_eq_toNat_of_lt (by rw [BitVec.toNat_ofNat]; omega),
    BitVec.toNat_ofNat, BitVec.toNat_ofNat]
  omega

theorem sgt_ofNat (a b : ℕ) (ha : a < 16384) (hb : b < 16384) :
    IntOp.cmpi .sgt (BitVec.ofNat 32 a) (BitVec.ofNat 32 b) = BitVec.ofBool (decide (b < a)) := slt_ofNat b a hb ha

theorem select_ofBool {α : Type} (p : Prop) [Decidable p] (a b : α) : Scalar.select (BitVec.ofBool (decide p)) a b = if p then a else b := by
  by_cases h : p
  · rw [if_pos h, decide_eq_true h]; rfl
  · rw [if_neg h, decide_eq_false h]; rfl

/-- A sum over the keys after `s`, before `r`. -/
theorem sum_mid {M : Type} [AddCommMonoid M] (n : ℕ) (f : ℕ → M) (s r : ℕ) (hr : r ≤ n) :
    (∑ k : Fin n, if s < k.val then (if k.val < r then f k.val else 0) else 0) = ∑ u ∈ Finset.Ico (s + 1) r, f u := by
  rw [Fin.sum_univ_eq_sum_range (fun k => if s < k then (if k < r then f k else 0) else 0) n]
  simp only [← ite_and]
  rw [← Finset.sum_filter]
  refine Finset.sum_congr (Finset.ext fun x => ?_) fun _ _ => rfl
  simp only [Finset.mem_filter, Finset.mem_range, Finset.mem_Ico]; omega

/-- A sum over the keys before `r`. -/
theorem sum_below {M : Type} [AddCommMonoid M] (n : ℕ) (f : ℕ → M) (r : ℕ) (hr : r ≤ n) :
    (∑ k : Fin n, if k.val < r then f k.val else 0) = ∑ u ∈ Finset.Ico 0 r, f u := by
  rw [Fin.sum_univ_eq_sum_range (fun k => if k < r then f k else 0) n, ← Finset.sum_filter]
  refine Finset.sum_congr (Finset.ext fun x => ?_) fun _ _ => rfl
  simp only [Finset.mem_filter, Finset.mem_range, Finset.mem_Ico]; omega

theorem ofNat_val (k : Fin 16384) : Fin.ofNat 16384 k.val = k := Fin.ext (Nat.mod_eq_of_lt k.isLt)

/-! ### The masks -/

theorem earlier (t s : Fin 16384) : val_main_v9 (F := Ideal) (at2 t s) = BitVec.ofBool (decide (s.val < t.val)) := by
  rw [val_main_v9_apply, val_main_v7_apply, val_main_v8_apply, val_main_v5_apply, val_main_v6_apply]
  exact slt_ofNat s.val t.val s.isLt t.isLt

theorem later (j s : Fin 16384) : val_main_v24 (F := Ideal) (at2 j s) = (if s.val < j.val then 1 else 0 : EReal) := by
  rw [val_main_v24_apply, val_main_v23_apply, val_main_v21_apply, val_main_v22_apply, val_main_v19_apply, val_main_v20_apply]
  have h : IntOp.cmpi .sgt (val_main_v4 (F := Ideal) (idx_main_v19 (idx_main_v21 (at2 j s)))) (val_main_v4 (F := Ideal) (idx_main_v20 (idx_main_v22 (at2 j s))))
      = BitVec.ofBool (decide (s.val < j.val)) :=
    sgt_ofNat j.val s.val j.isLt s.isLt
  rw [h]
  show (((BitVec.ofBool (decide (s.val < j.val))).toNat : ℝ) : EReal) = _
  by_cases hs : s.val < j.val
  · rw [if_pos hs, decide_eq_true hs]
    exact congrArg (fun x : ℝ => (x : EReal)) Nat.cast_one
  · rw [if_neg hs, decide_eq_false hs]
    exact congrArg (fun x : ℝ => (x : EReal)) Nat.cast_zero

section Values

variable (Q K V : FVec Ideal S2x4x16384x128 .bf16) (hQ : AllReal Q) (hK : AllReal K) (b : Fin 2) (h : Fin 4) (t : Fin 16384)

section Real

include hQ hK

theorem z_apply (s : Fin 16384) : val_main_v3 (F := Ideal) Q K (at4 b h t s) = ((score Q K b h t.val s.val : ℝ) : EReal) := by
  rw [val_main_v3_apply, ← score_eq Q K hQ hK b h t.val s.val, ofNat_val, ofNat_val]
  refine Finset.sum_congr rfl fun e _ => ?_
  refine congrArg₂ (fun x y : EReal => x * y) (congrArg Q (funext fun a => ?_)) (congrArg K (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-- The log of the part broken off, -/
theorem logBeta_apply (s : Fin 16384) : val_main_v16 (F := Ideal) Q K (at4 b h t s)
    = ((score Q K b h t.val s.val - nrm (score Q K b h t.val s.val) : ℝ) : EReal) := by
  show min (val_main_v3 (F := Ideal) Q K (at4 b h t s)) (val_main_v10 (F := Ideal) (at4 b h t s))
    - Ideal.log (1 + Ideal.exp (-max (val_main_v3 (F := Ideal) Q K (at4 b h t s)) (-(val_main_v3 (F := Ideal) Q K (at4 b h t s))))) = _
  rw [val_main_v10_apply, z_apply Q K hQ hK b h t s]
  show min _ (Ideal.ofBits .f32 0x00000000#32) - _ = _
  generalize score Q K b h t.val s.val = ζ
  rw [Ideal.ofBits_zero_f32, max_neg_coe, ← EReal.coe_neg, Ideal.exp_coe, ← EReal.coe_one, ← EReal.coe_add, Ideal.log_coe,
    if_neg (by have := Real.exp_pos (-|ζ|); linarith), ← EReal.coe_zero,
    ← (EReal.coe_strictMono.monotone.map_min (a := ζ) (b := 0)), ← EReal.coe_sub]
  refine congrArg (fun x : ℝ => (x : EReal)) ?_
  unfold nrm
  have := min_add_max ζ 0
  linarith

/-- and of the rest, nothing where the key does not come before. -/
theorem logRest_apply (k : Fin 16384) : val_main_v18 (F := Ideal) Q K (at4 b h t k)
    = (((if k.val < t.val then -nrm (score Q K b h t.val k.val) else 0 : ℝ)) : EReal) := by
  rw [val_main_v18_apply, val_main_call0_v1_apply, val_main_call0_v2_apply]
  have e : idx_main_call0_v1 (at4 b h t k) = at2 t k := funext fun a => match a with
    | ⟨0, _⟩ => rfl
    | ⟨1, _⟩ => rfl
  rw [e, earlier, select_ofBool]
  by_cases hk : k.val < t.val
  · rw [if_pos hk, if_pos hk]
    show val_main_v16 (F := Ideal) Q K (at4 b h t k) - val_main_v3 (F := Ideal) Q K (at4 b h t k) = _
    rw [logBeta_apply Q K hQ hK, z_apply Q K hQ hK, ← EReal.coe_sub]
    refine congrArg (fun x : ℝ => (x : EReal)) ?_
    ring
  · rw [if_neg hk, if_neg hk]
    exact Ideal.ofBits_zero_f32

theorem suffix_apply (s : Fin 16384) : val_main_v25 (F := Ideal) Q K (at4 b h t s)
    = ((-spent (score Q K b h t.val) (s.val + 1) t.val : ℝ) : EReal) := by
  rw [val_main_v25_apply]
  have e : ∀ k : Fin 16384, val_main_v18 (F := Ideal) Q K (lidx_main_v25 (at4 b h t s) k) * val_main_v24 (F := Ideal) (ridx_main_v25 (at4 b h t s) k)
      = ((if s.val < k.val then (if k.val < t.val then -nrm (score Q K b h t.val k.val) else 0) else 0 : ℝ) : EReal) := by
    intro k
    have el : lidx_main_v25 (at4 b h t s) k = at4 b h t k := funext fun a => match a with
      | ⟨0, _⟩ => rfl
      | ⟨1, _⟩ => rfl
      | ⟨2, _⟩ => rfl
      | ⟨3, _⟩ => rfl
    have er : ridx_main_v25 (at4 b h t s) k = at2 k s := funext fun a => match a with
      | ⟨0, _⟩ => rfl
      | ⟨1, _⟩ => rfl
    rw [el, er, logRest_apply Q K hQ hK, later]
    by_cases hs : s.val < k.val
    · rw [if_pos hs, if_pos hs, mul_one]
    · rw [if_neg hs, if_neg hs, mul_zero, EReal.coe_zero]
  rw [Finset.sum_congr rfl fun k _ => e k, ← coe_sum, sum_mid 16384 (fun k => -nrm (score Q K b h t.val k)) s.val t.val t.isLt.le,
    Finset.sum_neg_distrib]
  rfl

theorem weight_apply (s : Fin 16384) : val_main_v28 (F := Ideal) Q K (at4 b h t s)
    = if s.val < t.val then ((wt (score Q K b h t.val) t.val s.val : ℝ) : EReal) else 0 := by
  rw [val_main_v28_apply, val_main_call1_v1_apply, val_main_call1_v2_apply]
  have e : idx_main_call1_v1 (at4 b h t s) = at2 t s := funext fun a => match a with
    | ⟨0, _⟩ => rfl
    | ⟨1, _⟩ => rfl
  rw [e, earlier, select_ofBool]
  by_cases hs : s.val < t.val
  · rw [if_pos hs, if_pos hs]
    show Ideal.exp (val_main_v16 (F := Ideal) Q K (at4 b h t s) + val_main_v25 (F := Ideal) Q K (at4 b h t s)) = _
    rw [logBeta_apply Q K hQ hK, suffix_apply Q K hQ hK, ← EReal.coe_add, Ideal.exp_coe]
    rfl
  · rw [if_neg hs, if_neg hs]
    exact Ideal.ofBits_zero_f32

theorem out_apply (d : Fin 128) : val_main_v29 (F := Ideal) Q K V (at4 b h t d)
    = mix (score Q K b h t.val) (value V b h d) 0 t.val := by
  rw [val_main_v29_apply, mix,
    ← sum_below 16384 (fun s => ((wt (score Q K b h t.val) t.val s : ℝ) : EReal) * value V b h d s) t.val t.isLt.le]
  refine Finset.sum_congr rfl fun s _ => ?_
  have el : lidx_main_v29 (at4 b h t d) s = at4 b h t s := funext fun a => match a with
    | ⟨0, _⟩ => rfl
    | ⟨1, _⟩ => rfl
    | ⟨2, _⟩ => rfl
    | ⟨3, _⟩ => rfl
  have er : ridx_main_v29 (at4 b h t d) s = at4 b h s d := funext fun a => match a with
    | ⟨0, _⟩ => rfl
    | ⟨1, _⟩ => rfl
    | ⟨2, _⟩ => rfl
    | ⟨3, _⟩ => rfl
  rw [el, er, weight_apply Q K hQ hK]
  have ev : val_main_v2 (F := Ideal) V (at4 b h s d) = value V b h d s.val := by
    unfold value; rw [ofNat_val]; rfl
  rw [ev]
  by_cases hs : s.val < t.val
  · rw [if_pos hs, if_pos hs]
  · rw [if_neg hs, if_neg hs, zero_mul]

/-- The reference's result. -/
theorem result_eq : val_main_v32 (F := Ideal) Q K V = attend Q K V := by
  funext y
  rw [val_main_v32_apply]
  show val_main_v31 (F := Ideal) Q K V y = _
  rw [val_main_v31_apply, val_main_v30_apply]
  have h0 : (y 0).val < 2 := (y 0).isLt
  have h1 : (y 1).val < 16384 := (y 1).isLt
  have h2 : (y 2).val < 512 := (y 2).isLt
  have e : idx_main_v30 (idx_main_v31 y) = at4 (y 0 : Fin 2) (headOf (y 2)) (y 1 : Fin 16384) (laneOf (y 2)) := funext fun a => Fin.ext (by
    match a with
    | ⟨0, _⟩ => show (((y 0).val * 16384 + (y 1).val) * 512 + (y 2).val) / 8388608 = (y 0).val; omega
    | ⟨1, _⟩ => show (((y 0).val * 16384 + (y 1).val) * 512 + (y 2).val) / 128 % 4 = (y 2).val / 128; omega
    | ⟨2, _⟩ => show (((y 0).val * 16384 + (y 1).val) * 512 + (y 2).val) / 512 % 16384 = (y 1).val; omega
    | ⟨3, _⟩ => show (((y 0).val * 16384 + (y 1).val) * 512 + (y 2).val) % 128 = (y 2).val % 128; omega)
  rw [e]
  exact out_apply Q K V hQ hK _ _ _ _

end Real

/-! ### The precondition -/

theorem real_of_abs (x : EReal) (hx : max x (-x) < ⊤) : ∃ r : ℝ, x = (r : EReal) := by
  induction x with
  | bot => simp at hx
  | top => simp at hx
  | coe r => exact ⟨r, rfl⟩

theorem ofBits_inf : Ideal.ofBits .bf16 0x7F80#16 = ⊤ := by simp [Ideal.ofBits, Ideal.ieee]

theorem and_one : ∀ a b : BitVec 1, IntOp.andi a b = 1#1 → a = 1#1 ∧ b = 1#1 := by decide

theorem lt_of_cmp (x y : EReal) (hx : BitVec.ofBool (decide (x < y)) = 1#1) : x < y := by
  by_contra hn
  rw [decide_eq_false hn] at hx
  exact absurd hx (by decide)

theorem real_of_pre (hp : Cert.Pre_finite.fn (F := Ideal) Q K V = fun _ => 1#1) : AllReal Q ∧ AllReal K := by
  have hy : ∀ y, max (Q y) (-(Q y)) < ⊤ ∧ max (K y) (-(K y)) < ⊤ := by
    intro y
    obtain ⟨h1, h2⟩ := and_one _ _ (congrFun hp y)
    rw [← ofBits_inf]
    exact ⟨lt_of_cmp _ _ h1, lt_of_cmp _ _ h2⟩
  exact ⟨fun y => real_of_abs _ (hy y).1, fun y => real_of_abs _ (hy y).2⟩

end Values

end Cert.Proof.Plain

end
-- ==== Proof.Rtr.Plain.lean ====
/-
  The reference of the routing call, read off at an index: the same functions of the arguments as the kernel's where the
  arguments have no infinities.
-/
module

public import proofs.«01_k».proof.Proof.Gen.Reference6Ideal.Read
public import proofs.«01_k».proof.Proof.Gen.Pre_finite_rows
public import proofs.«01_k».proof.Proof.Rtr.Spec
public import proofs.«01_k».proof.Proof.Equal
public import Idealize.ShloMosaic.Lib.KernelVsHost
public import Idealize.ShloMosaic.Lib.ReduceAll

@[expose] public section

noncomputable section

namespace Cert.Proof.Rtr

open Cert.Reference6Ideal Cert.Reference6Ideal.Gen Cert.Reference6Ideal.Read
open Idealize.ShloMosaic
open Idealize.ShloMosaic.ValueIdx
open Cert.Proof.Rms

variable (X : FVec Ideal S32768x1024 .f32) (g : FVec Ideal S1024 .f32) (W : FVec Ideal S1024x8 .f32)

theorem plain_factor (r : Fin 32768) :
    val_main_v7 (F := Ideal) X (ix2 r (0 : Fin 1)) = factor (Ideal.ofBits .f32 0x44800000#32) fun k : Fin 1024 => X (ix2 r k) := by
  rw [val_main_v7_apply, val_main_v6_apply, val_main_v4_apply, val_main_v2_apply, val_main_v1_apply]
  have e : ∀ k : Fin 1024, idx_main_v1 (idx_main_v2 (ix2 r (0 : Fin 1))) k = ix2 r k := fun k => ValueIdx.eq_ix2 _
  simp only [e]
  show Ideal.rsqrt (Ideal.div (Ideal.ofBits .f32 0x00000000#32 + ∑ k : Fin 1024, X (ix2 r k) * X (ix2 r k)) (Ideal.ofBits .f32 0x44800000#32) + tiny) = _
  rw [Ideal.ofBits_zero_f32, zero_add]
  rfl

theorem plain_normed (r : Fin 32768) (e : Fin 1024) : val_main_v12 (F := Ideal) X g (ix2 r e) = normed X g r e := by
  rw [val_main_v12_apply, val_main_v9_apply, val_main_v8_apply, val_main_v11_apply, val_main_v10_apply]
  rw [show idx_main_v8 (ix2 r e) = ix2 r (0 : Fin 1) from ValueIdx.eq_ix2 _, show idx_main_v10 (idx_main_v11 (ix2 r e)) = ix1 e from ValueIdx.eq_ix1 _]
  show X (ix2 r e) * val_main_v7 (F := Ideal) X (ix2 r (0 : Fin 1)) * g (ix1 e) = _
  rw [plain_factor]
  rfl

theorem plain_tokens : val_main_v12 (F := Ideal) X g = tokens X g := by
  funext y
  obtain ⟨r, j, rfl⟩ : ∃ (r : Fin 32768) (j : Fin 1024), y = ix2 r j := ⟨y 0, y 1, ValueIdx.eq_ix2 y⟩
  exact plain_normed X g r j

theorem plain_scores (r : Fin 32768) (e : Fin 8) : val_main_v13 (F := Ideal) X g W (ix2 r e) = scores X g W r e := by
  refine (val_main_v13_apply X g W (ix2 r e)).trans (Finset.sum_congr rfl fun k _ => ?_)
  rw [show lidx_main_v13 (ix2 r e) k = ix2 r k from ValueIdx.eq_ix2 _, show ridx_main_v13 (ix2 r e) k = ix2 k e from ValueIdx.eq_ix2 _, plain_normed]

/-! ### The two largest -/

/-- Which position the `j`-th largest of a row's scores has. -/
def ranked (a : Fin 8 → EReal) (j : Fin 2) : Fin 8 := sortedFrom (greater a) ⟨j.val, by have := j.isLt; omega⟩

theorem along_eq (r : Fin 32768) (i k : Fin 8) : (ix2 r i : S32768x8.Idx).along (1 : Fin 2) k = ix2 r k := by
  funext ax
  match ax with
  | ⟨0, _⟩ => rfl
  | ⟨1, _⟩ => rfl

theorem greater_row (Y : FVec Ideal S32768x8 .f32) (r : Fin 32768) (i : Fin 8) :
    (fun k k' : Fin 8 => FloatOps.cmpfTotal (F := Ideal) .gt (Y ((ix2 r i : S32768x8.Idx).along (1 : Fin 2) k)) (Y ((ix2 r i : S32768x8.Idx).along (1 : Fin 2) k')) == 1#1)
      = greater fun e : Fin 8 => Y (ix2 r e) := by
  funext k k'
  rw [along_eq, along_eq]
  rfl

theorem topK_values (Y : FVec Ideal S32768x8 .f32) (r : Fin 32768) (j : Fin 2) :
    (Host.topK S32768x2 1 (FloatOps.cmpfTotal .gt) Y sliceFits_S32768x8_S32768x2).1 (ix2 r j) = Y (ix2 r (ranked (fun e => Y (ix2 r e)) j)) := by
  unfold Host.topK
  dsimp only
  refine (extractStridedSlice_apply _ _ _ _ (ix2 r (⟨j.val, by have := j.isLt; omega⟩ : Fin 8)) fun ax => ?_).trans ?_
  · match ax with
    | ⟨0, _⟩ => show r.val = 0 + r.val; omega
    | ⟨1, _⟩ => show j.val = 0 + j.val; omega
  · unfold Host.sort2
    rw [dif_pos (show 1 < S32768x8.rank by decide)]
    refine (congrArg Y (along_eq r _ _)).trans ?_
    unfold ranked
    exact congrArg (fun f => Y (ix2 r (sortedFrom f _))) (greater_row Y r _)

theorem topK_indices (Y : FVec Ideal S32768x8 .f32) (r : Fin 32768) (j : Fin 2) :
    (Host.topK S32768x2 1 (FloatOps.cmpfTotal .gt) Y sliceFits_S32768x8_S32768x2).2 (ix2 r j) = BitVec.ofNat 32 (ranked (fun e => Y (ix2 r e)) j).val := by
  unfold Host.topK
  dsimp only
  refine (extractStridedSlice_apply _ _ _ _ (ix2 r (⟨j.val, by have := j.isLt; omega⟩ : Fin 8)) fun ax => ?_).trans ?_
  · match ax with
    | ⟨0, _⟩ => show r.val = 0 + r.val; omega
    | ⟨1, _⟩ => show j.val = 0 + j.val; omega
  · unfold Host.sort2
    rw [dif_pos (show 1 < S32768x8.rank by decide)]
    dsimp only
    rw [dif_pos (show 1 < S32768x8.rank by decide)]
    unfold ranked
    exact congrArg (fun f => BitVec.ofNat 32 (sortedFrom f _).val) (greater_row Y r _)

theorem plain_values (r : Fin 32768) (j : Fin 2) :
    val_main_values (F := Ideal) X g W (ix2 r j) = scores X g W r (ranked (scores X g W r) j) := by
  unfold val_main_values
  rw [topK_values, plain_scores, funext fun e => plain_scores X g W r e]

theorem plain_indices (r : Fin 32768) (j : Fin 2) :
    val_main_indices (F := Ideal) X g W (ix2 r j) = BitVec.ofNat 32 (ranked (scores X g W r) j).val := by
  unfold val_main_indices
  rw [topK_indices, funext fun e => plain_scores X g W r e]

theorem plain_places : val_main_v26 (F := Ideal) X g W = places X g W := by
  funext y
  obtain ⟨j, r, rfl⟩ : ∃ (j : Fin 8) (r : Fin 32768), y = ix2 j r := ⟨y 0, y 1, ValueIdx.eq_ix2 y⟩
  show _ = two (BitVec.ofNat 32 (first (scores X g W r)).val) (BitVec.ofNat 32 (second (scores X g W r)).val) 0#32 j.val
  unfold val_main_v26 two
  by_cases h : j.val < 2
  · refine (pad_apply_of_inside _ _ _ _ _ _ _ _ (ix2 (⟨j.val, h⟩ : Fin 2) r) fun a => ?_).trans ?_
    · match a with
      | ⟨0, _⟩ => show j.val = 0 + j.val * (0 + 1); omega
      | ⟨1, _⟩ => show r.val = 0 + r.val * (0 + 1); omega
    · rw [val_main_v25_apply, show idx_main_v25 (ix2 (⟨j.val, h⟩ : Fin 2) r) = ix2 r (⟨j.val, h⟩ : Fin 2) from ValueIdx.eq_ix2 _, plain_indices]
      obtain ⟨j, hj⟩ := j
      match j, hj, h with
      | 0, _, _ => rfl
      | 1, _, _ => rfl
  · rw [pad_apply_of_not_inside _ _ _ _ _ _ _ (ix2 j r) (0 : Fin 2) fun hn => h ?_]
    · rw [if_neg (by omega), if_neg (by omega)]; rfl
    · have h3 : (j.val - 0) / (0 + 1) < 2 := hn.2.2
      omega

/-! ### Their weights -/

theorem reduces_pair : S32768x2.Reduces [1] S32768 := by decide

theorem most_of (Y : FVec Ideal S32768x2 .f32) (r : Fin 32768) :
    Host.reduce FloatOps.maximumf Y (constant (F := Ideal) S_ .f32 0xFF800000#32) reducesTo_S32768x2_S32768_d1 h_S_ (ix1 r)
      = (Finset.univ : Finset (Fin 2)).fold max ⊥ fun j => Y (ix2 r j) := by
  have b := hostReduce_maximumf_eq_multiReduction (F := Ideal) (φ := .f32) Y 0xFF800000#32 reducesTo_S32768x2_S32768_d1 h_S_ reduces_pair (.inl rfl) rfl
  exact (congrFun b (ix1 r)).trans (rowMax_apply Y reduces_pair (.inl rfl) rfl r)

theorem plain_most (r : Fin 32768) : val_main_v14 (F := Ideal) X g W (ix1 r) = scores X g W r (first (scores X g W r)) := by
  refine (most_of (val_main_values (F := Ideal) X g W) r).trans ?_
  rw [funext fun j => plain_values X g W r j]
  refine le_antisymm (Finset.fold_max_le _ |>.2 ⟨bot_le, fun j _ => le_first _ _⟩) (Finset.le_fold_max _ |>.2 (.inr ⟨0, Finset.mem_univ _, le_rfl⟩))

theorem plain_shifted (r : Fin 32768) (j : Fin 2) :
    val_main_v20 (F := Ideal) X g W (ix2 r j)
      = Ideal.exp (scores X g W r (ranked (scores X g W r) j) - scores X g W r (first (scores X g W r))) := by
  rw [val_main_v20_apply, val_main_v19_apply, val_main_v18_apply, val_main_v17_apply, val_main_v16_apply, val_main_v15_apply, plain_values,
    show idx_main_v17 (idx_main_v18 (ix2 r j)) = ix1 r from ValueIdx.eq_ix1 _, plain_most]
  show Ideal.exp (scores X g W r (ranked (scores X g W r) j) - max (Ideal.ofBits .f32 0xFF800000#32) (scores X g W r (first (scores X g W r)))) = _
  rw [word_bot, max_eq_right bot_le]

variable (hX : ∀ y, IsReal (X y)) (hg : ∀ y, IsReal (g y)) (hW : ∀ y, IsReal (W y))

include hX hg hW in
theorem plain_shares (r : Fin 32768) (j : Fin 2) : val_main_v24 (F := Ideal) X g W (ix2 r j) = weightOf (scores X g W r) j.val := by
  rw [val_main_v24_apply, val_main_v23_apply, val_main_v22_apply, val_main_v21_apply]
  have e : ∀ k : Fin 2, idx_main_v21 (idx_main_v22 (idx_main_v23 (ix2 r j))) k = ix2 r k := fun k => ValueIdx.eq_ix2 _
  simp only [e]
  obtain ⟨u, hu⟩ := scores_real X g W hX hg hW r (first (scores X g W r))
  obtain ⟨v, hv⟩ := scores_real X g W hX hg hW r (second (scores X g W r))
  have h0 : val_main_v20 (F := Ideal) X g W (ix2 r (0 : Fin 2)) = Ideal.exp ((u : EReal) - u) := by rw [plain_shifted, ← hu]; rfl
  have h1 : val_main_v20 (F := Ideal) X g W (ix2 r (1 : Fin 2)) = Ideal.exp ((v : EReal) - u) := by rw [plain_shifted, ← hu, ← hv]; rfl
  rw [Fin.sum_univ_two, h0, h1]
  show Ideal.div (val_main_v20 (F := Ideal) X g W (ix2 r j)) (Ideal.ofBits .f32 0x00000000#32 + (Ideal.exp ((u : EReal) - u) + Ideal.exp ((v : EReal) - u))) = _
  rw [Ideal.ofBits_zero_f32, zero_add]
  unfold weightOf two
  rw [hu, hv]
  obtain ⟨j, hj⟩ := j
  match j, hj with
  | 0, _ => exact (congrArg (fun w => Ideal.div w _) h0).trans (soft_first u v)
  | 1, _ => exact (congrArg (fun w => Ideal.div w _) h1).trans (soft_second u v)

include hX hg hW in
theorem plain_weights : val_main_v27 (F := Ideal) X g W = weights X g W := by
  funext y
  obtain ⟨r, j, rfl⟩ : ∃ (r : Fin 32768) (j : Fin 128), y = ix2 r j := ⟨y 0, y 1, ValueIdx.eq_ix2 y⟩
  show _ = weightOf (scores X g W r) j.val
  unfold val_main_v27
  by_cases h : j.val < 2
  · refine (pad_apply_of_inside _ _ _ _ _ _ _ _ (ix2 r (⟨j.val, h⟩ : Fin 2)) fun a => ?_).trans (plain_shares X g W hX hg hW r ⟨j.val, h⟩)
    match a with
    | ⟨0, _⟩ => show r.val = 0 + r.val * (0 + 1); omega
    | ⟨1, _⟩ => show j.val = 0 + j.val * (0 + 1); omega
  · rw [pad_apply_of_not_inside _ _ _ _ _ _ _ (ix2 r j) (1 : Fin 2) fun hn => h ?_]
    · unfold weightOf two
      rw [if_neg (by omega), if_neg (by omega)]
      show (((0#32 : BitVec 32).toInt : ℝ) : EReal) = 0
      simp
    · have h3 : (j.val - 0) / (0 + 1) < 2 := hn.2.2
      omega

/-! ### The precondition -/

theorem real_of_finite_rows (hp : Cert.Pre_finite_rows.fn (F := Ideal) X g W = fun _ => 1#1) :
    (∀ y, IsReal (X y)) ∧ (∀ y, IsReal (g y)) ∧ ∀ y, IsReal (W y) := by
  obtain ⟨h12, h3⟩ := Cert.Proof.Plain.and_one _ _ (congrFun hp (Shape.Idx.first h_S_))
  obtain ⟨h1, h2⟩ := Cert.Proof.Plain.and_one _ _ h12
  refine ⟨fun y => ?_, fun y => ?_, fun y => ?_⟩
  · have h := Host.reduce_andi_all _ _ _ _ _ h1 y
    refine Cert.Proof.Plain.real_of_abs _ ?_
    rw [← word_top]
    exact Cert.Proof.Plain.lt_of_cmp _ _ h
  · have h := Host.reduce_andi_all _ _ _ _ _ h2 y
    refine Cert.Proof.Plain.real_of_abs _ ?_
    rw [← word_top]
    exact Cert.Proof.Plain.lt_of_cmp _ _ h
  · have h := Host.reduce_andi_all _ _ _ _ _ h3 y
    refine Cert.Proof.Plain.real_of_abs _ ?_
    rw [← word_top]
    exact Cert.Proof.Plain.lt_of_cmp _ _ h

end Cert.Proof.Rtr

end
-- ==== Proof.Ffn.Value.lean ====
/-
  The result of the dense feed-forward kernel at the ideal floats, put together from its blocks: row `r` is the row of the
  input plus the gated sum over the hidden units of the row divided by its root mean square.
-/
module

public import proofs.«01_k».proof.Proof.Ffn.Block
public import Idealize.ShloMosaic.Lib.StableHlo

@[expose] public section

noncomputable section

namespace Cert.Proof.Ffn

open Cert.Kernel3Ideal Cert.Kernel3Ideal.Gen
open Idealize.ShloMosaic hiding ix1 ix2
open Idealize.ShloMosaic.TcCoe Idealize.ShloMosaic.ValueIdx
open Cert.Proof.Rms

/-- The result. -/
def feed (X : FVec Ideal S32768x1024 .f32) (g : FVec Ideal S1024 .f32) (Wg Wu : FVec Ideal S1024x2816 .f32) (Wd : FVec Ideal S2816x1024 .f32) :
    FVec Ideal S32768x1024 .f32 := fun y =>
  X y + ∑ k : Fin 2816, unit (normed X g (y 0)) (fun e : Fin 1024 => Wg (ix2 e k)) (fun e => Wu (ix2 e k)) * Wd (ix2 k (y 1))

variable (m : (ℓ : Loc nD τ sig) → Buf (Elt Ideal) ℓ) (c : Dev nD)

/-! ### What the blocks hold -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![t.val, 0] := by decide +kernel

theorem gains_eq : V m c main_v0 = shapeCast S1x1024 (m ((c.tc : Thread nD τ).loc main_arg1)) shapeCasts_S1024_S1x1024 := by
  show StableHlo.after hostOps0 _ _ = _
  after_results
  rfl

theorem gate_eq : V m c main_v1 = (m ((c.tc : Thread nD τ).loc main_arg2)) := by
  show StableHlo.after hostOps0 _ _ = _
  after_results
  rfl

theorem up_eq : V m c main_v2 = (m ((c.tc : Thread nD τ).loc main_arg3)) := by
  show StableHlo.after hostOps0 _ _ = _
  after_results
  rfl

theorem down_eq : V m c main_v3 = (m ((c.tc : Thread nD τ).loc main_arg4)) := by
  show StableHlo.after hostOps0 _ _ = _
  after_results
  rfl

/-- The point's rows, counted from the first. -/
def rowAt (t : Fin cfg0.N) (r : Fin 512) : Fin 32768 := ⟨t.val * 512 + r.val, by have h : t.val < 64 := t.isLt; have := r.isLt; omega⟩

theorem blk0 (t : Fin cfg0.N) (r : Fin 512) (e : Fin 1024) :
    iblk m c 0 t (ix2 r e) = m ((c.tc : Thread nD τ).loc main_arg0) (ix2 (rowAt t r) e) := by
  unfold iblk
  rw [View.read_apply, V_main_arg0]
  refine congrArg (m ((c.tc : Thread nD τ).loc main_arg0)) ?_
  blk_ext [index0 t, rowAt]

theorem blk1 (t : Fin cfg0.N) (e : Fin 1024) :
    iblk m c 1 t (ix2 (0 : Fin 1) e) = m ((c.tc : Thread nD τ).loc main_arg1) (ix1 e) := by
  unfold iblk
  rw [View.read_apply]
  show V m c main_v0 _ = _
  rw [gains_eq]
  refine (congrArg (shapeCast S1x1024 (m ((c.tc : Thread nD τ).loc main_arg1)) shapeCasts_S1024_S1x1024) (?_ : _ = ix2 (0 : Fin 1) e)).trans ?_
  · blk_ext [index1 t]
  · refine shapeCast_apply _ _ _ _ ?_
    have h1 : (S1024.rowMajor (ix1 e)).val = e.val := Shape.rowMajor_val_one _
    have h2 : (S1x1024.rowMajor (ix2 (0 : Fin 1) e)).val = 0 * 1024 + e.val := Shape.rowMajor_val_two _
    exact h1.trans (by omega)

theorem blk2 (t : Fin cfg0.N) : iblk m c 2 t = m ((c.tc : Thread nD τ).loc main_arg2) := by
  funext y
  unfold iblk
  rw [View.read_apply]
  show V m c main_v1 _ = _
  rw [gate_eq]
  refine congrArg (m ((c.tc : Thread nD τ).loc main_arg2)) ?_
  blk_ext [index2 t]

theorem blk3 (t : Fin cfg0.N) : iblk m c 3 t = m ((c.tc : Thread nD τ).loc main_arg3) := by
  funext y
  unfold iblk
  rw [View.read_apply]
  show V m c main_v2 _ = _
  rw [up_eq]
  refine congrArg (m ((c.tc : Thread nD τ).loc main_arg3)) ?_
  blk_ext [index3 t]

theorem blk4 (t : Fin cfg0.N) : iblk m c 4 t = m ((c.tc : Thread nD τ).loc main_arg4) := by
  funext y
  unfold iblk
  rw [View.read_apply]
  show V m c main_v3 _ = _
  rw [down_eq]
  refine congrArg (m ((c.tc : Thread nD τ).loc main_arg4)) ?_
  blk_ext [index4 t]

/-! ### The array -/

theorem rows_at (t : Fin cfg0.N) (r : Fin 512) (e : Fin 1024) :
    rows (iblk m c 0 t) (iblk m c 1 t) (ix2 r e)
      = normed (m ((c.tc : Thread nD τ).loc main_arg0)) (m ((c.tc : Thread nD τ).loc main_arg1)) (rowAt t r) e := by
  rw [rows_apply, blk0, blk1]
  refine congrArg (fun f => _ * factor (Ideal.ofBits .f32 0x44800000#32) f * _) (funext fun k => blk0 m c t r k)

theorem block_apply (t : Fin cfg0.N) (r : Fin 512) (j : Fin 1024) :
    outsAt0 m c t (ix2 r j)
      = feed (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (ix2 (rowAt t r) j) := by
  unfold outsAt0
  rw [left_eq, upTo_all, blk0]
  refine congrArg₂ (· + ·) rfl (Finset.sum_congr rfl fun k _ => ?_)
  have e : (fun e : Fin 1024 => rows (iblk m c 0 t) (iblk m c 1 t) (ix2 r e)) = normed (m ((c.tc : Thread nD τ).loc main_arg0)) (m ((c.tc : Thread nD τ).loc main_arg1)) (rowAt t r) :=
    funext fun e => rows_at m c t r e
  unfold term
  rw [e, blk2, blk3, blk4]

theorem array_eq :
    (dats m 0 c).arrAt 5 cfg0.N
      = feed (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine (dats m 0 c).arrAt_eq_of_covers 5 _ (by decide +kernel) fun t hf y => ?_
  blk_simp
  rw [after0_5]
  refine (congrArg (outsAt0 m c t) (ValueIdx.eq_ix2 _)).trans ((block_apply m c t _ _).trans (congrArg (feed _ _ _ _ _) ?_))
  blk_ext [index5 t, rowAt]

end Cert.Proof.Ffn

end
-- ==== Proof.Ffn.Plain.lean ====
/-
  The reference of the dense feed-forward call, read off at an index: the same function of the arguments as the kernel's.
-/
module

public import proofs.«01_k».proof.Proof.Gen.Reference3Ideal.Read
public import proofs.«01_k».proof.Proof.Ffn.Value

@[expose] public section

noncomputable section

namespace Cert.Proof.Ffn

open Cert.Reference3Ideal Cert.Reference3Ideal.Read
open Idealize.ShloMosaic hiding ix1 ix2
open Idealize.ShloMosaic.ValueIdx
open Cert.Proof.Rms

variable (X : FVec Ideal S32768x1024 .f32) (g : FVec Ideal S1024 .f32) (Wg Wu : FVec Ideal S1024x2816 .f32) (Wd : FVec Ideal S2816x1024 .f32)

theorem plain_factor (r : Fin 32768) :
    val_main_v7 (F := Ideal) X (ix2 r (0 : Fin 1)) = factor (Ideal.ofBits .f32 0x44800000#32) fun k : Fin 1024 => X (ix2 r k) := by
  rw [val_main_v7_apply, val_main_v6_apply, val_main_v4_apply, val_main_v2_apply, val_main_v1_apply]
  have e : ∀ k : Fin 1024, idx_main_v1 (idx_main_v2 (ix2 r (0 : Fin 1))) k = ix2 r k := fun k => ValueIdx.eq_ix2 _
  simp only [e]
  show Ideal.rsqrt (Ideal.div (Ideal.ofBits .f32 0x00000000#32 + ∑ k : Fin 1024, X (ix2 r k) * X (ix2 r k)) (Ideal.ofBits .f32 0x44800000#32) + tiny) = _
  rw [Ideal.ofBits_zero_f32, zero_add]
  rfl

theorem plain_normed (r : Fin 32768) (e : Fin 1024) : val_main_v12 (F := Ideal) X g (ix2 r e) = normed X g r e := by
  rw [val_main_v12_apply, val_main_v9_apply, val_main_v8_apply, val_main_v11_apply, val_main_v10_apply]
  rw [show idx_main_v8 (ix2 r e) = ix2 r (0 : Fin 1) from ValueIdx.eq_ix2 _, show idx_main_v10 (idx_main_v11 (ix2 r e)) = ix1 e from ValueIdx.eq_ix1 _]
  show X (ix2 r e) * val_main_v7 (F := Ideal) X (ix2 r (0 : Fin 1)) * g (ix1 e) = _
  rw [plain_factor]
  rfl

theorem plain_unit (r : Fin 32768) (k : Fin 2816) :
    val_main_v16 (F := Ideal) X g Wg Wu (ix2 r k) = unit (normed X g r) (fun e : Fin 1024 => Wg (ix2 e k)) (fun e => Wu (ix2 e k)) := by
  have h13 : val_main_v13 (F := Ideal) X g Wg (ix2 r k) = ∑ e : Fin 1024, normed X g r e * Wg (ix2 e k) :=
    by
    refine (val_main_v13_apply X g Wg (ix2 r k)).trans (Finset.sum_congr rfl fun e _ => ?_)
    rw [show lidx_main_v13 (ix2 r k) e = ix2 r e from ValueIdx.eq_ix2 _, show ridx_main_v13 (ix2 r k) e = ix2 e k from ValueIdx.eq_ix2 _, plain_normed]
  have h15 : val_main_v15 (F := Ideal) X g Wu (ix2 r k) = ∑ e : Fin 1024, normed X g r e * Wu (ix2 e k) :=
    by
    refine (val_main_v15_apply X g Wu (ix2 r k)).trans (Finset.sum_congr rfl fun e _ => ?_)
    rw [show lidx_main_v15 (ix2 r k) e = ix2 r e from ValueIdx.eq_ix2 _, show ridx_main_v15 (ix2 r k) e = ix2 e k from ValueIdx.eq_ix2 _, plain_normed]
  rw [val_main_v16_apply, h15]
  show val_main_v13 (F := Ideal) X g Wg (ix2 r k) * Ideal.div (Ideal.ofBits .f32 0x3F800000#32) (Ideal.ofBits .f32 0x3F800000#32 + Ideal.exp (-val_main_v13 (F := Ideal) X g Wg (ix2 r k))) * _ = _
  rw [h13, Ideal.ofBits_one_f32]
  rfl

theorem plain_eq : val_main_v18 (F := Ideal) X g Wg Wu Wd = feed X g Wg Wu Wd := by
  funext y
  obtain ⟨r, j, rfl⟩ : ∃ (r : Fin 32768) (j : Fin 1024), y = ix2 r j := ⟨y 0, y 1, ValueIdx.eq_ix2 y⟩
  rw [val_main_v18_apply, val_main_v17_apply]
  exact congrArg₂ (· + ·) rfl (Finset.sum_congr rfl fun k _ => by
    rw [show lidx_main_v17 (ix2 r j) k = ix2 r k from ValueIdx.eq_ix2 _, show ridx_main_v17 (ix2 r j) k = ix2 k j from ValueIdx.eq_ix2 _, plain_unit])

end Cert.Proof.Ffn

end
-- ==== Proof.Inp.Permute.lean ====
/-
  The projections of every row and the order in which the kernel keeps them: which column of the weights each column of the results comes from.
-/
module

public import proofs.«01_k».proof.Proof.Rms
public import Idealize.ShloMosaic.Lib.KernelVsHost

@[expose] public section

noncomputable section

namespace Cert.Proof.Inp

open Idealize.ShloMosaic
open Idealize.ShloMosaic.ValueIdx
open Cert.Proof.Rms

/-- The column of the weights that column `j` of the part kept together comes from. -/
def columnOf (j : ℕ) : ℕ :=
  if j < 2048 then 1024 + j else if j < 3072 then j - 2048 else if j < 6144 then 5136 + (j - 3072) else 4624 + (j - 6144)

section Pieces

variable {n : ℕ} (W : (⟨2, ![n, 8208]⟩ : Shape).Idx → EReal)

/-- A slice of the columns. -/
theorem columns_apply (w off : ℕ) (h : (⟨2, ![n, 8208]⟩ : Shape).Slices ![0, off] ⟨2, ![n, w]⟩) (r : Fin n) (j : Fin w) (k : Fin 8208)
    (hk : k.val = off + j.val) : extractStridedSlice ⟨2, ![n, w]⟩ ![0, off] W h (ix2 r j) = W (ix2 r k) := by
  refine extractStridedSlice_apply _ W h (ix2 r j) (ix2 r k) fun a => ?_
  match a with
  | ⟨0, _⟩ => exact (Nat.zero_add _).symm
  | ⟨1, _⟩ => exact hk

/-- A concatenation along the columns, read in one of its slices. -/
theorem piece_apply (xs : List ((s : Shape) × (s.Idx → EReal))) (hc : Shape.Concatenates (xs.map (·.1)) ⟨2, ![n, 6656]⟩ 1) (k : ℕ) (hk : k < xs.length)
    (w off : ℕ) (h : (⟨2, ![n, 8208]⟩ : Shape).Slices ![0, off] ⟨2, ![n, w]⟩) (hx : xs[k] = ⟨⟨2, ![n, w]⟩, extractStridedSlice ⟨2, ![n, w]⟩ ![0, off] W h⟩) (pre : ℕ)
    (hpre : (((xs.take k).map (·.1)).map fun s : Shape => if h : s.rank = 2 then s.size ((1 : Fin 2).cast h.symm) else 0).sum = pre)
    (r : Fin n) (j : Fin 6656) (lo : pre ≤ j.val) (hi : j.val - pre < w) (q : Fin 8208) (hq : q.val = off + (j.val - pre)) :
    concatenate ⟨2, ![n, 6656]⟩ 1 xs hc (ix2 r j) = W (ix2 r q) := by
  refine (concatenate_apply_piece (t := ⟨2, ![n, 6656]⟩) 1 xs hc (ix2 r j) k hk ⟨2, ![n, w]⟩ _ hx rfl pre hpre (ix2 r (⟨j.val - pre, hi⟩ : Fin w)) (fun b hb => ?_) ?_).trans
    (columns_apply W w off h r _ q hq)
  · match b with
    | ⟨0, _⟩ => rfl
    | ⟨1, _⟩ => exact absurd rfl hb
  · show pre + (j.val - pre) = j.val
    omega

/-- The four slices. -/
abbrev slices (h1 : (⟨2, ![n, 8208]⟩ : Shape).Slices ![0, 1024] ⟨2, ![n, 2048]⟩) (h2 : (⟨2, ![n, 8208]⟩ : Shape).Slices ![0, 0] ⟨2, ![n, 1024]⟩)
    (h3 : (⟨2, ![n, 8208]⟩ : Shape).Slices ![0, 5136] ⟨2, ![n, 3072]⟩) (h4 : (⟨2, ![n, 8208]⟩ : Shape).Slices ![0, 4624] ⟨2, ![n, 512]⟩) :
    List ((s : Shape) × (s.Idx → EReal)) :=
  [⟨⟨2, ![n, 2048]⟩, extractStridedSlice ⟨2, ![n, 2048]⟩ ![0, 1024] W h1⟩, ⟨⟨2, ![n, 1024]⟩, extractStridedSlice ⟨2, ![n, 1024]⟩ ![0, 0] W h2⟩,
    ⟨⟨2, ![n, 3072]⟩, extractStridedSlice ⟨2, ![n, 3072]⟩ ![0, 5136] W h3⟩, ⟨⟨2, ![n, 512]⟩, extractStridedSlice ⟨2, ![n, 512]⟩ ![0, 4624] W h4⟩]

/-- The four slices one after the other. -/
theorem together_apply (h1 h2 h3 h4) (hc : Shape.Concatenates ((slices W h1 h2 h3 h4).map (·.1)) ⟨2, ![n, 6656]⟩ 1) (r : Fin n) (j : Fin 6656) :
    concatenate ⟨2, ![n, 6656]⟩ 1 (slices W h1 h2 h3 h4) hc (ix2 r j) = W (ix2 r (Fin.ofNat 8208 (columnOf j.val))) := by
  have hj := j.isLt
  have hv : (Fin.ofNat 8208 (columnOf j.val)).val = columnOf j.val := Nat.mod_eq_of_lt (by unfold columnOf; split_ifs <;> omega)
  unfold columnOf at hv
  by_cases c1 : j.val < 2048
  · exact piece_apply W _ hc 0 (by simp) 2048 1024 h1 rfl 0 (by simp) r j (Nat.zero_le _) c1 _ (by unfold columnOf; rw [hv, if_pos c1]; rfl)
  by_cases c2 : j.val < 3072
  · exact piece_apply W _ hc 1 (by simp) 1024 0 h2 rfl 2048 (by simp) r j (by omega) (by omega) _ (by unfold columnOf; rw [hv, if_neg c1, if_pos c2]; omega)
  by_cases c3 : j.val < 6144
  · exact piece_apply W _ hc 2 (by simp) 3072 5136 h3 rfl 3072 (by simp) r j (by omega) (by omega) _ (by unfold columnOf; rw [hv, if_neg c1, if_neg c2, if_pos c3])
  · exact piece_apply W _ hc 3 (by simp) 512 4624 h4 rfl 6144 (by simp) r j (by omega) (by omega) _ (by unfold columnOf; rw [hv, if_neg c1, if_neg c2, if_neg c3])

/-- The 16 columns of the steps, padded to 128 lanes. -/
theorem padded_apply (h : (⟨2, ![n, 8208]⟩ : Shape).Slices ![0, 3072] ⟨2, ![n, 16]⟩) (v : (⟨0, ![]⟩ : Shape).Idx → EReal) (hv : ∀ i, v i = 0)
    (hp : (⟨2, ![n, 16]⟩ : Shape).Pads ![0, 0] ![0, 112] ![0, 0] ⟨2, ![n, 128]⟩) (hu : 0 < (⟨0, ![]⟩ : Shape).numel) (r : Fin n) (j : Fin 128) :
    pad ⟨2, ![n, 128]⟩ ![0, 0] ![0, 112] ![0, 0] (extractStridedSlice ⟨2, ![n, 16]⟩ ![0, 3072] W h) v hp hu (ix2 r j)
      = if j.val < 16 then W (ix2 r (Fin.ofNat 8208 (3072 + j.val))) else 0 := by
  split
  · rename_i c
    refine (pad_apply_of_inside _ _ _ _ v hp hu (ix2 r j) (ix2 r (⟨j.val, c⟩ : Fin 16)) fun a => ?_).trans
      (columns_apply W 16 3072 h r _ _ (Nat.mod_eq_of_lt (by show 3072 + j.val < 8208; omega)))
    match a with
    | ⟨0, _⟩ => show r.val = 0 + r.val * (0 + 1); omega
    | ⟨1, _⟩ => show j.val = 0 + j.val * (0 + 1); omega
  · rename_i c
    refine (pad_apply_of_not_inside _ _ _ _ v hp hu (ix2 r j) (1 : Fin 2) fun ha => c ?_).trans (hv _)
    have h3 : (j.val - 0) / (0 + 1) < 16 := ha.2.2
    rw [Nat.zero_add, Nat.div_one] at h3
    exact h3

end Pieces

end Cert.Proof.Inp

end
-- ==== Proof.Inp.Block.lean ====
/-
  What the projection kernel leaves in the blocks of its five results at the ideal floats: products of the normalised rows with
  columns of the weights, and of those, head by head, the normalised queries and keys and the values.
-/
module

public import proofs.«01_k».proof.Proof.Gen.Kernel2Ideal.Value
public import proofs.«01_k».proof.Proof.Inp.Permute
public import Idealize.ShloMosaic.Lib.Pipeline.ValueKit

@[expose] public section

noncomputable section

namespace Cert.Proof.Inp

open Cert.Kernel2Ideal Cert.Kernel2Ideal.Gen
open Idealize.ShloMosaic hiding ix1 ix2
open Idealize.ShloMosaic.TcCoe Idealize.ShloMosaic.ValueIdx
open Cert.Proof.Rms

/-- The key of one head: its projections divided by their root mean square, times the gains. -/
def keyOf (P gain : Fin 128 → EReal) (l : Fin 128) : EReal := P l * factor (Ideal.ofBits .f32 0x43000000#32) P * gain l

/-- The query of one head: as the key, times one over the root of the head's width. -/
def queryOf (P gain : Fin 128 → EReal) (l : Fin 128) : EReal := keyOf P gain l * Ideal.ofBits .f32 0x3DB504F3#32

/-- The rows the products are of. -/
abbrev rows (x : Vec Ideal S512x1024 .f32) (g : Vec Ideal S1x1024 .f32) : FVec Ideal S512x1024 .bf16 := k0_pay4 x g

theorem rows_apply (x : Vec Ideal S512x1024 .f32) (g : Vec Ideal S1x1024 .f32) (r : Fin 512) (e : Fin 1024) :
    rows x g (ix2 r e) = x (ix2 r e) * factor (Ideal.ofBits .f32 0x44800000#32) (fun k : Fin 1024 => x (ix2 r k)) * g (ix2 (0 : Fin 1) e) := by
  unfold rows k0_pay4
  rw [shapeCast_self]
  refine congrArg₂ (· * ·) (rms_apply 512 1024 0x44800000#32 x reduces_S512x1024_S512 shapeCasts_S512_S512x1 broadcasts_S512x1_S512x1024 r e)
    (broadcastTo_1b_ab_apply g broadcasts_S1x1024_S512x1024 r e)

/-- A product with some columns of the weights. -/
theorem part_apply {N M : ℕ} (h : FVec Ideal S512x1024 .bf16) (W : Vec Ideal ⟨2, ![1024, M]⟩ .bf16) (off : ℕ)
    (inb : ∀ a : Fin 2, (![0, off] : Fin 2 → ℕ) a + (![1024, N] : Fin 2 → ℕ) a ≤ (⟨2, ![1024, M]⟩ : Shape).size a) (p : (⟨2, ![512, N]⟩ : Shape).Idx → EReal)
    (hp : p = matmul (φ₁ := .bf16) (φ₂ := .bf16) (DotDims.plain 512 1024 N) none h (View.ld W (Rect.unit (s := ⟨2, ![1024, M]⟩) ![0, off] ![1024, N] inb)) (constant ⟨2, ![512, N]⟩ .f32 0x00000000#32))
    (r : Fin 512) (j : Fin N) (k : Fin M) (hk : k.val = off + j.val) : p (ix2 r j) = ∑ e : Fin 1024, h (ix2 r e) * W (ix2 e k) := by
  rw [hp]
  refine (product_apply (M := 512) (K := 1024) (N := N) none h _ r j).trans (Finset.sum_congr rfl fun e _ => congrArg₂ (· * ·) rfl ?_)
  exact View.ld_unit_apply_of (S := ⟨2, ![1024, M]⟩) W _ _ inb _ _ fun a => match a with
    | ⟨0, _⟩ => by show e.val = 0 + e.val; omega
    | ⟨1, _⟩ => hk

section Heads

variable (z : FVec Ideal S512x512 .f32) (gain : Vec Ideal S1x128 .f32) (o : ℕ) (ho : o + 128 ≤ 512) (hs : S512x512.Slices ![0, o] S512x128)

/-- A row of one head. -/
def headOf (o : ℕ) (r : Fin 512) (l : Fin 128) : EReal := z (ix2 r (Fin.ofNat 512 (o + l.val)))

include ho in
theorem head_apply (r : Fin 512) (l : Fin 128) : extractStridedSlice S512x128 ![0, o] z hs (ix2 r l) = headOf z o r l := by
  refine extractStridedSlice_apply _ z hs (ix2 r l) (ix2 r (Fin.ofNat 512 (o + l.val))) fun a => ?_
  have hl := l.isLt
  match a with
  | ⟨0, _⟩ => exact (Nat.zero_add _).symm
  | ⟨1, _⟩ => exact Nat.mod_eq_of_lt (by omega)

/-- A block of one head under two axes of extent one. -/
theorem under_apply (v : S512x128.Idx → EReal) (h : S512x128.ShapeCasts S1x1x512x128) (x : S1x1x512x128.Idx) :
    shapeCast S1x1x512x128 v h x = v (ix2 (x 2) (x 3)) := by
  refine shapeCast_apply (t := S1x1x512x128) v h _ _ ?_
  have h0 : (x 0).val < 1 := (x 0).isLt
  have h1 : (x 1).val < 1 := (x 1).isLt
  have e2 : (S512x128.rowMajor (ix2 (x 2) (x 3))).val = (x 2).val * 128 + (x 3).val := Shape.rowMajor_val_two _
  have e4 : (S1x1x512x128.rowMajor x).val = (((x 0).val * 1 + (x 1).val) * 512 + (x 2).val) * 128 + (x 3).val := Shape.rowMajor_val_four _
  rw [e2, e4]
  omega

/-- The keys of one head, as the kernel writes them. -/
def keys : FVec Ideal S512x128 .f32 :=
  mulf (rms 512 128 0x43000000#32 (extractStridedSlice S512x128 ![0, o] z hs) reduces_S512x128_S512 shapeCasts_S512_S512x1 broadcasts_S512x1_S512x128)
    (broadcastTo S512x128 gain broadcasts_S1x128_S512x128)

include ho in
theorem keys_apply (r : Fin 512) (l : Fin 128) : keys z gain o hs (ix2 r l) = keyOf (headOf z o r) (fun l => gain (ix2 (0 : Fin 1) l)) l := by
  unfold keys keyOf
  refine congrArg₂ (· * ·) ((rms_apply 512 128 0x43000000#32 _ reduces_S512x128_S512 shapeCasts_S512_S512x1 broadcasts_S512x1_S512x128 r l).trans ?_)
    (broadcastTo_1b_ab_apply gain broadcasts_S1x128_S512x128 r l)
  simp only [head_apply z o ho hs]

/-- The queries of one head, as the kernel writes them. -/
def queries : FVec Ideal S512x128 .f32 := mulf (keys z gain o hs) (broadcast S512x128 (Scalar.ofBits .f32 0x3DB504F3#32))

include ho in
theorem queries_apply (r : Fin 512) (l : Fin 128) : queries z gain o hs (ix2 r l) = queryOf (headOf z o r) (fun l => gain (ix2 (0 : Fin 1) l)) l :=
  congrArg₂ (· * ·) (keys_apply z gain o ho hs r l) rfl

end Heads

/-- The projections of head `d` in a block of rows: the products of the rows with the head's columns. -/
def headAt (h : FVec Ideal S512x1024 .bf16) (W : Vec Ideal S1024x1536 .bf16) (base d : ℕ) (r : Fin 512) (l : Fin 128) : EReal :=
  ∑ e : Fin 1024, h (ix2 r e) * W (ix2 e (Fin.ofNat 1536 (base + d * 128 + l.val)))

/-- The projections of four heads. -/
abbrev four (h : FVec Ideal S512x1024 .bf16) (W : Vec Ideal S1024x1536 .bf16) (base : ℕ)
    (inb : ∀ a : Fin 2, (![0, base] : Fin 2 → ℕ) a + (![1024, 512] : Fin 2 → ℕ) a ≤ S1024x1536.size a) : FVec Ideal S512x512 .f32 :=
  matmul (φ₁ := .bf16) (φ₂ := .bf16) dot_S512x1024_S1024x512_S512x512_1_0_0_1_n_n none h (View.ld W (Rect.unit (s := S1024x1536) ![0, base] ![1024, 512] inb)) (constant S512x512 .f32 0x00000000#32)

section Pieces

variable (h : FVec Ideal S512x1024 .bf16) (W : Vec Ideal S1024x1536 .bf16) (gain : Vec Ideal S1x128 .f32) (base o : ℕ)
  (inb : ∀ a : Fin 2, (![0, base] : Fin 2 → ℕ) a + (![1024, 512] : Fin 2 → ℕ) a ≤ S1024x1536.size a) (hs : S512x512.Slices ![0, o] S512x128)
  (p : S1x1x512x128.Idx → EReal) (x : S1x1x512x128.Idx) (r : Fin 512) (hr : r.val = (x 2).val) (l : Fin 128) (hl : l.val = (x 3).val) (d : ℕ) (hd : o = d * 128)
  (ho : o + 128 ≤ 512)

include ho hd in
theorem headOf_four : headOf (four h W base inb) o r = headAt h W base d r := funext fun l => by
  have hl := l.isLt
  have hb : base + 512 ≤ 1536 := inb 1
  have ho' : (Fin.ofNat 512 (o + l.val)).val = o + l.val := Nat.mod_eq_of_lt (by omega)
  have hk : (Fin.ofNat 1536 (base + d * 128 + l.val)).val = base + d * 128 + l.val := Nat.mod_eq_of_lt (by omega)
  exact part_apply (N := 512) (M := 1536) h W base inb _ rfl r (Fin.ofNat 512 (o + l.val)) (Fin.ofNat 1536 (base + d * 128 + l.val)) (by rw [hk, ho']; omega)

include hr hl ho hd in
theorem query_piece (hp : p = shapeCast S1x1x512x128 (truncf (F := Ideal) .bf16 (queries (four h W base inb) gain o hs) bitsLt_bf16_f32) shapeCasts_S512x128_S1x1x512x128) :
    p x = queryOf (headAt h W base d r) (fun l => gain (ix2 (0 : Fin 1) l)) l := by
  rw [hp, ← headOf_four h W base o inb r d hd ho, show r = x 2 from Fin.ext hr, show l = x 3 from Fin.ext hl]
  exact (under_apply _ _ x).trans (queries_apply _ gain o ho hs (x 2) (x 3))

include hr hl ho hd in
theorem key_piece (hp : p = shapeCast S1x1x512x128 (truncf (F := Ideal) .bf16 (keys (four h W base inb) gain o hs) bitsLt_bf16_f32) shapeCasts_S512x128_S1x1x512x128) :
    p x = keyOf (headAt h W base d r) (fun l => gain (ix2 (0 : Fin 1) l)) l := by
  rw [hp, ← headOf_four h W base o inb r d hd ho, show r = x 2 from Fin.ext hr, show l = x 3 from Fin.ext hl]
  exact (under_apply _ _ x).trans (keys_apply _ gain o ho hs (x 2) (x 3))

include hr hl ho hd in
theorem value_piece (hp : p = shapeCast S1x1x512x128 (truncf (F := Ideal) .bf16 (extractStridedSlice S512x128 ![0, o] (four h W base inb) hs) bitsLt_bf16_f32) shapeCasts_S512x128_S1x1x512x128) :
    p x = headAt h W base d r l := by
  rw [hp, ← headOf_four h W base o inb r d hd ho, show r = x 2 from Fin.ext hr, show l = x 3 from Fin.ext hl]
  exact (under_apply _ _ x).trans (head_apply (four h W base inb) o ho hs (x 2) (x 3))

end Pieces

variable (m : (ℓ : Loc nD τ sig) → Buf (Elt Ideal) ℓ) (c : Dev nD) (t : Fin cfg0.N)

/-- A piece of the part kept together, read through the block's own index. -/
theorem kept_piece {N : ℕ} (h : FVec Ideal S512x1024 .bf16) (W : Vec Ideal S1024x6656 .bf16) (off : ℕ)
    (inb : ∀ a : Fin 2, (![0, off] : Fin 2 → ℕ) a + (![1024, N] : Fin 2 → ℕ) a ≤ S1024x6656.size a) (p : (⟨2, ![512, N]⟩ : Shape).Idx → EReal)
    (x : (⟨2, ![512, N]⟩ : Shape).Idx) (y : S512x6656.Idx) (h0 : (y 0).val = (x 0).val) (h1 : (y 1).val = off + (x 1).val)
    (hp : p = matmul (φ₁ := .bf16) (φ₂ := .bf16) (DotDims.plain 512 1024 N) none h (View.ld W (Rect.unit (s := S1024x6656) ![0, off] ![1024, N] inb)) (constant ⟨2, ![512, N]⟩ .f32 0x00000000#32)) :
    p x = ∑ e : Fin 1024, h (ix2 (y 0) e) * W (ix2 e (y 1)) := by
  rw [show y 0 = (x 0 : Fin 512) from Fin.ext h0]
  exact (congrArg p (ValueIdx.eq_ix2 x)).trans (part_apply (N := N) (M := 6656) h W off inb p hp (x 0) (x 1) (y 1) h1)

theorem main_block (y : S512x6656.Idx) :
    (outsAt0 m c t).1 y = ∑ e : Fin 1024, rows (iblk m c 0 t) (iblk m c 1 t) (ix2 (y 0) e) * iblk m c 2 t (ix2 e (y 1)) := by
  unfold outsAt0
  dsimp only
  frame_out
  canon_tiles x h using View.cover_of_tiledBy _ ![512, 512] (by sl_kernel_rfl) y
  · exact kept_piece (N := 512) _ _ 6144 _ _ x y h0 h1 (by unfold k0_pay13; rw [shapeCast_self]; rfl)
  · exact kept_piece (N := 1024) _ _ 5120 _ _ x y h0 h1 (by unfold k0_pay12; rw [shapeCast_self]; rfl)
  · exact kept_piece (N := 1024) _ _ 4096 _ _ x y h0 h1 (by unfold k0_pay11; rw [shapeCast_self]; rfl)
  · exact kept_piece (N := 1024) _ _ 3072 _ _ x y h0 h1 (by unfold k0_pay10; rw [shapeCast_self]; rfl)
  · exact kept_piece (N := 1024) _ _ 2048 _ _ x y h0 h1 (by unfold k0_pay9 k0_pay8; rw [shapeCast_self]; rfl)
  · exact kept_piece (N := 1024) _ _ 1024 _ _ x y h0 h1 (by unfold k0_pay7; rw [shapeCast_self]; rfl)
  · exact kept_piece (N := 1024) _ _ 0 _ _ x y h0 (h1.trans (Nat.zero_add _).symm) (by unfold k0_pay6; rw [shapeCast_self]; rfl)

theorem steps_block (r : Fin 512) (j : Fin 128) :
    (outsAt0 m c t).2.1 (ix2 r j) = ∑ e : Fin 1024, rows (iblk m c 0 t) (iblk m c 1 t) (ix2 r e) * iblk m c 4 t (ix2 e j) := by
  unfold outsAt0
  dsimp only
  frame_out
  unfold k0_pay5
  rw [shapeCast_self]
  exact product_apply (M := 512) (K := 1024) (N := 128) none _ _ r j

theorem query_block (y : S1x4x512x128.Idx) :
    (outsAt0 m c t).2.2.1 y
      = queryOf (headAt (rows (iblk m c 0 t) (iblk m c 1 t)) (iblk m c 3 t) 0 (y 1).val (y 2)) (fun l => iblk m c 5 t (ix2 (0 : Fin 1) l)) (y 3) := by
  unfold outsAt0
  dsimp only
  frame_out
  canon_tiles x h
  · exact query_piece _ _ _ 0 384 inb_S1024x1536_S1024x512_0_0 slices_S512x512_o0_384_S512x128 _ x _ h2 _ h3 _ (by omega) (by omega)
      (by unfold k0_pay1 k0_pay31 k0_pay32 k0_pay14 queries keys rms; simp only [shapeCast_self])
  · exact query_piece _ _ _ 0 256 inb_S1024x1536_S1024x512_0_0 slices_S512x512_o0_256_S512x128 _ x _ h2 _ h3 _ (by omega) (by omega)
      (by unfold k0_pay28 k0_pay27 k0_pay14 queries keys rms; simp only [shapeCast_self])
  · exact query_piece _ _ _ 0 128 inb_S1024x1536_S1024x512_0_0 slices_S512x512_o0_128_S512x128 _ x _ h2 _ h3 _ (by omega) (by omega)
      (by unfold k0_pay22 k0_pay14 queries keys rms; simp only [shapeCast_self])
  · exact query_piece _ _ _ 0 0 inb_S1024x1536_S1024x512_0_0 slices_S512x512_o0_0_S512x128 _ x _ h2 _ h3 _ (by omega) (by omega)
      (by unfold k0_pay17 k0_pay14 queries keys rms; simp only [shapeCast_self])

theorem key_block (y : S1x4x512x128.Idx) :
    (outsAt0 m c t).2.2.2.1 y
      = keyOf (headAt (rows (iblk m c 0 t) (iblk m c 1 t)) (iblk m c 3 t) 512 (y 1).val (y 2)) (fun l => iblk m c 6 t (ix2 (0 : Fin 1) l)) (y 3) := by
  unfold outsAt0
  dsimp only
  frame_out
  canon_tiles x h
  · exact key_piece _ _ _ 512 384 inb_S1024x1536_S1024x512_0_512 slices_S512x512_o0_384_S512x128 _ x _ h2 _ h3 _ (by omega) (by omega)
      (by unfold k0_pay2 k0_pay15 keys rms; simp only [shapeCast_self])
  · exact key_piece _ _ _ 512 256 inb_S1024x1536_S1024x512_0_512 slices_S512x512_o0_256_S512x128 _ x _ h2 _ h3 _ (by omega) (by omega)
      (by unfold k0_pay29 k0_pay15 keys rms; simp only [shapeCast_self])
  · exact key_piece _ _ _ 512 128 inb_S1024x1536_S1024x512_0_512 slices_S512x512_o0_128_S512x128 _ x _ h2 _ h3 _ (by omega) (by omega)
      (by unfold k0_pay25 k0_pay23 k0_pay24 k0_pay23 k0_pay15 keys rms; simp only [shapeCast_self])
  · exact key_piece _ _ _ 512 0 inb_S1024x1536_S1024x512_0_512 slices_S512x512_o0_0_S512x128 _ x _ h2 _ h3 _ (by omega) (by omega)
      (by unfold k0_pay20 k0_pay18 k0_pay19 k0_pay15 keys rms; simp only [shapeCast_self])

theorem value_block (y : S1x4x512x128.Idx) :
    (outsAt0 m c t).2.2.2.2 y = headAt (rows (iblk m c 0 t) (iblk m c 1 t)) (iblk m c 3 t) 1024 (y 1).val (y 2) (y 3) := by
  unfold outsAt0
  dsimp only
  frame_out
  canon_tiles x h
  · exact value_piece _ _ 1024 384 inb_S1024x1536_S1024x512_0_1024 slices_S512x512_o0_384_S512x128 _ x _ h2 _ h3 _ (by omega) (by omega)
      (by unfold k0_pay3 k0_pay16; simp only [shapeCast_self])
  · exact value_piece _ _ 1024 256 inb_S1024x1536_S1024x512_0_1024 slices_S512x512_o0_256_S512x128 _ x _ h2 _ h3 _ (by omega) (by omega)
      (by unfold k0_pay30 k0_pay16; simp only [shapeCast_self])
  · exact value_piece _ _ 1024 128 inb_S1024x1536_S1024x512_0_1024 slices_S512x512_o0_128_S512x128 _ x _ h2 _ h3 _ (by omega) (by omega)
      (by unfold k0_pay26 k0_pay16; simp only [shapeCast_self])
  · exact value_piece _ _ 1024 0 inb_S1024x1536_S1024x512_0_1024 slices_S512x512_o0_0_S512x128 _ x _ h2 _ h3 _ (by omega) (by omega)
      (by unfold k0_pay21 k0_pay16; simp only [shapeCast_self])

end Cert.Proof.Inp

end
-- ==== Proof.Inp.Host.lean ====
/-
  What the host code before the projection call leaves in the call's operands at the ideal floats: the permuted columns of the weights,
  and the gains as rows.
-/
module

public import proofs.«01_k».proof.Proof.Gen.Kernel2Ideal.Value
public import proofs.«01_k».proof.Proof.Inp.Permute
public import Idealize.ShloMosaic.Lib.StableHlo
public import Idealize.ShloMosaic.Lib.Pipeline.ValueKit

@[expose] public section

noncomputable section

namespace Cert.Proof.Inp

open Cert.Kernel2Ideal Cert.Kernel2Ideal.Gen
open Idealize.ShloMosaic hiding ix1 ix2
open Idealize.ShloMosaic.TcCoe Idealize.ShloMosaic.ValueIdx
open Cert.Proof.Rms

/-- Equal pieces concatenate to equal arrays. -/
theorem concatenate_congr {α : Type} {t s0 s1 s2 s3 : Shape} (a : Fin t.rank) {u0 v0 : s0.Idx → α} {u1 v1 : s1.Idx → α} {u2 v2 : s2.Idx → α}
    {u3 v3 : s3.Idx → α} (h : Shape.Concatenates [s0, s1, s2, s3] t a) (e0 : u0 = v0) (e1 : u1 = v1) (e2 : u2 = v2) (e3 : u3 = v3) :
    concatenate t a [⟨s0, u0⟩, ⟨s1, u1⟩, ⟨s2, u2⟩, ⟨s3, u3⟩] h = concatenate t a [⟨s0, v0⟩, ⟨s1, v1⟩, ⟨s2, v2⟩, ⟨s3, v3⟩] h := by
  subst e0 e1 e2 e3
  rfl

variable (m : (ℓ : Loc nD τ sig) → Buf (Elt Ideal) ℓ) (c : Dev nD)

/-- The weights as launched. -/
abbrev weights : FVec Ideal S1024x8208 .f32 := m ((c.tc : Thread nD τ).loc main_arg2)

theorem gains_eq : V m c main_v9 = shapeCast S1x1024 (m ((c.tc : Thread nD τ).loc main_arg1)) shapeCasts_S1024_S1x1024 := by
  show StableHlo.after _ _ _ = _
  simp only [hostOps0, hostOps0_1, hostOps0_2, List.flatten_cons, List.flatten_nil, List.append_nil, List.cons_append, List.nil_append]
  after_results
  rfl

theorem queryGains_eq : V m c main_v10 = shapeCast S1x128 (m ((c.tc : Thread nD τ).loc main_arg3)) shapeCasts_S128_S1x128 := by
  show StableHlo.after _ _ _ = _
  simp only [hostOps0, hostOps0_1, hostOps0_2, List.flatten_cons, List.flatten_nil, List.append_nil, List.cons_append, List.nil_append]
  after_results
  rfl

theorem keyGains_eq : V m c main_v11 = shapeCast S1x128 (m ((c.tc : Thread nD τ).loc main_arg4)) shapeCasts_S128_S1x128 := by
  show StableHlo.after _ _ _ = _
  simp only [hostOps0, hostOps0_1, hostOps0_2, List.flatten_cons, List.flatten_nil, List.append_nil, List.cons_append, List.nil_append]
  after_results
  rfl

theorem together_eq (r : Fin 1024) (j : Fin 6656) : V m c main_v5 (ix2 r j) = weights m c (ix2 r (Fin.ofNat 8208 (columnOf j.val))) := by
  refine Eq.trans (congrFun ?_ (ix2 r j)) (together_apply (weights m c) slices_S1024x8208_S1024x2048_0_1024 slices_S1024x8208_S1024x1024_0_0
    slices_S1024x8208_S1024x3072_0_5136 slices_S1024x8208_S1024x512_0_4624 concatenates_S1024x2048_S1024x1024_S1024x3072_S1024x512_S1024x6656_d1 r j)
  show StableHlo.after _ _ _ = _
  simp only [hostOps0, hostOps0_1, hostOps0_2, List.flatten_cons, List.flatten_nil, List.append_nil, List.cons_append, List.nil_append]
  after_results
  refine concatenate_congr _ _ ?_ ?_ ?_ ?_
  · show HloOp.result _ _ (Proc.tc.devRef main_v1) = _
    after_results_simp
    rfl
  · show HloOp.result _ _ (Proc.tc.devRef main_v2) = _
    after_results_simp
    rfl
  · show HloOp.result _ _ (Proc.tc.devRef main_v3) = _
    after_results_simp
    rfl
  · show HloOp.result _ _ (Proc.tc.devRef main_v4) = _
    after_results_simp
    rfl

theorem heads_eq : V m c main_v6 = extractStridedSlice S1024x1536 ![0, 3088] (weights m c) slices_S1024x8208_S1024x1536_0_3088 := by
  show StableHlo.after _ _ _ = _
  simp only [hostOps0, hostOps0_1, hostOps0_2, List.flatten_cons, List.flatten_nil, List.append_nil, List.cons_append, List.nil_append]
  after_results
  rfl

theorem heads_apply (r : Fin 1024) (j : Fin 1536) : V m c main_v6 (ix2 r j) = weights m c (ix2 r (Fin.ofNat 8208 (3088 + j.val))) := by
  rw [heads_eq]
  exact columns_apply (weights m c) 1536 3088 _ r j _ (Nat.mod_eq_of_lt (by have := j.isLt; omega))

theorem steps_eq : V m c main_v8 = pad S1024x128 ![0, 0] ![0, 112] ![0, 0] (extractStridedSlice S1024x16 ![0, 3072] (weights m c) slices_S1024x8208_S1024x16_0_3072)
    (sitofp (F := Ideal) FTy.bf16 (constantI S_ 32 0#32)) pads_S1024x16_S1024x128_000_01120 h_S_ := by
  show StableHlo.after _ _ _ = _
  simp only [hostOps0, hostOps0_1, hostOps0_2, List.flatten_cons, List.flatten_nil, List.append_nil, List.cons_append, List.nil_append,
    StableHlo.TRef.unary, StableHlo.TRef.binary, cast_eq]
  after_results
  rfl

/-- The number the padding is made of. -/
theorem zero_apply (φ : FTy) (i : S_.Idx) : sitofp (F := Ideal) φ (constantI S_ 32 0#32) i = 0 := by
  show (((0#32 : BitVec 32).toInt : ℝ) : EReal) = 0
  simp

theorem steps_apply (r : Fin 1024) (j : Fin 128) :
    V m c main_v8 (ix2 r j) = if j.val < 16 then weights m c (ix2 r (Fin.ofNat 8208 (3072 + j.val))) else 0 := by
  rw [steps_eq]
  exact padded_apply (weights m c) _ _ (zero_apply .bf16) _ _ r j

end Cert.Proof.Inp

end
-- ==== Proof.Inp.Value.lean ====
/-
  The five results of the projection call at the ideal floats, put together from their blocks: every row divided by its root mean
  square, its products with the columns of the weights, and of some of those the heads' queries, keys and values.
-/
module

public import proofs.«01_k».proof.Proof.Inp.Block
public import proofs.«01_k».proof.Proof.Inp.Host

@[expose] public section

noncomputable section

namespace Cert.Proof.Inp

open Cert.Kernel2Ideal Cert.Kernel2Ideal.Gen
open Idealize.ShloMosaic hiding ix1 ix2 ix4
open Idealize.ShloMosaic.TcCoe Idealize.ShloMosaic.ValueIdx
open Cert.Proof.Rms

/-! ### The results -/

section Results

variable (X : FVec Ideal S32768x1024 .f32) (g : FVec Ideal S1024 .f32) (W : FVec Ideal S1024x8208 .f32) (gain : FVec Ideal S128 .f32)

/-- The projection of row `r` with column `j` of the weights. -/
def proj (r : Fin 32768) (j : ℕ) : EReal := ∑ e : Fin 1024, normed X g r e * W (ix2 e (Fin.ofNat 8208 j))

/-- The projections kept together, in the order of `columnOf`. -/
def kept : FVec Ideal S32768x6656 .bf16 := fun y => proj X g W (y 0) (columnOf (y 1).val)

/-- The 16 projections of the steps, and zeros up to 128. -/
def steps : FVec Ideal S32768x128 .f32 := fun y => if (y 1).val < 16 then proj X g W (y 0) (3072 + (y 1).val) else 0

/-- The row of token `s` of sequence `b`. -/
def tokenRow (b : Fin 2) (s : Fin 16384) : Fin 32768 := ⟨b.val * 16384 + s.val, by have := b.isLt; have := s.isLt; omega⟩

/-- The projections of one head, the heads' columns beginning at `start`. -/
def headRow (start : ℕ) (b : Fin 2) (h : Fin 4) (s : Fin 16384) (l : Fin 128) : EReal := proj X g W (tokenRow b s) (start + h.val * 128 + l.val)

/-- The queries. -/
def allQueries : FVec Ideal S2x4x16384x128 .bf16 := fun y => queryOf (headRow X g W 3088 (y 0) (y 1) (y 2)) (fun l => gain (ix1 l)) (y 3)

/-- The keys. -/
def allKeys : FVec Ideal S2x4x16384x128 .bf16 := fun y => keyOf (headRow X g W 3600 (y 0) (y 1) (y 2)) (fun l => gain (ix1 l)) (y 3)

/-- The values. -/
def allValues : FVec Ideal S2x4x16384x128 .bf16 := fun y => headRow X g W 4112 (y 0) (y 1) (y 2) (y 3)

end Results

variable (m : (ℓ : Loc nD τ sig) → Buf (Elt Ideal) ℓ) (c : Dev nD)

/-! ### What the blocks hold -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![t.val, 0] := by decide +kernel
theorem index8 : ∀ t : Fin grid0.N, win0_8.index t = ![t.val, 0] := by decide +kernel
theorem index9 : ∀ t : Fin grid0.N, win0_9.index t = ![t.val / 32, 0, t.val % 32, 0] := by decide +kernel
theorem index10 : ∀ t : Fin grid0.N, win0_10.index t = ![t.val / 32, 0, t.val % 32, 0] := by decide +kernel
theorem index11 : ∀ t : Fin grid0.N, win0_11.index t = ![t.val / 32, 0, t.val % 32, 0] := by decide +kernel

/-- The point's rows, counted from the first. -/
def rowAt (t : Fin cfg0.N) (r : Fin 512) : Fin 32768 := ⟨t.val * 512 + r.val, by have h : t.val < 64 := t.isLt; have := r.isLt; omega⟩

/-- A vector as one row. -/
theorem row_apply {n : ℕ} (v : (⟨1, ![n]⟩ : Shape).Idx → EReal) (h : (⟨1, ![n]⟩ : Shape).ShapeCasts ⟨2, ![1, n]⟩) (e : Fin n) :
    shapeCast ⟨2, ![1, n]⟩ v h (ix2 (0 : Fin 1) e) = v (ix1 e) := by
  refine shapeCast_apply (t := ⟨2, ![1, n]⟩) v h _ _ ?_
  rw [Shape.rowMajor_val_one, Shape.rowMajor_val_two]
  show e.val = 0 * n + e.val
  omega

theorem blk0 (t : Fin cfg0.N) (r : Fin 512) (e : Fin 1024) :
    iblk m c 0 t (ix2 r e) = m ((c.tc : Thread nD τ).loc main_arg0) (ix2 (rowAt t r) e) := by
  unfold iblk
  rw [View.read_apply, V_main_arg0]
  refine congrArg (m ((c.tc : Thread nD τ).loc main_arg0)) ?_
  blk_ext [index0 t, rowAt]

theorem blk1 (t : Fin cfg0.N) (e : Fin 1024) :
    iblk m c 1 t (ix2 (0 : Fin 1) e) = m ((c.tc : Thread nD τ).loc main_arg1) (ix1 e) := by
  unfold iblk
  rw [View.read_apply]
  show V m c main_v9 _ = _
  rw [gains_eq]
  refine (congrArg (shapeCast S1x1024 (m ((c.tc : Thread nD τ).loc main_arg1)) shapeCasts_S1024_S1x1024) (?_ : _ = ix2 (0 : Fin 1) e)).trans (row_apply (n := 1024) _ _ e)
  blk_ext [index1 t]

theorem blk2 (t : Fin cfg0.N) (e : Fin 1024) (j : Fin 6656) :
    iblk m c 2 t (ix2 e j) = weights m c (ix2 e (Fin.ofNat 8208 (columnOf j.val))) := by
  unfold iblk
  rw [View.read_apply]
  refine (congrArg (V m c main_v5) (?_ : _ = ix2 e j)).trans (together_eq m c e j)
  blk_ext [index2 t]

theorem blk3 (t : Fin cfg0.N) (e : Fin 1024) (j : Fin 1536) :
    iblk m c 3 t (ix2 e j) = weights m c (ix2 e (Fin.ofNat 8208 (3088 + j.val))) := by
  unfold iblk
  rw [View.read_apply]
  refine (congrArg (V m c main_v6) (?_ : _ = ix2 e j)).trans (heads_apply m c e j)
  blk_ext [index3 t]

theorem blk4 (t : Fin cfg0.N) (e : Fin 1024) (j : Fin 128) :
    iblk m c 4 t (ix2 e j) = if j.val < 16 then weights m c (ix2 e (Fin.ofNat 8208 (3072 + j.val))) else 0 := by
  unfold iblk
  rw [View.read_apply]
  refine (congrArg (V m c main_v8) (?_ : _ = ix2 e j)).trans (steps_apply m c e j)
  blk_ext [index4 t]

theorem blk5 (t : Fin cfg0.N) (l : Fin 128) :
    iblk m c 5 t (ix2 (0 : Fin 1) l) = m ((c.tc : Thread nD τ).loc main_arg3) (ix1 l) := by
  unfold iblk
  rw [View.read_apply]
  show V m c main_v10 _ = _
  rw [queryGains_eq]
  refine (congrArg (shapeCast S1x128 (m ((c.tc : Thread nD τ).loc main_arg3)) shapeCasts_S128_S1x128) (?_ : _ = ix2 (0 : Fin 1) l)).trans (row_apply (n := 128) _ _ l)
  blk_ext [index5 t]

theorem blk6 (t : Fin cfg0.N) (l : Fin 128) :
    iblk m c 6 t (ix2 (0 : Fin 1) l) = m ((c.tc : Thread nD τ).loc main_arg4) (ix1 l) := by
  unfold iblk
  rw [View.read_apply]
  show V m c main_v11 _ = _
  rw [keyGains_eq]
  refine (congrArg (shapeCast S1x128 (m ((c.tc : Thread nD τ).loc main_arg4)) shapeCasts_S128_S1x128) (?_ : _ = ix2 (0 : Fin 1) l)).trans (row_apply (n := 128) _ _ l)
  blk_ext [index6 t]

/-! ### The arrays -/

/-- The three arguments every result is of. -/
abbrev input : FVec Ideal S32768x1024 .f32 := m ((c.tc : Thread nD τ).loc main_arg0)
abbrev gains : FVec Ideal S1024 .f32 := m ((c.tc : Thread nD τ).loc main_arg1)

theorem rows_at (t : Fin cfg0.N) (r : Fin 512) (e : Fin 1024) :
    rows (iblk m c 0 t) (iblk m c 1 t) (ix2 r e) = normed (input m c) (gains m c) (rowAt t r) e := by
  rw [rows_apply, blk0, blk1]
  refine congrArg (fun f => _ * factor (Ideal.ofBits .f32 0x44800000#32) f * _) (funext fun k => blk0 m c t r k)

theorem main_at (t : Fin cfg0.N) (r : Fin 512) (j : Fin 6656) :
    (outsAt0 m c t).1 (ix2 r j) = kept (input m c) (gains m c) (weights m c) (ix2 (rowAt t r) j) := by
  refine (main_block m c t (ix2 r j)).trans ?_
  show _ = proj _ _ _ (rowAt t r) (columnOf j.val)
  unfold proj
  refine Finset.sum_congr rfl fun e _ => ?_
  exact congrArg₂ (· * ·) (rows_at m c t r e) (blk2 m c t e j)

theorem kept_eq : (dats m 0 c).arrAt 7 cfg0.N = kept (input m c) (gains m c) (weights m c) := by
  refine (dats m 0 c).arrAt_eq_of_covers 7 _ (by decide +kernel) fun t hf y => ?_
  blk_simp
  rw [after0_7]
  refine (congrArg (outsAt0 m c t).1 (ValueIdx.eq_ix2 _)).trans ((main_at m c t _ _).trans (congrArg (kept _ _ _) ?_))
  blk_ext [index7 t, rowAt]

theorem steps_at (t : Fin cfg0.N) (r : Fin 512) (j : Fin 128) :
    (outsAt0 m c t).2.1 (ix2 r j) = steps (input m c) (gains m c) (weights m c) (ix2 (rowAt t r) j) := by
  refine (steps_block m c t r j).trans ?_
  have e : ∀ e : Fin 1024, rows (iblk m c 0 t) (iblk m c 1 t) (ix2 r e) * iblk m c 4 t (ix2 e j)
      = normed (input m c) (gains m c) (rowAt t r) e * if j.val < 16 then weights m c (ix2 e (Fin.ofNat 8208 (3072 + j.val))) else 0 := fun e =>
    congrArg₂ (· * ·) (rows_at m c t r e) (blk4 m c t e j)
  refine (Finset.sum_congr rfl fun k _ => e k).trans ?_
  show _ = if j.val < 16 then proj _ _ _ (rowAt t r) (3072 + j.val) else 0
  split
  · rfl
  · exact Finset.sum_eq_zero fun _ _ => mul_zero _

theorem steps_all : (dats m 0 c).arrAt 8 cfg0.N = steps (input m c) (gains m c) (weights m c) := by
  refine (dats m 0 c).arrAt_eq_of_covers 8 _ (by decide +kernel) fun t hf y => ?_
  blk_simp
  rw [after0_8]
  refine (congrArg (outsAt0 m c t).2.1 (ValueIdx.eq_ix2 _)).trans ((steps_at m c t _ _).trans (congrArg (steps _ _ _) ?_))
  blk_ext [index8 t, rowAt]

/-- The row of a block at an index of the heads' arrays. -/
def headIx (t : Fin cfg0.N) (y : S1x4x512x128.Idx) : S2x4x16384x128.Idx :=
  ix4 (⟨t.val / 32, by have h : t.val < 64 := t.isLt; omega⟩ : Fin 2) (⟨(y 1).val, (y 1).isLt⟩ : Fin 4)
    (⟨t.val % 32 * 512 + (y 2).val, by have h : (y 2).val < 512 := (y 2).isLt; omega⟩ : Fin 16384) (⟨(y 3).val, (y 3).isLt⟩ : Fin 128)

theorem head_at (t : Fin cfg0.N) (start base : ℕ) (hs : start = 3088 + base) (hb : base ≤ 1024) (y : S1x4x512x128.Idx) :
    headAt (rows (iblk m c 0 t) (iblk m c 1 t)) (iblk m c 3 t) base (y 1).val (y 2)
      = headRow (input m c) (gains m c) (weights m c) start (headIx t y 0) (headIx t y 1) (headIx t y 2) := funext fun l => by
  unfold headAt headRow proj
  refine Finset.sum_congr rfl fun e _ => congrArg₂ (· * ·) ((rows_at m c t (y 2) e).trans (congrArg (fun r => normed _ _ r e) (Fin.ext ?_))) ((blk3 m c t e _).trans ?_)
  · show t.val * 512 + (y 2).val = t.val / 32 * 16384 + (t.val % 32 * 512 + (y 2).val)
    omega
  · have h1 : (y 1).val < 4 := (y 1).isLt
    have hl := l.isLt
    rw [show (Fin.ofNat 1536 (base + (y 1).val * 128 + l.val)).val = base + (y 1).val * 128 + l.val from Nat.mod_eq_of_lt (by omega)]
    refine congrArg (fun j => weights m c (ix2 e (Fin.ofNat 8208 j))) ?_
    show 3088 + (base + (y 1).val * 128 + l.val) = start + (y 1).val * 128 + l.val
    omega

theorem queries_all : (dats m 0 c).arrAt 9 cfg0.N = allQueries (input m c) (gains m c) (weights m c) (m ((c.tc : Thread nD τ).loc main_arg3)) := by
  refine (dats m 0 c).arrAt_eq_of_covers 9 _ (by decide +kernel) fun t hf y => ?_
  blk_simp
  rw [after0_9]
  refine (query_block m c t y).trans (Eq.trans ?_ (congrArg (allQueries _ _ _ _) (?_ : headIx t y = _)))
  · rw [head_at m c t 3088 0 rfl (by omega) y]
    exact congrArg (fun f => queryOf _ f _) (funext fun l => blk5 m c t l)
  · blk_ext [index9 t, headIx]

theorem keys_all : (dats m 0 c).arrAt 10 cfg0.N = allKeys (input m c) (gains m c) (weights m c) (m ((c.tc : Thread nD τ).loc main_arg4)) := by
  refine (dats m 0 c).arrAt_eq_of_covers 10 _ (by decide +kernel) fun t hf y => ?_
  blk_simp
  rw [after0_10]
  refine (key_block m c t y).trans (Eq.trans ?_ (congrArg (allKeys _ _ _ _) (?_ : headIx t y = _)))
  · rw [head_at m c t 3600 512 rfl (by omega) y]
    exact congrArg (fun f => keyOf _ f _) (funext fun l => blk6 m c t l)
  · blk_ext [index10 t, headIx]

theorem values_all : (dats m 0 c).arrAt 11 cfg0.N = allValues (input m c) (gains m c) (weights m c) := by
  refine (dats m 0 c).arrAt_eq_of_covers 11 _ (by decide +kernel) fun t hf y => ?_
  blk_simp
  rw [after0_11]
  refine (value_block m c t y).trans (Eq.trans ?_ (congrArg (allValues _ _ _) (?_ : headIx t y = _)))
  · exact congrFun (head_at m c t 4112 1024 rfl (by omega) y) (y 3)
  · blk_ext [index11 t, headIx]

end Cert.Proof.Inp

end
-- ==== Proof.Inp.Plain.lean ====
/-
  The reference of the projection call, read off at an index: the same functions of the arguments as the kernel's five results.
-/
module

public import proofs.«01_k».proof.Proof.Gen.Reference2Ideal.Read
public import proofs.«01_k».proof.Proof.Inp.Value
public import proofs.«01_k».proof.Proof.Ffn.Plain

@[expose] public section

noncomputable section

namespace Cert.Proof.Inp

open Cert.Reference2Ideal Cert.Reference2Ideal.Gen Cert.Reference2Ideal.Read
open Idealize.ShloMosaic hiding ix1 ix2 ix4
open Idealize.ShloMosaic.ValueIdx
open Cert.Proof.Rms

variable (X : FVec Ideal S32768x1024 .f32) (g : FVec Ideal S1024 .f32) (W : FVec Ideal S1024x8208 .f32) (gain : FVec Ideal S128 .f32)

theorem plain_proj (r : Fin 32768) (n : ℕ) : val_main_v13 (F := Ideal) X g W (ix2 r (Fin.ofNat 8208 n)) = proj X g W r n := by
  refine (val_main_v13_apply X g W _).trans (Finset.sum_congr rfl fun e _ => ?_)
  rw [show lidx_main_v13 (ix2 r (Fin.ofNat 8208 n)) e = ix2 r e from ValueIdx.eq_ix2 _,
    show ridx_main_v13 (ix2 r (Fin.ofNat 8208 n)) e = ix2 e (Fin.ofNat 8208 n) from ValueIdx.eq_ix2 _]
  exact congrArg (· * _) (Cert.Proof.Ffn.plain_normed X g r e)

theorem plain_kept : val_main_v23 (F := Ideal) X g W = kept X g W := by
  funext y
  obtain ⟨r, j, rfl⟩ : ∃ (r : Fin 32768) (j : Fin 6656), y = ix2 r j := ⟨y 0, y 1, ValueIdx.eq_ix2 y⟩
  refine Eq.trans ?_ (plain_proj X g W r (columnOf j.val))
  show val_main_v22 (F := Ideal) X g W (ix2 r j) = _
  unfold val_main_v22 val_main_v14 val_main_v15 val_main_v20 val_main_v21
  exact together_apply (val_main_v13 (F := Ideal) X g W) _ _ _ _ _ r j

theorem plain_steps : val_main_v24 (F := Ideal) X g W = steps X g W := by
  funext y
  obtain ⟨r, j, rfl⟩ : ∃ (r : Fin 32768) (j : Fin 128), y = ix2 r j := ⟨y 0, y 1, ValueIdx.eq_ix2 y⟩
  unfold val_main_v24 val_main_v16
  refine (padded_apply (val_main_v13 (F := Ideal) X g W) _ _ (zero_apply .f32) _ _ r j).trans ?_
  rw [plain_proj]
  rfl

/-! ### The heads -/

section Heads

variable (b : Fin 2) (h : Fin 4) (s : Fin 16384) (l : Fin 128)

/-- Where a column of a head lies among the projections. -/
theorem head_index (start : ℕ) (hs : start ≤ 4112) (i : S32768x8208.Idx)
    (h0 : (i 0).val = (((b.val * 16384 + s.val) * 4 + h.val) * 128 + l.val) / 512)
    (h1 : (i 1).val = start + (((b.val * 16384 + s.val) * 4 + h.val) * 128 + l.val) % 512) :
    i = ix2 (tokenRow b s) (Fin.ofNat 8208 (start + h.val * 128 + l.val)) := by
  have hh := h.isLt
  have hl := l.isLt
  have hn : (Fin.ofNat 8208 (start + h.val * 128 + l.val)).val = start + h.val * 128 + l.val := Nat.mod_eq_of_lt (by omega)
  refine (ValueIdx.eq_ix2 i).trans (congrArg₂ ix2 (Fin.ext ?_) (Fin.ext ?_))
  · show (i 0).val = b.val * 16384 + s.val
    rw [h0]
    omega
  · rw [hn, h1]
    omega

theorem plain_query_row : val_main_v25 (F := Ideal) X g W (ix4 b s h l) = headRow X g W 3088 b h s l := by
  rw [val_main_v25_apply, val_main_v17_apply, head_index b h s l 3088 (by omega) (idx_main_v17 (idx_main_v25 (ix4 b s h l))) rfl rfl]
  exact plain_proj X g W _ _

theorem plain_key_row : val_main_v43 (F := Ideal) X g W (ix4 b s h l) = headRow X g W 3600 b h s l := by
  rw [val_main_v43_apply, val_main_v18_apply, head_index b h s l 3600 (by omega) (idx_main_v18 (idx_main_v43 (ix4 b s h l))) rfl rfl]
  exact plain_proj X g W _ _

theorem plain_value_row : val_main_v59 (F := Ideal) X g W (ix4 b s h l) = headRow X g W 4112 b h s l := by
  rw [val_main_v59_apply, val_main_v19_apply, head_index b h s l 4112 (by omega) (idx_main_v19 (idx_main_v59 (ix4 b s h l))) rfl rfl]
  exact plain_proj X g W _ _

theorem plain_query_factor : val_main_v34 (F := Ideal) X g W (ix4 b s h l) = factor (Ideal.ofBits .f32 0x43000000#32) (headRow X g W 3088 b h s) := by
  rw [val_main_v34_apply, val_main_v33_apply, val_main_v32_apply, val_main_v30_apply, val_main_v28_apply, val_main_v27_apply]
  have e : ∀ k : Fin 128, idx_main_v27 (idx_main_v28 (idx_main_v34 (ix4 b s h l))) k = ix4 b s h k := fun k => ValueIdx.eq_ix4 _
  simp only [e, val_main_v26_apply, plain_query_row]
  show Ideal.rsqrt (Ideal.div (Ideal.ofBits .f32 0x00000000#32 + ∑ k : Fin 128, headRow X g W 3088 b h s k * headRow X g W 3088 b h s k) (Ideal.ofBits .f32 0x43000000#32) + tiny) = _
  rw [Ideal.ofBits_zero_f32, zero_add]
  rfl

theorem plain_key_factor : val_main_v52 (F := Ideal) X g W (ix4 b s h l) = factor (Ideal.ofBits .f32 0x43000000#32) (headRow X g W 3600 b h s) := by
  rw [val_main_v52_apply, val_main_v51_apply, val_main_v50_apply, val_main_v48_apply, val_main_v46_apply, val_main_v45_apply]
  have e : ∀ k : Fin 128, idx_main_v45 (idx_main_v46 (idx_main_v52 (ix4 b s h l))) k = ix4 b s h k := fun k => ValueIdx.eq_ix4 _
  simp only [e, val_main_v44_apply, plain_key_row]
  show Ideal.rsqrt (Ideal.div (Ideal.ofBits .f32 0x00000000#32 + ∑ k : Fin 128, headRow X g W 3600 b h s k * headRow X g W 3600 b h s k) (Ideal.ofBits .f32 0x43000000#32) + tiny) = _
  rw [Ideal.ofBits_zero_f32, zero_add]
  rfl

end Heads

theorem plain_queries : val_main_v42 (F := Ideal) X g W gain = allQueries X g W gain := by
  funext y
  obtain ⟨b, h, s, l, rfl⟩ : ∃ (b : Fin 2) (h : Fin 4) (s : Fin 16384) (l : Fin 128), y = ix4 b h s l := ⟨y 0, y 1, y 2, y 3, ValueIdx.eq_ix4 y⟩
  show val_main_v41 (F := Ideal) X g W gain (ix4 b h s l) = _
  rw [val_main_v41_apply, show idx_main_v41 (ix4 b h s l) = ix4 b s h l from ValueIdx.eq_ix4 _, val_main_v40_apply, val_main_v38_apply, val_main_v35_apply,
    plain_query_row, plain_query_factor, val_main_v37_apply, val_main_v36_apply, show idx_main_v36 (idx_main_v37 (ix4 b s h l)) = ix1 l from ValueIdx.eq_ix1 _]
  rfl

theorem plain_keys : val_main_v58 (F := Ideal) X g W gain = allKeys X g W gain := by
  funext y
  obtain ⟨b, h, s, l, rfl⟩ : ∃ (b : Fin 2) (h : Fin 4) (s : Fin 16384) (l : Fin 128), y = ix4 b h s l := ⟨y 0, y 1, y 2, y 3, ValueIdx.eq_ix4 y⟩
  show val_main_v57 (F := Ideal) X g W gain (ix4 b h s l) = _
  rw [val_main_v57_apply, show idx_main_v57 (ix4 b h s l) = ix4 b s h l from ValueIdx.eq_ix4 _, val_main_v56_apply, val_main_v53_apply,
    plain_key_row, plain_key_factor, val_main_v55_apply, val_main_v54_apply, show idx_main_v54 (idx_main_v55 (ix4 b s h l)) = ix1 l from ValueIdx.eq_ix1 _]
  rfl

theorem plain_values : val_main_v61 (F := Ideal) X g W = allValues X g W := by
  funext y
  obtain ⟨b, h, s, l, rfl⟩ : ∃ (b : Fin 2) (h : Fin 4) (s : Fin 16384) (l : Fin 128), y = ix4 b h s l := ⟨y 0, y 1, y 2, y 3, ValueIdx.eq_ix4 y⟩
  show val_main_v60 (F := Ideal) X g W (ix4 b h s l) = _
  rw [val_main_v60_apply, show idx_main_v60 (ix4 b h s l) = ix4 b s h l from ValueIdx.eq_ix4 _]
  exact plain_value_row X g W b h s l

end Cert.Proof.Inp

end
-- ==== Proof.lean ====
/-
  The certificate of six calls of the layer: the frames of each kernel as printed, of each kernel over the extended reals and of each
  reference, that the kernels over the extended reals are the idealizations of those printed, and that they return what their references return.
-/
module

public import proofs.«01_k».proof.Defs
public import proofs.«01_k».proof.Proof.SbI.Frame
public import proofs.«01_k».proof.Proof.SbK.Frame
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Mrg.Plain
public import proofs.«01_k».proof.Proof.Exp.Plain
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Pre_finite_rows
public import proofs.«01_k».proof.Proof.Rtr.Value
public import proofs.«01_k».proof.Proof.Rtr.Plain
public import proofs.«01_k».proof.Proof.Equal
public import proofs.«01_k».proof.Proof.Ffn.Plain
public import proofs.«01_k».proof.Proof.Inp.Plain
public import proofs.«01_k».proof.Proof.Gen.Pre_finite
public import proofs.«01_k».proof.Proof.Gen.Pre_routed
public import Idealize.ShloMosaic.Adequacy
public import Idealize.ShloMosaic.Init

@[expose] public section

noncomputable section

namespace Cert.Proof

open Idealize.ShloMosaic Idealize.SL.Sem

theorem kept : Cert.preserves_Kernel_KernelIdeal := IdealRules.named_const.statement Cert.KernelIdeal.κ "stop" .f32 0xC2DC0000#32 ⊥ rfl

/-- The reference's frame: it declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- On finite queries and keys the kernel and the reference return one array: the stick-breaking attention. -/
theorem same : Cert.algebraic_KernelIdeal_ReferenceIdeal_pre_finite := by
  intro m g m' g' hp hm
  have hreal := fun c => Cert.Proof.Plain.real_of_pre _ _ _ (hp c)
  refine ⟨fun c => Cert.Proof.SbI.attend (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ?_) (Cert.Proof.SbI.ends m g)
    exact ⟨(h.1 c).1.trans (Cert.Proof.SbI.arr_eq m c (hreal c).1 (hreal c).2), (h.1 c).2⟩
  · refine (θ_run Cert.ReferenceIdeal.defs _ _).mono (fun r h c => ?_) (Cert.ReferenceIdeal.Value.run (F := Ideal) m' g')
    refine ⟨((h c).1.trans (Cert.ReferenceIdeal.Read.val_main_v32_eq _ _ _)).trans ?_, (h c).2⟩
    obtain ⟨h0, h1, h2⟩ := hm c
    rw [h0, h1, h2]
    exact Cert.Proof.Plain.result_eq _ _ _ (hreal c).1 (hreal c).2

/-- The frame of the reference of the projections. -/
theorem frame_reference2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
        ∧ r.2.sem = fun _ => 0) :=
  (θ_run Cert.Reference2Ideal.defs _ _).mono (fun r h => ⟨fun c => (h c).2.2.2.2.2, Idealize.ShloMosaic.sem_eq_zero_of_no_sems (by decide) r.2⟩)
    (Cert.Reference2Ideal.Value.run (F := Ideal) m g)

/-- The frame of the reference of the dense feed-forward call. -/
theorem frame_reference3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
        ∧ r.2.sem = fun _ => 0) :=
  (θ_run Cert.Reference3Ideal.defs _ _).mono (fun r h => ⟨fun c => (h c).2, Idealize.ShloMosaic.sem_eq_zero_of_no_sems (by decide) r.2⟩)
    (Cert.Reference3Ideal.Value.run (F := Ideal) m g)

theorem frame_reference4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
        ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
        ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
        ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
        ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
        ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
        ∧ r.2.sem = fun _ => 0) :=
  (θ_run Cert.Reference4Ideal.defs _ _).mono (fun r h => ⟨fun c => (h c).2, Idealize.ShloMosaic.sem_eq_zero_of_no_sems (by decide) r.2⟩)
    (Cert.Reference4Ideal.Value.run (F := Ideal) m g)

/-- The frame of the reference of the experts' call. -/
theorem frame_reference5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩
      (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
        ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
        ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
        ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
        ∧ r.2.sem = fun _ => 0) :=
  (θ_run Cert.Reference5Ideal.defs _ _).mono (fun r h => ⟨fun c => (h c).2, Idealize.ShloMosaic.sem_eq_zero_of_no_sems (by decide) r.2⟩)
    (Cert.Reference5Ideal.Value.run (F := Ideal) m g)

/-- The dense feed-forward call and its reference return one array. -/
theorem same3 : Cert.algebraic_Kernel3Ideal_Reference3Ideal := by
  intro m g m' g' hp hm
  refine ⟨fun c => Cert.Proof.Ffn.feed (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))
    (m ((c.tc : Thread Cert.Kernel3Ideal.nD Cert.Kernel3Ideal.τ).loc Cert.Kernel3Ideal.main_arg4)), ?_, ?_⟩
  · refine (θ_run Cert.Kernel3Ideal.defs _ _).mono (fun r h c => ?_) (Cert.Kernel3Ideal.Value.run_blocks (F := Ideal) m g)
    exact ⟨(h c).1.trans (Cert.Proof.Ffn.array_eq m c), (h c).2⟩
  · refine (θ_run Cert.Reference3Ideal.defs _ _).mono (fun r h c => ?_) (Cert.Reference3Ideal.Value.run (F := Ideal) m' g')
    refine ⟨((h c).1.trans (Cert.Reference3Ideal.Read.val_main_v18_eq _ _ _ _ _)).trans ?_, (h c).2⟩
    obtain ⟨h0, h1, h2, h3, h4⟩ := hm c
    rw [h0, h1, h2, h3, h4]
    exact Cert.Proof.Ffn.plain_eq _ _ _ _ _

/-- The merge call and its reference return one array. -/
theorem same4 : Cert.algebraic_Kernel4Ideal_Reference4Ideal := by
  intro m g m' g' hp hm
  refine ⟨fun c => Cert.Proof.Mrg.merge (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2))
    (m ((c.tc : Thread Cert.Kernel4Ideal.nD Cert.Kernel4Ideal.τ).loc Cert.Kernel4Ideal.main_arg3))
    (m ((c.tc : Thread Cert.Kernel4Ideal.nD Cert.Kernel4Ideal.τ).loc Cert.Kernel4Ideal.main_arg4))
    (m ((c.tc : Thread Cert.Kernel4Ideal.nD Cert.Kernel4Ideal.τ).loc Cert.Kernel4Ideal.main_arg5))
    (m ((c.tc : Thread Cert.Kernel4Ideal.nD Cert.Kernel4Ideal.τ).loc Cert.Kernel4Ideal.main_arg6))
    (m ((c.tc : Thread Cert.Kernel4Ideal.nD Cert.Kernel4Ideal.τ).loc Cert.Kernel4Ideal.main_arg7))
    (m ((c.tc : Thread Cert.Kernel4Ideal.nD Cert.Kernel4Ideal.τ).loc Cert.Kernel4Ideal.main_arg8))
    (m ((c.tc : Thread Cert.Kernel4Ideal.nD Cert.Kernel4Ideal.τ).loc Cert.Kernel4Ideal.main_arg9)), ?_, ?_⟩
  · refine (θ_run Cert.Kernel4Ideal.defs _ _).mono (fun r h c => ?_) (Cert.Kernel4Ideal.Value.run_blocks (F := Ideal) m g)
    exact ⟨(h c).1.trans (Cert.Proof.Mrg.array_eq m c), (h c).2⟩
  · refine (θ_run Cert.Reference4Ideal.defs _ _).mono (fun r h c => ?_) (Cert.Reference4Ideal.Value.run (F := Ideal) m' g')
    refine ⟨((h c).1.trans (Cert.Reference4Ideal.Read.val_main_v65_eq m' c)).trans ?_, (h c).2⟩
    obtain ⟨h0, h1, h2, h3, h4, h5, h6, h7, h8, h9⟩ := hm c
    rw [h0, h1, h2, h3, h4, h5, h6, h7, h8, h9]
    exact Cert.Proof.Mrg.plain_eq _ _ _ _ _ _ _ _ _ _

/-- The experts' call and its reference return one array. -/
theorem same5 : Cert.algebraic_Kernel5Ideal_Reference5Ideal := by
  intro m g m' g' hp hm
  refine ⟨fun c => Cert.Proof.Exp.experts (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2))
    (m ((c.tc : Thread Cert.Kernel5Ideal.nD Cert.Kernel5Ideal.τ).loc Cert.Kernel5Ideal.main_arg3))
    (m ((c.tc : Thread Cert.Kernel5Ideal.nD Cert.Kernel5Ideal.τ).loc Cert.Kernel5Ideal.main_arg4))
    (m ((c.tc : Thread Cert.Kernel5Ideal.nD Cert.Kernel5Ideal.τ).loc Cert.Kernel5Ideal.main_arg5)), Cert.Proof.Exp.ends m g hp, ?_⟩
  refine (θ_run Cert.Reference5Ideal.defs _ _).mono (fun r h c => ?_) (Cert.Reference5Ideal.Value.run (F := Ideal) m' g')
  refine ⟨((h c).1.trans (Cert.Reference5Ideal.Read.val_main_v33_eq _ _ _ _ _ _)).trans ?_, (h c).2⟩
  obtain ⟨h0, h1, h2, h3, h4, h5⟩ := hm c
  rw [h0, h1, h2, h3, h4, h5]
  exact Cert.Proof.Exp.plain_eq _ _ _ _ _ _ (Cert.Proof.Exp.routed_of_fn _ _ _ _ _ _ (hp c)).1

/-- The projection call and its reference return the same five arrays. -/
theorem same2 : Cert.algebraic_Kernel2Ideal_Reference2Ideal := by
  intro m g m' g' hp hm
  refine ⟨fun c => Cert.Proof.Inp.kept (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    fun c => Cert.Proof.Inp.steps (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    fun c => Cert.Proof.Inp.allQueries (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
    fun c => Cert.Proof.Inp.allKeys (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg4)),
    fun c => Cert.Proof.Inp.allValues (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), ?_, ?_⟩
  · refine (θ_run Cert.Kernel2Ideal.defs _ _).mono (fun r h c => ?_) (Cert.Kernel2Ideal.Value.run_blocks (F := Ideal) m g)
    obtain ⟨e0, e1, e2, e3, e4, ha⟩ := h c
    exact ⟨e0.trans (Cert.Proof.Inp.kept_eq m c), e1.trans (Cert.Proof.Inp.steps_all m c), e2.trans (Cert.Proof.Inp.queries_all m c),
      e3.trans (Cert.Proof.Inp.keys_all m c), e4.trans (Cert.Proof.Inp.values_all m c), ha⟩
  · refine (θ_run Cert.Reference2Ideal.defs _ _).mono (fun r h c => ?_) (Cert.Reference2Ideal.Value.run (F := Ideal) m' g')
    obtain ⟨e0, e1, e2, e3, e4, ha⟩ := h c
    obtain ⟨h0, h1, h2, h3, h4⟩ := hm c
    beta_reduce
    rw [← h0, ← h1, ← h2, ← h3, ← h4]
    exact ⟨(e0.trans (Cert.Reference2Ideal.Read.val_main_v23_eq m' c)).trans (Cert.Proof.Inp.plain_kept (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))),
      e1.trans (Cert.Proof.Inp.plain_steps (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))),
      e2.trans (Cert.Proof.Inp.plain_queries (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3))),
      e3.trans (Cert.Proof.Inp.plain_keys (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg4))),
      e4.trans (Cert.Proof.Inp.plain_values (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))), ha⟩

/-- The frame of the reference of the routing call. -/
theorem frame_reference6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩
      (fun r => (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
        ∧ r.2.sem = fun _ => 0) :=
  (θ_run Cert.Reference6Ideal.defs _ _).mono (fun r h => ⟨fun c => (h c).2.2.2, Idealize.ShloMosaic.sem_eq_zero_of_no_sems (by decide) r.2⟩)
    (Cert.Reference6Ideal.Value.run (F := Ideal) m g)

/-- The routing call and its reference return the same three arrays where the rows, the weights of the norm and those of the router are finite. -/
theorem same6 : Cert.algebraic_Kernel6Ideal_Reference6Ideal_pre_finite_rows := by
  intro m g m' g' hp hm
  have hreal := fun c => Cert.Proof.Rtr.real_of_finite_rows _ _ _ (hp c)
  refine ⟨fun c => Cert.Proof.Rtr.tokens (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    fun c => Cert.Proof.Rtr.places (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)),
    fun c => Cert.Proof.Rtr.weights (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)), ?_, ?_⟩
  · refine (θ_run Cert.Kernel6Ideal.defs _ _).mono (fun r h c => ?_) (Cert.Kernel6Ideal.Value.run_blocks (F := Ideal) m g)
    obtain ⟨e0, e1, e2, ha⟩ := h c
    obtain ⟨hX, hg, hW⟩ := hreal c
    exact ⟨e0.trans (Cert.Proof.Rtr.array3_eq m c), e1.trans (Cert.Proof.Rtr.array4_eq m c hX hg hW), e2.trans (Cert.Proof.Rtr.array5_eq m c hX hg hW), ha⟩
  · refine (θ_run Cert.Reference6Ideal.defs _ _).mono (fun r h c => ?_) (Cert.Reference6Ideal.Value.run (F := Ideal) m' g')
    obtain ⟨e0, e1, e2, ha⟩ := h c
    obtain ⟨h0, h1, h2⟩ := hm c
    obtain ⟨hX, hg, hW⟩ := hreal c
    refine ⟨(e0.trans (Cert.Reference6Ideal.Read.val_main_v12_eq _ _)).trans ?_, (e1.trans (Cert.Reference6Ideal.Read.val_main_v26_eq _ _ _)).trans ?_,
      (e2.trans (Cert.Reference6Ideal.Read.val_main_v27_eq m' c)).trans ?_, ha⟩
    · rw [h0, h1]; exact Cert.Proof.Rtr.plain_tokens _ _
    · rw [h0, h1, h2]; exact Cert.Proof.Rtr.plain_places _ _ _
    · rw [h0, h1, h2]; exact Cert.Proof.Rtr.plain_weights _ _ _ hX hg hW

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_finite.Gen.facts, Cert.Pre_routed.Gen.facts, Cert.Pre_finite_rows.Gen.facts,
    fun m g _ => Cert.Proof.SbK.frames m g,
    fun m g _ => Cert.Proof.SbI.frames m g,
    fun m g _ => Cert.Proof.SbI.frames m g,
    fun m g _ => frame_reference m g,
    fun m g _ => frame_reference m g,
    fun m g _ => Cert.Kernel2.Gen.frame m g,
    fun m g _ => Cert.Kernel2Ideal.Gen.frame m g,
    fun m g _ => frame_reference2 m g,
    fun m g _ => Cert.Kernel3.Gen.frame m g,
    fun m g _ => Cert.Kernel3Ideal.Gen.frame m g,
    fun m g _ => frame_reference3 m g,
    fun m g _ => Cert.Kernel4.Gen.frame m g,
    fun m g _ => Cert.Kernel4Ideal.Gen.frame m g,
    fun m g _ => frame_reference4 m g,
    fun m g h => Cert.Kernel5.Gen.frame m g (Cert.Proof.Exp.ok_kernel m h),
    fun m g h => Cert.Kernel5Ideal.Gen.frame m g (Cert.Proof.Exp.ok_ideal m h),
    fun m g _ => frame_reference5 m g,
    fun m g _ => frame_reference5 m g,
    fun m g _ => Cert.Kernel6.Gen.frame m g,
    fun m g _ => Cert.Kernel6Ideal.Gen.frame m g,
    fun m g _ => Cert.Kernel6Ideal.Gen.frame m g,
    fun m g _ => frame_reference6 m g,
    fun m g _ => frame_reference6 m g,
    kept, same, trivial, same2, trivial, same3, trivial, same4, trivial, same5, trivial, same6⟩

end Cert.Proof

end
